-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8)) (m ((c.tc : Thread Cert.Kernel12Ideal.nD Cert.Kernel12Ideal.τ).loc Cert.Kernel12Ideal.main_arg9)) (m ((c.tc : Thread Cert.Kernel12Ideal.nD Cert.Kernel12Ideal.τ).loc Cert.Kernel12Ideal.main_arg10)) (m ((c.tc : Thread Cert.Kernel12Ideal.nD Cert.Kernel12Ideal.τ).loc Cert.Kernel12Ideal.main_arg11)) (m ((c.tc : Thread Cert.Kernel12Ideal.nD Cert.Kernel12Ideal.τ).loc Cert.Kernel12Ideal.main_arg12)) (m ((c.tc : Thread Cert.Kernel12Ideal.nD Cert.Kernel12Ideal.τ).loc Cert.Kernel12Ideal.main_arg13)) (m ((c.tc : Thread Cert.Kernel12Ideal.nD Cert.Kernel12Ideal.τ).loc Cert.Kernel12Ideal.main_arg14))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8)) (m ((c.tc : Thread Cert.Kernel12Ideal.nD Cert.Kernel12Ideal.τ).loc Cert.Kernel12Ideal.main_arg9)) (m ((c.tc : Thread Cert.Kernel12Ideal.nD Cert.Kernel12Ideal.τ).loc Cert.Kernel12Ideal.main_arg10)) (m ((c.tc : Thread Cert.Kernel12Ideal.nD Cert.Kernel12Ideal.τ).loc Cert.Kernel12Ideal.main_arg11)) (m ((c.tc : Thread Cert.Kernel12Ideal.nD Cert.Kernel12Ideal.τ).loc Cert.Kernel12Ideal.main_arg12)) (m ((c.tc : Thread Cert.Kernel12Ideal.nD Cert.Kernel12Ideal.τ).loc Cert.Kernel12Ideal.main_arg13)) (m ((c.tc : Thread Cert.Kernel12Ideal.nD Cert.Kernel12Ideal.τ).loc Cert.Kernel12Ideal.main_arg14))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8)) (m ((c.tc : Thread Cert.Kernel12Ideal.nD Cert.Kernel12Ideal.τ).loc Cert.Kernel12Ideal.main_arg9)) (m ((c.tc : Thread Cert.Kernel12Ideal.nD Cert.Kernel12Ideal.τ).loc Cert.Kernel12Ideal.main_arg10)) (m ((c.tc : Thread Cert.Kernel12Ideal.nD Cert.Kernel12Ideal.τ).loc Cert.Kernel12Ideal.main_arg11)) (m ((c.tc : Thread Cert.Kernel12Ideal.nD Cert.Kernel12Ideal.τ).loc Cert.Kernel12Ideal.main_arg12)) (m ((c.tc : Thread Cert.Kernel12Ideal.nD Cert.Kernel12Ideal.τ).loc Cert.Kernel12Ideal.main_arg13)) (m ((c.tc : Thread Cert.Kernel12Ideal.nD Cert.Kernel12Ideal.τ).loc Cert.Kernel12Ideal.main_arg14))).2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8)) (m ((c.tc : Thread Cert.Reference12Ideal.nD Cert.Reference12Ideal.τ).loc Cert.Reference12Ideal.main_arg9)) (m ((c.tc : Thread Cert.Reference12Ideal.nD Cert.Reference12Ideal.τ).loc Cert.Reference12Ideal.main_arg10)) (m ((c.tc : Thread Cert.Reference12Ideal.nD Cert.Reference12Ideal.τ).loc Cert.Reference12Ideal.main_arg11)) (m ((c.tc : Thread Cert.Reference12Ideal.nD Cert.Reference12Ideal.τ).loc Cert.Reference12Ideal.main_arg12)) (m ((c.tc : Thread Cert.Reference12Ideal.nD Cert.Reference12Ideal.τ).loc Cert.Reference12Ideal.main_arg13)) (m ((c.tc : Thread Cert.Reference12Ideal.nD Cert.Reference12Ideal.τ).loc Cert.Reference12Ideal.main_arg14))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8)) (m ((c.tc : Thread Cert.Reference12Ideal.nD Cert.Reference12Ideal.τ).loc Cert.Reference12Ideal.main_arg9)) (m ((c.tc : Thread Cert.Reference12Ideal.nD Cert.Reference12Ideal.τ).loc Cert.Reference12Ideal.main_arg10)) (m ((c.tc : Thread Cert.Reference12Ideal.nD Cert.Reference12Ideal.τ).loc Cert.Reference12Ideal.main_arg11)) (m ((c.tc : Thread Cert.Reference12Ideal.nD Cert.Reference12Ideal.τ).loc Cert.Reference12Ideal.main_arg12)) (m ((c.tc : Thread Cert.Reference12Ideal.nD Cert.Reference12Ideal.τ).loc Cert.Reference12Ideal.main_arg13)) (m ((c.tc : Thread Cert.Reference12Ideal.nD Cert.Reference12Ideal.τ).loc Cert.Reference12Ideal.main_arg14))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8)) (m ((c.tc : Thread Cert.Reference12Ideal.nD Cert.Reference12Ideal.τ).loc Cert.Reference12Ideal.main_arg9)) (m ((c.tc : Thread Cert.Reference12Ideal.nD Cert.Reference12Ideal.τ).loc Cert.Reference12Ideal.main_arg10)) (m ((c.tc : Thread Cert.Reference12Ideal.nD Cert.Reference12Ideal.τ).loc Cert.Reference12Ideal.main_arg11)) (m ((c.tc : Thread Cert.Reference12Ideal.nD Cert.Reference12Ideal.τ).loc Cert.Reference12Ideal.main_arg12)) (m ((c.tc : Thread Cert.Reference12Ideal.nD Cert.Reference12Ideal.τ).loc Cert.Reference12Ideal.main_arg13)) (m ((c.tc : Thread Cert.Reference12Ideal.nD Cert.Reference12Ideal.τ).loc Cert.Reference12Ideal.main_arg14))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10)
      ∧ r.2.mem ((c.tc : Thread Cert.Kernel12.nD Cert.Kernel12.τ).loc Cert.Kernel12.main_arg11) = m ((c.tc : Thread Cert.Kernel12.nD Cert.Kernel12.τ).loc Cert.Kernel12.main_arg11)
      ∧ r.2.mem ((c.tc : Thread Cert.Kernel12.nD Cert.Kernel12.τ).loc Cert.Kernel12.main_arg12) = m ((c.tc : Thread Cert.Kernel12.nD Cert.Kernel12.τ).loc Cert.Kernel12.main_arg12)
      ∧ r.2.mem ((c.tc : Thread Cert.Kernel12.nD Cert.Kernel12.τ).loc Cert.Kernel12.main_arg13) = m ((c.tc : Thread Cert.Kernel12.nD Cert.Kernel12.τ).loc Cert.Kernel12.main_arg13)
      ∧ r.2.mem ((c.tc : Thread Cert.Kernel12.nD Cert.Kernel12.τ).loc Cert.Kernel12.main_arg14) = m ((c.tc : Thread Cert.Kernel12.nD Cert.Kernel12.τ).loc Cert.Kernel12.main_arg14))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
      ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
      ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
      ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
      ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
      ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
      ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10)
      ∧ r.2.mem ((c.tc : Thread Cert.Reference12Ideal.nD Cert.Reference12Ideal.τ).loc Cert.Reference12Ideal.main_arg11) = m ((c.tc : Thread Cert.Reference12Ideal.nD Cert.Reference12Ideal.τ).loc Cert.Reference12Ideal.main_arg11)
      ∧ r.2.mem ((c.tc : Thread Cert.Reference12Ideal.nD Cert.Reference12Ideal.τ).loc Cert.Reference12Ideal.main_arg12) = m ((c.tc : Thread Cert.Reference12Ideal.nD Cert.Reference12Ideal.τ).loc Cert.Reference12Ideal.main_arg12)
      ∧ r.2.mem ((c.tc : Thread Cert.Reference12Ideal.nD Cert.Reference12Ideal.τ).loc Cert.Reference12Ideal.main_arg13) = m ((c.tc : Thread Cert.Reference12Ideal.nD Cert.Reference12Ideal.τ).loc Cert.Reference12Ideal.main_arg13)
      ∧ r.2.mem ((c.tc : Thread Cert.Reference12Ideal.nD Cert.Reference12Ideal.τ).loc Cert.Reference12Ideal.main_arg14) = m ((c.tc : Thread Cert.Reference12Ideal.nD Cert.Reference12Ideal.τ).loc Cert.Reference12Ideal.main_arg14))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10)
      ∧ r.2.mem ((c.tc : Thread Cert.Reference12Ideal.nD Cert.Reference12Ideal.τ).loc Cert.Reference12Ideal.main_arg11) = m ((c.tc : Thread Cert.Reference12Ideal.nD Cert.Reference12Ideal.τ).loc Cert.Reference12Ideal.main_arg11)
      ∧ r.2.mem ((c.tc : Thread Cert.Reference12Ideal.nD Cert.Reference12Ideal.τ).loc Cert.Reference12Ideal.main_arg12) = m ((c.tc : Thread Cert.Reference12Ideal.nD Cert.Reference12Ideal.τ).loc Cert.Reference12Ideal.main_arg12)
      ∧ r.2.mem ((c.tc : Thread Cert.Reference12Ideal.nD Cert.Reference12Ideal.τ).loc Cert.Reference12Ideal.main_arg13) = m ((c.tc : Thread Cert.Reference12Ideal.nD Cert.Reference12Ideal.τ).loc Cert.Reference12Ideal.main_arg13)
      ∧ r.2.mem ((c.tc : Thread Cert.Reference12Ideal.nD Cert.Reference12Ideal.τ).loc Cert.Reference12Ideal.main_arg14) = m ((c.tc : Thread Cert.Reference12Ideal.nD Cert.Reference12Ideal.τ).loc Cert.Reference12Ideal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)) (v3 : (c : Dev Cert.KernelIdeal.nD) → Buf (Elt Ideal) ((c.tc : Thread Cert.KernelIdeal.nD Cert.KernelIdeal.τ).loc Cert.KernelIdeal.main_v42_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_v42_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_v62) = v1 c
          ∧ r.2.mem ((c.tc : Thread Cert.Reference2Ideal.nD Cert.Reference2Ideal.τ).loc Cert.Reference2Ideal.main_v63) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_v21) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v7) = v2 c
          ∧ r.2.mem ((c.tc : Thread Cert.Reference5Ideal.nD Cert.Reference5Ideal.τ).loc Cert.Reference5Ideal.main_v13) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v7) = v2 c
          ∧ r.2.mem ((c.tc : Thread Cert.Reference6Ideal.nD Cert.Reference6Ideal.τ).loc Cert.Reference6Ideal.main_v13) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v7) = v2 c
          ∧ r.2.mem ((c.tc : Thread Cert.Reference7Ideal.nD Cert.Reference7Ideal.τ).loc Cert.Reference7Ideal.main_v13) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_v7) = v2 c
          ∧ r.2.mem ((c.tc : Thread Cert.Reference8Ideal.nD Cert.Reference8Ideal.τ).loc Cert.Reference8Ideal.main_v13) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v26) = v1 c
          ∧ r.2.mem ((c.tc : Thread Cert.Reference9Ideal.nD Cert.Reference9Ideal.τ).loc Cert.Reference9Ideal.main_v7) = v2 c
          ∧ r.2.mem ((c.tc : Thread Cert.Reference9Ideal.nD Cert.Reference9Ideal.τ).loc Cert.Reference9Ideal.main_v13) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v26) = v1 c
          ∧ r.2.mem ((c.tc : Thread Cert.Reference10Ideal.nD Cert.Reference10Ideal.τ).loc Cert.Reference10Ideal.main_v7) = v2 c
          ∧ r.2.mem ((c.tc : Thread Cert.Reference10Ideal.nD Cert.Reference10Ideal.τ).loc Cert.Reference10Ideal.main_v13) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v15_0)) (v1 : (c : Dev Cert.Kernel11Ideal.nD) → Buf (Elt Ideal) ((c.tc : Thread Cert.Kernel11Ideal.nD Cert.Kernel11Ideal.τ).loc Cert.Kernel11Ideal.main_v15_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v15_0) = v0 c
          ∧ r.2.mem ((c.tc : Thread Cert.Kernel11Ideal.nD Cert.Kernel11Ideal.τ).loc Cert.Kernel11Ideal.main_v15_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v19) = v0 c
          ∧ r.2.mem ((c.tc : Thread Cert.Reference11Ideal.nD Cert.Reference11Ideal.τ).loc Cert.Reference11Ideal.main_v22) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)
      ∧ m' ((c.tc : Thread Cert.Reference12Ideal.nD Cert.Reference12Ideal.τ).loc Cert.Reference12Ideal.main_arg11) = m ((c.tc : Thread Cert.Kernel12Ideal.nD Cert.Kernel12Ideal.τ).loc Cert.Kernel12Ideal.main_arg11)
      ∧ m' ((c.tc : Thread Cert.Reference12Ideal.nD Cert.Reference12Ideal.τ).loc Cert.Reference12Ideal.main_arg12) = m ((c.tc : Thread Cert.Kernel12Ideal.nD Cert.Kernel12Ideal.τ).loc Cert.Kernel12Ideal.main_arg12)
      ∧ m' ((c.tc : Thread Cert.Reference12Ideal.nD Cert.Reference12Ideal.τ).loc Cert.Reference12Ideal.main_arg13) = m ((c.tc : Thread Cert.Kernel12Ideal.nD Cert.Kernel12Ideal.τ).loc Cert.Kernel12Ideal.main_arg13)
      ∧ m' ((c.tc : Thread Cert.Reference12Ideal.nD Cert.Reference12Ideal.τ).loc Cert.Reference12Ideal.main_arg14) = m ((c.tc : Thread Cert.Kernel12Ideal.nD Cert.Kernel12Ideal.τ).loc Cert.Kernel12Ideal.main_arg14)) →
    ∃ (v0 : (c : Dev Cert.Kernel12Ideal.nD) → Buf (Elt Ideal) ((c.tc : Thread Cert.Kernel12Ideal.nD Cert.Kernel12Ideal.τ).loc Cert.Kernel12Ideal.main_v24_0)) (v1 : (c : Dev Cert.Kernel12Ideal.nD) → Buf (Elt Ideal) ((c.tc : Thread Cert.Kernel12Ideal.nD Cert.Kernel12Ideal.τ).loc Cert.Kernel12Ideal.main_v24_1)) (v2 : (c : Dev Cert.Kernel12Ideal.nD) → Buf (Elt Ideal) ((c.tc : Thread Cert.Kernel12Ideal.nD Cert.Kernel12Ideal.τ).loc Cert.Kernel12Ideal.main_v24_2)) (v3 : (c : Dev Cert.Kernel12Ideal.nD) → Buf (Elt Ideal) ((c.tc : Thread Cert.Kernel12Ideal.nD Cert.Kernel12Ideal.τ).loc Cert.Kernel12Ideal.main_v24_3)) (v4 : (c : Dev Cert.Kernel12Ideal.nD) → Buf (Elt Ideal) ((c.tc : Thread Cert.Kernel12Ideal.nD Cert.Kernel12Ideal.τ).loc Cert.Kernel12Ideal.main_v24_4)) (v5 : (c : Dev Cert.Kernel12Ideal.nD) → Buf (Elt Ideal) ((c.tc : Thread Cert.Kernel12Ideal.nD Cert.Kernel12Ideal.τ).loc Cert.Kernel12Ideal.main_v24_5)) (v6 : (c : Dev Cert.Kernel12Ideal.nD) → Buf (Elt Ideal) ((c.tc : Thread Cert.Kernel12Ideal.nD Cert.Kernel12Ideal.τ).loc Cert.Kernel12Ideal.main_v24_6)) (v7 : (c : Dev Cert.Kernel12Ideal.nD) → Buf (Elt Ideal) ((c.tc : Thread Cert.Kernel12Ideal.nD Cert.Kernel12Ideal.τ).loc Cert.Kernel12Ideal.main_v24_7)) (v8 : (c : Dev Cert.Kernel12Ideal.nD) → Buf (Elt Ideal) ((c.tc : Thread Cert.Kernel12Ideal.nD Cert.Kernel12Ideal.τ).loc Cert.Kernel12Ideal.main_v24_8)) (v9 : (c : Dev Cert.Kernel12Ideal.nD) → Buf (Elt Ideal) ((c.tc : Thread Cert.Kernel12Ideal.nD Cert.Kernel12Ideal.τ).loc Cert.Kernel12Ideal.main_v24_9)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v24_0) = v0 c
          ∧ r.2.mem ((c.tc : Thread Cert.Kernel12Ideal.nD Cert.Kernel12Ideal.τ).loc Cert.Kernel12Ideal.main_v24_1) = v1 c
          ∧ r.2.mem ((c.tc : Thread Cert.Kernel12Ideal.nD Cert.Kernel12Ideal.τ).loc Cert.Kernel12Ideal.main_v24_2) = v2 c
          ∧ r.2.mem ((c.tc : Thread Cert.Kernel12Ideal.nD Cert.Kernel12Ideal.τ).loc Cert.Kernel12Ideal.main_v24_3) = v3 c
          ∧ r.2.mem ((c.tc : Thread Cert.Kernel12Ideal.nD Cert.Kernel12Ideal.τ).loc Cert.Kernel12Ideal.main_v24_4) = v4 c
          ∧ r.2.mem ((c.tc : Thread Cert.Kernel12Ideal.nD Cert.Kernel12Ideal.τ).loc Cert.Kernel12Ideal.main_v24_5) = v5 c
          ∧ r.2.mem ((c.tc : Thread Cert.Kernel12Ideal.nD Cert.Kernel12Ideal.τ).loc Cert.Kernel12Ideal.main_v24_6) = v6 c
          ∧ r.2.mem ((c.tc : Thread Cert.Kernel12Ideal.nD Cert.Kernel12Ideal.τ).loc Cert.Kernel12Ideal.main_v24_7) = v7 c
          ∧ r.2.mem ((c.tc : Thread Cert.Kernel12Ideal.nD Cert.Kernel12Ideal.τ).loc Cert.Kernel12Ideal.main_v24_8) = v8 c
          ∧ r.2.mem ((c.tc : Thread Cert.Kernel12Ideal.nD Cert.Kernel12Ideal.τ).loc Cert.Kernel12Ideal.main_v24_9) = v9 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
          ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
          ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
          ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
          ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v107) = v0 c
          ∧ r.2.mem ((c.tc : Thread Cert.Reference12Ideal.nD Cert.Reference12Ideal.τ).loc Cert.Reference12Ideal.main_v111) = v1 c
          ∧ r.2.mem ((c.tc : Thread Cert.Reference12Ideal.nD Cert.Reference12Ideal.τ).loc Cert.Reference12Ideal.main_v113) = v2 c
          ∧ r.2.mem ((c.tc : Thread Cert.Reference12Ideal.nD Cert.Reference12Ideal.τ).loc Cert.Reference12Ideal.main_v117) = v3 c
          ∧ r.2.mem ((c.tc : Thread Cert.Reference12Ideal.nD Cert.Reference12Ideal.τ).loc Cert.Reference12Ideal.main_v118) = v4 c
          ∧ r.2.mem ((c.tc : Thread Cert.Reference12Ideal.nD Cert.Reference12Ideal.τ).loc Cert.Reference12Ideal.main_v119) = v5 c
          ∧ r.2.mem ((c.tc : Thread Cert.Reference12Ideal.nD Cert.Reference12Ideal.τ).loc Cert.Reference12Ideal.main_v120) = v6 c
          ∧ r.2.mem ((c.tc : Thread Cert.Reference12Ideal.nD Cert.Reference12Ideal.τ).loc Cert.Reference12Ideal.main_v121) = v7 c
          ∧ r.2.mem ((c.tc : Thread Cert.Reference12Ideal.nD Cert.Reference12Ideal.τ).loc Cert.Reference12Ideal.main_v123) = v8 c
          ∧ r.2.mem ((c.tc : Thread Cert.Reference12Ideal.nD Cert.Reference12Ideal.τ).loc Cert.Reference12Ideal.main_v125) = v9 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10)
          ∧ r.2.mem ((c.tc : Thread Cert.Reference12Ideal.nD Cert.Reference12Ideal.τ).loc Cert.Reference12Ideal.main_arg11) = m' ((c.tc : Thread Cert.Reference12Ideal.nD Cert.Reference12Ideal.τ).loc Cert.Reference12Ideal.main_arg11)
          ∧ r.2.mem ((c.tc : Thread Cert.Reference12Ideal.nD Cert.Reference12Ideal.τ).loc Cert.Reference12Ideal.main_arg12) = m' ((c.tc : Thread Cert.Reference12Ideal.nD Cert.Reference12Ideal.τ).loc Cert.Reference12Ideal.main_arg12)
          ∧ r.2.mem ((c.tc : Thread Cert.Reference12Ideal.nD Cert.Reference12Ideal.τ).loc Cert.Reference12Ideal.main_arg13) = m' ((c.tc : Thread Cert.Reference12Ideal.nD Cert.Reference12Ideal.τ).loc Cert.Reference12Ideal.main_arg13)
          ∧ r.2.mem ((c.tc : Thread Cert.Reference12Ideal.nD Cert.Reference12Ideal.τ).loc Cert.Reference12Ideal.main_arg14) = m' ((c.tc : Thread Cert.Reference12Ideal.nD Cert.Reference12Ideal.τ).loc Cert.Reference12Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite2 : Cert.Pre_finite2.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
-- ==== Pre_finite.lean ====
abbrev S4x2048x4x128 : Shape := ⟨4, ![4, 2048, 4, 128]⟩
abbrev S4x2048x4x64 : Shape := ⟨4, ![4, 2048, 4, 64]⟩
abbrev S4x2048x64 : Shape := ⟨3, ![4, 2048, 64]⟩
abbrev S_ : Shape := ⟨0, ![]⟩

class Facts : Prop where
  bcast_S_S4x2048x4x128 : S_.BroadcastsInDim S4x2048x4x128 (![] : Fin 0 → Fin S4x2048x4x128.rank)
  bcast_S_S4x2048x4x64 : S_.BroadcastsInDim S4x2048x4x64 (![] : Fin 0 → Fin S4x2048x4x64.rank)
  bcast_S_S4x2048x64 : S_.BroadcastsInDim S4x2048x64 (![] : Fin 0 → Fin S4x2048x64.rank)

variable [Facts]

def fn {F : FTy → Type} [FloatOps F] (main_arg0 : FVec F S4x2048x4x128 .f32) (main_arg1 : FVec F S4x2048x4x64 .f32) (main_arg2 : FVec F S4x2048x4x128 .f32) (main_arg3 : FVec F S4x2048x64 .f32) (main_arg4 : FVec F S4x2048x4x128 .f32) (main_arg5 : FVec F S4x2048x4x128 .f32) : IVec S4x2048x4x128 1 × IVec S4x2048x4x64 1 × IVec S4x2048x4x128 1 × IVec S4x2048x64 1 × IVec S4x2048x4x128 1 × IVec S4x2048x4x128 1 :=
  let main_v0 : FVec F S4x2048x4x128 .f32 := Host.absf main_arg0
  let main_cst : FVec F S_ .f32 := constant S_ .f32 0x7F800000#32
  let main_v1 : FVec F S4x2048x4x128 .f32 := broadcastInDim S4x2048x4x128 ![] bcast_S_S4x2048x4x128 main_cst
  let main_v2 : IVec S4x2048x4x128 1 := cmpf .olt main_v0 main_v1
  let main_v3 : FVec F S4x2048x4x64 .f32 := Host.absf main_arg1
  let main_cst_0 : FVec F S_ .f32 := constant S_ .f32 0x7F800000#32
  let main_v4 : FVec F S4x2048x4x64 .f32 := broadcastInDim S4x2048x4x64 ![] bcast_S_S4x2048x4x64 main_cst_0
  let main_v5 : IVec S4x2048x4x64 1 := cmpf .olt main_v3 main_v4
  let main_v6 : FVec F S4x2048x4x128 .f32 := Host.absf main_arg2
  let main_cst_1 : FVec F S_ .f32 := constant S_ .f32 0x7F800000#32
  let main_v7 : FVec F S4x2048x4x128 .f32 := broadcastInDim S4x2048x4x128 ![] bcast_S_S4x2048x4x128 main_cst_1
  let main_v8 : IVec S4x2048x4x128 1 := cmpf .olt main_v6 main_v7
  let main_v9 : FVec F S4x2048x64 .f32 := Host.absf main_arg3
  let main_cst_2 : FVec F S_ .f32 := constant S_ .f32 0x7F800000#32
  let main_v10 : FVec F S4x2048x64 .f32 := broadcastInDim S4x2048x64 ![] bcast_S_S4x2048x64 main_cst_2
  let main_v11 : IVec S4x2048x64 1 := cmpf .olt main_v9 main_v10
  let main_v12 : FVec F S4x2048x4x128 .f32 := Host.absf main_arg4
  let main_cst_3 : FVec F S_ .f32 := constant S_ .f32 0x7F800000#32
  let main_v13 : FVec F S4x2048x4x128 .f32 := broadcastInDim S4x2048x4x128 ![] bcast_S_S4x2048x4x128 main_cst_3
  let main_v14 : IVec S4x2048x4x128 1 := cmpf .olt main_v12 main_v13
  let main_v15 : FVec F S4x2048x4x128 .f32 := Host.absf main_arg5
  let main_cst_4 : FVec F S_ .f32 := constant S_ .f32 0x7F800000#32
  let main_v16 : FVec F S4x2048x4x128 .f32 := broadcastInDim S4x2048x4x128 ![] bcast_S_S4x2048x4x128 main_cst_4
  let main_v17 : IVec S4x2048x4x128 1 := cmpf .olt main_v15 main_v16
  (main_v2, main_v5, main_v8, main_v11, main_v14, main_v17)
-- ==== Pre_finite12.lean ====
abbrev S4x2048x448 : Shape := ⟨3, ![4, 2048, 448]⟩
abbrev S4x2048x1664 : Shape := ⟨3, ![4, 2048, 1664]⟩
abbrev S4x2048x64 : Shape := ⟨3, ![4, 2048, 64]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S1664 : Shape := ⟨1, ![1664]⟩
abbrev S512 : Shape := ⟨1, ![512]⟩
abbrev S64x512 : Shape := ⟨2, ![64, 512]⟩
abbrev S_ : Shape := ⟨0, ![]⟩

class Facts : Prop where
  bcast_S_S4x2048x1664 : S_.BroadcastsInDim S4x2048x1664 (![] : Fin 0 → Fin S4x2048x1664.rank)
  bcast_S_S1664 : S_.BroadcastsInDim S1664 (![] : Fin 0 → Fin S1664.rank)
  bcast_S_S512 : S_.BroadcastsInDim S512 (![] : Fin 0 → Fin S512.rank)

variable [Facts]

def fn {F : FTy → Type} [FloatOps F] (main_arg0 : FVec F S4x2048x448 .f32) (main_arg1 : FVec F S4x2048x1664 .f32) (main_arg2 : FVec F S4x2048x64 .f32) (main_arg3 : FVec F S4x2048x64 .f32) (main_arg4 : FVec F S256 .f32) (main_arg5 : FVec F S256x768 .f32) (main_arg6 : FVec F S128 .f32) (main_arg7 : FVec F S128x1024 .f32) (main_arg8 : FVec F S1664 .f32) (main_arg9 : FVec F S512 .f32) (main_arg10 : FVec F S64x512 .f32) (main_arg11 : FVec F S512 .f32) (main_arg12 : FVec F S64x512 .f32) (main_arg13 : FVec F S512 .f32) (main_arg14 : FVec F S512 .f32) : IVec S4x2048x1664 1 × IVec S1664 1 × IVec S512 1 :=
  let main_v0 : FVec F S4x2048x1664 .f32 := Host.absf main_arg1
  let main_cst : FVec F S_ .f32 := constant S_ .f32 0x7F800000#32
  let main_v1 : FVec F S4x2048x1664 .f32 := broadcastInDim S4x2048x1664 ![] bcast_S_S4x2048x1664 main_cst
  let main_v2 : IVec S4x2048x1664 1 := cmpf .olt main_v0 main_v1
  let main_v3 : FVec F S1664 .f32 := Host.absf main_arg8
  let main_cst_0 : FVec F S_ .f32 := constant S_ .f32 0x7F800000#32
  let main_v4 : FVec F S1664 .f32 := broadcastInDim S1664 ![] bcast_S_S1664 main_cst_0
  let main_v5 : IVec S1664 1 := cmpf .olt main_v3 main_v4
  let main_v6 : FVec F S512 .f32 := Host.absf main_arg13
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  (main_v2, main_v5, main_v8)
-- ==== Pre_finite2.lean ====
abbrev S4x2048x1024 : Shape := ⟨3, ![4, 2048, 1024]⟩
abbrev S1024 : Shape := ⟨1, ![1024]⟩
abbrev S1024x3136 : Shape := ⟨2, ![1024, 3136]⟩
abbrev S4x2048x448 : Shape := ⟨3, ![4, 2048, 448]⟩
abbrev S4x2048x1664 : Shape := ⟨3, ![4, 2048, 1664]⟩
abbrev S_ : Shape := ⟨0, ![]⟩

class Facts : Prop where
  bcast_S_S4x2048x1024 : S_.BroadcastsInDim S4x2048x1024 (![] : Fin 0 → Fin S4x2048x1024.rank)
  bcast_S_S1024 : S_.BroadcastsInDim S1024 (![] : Fin 0 → Fin S1024.rank)
  bcast_S_S1024x3136 : S_.BroadcastsInDim S1024x3136 (![] : Fin 0 → Fin S1024x3136.rank)
  bcast_S_S4x2048x448 : S_.BroadcastsInDim S4x2048x448 (![] : Fin 0 → Fin S4x2048x448.rank)
  bcast_S_S4x2048x1664 : S_.BroadcastsInDim S4x2048x1664 (![] : Fin 0 → Fin S4x2048x1664.rank)

variable [Facts]

def fn_part1 {F : FTy → Type} [FloatOps F] (main_arg6 : FVec F S4x2048x1024 .f32) (main_arg7 : FVec F S4x2048x1024 .f32) (main_v2 : IVec S4x2048x1024 1) (main_v5 : IVec S1024 1) (main_v8 : IVec S1024x3136 1) (main_v11 : IVec S4x2048x448 1) (main_v14 : IVec S4x2048x1664 1) (main_v17 : IVec S4x2048x1664 1) : IVec S4x2048x1024 1 × IVec S1024 1 × IVec S1024x3136 1 × IVec S4x2048x448 1 × IVec S4x2048x1664 1 × IVec S4x2048x1664 1 × IVec S4x2048x1024 1 × IVec S4x2048x1024 1 :=
  let main_v18 : FVec F S4x2048x1024 .f32 := Host.absf main_arg6
  let main_cst_5 : FVec F S_ .f32 := constant S_ .f32 0x7F800000#32
  let main_v19 : FVec F S4x2048x1024 .f32 := broadcastInDim S4x2048x1024 ![] bcast_S_S4x2048x1024 main_cst_5
  let main_v20 : IVec S4x2048x1024 1 := cmpf .olt main_v18 main_v19
  let main_v21 : FVec F S4x2048x1024 .f32 := Host.absf main_arg7
  let main_cst_6 : FVec F S_ .f32 := constant S_ .f32 0x7F800000#32
  let main_v22 : FVec F S4x2048x1024 .f32 := broadcastInDim S4x2048x1024 ![] bcast_S_S4x2048x1024 main_cst_6
  let main_v23 : IVec S4x2048x1024 1 := cmpf .olt main_v21 main_v22
  (main_v2, main_v5, main_v8, main_v11, main_v14, main_v17, main_v20, main_v23)

def fn {F : FTy → Type} [FloatOps F] (main_arg0 : FVec F S4x2048x1024 .f32) (main_arg1 : FVec F S1024 .f32) (main_arg2 : FVec F S1024x3136 .f32) (main_arg3 : FVec F S4x2048x448 .f32) (main_arg4 : FVec F S4x2048x1664 .f32) (main_arg5 : FVec F S4x2048x1664 .f32) (main_arg6 : FVec F S4x2048x1024 .f32) (main_arg7 : FVec F S4x2048x1024 .f32) : IVec S4x2048x1024 1 × IVec S1024 1 × IVec S1024x3136 1 × IVec S4x2048x448 1 × IVec S4x2048x1664 1 × IVec S4x2048x1664 1 × IVec S4x2048x1024 1 × IVec S4x2048x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3136 .f32 := Host.absf main_arg2
  let main_cst_1 : FVec F S_ .f32 := constant S_ .f32 0x7F800000#32
  let main_v7 : FVec F S1024x3136 .f32 := broadcastInDim S1024x3136 ![] bcast_S_S1024x3136 main_cst_1
  let main_v8 : IVec S1024x3136 1 := cmpf .olt main_v6 main_v7
  let main_v9 : FVec F S4x2048x448 .f32 := Host.absf main_arg3
  let main_cst_2 : FVec F S_ .f32 := constant S_ .f32 0x7F800000#32
  let main_v10 : FVec F S4x2048x448 .f32 := broadcastInDim S4x2048x448 ![] bcast_S_S4x2048x448 main_cst_2
  let main_v11 : IVec S4x2048x448 1 := cmpf .olt main_v9 main_v10
  let main_v12 : FVec F S4x2048x1664 .f32 := Host.absf main_arg4
  let main_cst_3 : FVec F S_ .f32 := constant S_ .f32 0x7F800000#32
  let main_v13 : FVec F S4x2048x1664 .f32 := broadcastInDim S4x2048x1664 ![] bcast_S_S4x2048x1664 main_cst_3
  let main_v14 : IVec S4x2048x1664 1 := cmpf .olt main_v12 main_v13
  let main_v15 : FVec F S4x2048x1664 .f32 := Host.absf main_arg5
  let main_cst_4 : FVec F S_ .f32 := constant S_ .f32 0x7F800000#32
  let main_v16 : FVec F S4x2048x1664 .f32 := broadcastInDim S4x2048x1664 ![] bcast_S_S4x2048x1664 main_cst_4
  let main_v17 : IVec S4x2048x1664 1 := cmpf .olt main_v15 main_v16
  fn_part1 (F := F) main_arg6 main_arg7 main_v2 main_v5 main_v8 main_v11 main_v14 main_v17
-- ==== Kernel.lean ====
abbrev S4x2048x4x128 : Shape := ⟨4, ![4, 2048, 4, 128]⟩
abbrev S4x2048x4x64 : Shape := ⟨4, ![4, 2048, 4, 64]⟩
abbrev S4x2048x64 : Shape := ⟨3, ![4, 2048, 64]⟩
abbrev S4x2048x1x64 : Shape := ⟨4, ![4, 2048, 1, 64]⟩
abbrev S4x4x2048x2048 : Shape := ⟨4, ![4, 4, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x2048x512 : Shape := ⟨3, ![4, 2048, 512]⟩
abbrev S4x4x2048x128 : Shape := ⟨4, ![4, 4, 2048, 128]⟩
abbrev S4x2048x4x256 : Shape := ⟨4, ![4, 2048, 4, 256]⟩
abbrev S4x2048x1024 : Shape := ⟨3, ![4, 2048, 1024]⟩
abbrev S4x2048x128 : Shape := ⟨3, ![4, 2048, 128]⟩
abbrev S1x2048x128 : Shape := ⟨3, ![1, 2048, 128]⟩
abbrev S1x1x2048x128 : Shape := ⟨4, ![1, 1, 2048, 128]⟩
abbrev S1x2048x256 : Shape := ⟨3, ![1, 2048, 256]⟩
abbrev S2048x256 : Shape := ⟨2, ![2048, 256]⟩
abbrev S2048x128 : Shape := ⟨2, ![2048, 128]⟩
abbrev S256x256 : Shape := ⟨2, ![256, 256]⟩
abbrev S1x256x128 : Shape := ⟨3, ![1, 256, 128]⟩
abbrev S256x128 : Shape := ⟨2, ![256, 128]⟩
abbrev S1x1x256x1 : Shape := ⟨4, ![1, 1, 256, 1]⟩
abbrev S256x1 : Shape := ⟨2, ![256, 1]⟩
abbrev S1x1x256x128 : Shape := ⟨4, ![1, 1, 256, 128]⟩

abbrev nBuf : Space → Nat
  | .hbm => 63
  | .vmem => 26
  | .smem => 0
  | _ => 0

abbrev bufTy : (tb : Table) → Fin (tcTables nBuf tb) → BufTy
  | .hbm, ⟨0, _⟩ => ⟨S4x2048x4x128, .f32⟩
  | .hbm, ⟨1, _⟩ => ⟨S4x2048x4x64, .f32⟩
  | .hbm, ⟨2, _⟩ => ⟨S4x2048x4x128, .f32⟩
  | .hbm, ⟨3, _⟩ => ⟨S4x2048x64, .f32⟩
  | .hbm, ⟨4, _⟩ => ⟨S4x2048x4x128, .f32⟩
  | .hbm, ⟨5, _⟩ => ⟨S4x2048x4x128, .f32⟩
  | .hbm, ⟨6, _⟩ => ⟨S4x2048x1x64, .f32⟩
  | .hbm, ⟨7, _⟩ => ⟨S4x2048x4x64, .f32⟩
  | .hbm, ⟨8, _⟩ => ⟨S4x4x2048x2048, .f32⟩
  | .hbm, ⟨9, _⟩ => ⟨S4x4x2048x2048, .f32⟩
  | .hbm, ⟨10, _⟩ => ⟨S4x4x2048x2048, .f32⟩
  | .hbm, ⟨11, _⟩ => ⟨S_, .f32⟩
  | .hbm, ⟨12, _⟩ => ⟨S4x4x2048x2048, .f32⟩
  | .hbm, ⟨13, _⟩ => ⟨S4x4x2048x2048, .f32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S4x4x2048x2048, .i1⟩
  | .hbm, ⟨24, _⟩ => ⟨S4x4x2048x2048, .f32⟩
  | .hbm, ⟨25, _⟩ => ⟨S4x4x2048x2048, .f32⟩
  | .hbm, ⟨26, _⟩ => ⟨S_, .f32⟩
  | .hbm, ⟨27, _⟩ => ⟨S4x4x2048, .f32⟩
  | .hbm, ⟨28, _⟩ => ⟨S4x4x2048x1, .f32⟩
  | .hbm, ⟨29, _⟩ => ⟨S4x4x2048x2048, .f32⟩
  | .hbm, ⟨30, _⟩ => ⟨S4x4x2048x2048, .f32⟩
  | .hbm, ⟨31, _⟩ => ⟨S4x4x2048x2048, .f32⟩
  | .hbm, ⟨32, _⟩ => ⟨S_, .f32⟩
  | .hbm, ⟨33, _⟩ => ⟨S4x4x2048, .f32⟩
  | .hbm, ⟨34, _⟩ => ⟨S4x4x2048x1, .f32⟩
  | .hbm, ⟨35, _⟩ => ⟨S4x4x2048x2048, .f32⟩
  | .hbm, ⟨36, _⟩ => ⟨S4x4x2048x2048, .f32⟩
  | .hbm, ⟨37, _⟩ => ⟨S4x4x128x2048, .f32⟩
  | .hbm, ⟨38, _⟩ => ⟨S4x2048x4x128, .f32⟩
  | .hbm, ⟨39, _⟩ => ⟨S4x2048x512, .f32⟩
  | .hbm, ⟨40, _⟩ => ⟨S4x4x2048x1, .f32⟩
  | .hbm, ⟨41, _⟩ => ⟨S4x4x2048x1, .f32⟩
  | .hbm, ⟨42, _⟩ => ⟨S4x4x2048x128, .f32⟩
  | .hbm, ⟨43, _⟩ => ⟨S4x2048x512, .f32⟩
  | .hbm, ⟨44, _⟩ => ⟨S4x2048x512, .bf16⟩
  | .hbm, ⟨45, _⟩ => ⟨S_, .i32⟩
  | .hbm, ⟨46, _⟩ => ⟨S_, .f32⟩
  | .hbm, ⟨47, _⟩ => ⟨S4x2048x4x128, .f32⟩
  | .hbm, ⟨48, _⟩ => ⟨S4x2048x512, .f32⟩
  | .hbm, ⟨49, _⟩ => ⟨S4x2048x512, .bf16⟩
  | .hbm, ⟨50, _⟩ => ⟨S4x2048x4x256, .f32⟩
  | .hbm, ⟨51, _⟩ => ⟨S4x2048x1024, .f32⟩
  | .hbm, ⟨52, _⟩ => ⟨S4x2048x1024, .bf16⟩
  | .hbm, ⟨53, _⟩ => ⟨S_, .i32⟩
  | .hbm, ⟨54, _⟩ => ⟨S_, .f32⟩
  | .hbm, ⟨55, _⟩ => ⟨S4x2048x128, .f32⟩
  | .hbm, ⟨56, _⟩ => ⟨S4x2048x128, .bf16⟩
  | .hbm, ⟨57, _⟩ => ⟨S4x2048x512, .f32⟩
  | .hbm, ⟨58, _⟩ => ⟨S4x2048x512, .bf16⟩
  | .hbm, ⟨59, _⟩ => ⟨S4x2048x512, .f32⟩
  | .hbm, ⟨60, _⟩ => ⟨S4x2048x512, .f32⟩
  | .hbm, ⟨61, _⟩ => ⟨S4x2048x1024, .f32⟩
  | .hbm, ⟨62, _⟩ => ⟨S4x4x2048x128, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .f32⟩
  | .local _ .vmem, ⟨11, _⟩ => ⟨S1x2048x128, .f32⟩
  | .local _ .vmem, ⟨12, _⟩ => ⟨S1x2048x128, .bf16⟩
  | .local _ .vmem, ⟨13, _⟩ => ⟨S1x2048x128, .bf16⟩
  | .local _ .vmem, ⟨14, _⟩ => ⟨S1x1x2048x128, .f32⟩
  | .local _ .vmem, ⟨15, _⟩ => ⟨S1x1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x2048x128, .f32⟩
  | .local _ .vmem, ⟨19, _⟩ => ⟨S1x2048x128, .f32⟩
  | .local _ .vmem, ⟨20, _⟩ => ⟨S1x2048x256, .f32⟩
  | .local _ .vmem, ⟨21, _⟩ => ⟨S1x2048x256, .f32⟩
  | .local _ .vmem, ⟨22, _⟩ => ⟨S1x1x2048x128, .f32⟩
  | .local _ .vmem, ⟨23, _⟩ => ⟨S1x1x2048x128, .f32⟩
  | .local _ .vmem, ⟨24, _⟩ => ⟨S2048x256, .f32⟩
  | .local _ .vmem, ⟨25, _⟩ => ⟨S2048x1, .f32⟩
  | _, _ => ⟨S4x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c : Ref sig .tc := ⟨.hbm, 45, rfl⟩
abbrev main_call1_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_3 : Ref sig .tc := ⟨.hbm, 53, rfl⟩
abbrev main_call2_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42_0 : Ref sig .tc := ⟨.hbm, 59, rfl⟩
abbrev main_v42_1 : Ref sig .tc := ⟨.hbm, 60, rfl⟩
abbrev main_v42_2 : Ref sig .tc := ⟨.hbm, 61, rfl⟩
abbrev main_v42_3 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 4], ![false, false]⟩

def k0_mult1 : BitVec 32 :=
  let c2_i32 : BitVec 32 := 2#32
  let c1_i32 : BitVec 32 := 1#32
  let v101 : BitVec 32 := Scalar.muli c2_i32 c1_i32
  let c256_i32 : BitVec 32 := 256#32
  let v104 : BitVec 32 := Scalar.muli v101 c256_i32
  v104
def k0_mult2 : BitVec 32 :=
  let c2_i32_74 : BitVec 32 := 2#32
  let c1_i32 : BitVec 32 := 1#32
  let v102 : BitVec 32 := Scalar.muli c2_i32_74 c1_i32
  let c1_i32_75 : BitVec 32 := 1#32
  let v103 : BitVec 32 := Scalar.addi v102 c1_i32_75
  let c256_i32_76 : BitVec 32 := 256#32
  let v106 : BitVec 32 := Scalar.muli v103 c256_i32_76
  v106
def k0_off1 (c1_i32 : BitVec 32) : Fin 3 → Nat :=
  let c0_77 : Index := 0#32
  let c2_i32 : BitVec 32 := 2#32
  let v101 : BitVec 32 := Scalar.muli c2_i32 c1_i32
  let c256_i32 : BitVec 32 := 256#32
  let v104 : BitVec 32 := Scalar.muli v101 c256_i32
  let v105 : BitVec 32 := v104
  let v108 : Index := Scalar.indexCast v105
  let c0_78 : Index := 0#32
  ![0, v108.toNat, 0]
def k0_off2 (c1_i32 : BitVec 32) : Fin 3 → Nat :=
  let c0_81 : Index := 0#32
  let c2_i32_74 : BitVec 32 := 2#32
  let v102 : BitVec 32 := Scalar.muli c2_i32_74 c1_i32
  let c1_i32_75 : BitVec 32 := 1#32
  let v103 : BitVec 32 := Scalar.addi v102 c1_i32_75
  let c256_i32_76 : BitVec 32 := 256#32
  let v106 : BitVec 32 := Scalar.muli v103 c256_i32_76
  let v107 : BitVec 32 := v106
  let v115 : Index := Scalar.indexCast v107
  let c0_82 : Index := 0#32
  ![0, v115.toNat, 0]
def k0_off3 (c1_i32 : BitVec 32) : Fin 4 → Nat :=
  let c0_94 : Index := 0#32
  let c0_95 : Index := 0#32
  let c2_i32 : BitVec 32 := 2#32
  let v101 : BitVec 32 := Scalar.muli c2_i32 c1_i32
  let c256_i32 : BitVec 32 := 256#32
  let v104 : BitVec 32 := Scalar.muli v101 c256_i32
  let v105 : BitVec 32 := v104
  let v134 : Index := Scalar.indexCast v105
  let c0_96 : Index := 0#32
  ![0, 0, v134.toNat, 0]
def k0_off4 (c1_i32 : BitVec 32) : Fin 2 → Nat :=
  let c2_i32 : BitVec 32 := 2#32
  let v101 : BitVec 32 := Scalar.muli c2_i32 c1_i32
  let c256_i32 : BitVec 32 := 256#32
  let v104 : BitVec 32 := Scalar.muli v101 c256_i32
  let v105 : BitVec 32 := v104
  let v141 : Index := Scalar.indexCast v105
  let c0_97 : Index := 0#32
  ![v141.toNat, 0]
def k0_off5 (c1_i32 : BitVec 32) : Fin 4 → Nat :=
  let c0_100 : Index := 0#32
  let c0_101 : Index := 0#32
  let c2_i32_74 : BitVec 32 := 2#32
  let v102 : BitVec 32 := Scalar.muli c2_i32_74 c1_i32
  let c1_i32_75 : BitVec 32 := 1#32
  let v103 : BitVec 32 := Scalar.addi v102 c1_i32_75
  let c256_i32_76 : BitVec 32 := 256#32
  let v106 : BitVec 32 := Scalar.muli v103 c256_i32_76
  let v107 : BitVec 32 := v106
  let v151 : Index := Scalar.indexCast v107
  let c0_102 : Index := 0#32
  ![0, 0, v151.toNat, 0]
def k0_off6 (c1_i32 : BitVec 32) : Fin 2 → Nat :=
  let c2_i32_74 : BitVec 32 := 2#32
  let v102 : BitVec 32 := Scalar.muli c2_i32_74 c1_i32
  let c1_i32_75 : BitVec 32 := 1#32
  let v103 : BitVec 32 := Scalar.addi v102 c1_i32_75
  let c256_i32_76 : BitVec 32 := 256#32
  let v106 : BitVec 32 := Scalar.muli v103 c256_i32_76
  let v107 : BitVec 32 := v106
  let v158 : Index := Scalar.indexCast v107
  let c0_103 : Index := 0#32
  ![v158.toNat, 0]
def k0_off7 (c1_i32 : BitVec 32) : Fin 2 → Nat :=
  let c2_i32 : BitVec 32 := 2#32
  let v101 : BitVec 32 := Scalar.muli c2_i32 c1_i32
  let c256_i32 : BitVec 32 := 256#32
  let v104 : BitVec 32 := Scalar.muli v101 c256_i32
  let v105 : BitVec 32 := v104
  let v170 : Index := Scalar.indexCast v105
  let c0_107 : Index := 0#32
  ![v170.toNat, 0]
def k0_off8 (c1_i32 : BitVec 32) : Fin 2 → Nat :=
  let c2_i32_74 : BitVec 32 := 2#32
  let v102 : BitVec 32 := Scalar.muli c2_i32_74 c1_i32
  let c1_i32_75 : BitVec 32 := 1#32
  let v103 : BitVec 32 := Scalar.addi v102 c1_i32_75
  let c256_i32_76 : BitVec 32 := 256#32
  let v106 : BitVec 32 := Scalar.muli v103 c256_i32_76
  let v107 : BitVec 32 := v106
  let v180 : Index := Scalar.indexCast v107
  let c0_111 : Index := 0#32
  ![v180.toNat, 0]
def k0_mult3 : BitVec 32 :=
  let c2_i32_116 : BitVec 32 := 2#32
  let c2_i32_115 : BitVec 32 := 2#32
  let v190 : BitVec 32 := Scalar.muli c2_i32_116 c2_i32_115
  let c256_i32_119 : BitVec 32 := 256#32
  let v193 : BitVec 32 := Scalar.muli v190 c256_i32_119
  v193
def k0_mult4 : BitVec 32 :=
  let c2_i32_117 : BitVec 32 := 2#32
  let c2_i32_115 : BitVec 32 := 2#32
  let v191 : BitVec 32 := Scalar.muli c2_i32_117 c2_i32_115
  let c1_i32_118 : BitVec 32 := 1#32
  let v192 : BitVec 32 := Scalar.addi v191 c1_i32_118
  let c256_i32_120 : BitVec 32 := 256#32
  let v195 : BitVec 32 := Scalar.muli v192 c256_i32_120
  v195
def k0_mult5 : BitVec 32 :=
  let c2_i32_159 : BitVec 32 := 2#32
  let c3_i32 : BitVec 32 := 3#32
  let v279 : BitVec 32 := Scalar.muli c2_i32_159 c3_i32
  let c256_i32_162 : BitVec 32 := 256#32
  let v282 : BitVec 32 := Scalar.muli v279 c256_i32_162
  v282
def k0_mult6 : BitVec 32 :=
  let c2_i32_160 : BitVec 32 := 2#32
  let c3_i32 : BitVec 32 := 3#32
  let v280 : BitVec 32 := Scalar.muli c2_i32_160 c3_i32
  let c1_i32_161 : BitVec 32 := 1#32
  let v281 : BitVec 32 := Scalar.addi v280 c1_i32_161
  let c256_i32_163 : BitVec 32 := 256#32
  let v284 : BitVec 32 := Scalar.muli v281 c256_i32_163
  v284
def k0_mult7 : BitVec 32 :=
  let c2_i32_251 : BitVec 32 := 2#32
  let c1_i32_250 : BitVec 32 := 1#32
  let v424 : BitVec 32 := Scalar.muli c2_i32_251 c1_i32_250
  let c256_i32_254 : BitVec 32 := 256#32
  let v427 : BitVec 32 := Scalar.muli v424 c256_i32_254
  v427
def k0_mult8 : BitVec 32 :=
  let c2_i32_252 : BitVec 32 := 2#32
  let c1_i32_250 : BitVec 32 := 1#32
  let v425 : BitVec 32 := Scalar.muli c2_i32_252 c1_i32_250
  let c1_i32_253 : BitVec 32 := 1#32
  let v426 : BitVec 32 := Scalar.addi v425 c1_i32_253
  let c256_i32_255 : BitVec 32 := 256#32
  let v429 : BitVec 32 := Scalar.muli v426 c256_i32_255
  v429
def k0_mult9 : BitVec 32 :=
  let c2_i32_295 : BitVec 32 := 2#32
  let c2_i32_294 : BitVec 32 := 2#32
  let v513 : BitVec 32 := Scalar.muli c2_i32_295 c2_i32_294
  let c256_i32_298 : BitVec 32 := 256#32
  let v516 : BitVec 32 := Scalar.muli v513 c256_i32_298
  v516
def k0_mult10 : BitVec 32 :=
  let c2_i32_296 : BitVec 32 := 2#32
  let c2_i32_294 : BitVec 32 := 2#32
  let v514 : BitVec 32 := Scalar.muli c2_i32_296 c2_i32_294
  let c1_i32_297 : BitVec 32 := 1#32
  let v515 : BitVec 32 := Scalar.addi v514 c1_i32_297
  let c256_i32_299 : BitVec 32 := 256#32
  let v518 : BitVec 32 := Scalar.muli v515 c256_i32_299
  v518
def k0_mult11 : BitVec 32 :=
  let c2_i32_339 : BitVec 32 := 2#32
  let c3_i32_338 : BitVec 32 := 3#32
  let v602 : BitVec 32 := Scalar.muli c2_i32_339 c3_i32_338
  let c256_i32_342 : BitVec 32 := 256#32
  let v605 : BitVec 32 := Scalar.muli v602 c256_i32_342
  v605
def k0_mult12 : BitVec 32 :=
  let c2_i32_340 : BitVec 32 := 2#32
  let c3_i32_338 : BitVec 32 := 3#32
  let v603 : BitVec 32 := Scalar.muli c2_i32_340 c3_i32_338
  let c1_i32_341 : BitVec 32 := 1#32
  let v604 : BitVec 32 := Scalar.addi v603 c1_i32_341
  let c256_i32_343 : BitVec 32 := 256#32
  let v607 : BitVec 32 := Scalar.muli v604 c256_i32_343
  v607
def k0_mult13 : BitVec 32 :=
  let c2_i32_456 : BitVec 32 := 2#32
  let c2_i32_455 : BitVec 32 := 2#32
  let v781 : BitVec 32 := Scalar.muli c2_i32_456 c2_i32_455
  let c256_i32_459 : BitVec 32 := 256#32
  let v784 : BitVec 32 := Scalar.muli v781 c256_i32_459
  v784
def k0_mult14 : BitVec 32 :=
  let c2_i32_457 : BitVec 32 := 2#32
  let c2_i32_455 : BitVec 32 := 2#32
  let v782 : BitVec 32 := Scalar.muli c2_i32_457 c2_i32_455
  let c1_i32_458 : BitVec 32 := 1#32
  let v783 : BitVec 32 := Scalar.addi v782 c1_i32_458
  let c256_i32_460 : BitVec 32 := 256#32
  let v786 : BitVec 32 := Scalar.muli v783 c256_i32_460
  v786
def k0_mult15 : BitVec 32 :=
  let c2_i32_500 : BitVec 32 := 2#32
  let c3_i32_499 : BitVec 32 := 3#32
  let v870 : BitVec 32 := Scalar.muli c2_i32_500 c3_i32_499
  let c256_i32_503 : BitVec 32 := 256#32
  let v873 : BitVec 32 := Scalar.muli v870 c256_i32_503
  v873
def k0_mult16 : BitVec 32 :=
  let c2_i32_501 : BitVec 32 := 2#32
  let c3_i32_499 : BitVec 32 := 3#32
  let v871 : BitVec 32 := Scalar.muli c2_i32_501 c3_i32_499
  let c1_i32_502 : BitVec 32 := 1#32
  let v872 : BitVec 32 := Scalar.addi v871 c1_i32_502
  let c256_i32_504 : BitVec 32 := 256#32
  let v875 : BitVec 32 := Scalar.muli v872 c256_i32_504
  v875
def k0_mult17 : BitVec 32 :=
  let c2_i32_593 : BitVec 32 := 2#32
  let c2_i32_592 : BitVec 32 := 2#32
  let v1015 : BitVec 32 := Scalar.muli c2_i32_593 c2_i32_592
  let c256_i32_596 : BitVec 32 := 256#32
  let v1018 : BitVec 32 := Scalar.muli v1015 c256_i32_596
  v1018
def k0_mult18 : BitVec 32 :=
  let c2_i32_594 : BitVec 32 := 2#32
  let c2_i32_592 : BitVec 32 := 2#32
  let v1016 : BitVec 32 := Scalar.muli c2_i32_594 c2_i32_592
  let c1_i32_595 : BitVec 32 := 1#32
  let v1017 : BitVec 32 := Scalar.addi v1016 c1_i32_595
  let c256_i32_597 : BitVec 32 := 256#32
  let v1020 : BitVec 32 := Scalar.muli v1017 c256_i32_597
  v1020
def k0_mult19 : BitVec 32 :=
  let c2_i32_637 : BitVec 32 := 2#32
  let c3_i32_636 : BitVec 32 := 3#32
  let v1104 : BitVec 32 := Scalar.muli c2_i32_637 c3_i32_636
  let c256_i32_640 : BitVec 32 := 256#32
  let v1107 : BitVec 32 := Scalar.muli v1104 c256_i32_640
  v1107
def k0_mult20 : BitVec 32 :=
  let c2_i32_638 : BitVec 32 := 2#32
  let c3_i32_636 : BitVec 32 := 3#32
  let v1105 : BitVec 32 := Scalar.muli c2_i32_638 c3_i32_636
  let c1_i32_639 : BitVec 32 := 1#32
  let v1106 : BitVec 32 := Scalar.addi v1105 c1_i32_639
  let c256_i32_641 : BitVec 32 := 256#32
  let v1109 : BitVec 32 := Scalar.muli v1106 c256_i32_641
  v1109
def k0_mult21 : BitVec 32 :=
  let c2_i32_754 : BitVec 32 := 2#32
  let c3_i32_753 : BitVec 32 := 3#32
  let v1283 : BitVec 32 := Scalar.muli c2_i32_754 c3_i32_753
  let c256_i32_757 : BitVec 32 := 256#32
  let v1286 : BitVec 32 := Scalar.muli v1283 c256_i32_757
  v1286
def k0_mult22 : BitVec 32 :=
  let c2_i32_755 : BitVec 32 := 2#32
  let c3_i32_753 : BitVec 32 := 3#32
  let v1284 : BitVec 32 := Scalar.muli c2_i32_755 c3_i32_753
  let c1_i32_756 : BitVec 32 := 1#32
  let v1285 : BitVec 32 := Scalar.addi v1284 c1_i32_756
  let c256_i32_758 : BitVec 32 := 256#32
  let v1288 : BitVec 32 := Scalar.muli v1285 c256_i32_758
  v1288
def k0_mult23 : BitVec 32 :=
  let c2_i32_847 : BitVec 32 := 2#32
  let c3_i32_846 : BitVec 32 := 3#32
  let v1428 : BitVec 32 := Scalar.muli c2_i32_847 c3_i32_846
  let c256_i32_850 : BitVec 32 := 256#32
  let v1431 : BitVec 32 := Scalar.muli v1428 c256_i32_850
  v1431
def k0_mult24 : BitVec 32 :=
  let c2_i32_848 : BitVec 32 := 2#32
  let c3_i32_846 : BitVec 32 := 3#32
  let v1429 : BitVec 32 := Scalar.muli c2_i32_848 c3_i32_846
  let c1_i32_849 : BitVec 32 := 1#32
  let v1430 : BitVec 32 := Scalar.addi v1429 c1_i32_849
  let c256_i32_851 : BitVec 32 := 256#32
  let v1433 : BitVec 32 := Scalar.muli v1430 c256_i32_851
  v1433
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, c0_i32.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4x2048x4x128 : Shape := ⟨4, ![4, 2048, 4, 128]⟩
abbrev S4x2048x4x64 : Shape := ⟨4, ![4, 2048, 4, 64]⟩
abbrev S4x2048x64 : Shape := ⟨3, ![4, 2048, 64]⟩
abbrev S4x2048x1x64 : Shape := ⟨4, ![4, 2048, 1, 64]⟩
abbrev S4x4x2048x2048 : Shape := ⟨4, ![4, 4, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x4x2048x64 : Shape := ⟨4, ![4, 4, 2048, 64]⟩
abbrev S4x4x2048x128 : Shape := ⟨4, ![4, 4, 2048, 128]⟩
abbrev S4x2048x512 : Shape := ⟨3, ![4, 2048, 512]⟩
abbrev S4x2048x4x256 : Shape := ⟨4, ![4, 2048, 4, 256]⟩
abbrev S4x2048x1024 : Shape := ⟨3, ![4, 2048, 1024]⟩

abbrev nBuf : Space → Nat
  | .hbm => 111
  | .vmem => 0
  | .smem => 0
  | _ => 0

abbrev bufTy : (tb : Table) → Fin (tcTables nBuf tb) → BufTy
  | .hbm, ⟨0, _⟩ => ⟨S4x2048x4x128, .f32⟩
  | .hbm, ⟨1, _⟩ => ⟨S4x2048x4x64, .f32⟩
  | .hbm, ⟨2, _⟩ => ⟨S4x2048x4x128, .f32⟩
  | .hbm, ⟨3, _⟩ => ⟨S4x2048x64, .f32⟩
  | .hbm, ⟨4, _⟩ => ⟨S4x2048x4x128, .f32⟩
  | .hbm, ⟨5, _⟩ => ⟨S4x2048x4x128, .f32⟩
  | .hbm, ⟨6, _⟩ => ⟨S4x2048x1x64, .f32⟩
  | .hbm, ⟨7, _⟩ => ⟨S4x2048x4x64, .f32⟩
  | .hbm, ⟨8, _⟩ => ⟨S4x4x2048x2048, .f32⟩
  | .hbm, ⟨9, _⟩ => ⟨S4x4x2048x2048, .f32⟩
  | .hbm, ⟨10, _⟩ => ⟨S4x4x2048x2048, .f32⟩
  | .hbm, ⟨11, _⟩ => ⟨S_, .f32⟩
  | .hbm, ⟨12, _⟩ => ⟨S4x4x2048x2048, .f32⟩
  | .hbm, ⟨13, _⟩ => ⟨S4x4x2048x2048, .f32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S4x4x2048x2048, .i1⟩
  | .hbm, ⟨24, _⟩ => ⟨S4x4x2048x2048, .f32⟩
  | .hbm, ⟨25, _⟩ => ⟨S4x4x2048x2048, .f32⟩
  | .hbm, ⟨26, _⟩ => ⟨S_, .f32⟩
  | .hbm, ⟨27, _⟩ => ⟨S4x4x2048x2048, .f32⟩
  | .hbm, ⟨28, _⟩ => ⟨S_, .f32⟩
  | .hbm, ⟨29, _⟩ => ⟨S4x4x2048, .f32⟩
  | .hbm, ⟨30, _⟩ => ⟨S4x4x2048x1, .f32⟩
  | .hbm, ⟨31, _⟩ => ⟨S4x4x2048x2048, .f32⟩
  | .hbm, ⟨32, _⟩ => ⟨S4x4x2048x2048, .i1⟩
  | .hbm, ⟨33, _⟩ => ⟨S4x4x2048x2048, .f32⟩
  | .hbm, ⟨34, _⟩ => ⟨S_, .f32⟩
  | .hbm, ⟨35, _⟩ => ⟨S4x4x2048, .f32⟩
  | .hbm, ⟨36, _⟩ => ⟨S_, .f32⟩
  | .hbm, ⟨37, _⟩ => ⟨S4x4x2048, .f32⟩
  | .hbm, ⟨38, _⟩ => ⟨S4x4x2048, .f32⟩
  | .hbm, ⟨39, _⟩ => ⟨S_, .f32⟩
  | .hbm, ⟨40, _⟩ => ⟨S4x4x2048, .f32⟩
  | .hbm, ⟨41, _⟩ => ⟨S4x4x2048, .i1⟩
  | .hbm, ⟨42, _⟩ => ⟨S_, .f32⟩
  | .hbm, ⟨43, _⟩ => ⟨S4x4x2048, .f32⟩
  | .hbm, ⟨44, _⟩ => ⟨S4x4x2048, .i1⟩
  | .hbm, ⟨45, _⟩ => ⟨S_, .f32⟩
  | .hbm, ⟨46, _⟩ => ⟨S4x4x2048, .f32⟩
  | .hbm, ⟨47, _⟩ => ⟨S_, .f32⟩
  | .hbm, ⟨48, _⟩ => ⟨S4x4x2048, .f32⟩
  | .hbm, ⟨49, _⟩ => ⟨S_, .f32⟩
  | .hbm, ⟨50, _⟩ => ⟨S4x4x2048, .f32⟩
  | .hbm, ⟨51, _⟩ => ⟨S4x4x2048, .f32⟩
  | .hbm, ⟨52, _⟩ => ⟨S4x4x2048, .f32⟩
  | .hbm, ⟨53, _⟩ => ⟨S4x4x2048x1, .f32⟩
  | .hbm, ⟨54, _⟩ => ⟨S4x4x2048x2048, .f32⟩
  | .hbm, ⟨55, _⟩ => ⟨S4x4x2048x2048, .f32⟩
  | .hbm, ⟨56, _⟩ => ⟨S4x4x2048x2048, .f32⟩
  | .hbm, ⟨57, _⟩ => ⟨S_, .f32⟩
  | .hbm, ⟨58, _⟩ => ⟨S4x4x2048, .f32⟩
  | .hbm, ⟨59, _⟩ => ⟨S4x4x2048x1, .f32⟩
  | .hbm, ⟨60, _⟩ => ⟨S4x4x2048x2048, .f32⟩
  | .hbm, ⟨61, _⟩ => ⟨S4x4x2048x2048, .f32⟩
  | .hbm, ⟨62, _⟩ => ⟨S4x4x2048x1, .f32⟩
  | .hbm, ⟨63, _⟩ => ⟨S_, .f32⟩
  | .hbm, ⟨64, _⟩ => ⟨S4x4x2048x1, .f32⟩
  | .hbm, ⟨65, _⟩ => ⟨S4x4x2048x1, .f32⟩
  | .hbm, ⟨66, _⟩ => ⟨S4x4x128x2048, .f32⟩
  | .hbm, ⟨67, _⟩ => ⟨S4x2048x4x128, .f32⟩
  | .hbm, ⟨68, _⟩ => ⟨S4x4x128x2048, .f32⟩
  | .hbm, ⟨69, _⟩ => ⟨S4x4x2048x2048, .f32⟩
  | .hbm, ⟨70, _⟩ => ⟨S4x4x128x2048, .f32⟩
  | .hbm, ⟨71, _⟩ => ⟨S4x2048x4x128, .f32⟩
  | .hbm, ⟨72, _⟩ => ⟨S4x4x2048x2048, .f32⟩
  | .hbm, ⟨73, _⟩ => ⟨S4x4x2048x2048, .f32⟩
  | .hbm, ⟨74, _⟩ => ⟨S4x4x2048x2048, .f32⟩
  | .hbm, ⟨75, _⟩ => ⟨S_, .f32⟩
  | .hbm, ⟨76, _⟩ => ⟨S4x4x2048, .f32⟩
  | .hbm, ⟨77, _⟩ => ⟨S4x4x2048x1, .f32⟩
  | .hbm, ⟨78, _⟩ => ⟨S4x4x2048x1, .f32⟩
  | .hbm, ⟨79, _⟩ => ⟨S4x4x2048x2048, .f32⟩
  | .hbm, ⟨80, _⟩ => ⟨S4x4x2048x2048, .f32⟩
  | .hbm, ⟨81, _⟩ => ⟨S_, .f32⟩
  | .hbm, ⟨82, _⟩ => ⟨S4x4x2048, .f32⟩
  | .hbm, ⟨83, _⟩ => ⟨S4x4x2048x2048, .f32⟩
  | .hbm, ⟨84, _⟩ => ⟨S4x4x2048x2048, .f32⟩
  | .hbm, ⟨85, _⟩ => ⟨S4x4x2048x2048, .f32⟩
  | .hbm, ⟨86, _⟩ => ⟨S_, .f32⟩
  | .hbm, ⟨87, _⟩ => ⟨S4x4x2048x2048, .f32⟩
  | .hbm, ⟨88, _⟩ => ⟨S4x4x2048x2048, .f32⟩
  | .hbm, ⟨89, _⟩ => ⟨S_, .f32⟩
  | .hbm, ⟨90, _⟩ => ⟨S4x4x2048x2048, .f32⟩
  | .hbm, ⟨91, _⟩ => ⟨S4x4x2048x2048, .f32⟩
  | .hbm, ⟨92, _⟩ => ⟨S4x4x2048x64, .f32⟩
  | .hbm, ⟨93, _⟩ => ⟨S4x2048x4x64, .f32⟩
  | .hbm, ⟨94, _⟩ => ⟨S4x4x2048x64, .f32⟩
  | .hbm, ⟨95, _⟩ => ⟨S4x2048x4x64, .f32⟩
  | .hbm, ⟨96, _⟩ => ⟨S4x4x2048x128, .f32⟩
  | .hbm, ⟨97, _⟩ => ⟨S4x2048x4x128, .f32⟩
  | .hbm, ⟨98, _⟩ => ⟨S4x4x2048x128, .f32⟩
  | .hbm, ⟨99, _⟩ => ⟨S4x2048x4x128, .f32⟩
  | .hbm, ⟨100, _⟩ => ⟨S4x2048x512, .f32⟩
  | .hbm, ⟨101, _⟩ => ⟨S_, .i32⟩
  | .hbm, ⟨102, _⟩ => ⟨S_, .f32⟩
  | .hbm, ⟨103, _⟩ => ⟨S4x2048x4x128, .f32⟩
  | .hbm, ⟨104, _⟩ => ⟨S4x2048x512, .f32⟩
  | .hbm, ⟨105, _⟩ => ⟨S4x2048x4x256, .f32⟩
  | .hbm, ⟨106, _⟩ => ⟨S4x2048x1024, .f32⟩
  | .hbm, ⟨107, _⟩ => ⟨S_, .i32⟩
  | .hbm, ⟨108, _⟩ => ⟨S_, .f32⟩
  | .hbm, ⟨109, _⟩ => ⟨S4x2048x4x128, .f32⟩
  | .hbm, ⟨110, _⟩ => ⟨S4x4x2048x128, .f32⟩
  | _, _ => ⟨S4x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call0_v0 : Ref sig .tc := ⟨.hbm, 22, rfl⟩
abbrev main_v14_1 : Ref sig .tc := ⟨.hbm, 23, rfl⟩
abbrev main_call0_v2 : Ref sig .tc := ⟨.hbm, 24, rfl⟩
abbrev main_v14_0 : Ref sig .tc := ⟨.hbm, 25, rfl⟩
abbrev main_call0_cst : Ref sig .tc := ⟨.hbm, 26, rfl⟩
abbrev main_v14_2 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c : Ref sig .tc := ⟨.hbm, 101, rfl⟩
abbrev main_call2_v0 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_14 : Ref sig .tc := ⟨.hbm, 107, rfl⟩
abbrev main_call3_v0 : Ref sig .tc := ⟨.hbm, 108, rfl⟩
abbrev main_v77 : Ref sig .tc := ⟨.hbm, 109, rfl⟩
abbrev main_v78 : Ref sig .tc := ⟨.hbm, 110, rfl⟩

abbrev nD : Nat := 1
abbrev τ : Topo := Topo.v7x

variable {F : FTy → Type} [FloatOps F]
-- ==== Kernel2.lean ====
abbrev S4x2048x1024 : Shape := ⟨3, ![4, 2048, 1024]⟩
abbrev S1024 : Shape := ⟨1, ![1024]⟩
abbrev S1024x3136 : Shape := ⟨2, ![1024, 3136]⟩
abbrev S4x2048x448 : Shape := ⟨3, ![4, 2048, 448]⟩
abbrev S4x2048x1664 : Shape := ⟨3, ![4, 2048, 1664]⟩
abbrev S1024x448 : Shape := ⟨2, ![1024, 448]⟩
abbrev S_ : Shape := ⟨0, ![]⟩
abbrev S1024x64 : Shape := ⟨2, ![1024, 64]⟩
abbrev S1024x2688 : Shape := ⟨2, ![1024, 2688]⟩
abbrev S1024x3200 : Shape := ⟨2, ![1024, 3200]⟩
abbrev S8192x448 : Shape := ⟨2, ![8192, 448]⟩
abbrev S8192x512 : Shape := ⟨2, ![8192, 512]⟩
abbrev S8192x1024 : Shape := ⟨2, ![8192, 1024]⟩
abbrev S1x1024 : Shape := ⟨2, ![1, 1024]⟩
abbrev S8192x1664 : Shape := ⟨2, ![8192, 1664]⟩
abbrev S8192x3200 : Shape := ⟨2, ![8192, 3200]⟩
abbrev S256x1024 : Shape := ⟨2, ![256, 1024]⟩
abbrev S256x512 : Shape := ⟨2, ![256, 512]⟩
abbrev S256x1664 : Shape := ⟨2, ![256, 1664]⟩
abbrev S8x1664 : Shape := ⟨2, ![8, 1664]⟩
abbrev S256x3200 : Shape := ⟨2, ![256, 3200]⟩
abbrev S1x1664 : Shape := ⟨2, ![1, 1664]⟩
abbrev S1024x512 : Shape := ⟨2, ![1024, 512]⟩
abbrev S1024x1664 : Shape := ⟨2, ![1024, 1664]⟩
abbrev S1024x1024 : Shape := ⟨2, ![1024, 1024]⟩
abbrev S256 : Shape := ⟨1, ![256]⟩
abbrev S256x1 : Shape := ⟨2, ![256, 1]⟩

abbrev nBuf : Space → Nat
  | .hbm => 27
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x3136, .f32⟩
  | .hbm, ⟨3, _⟩ => ⟨S4x2048x448, .f32⟩
  | .hbm, ⟨4, _⟩ => ⟨S4x2048x1664, .f32⟩
  | .hbm, ⟨5, _⟩ => ⟨S4x2048x1664, .f32⟩
  | .hbm, ⟨6, _⟩ => ⟨S4x2048x1024, .f32⟩
  | .hbm, ⟨7, _⟩ => ⟨S4x2048x1024, .f32⟩
  | .hbm, ⟨8, _⟩ => ⟨S1024x448, .f32⟩
  | .hbm, ⟨9, _⟩ => ⟨S_, .f32⟩
  | .hbm, ⟨10, _⟩ => ⟨S1024x64, .f32⟩
  | .hbm, ⟨11, _⟩ => ⟨S1024x2688, .f32⟩
  | .hbm, ⟨12, _⟩ => ⟨S1024x3200, .f32⟩
  | .hbm, ⟨13, _⟩ => ⟨S1024x3200, .bf16⟩
  | .hbm, ⟨14, _⟩ => ⟨S8192x448, .f32⟩
  | .hbm, ⟨15, _⟩ => ⟨S_, .i32⟩
  | .hbm, ⟨16, _⟩ => ⟨S_, .f32⟩
  | .hbm, ⟨17, _⟩ => ⟨S8192x512, .f32⟩
  | .hbm, ⟨18, _⟩ => ⟨S8192x1024, .f32⟩
  | .hbm, ⟨19, _⟩ => ⟨S1x1024, .f32⟩
  | .hbm, ⟨20, _⟩ => ⟨S8192x1664, .f32⟩
  | .hbm, ⟨21, _⟩ => ⟨S8192x1664, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x3200, .bf16⟩
  | .hbm, ⟨26, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3200, .bf16⟩
  | .local _ .vmem, ⟨4, _⟩ => ⟨S256x512, .f32⟩
  | .local _ .vmem, ⟨5, _⟩ => ⟨S256x512, .f32⟩
  | .local _ .vmem, ⟨6, _⟩ => ⟨S256x1664, .f32⟩
  | .local _ .vmem, ⟨7, _⟩ => ⟨S256x1664, .f32⟩
  | .local _ .vmem, ⟨8, _⟩ => ⟨S256x1664, .f32⟩
  | .local _ .vmem, ⟨9, _⟩ => ⟨S256x1664, .f32⟩
  | .local _ .vmem, ⟨10, _⟩ => ⟨S8x1664, .f32⟩
  | .local _ .vmem, ⟨11, _⟩ => ⟨S8x1664, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x3200, .bf16⟩
  | .local _ .vmem, ⟨19, _⟩ => ⟨S256x3200, .bf16⟩
  | .local _ .vmem, ⟨20, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_46 : BitVec 32 := 0#32
  let v91 : BitVec 1 := Scalar.cmpi .eq arg0 c0_i32_46
  let v92 : BitVec 32 := Scalar.extui v91
  let c0_i32_47 : BitVec 32 := 0#32
  let v93 : BitVec 1 := Scalar.cmpi .ne v92 c0_i32_47
  v93

def k0_cond2 (i : grid0.Coords) : BitVec 1 :=
  let arg0 : BitVec 32 := BitVec.ofNat 32 (i 0).val
  let c0_i32_46 : BitVec 32 := 0#32
  let v91 : BitVec 1 := Scalar.cmpi .eq arg0 c0_i32_46
  let v_true : BitVec 1 := 1#1
  let v94 : BitVec 1 := Scalar.xori v91 v_true
  let v95 : BitVec 32 := Scalar.extui v94
  let c0_i32_48 : BitVec 32 := 0#32
  let v96 : BitVec 1 := Scalar.cmpi .ne v95 c0_i32_48
  v96

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3200 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S4x2048x1024 : Shape := ⟨3, ![4, 2048, 1024]⟩
abbrev S1024 : Shape := ⟨1, ![1024]⟩
abbrev S1024x3136 : Shape := ⟨2, ![1024, 3136]⟩
abbrev S4x2048x448 : Shape := ⟨3, ![4, 2048, 448]⟩
abbrev S4x2048x1664 : Shape := ⟨3, ![4, 2048, 1664]⟩
abbrev S_ : Shape := ⟨0, ![]⟩
abbrev S4x2048x3136 : Shape := ⟨3, ![4, 2048, 3136]⟩
abbrev S4x1x1664 : Shape := ⟨3, ![4, 1, 1664]⟩
abbrev S4x2047x1664 : Shape := ⟨3, ![4, 2047, 1664]⟩
abbrev S4x2048 : Shape := ⟨2, ![4, 2048]⟩
abbrev S4x2048x1 : Shape := ⟨3, ![4, 2048, 1]⟩
abbrev S1x1x1024 : Shape := ⟨3, ![1, 1, 1024]⟩
abbrev S8192x3136 : Shape := ⟨2, ![8192, 3136]⟩
abbrev S8192x1024 : Shape := ⟨2, ![8192, 1024]⟩
abbrev S8192x448 : Shape := ⟨2, ![8192, 448]⟩
abbrev S8192x64 : Shape := ⟨2, ![8192, 64]⟩
abbrev S8192x2688 : Shape := ⟨2, ![8192, 2688]⟩
abbrev S8192x3200 : Shape := ⟨2, ![8192, 3200]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x3136, .f32⟩
  | .hbm, ⟨3, _⟩ => ⟨S4x2048x448, .f32⟩
  | .hbm, ⟨4, _⟩ => ⟨S4x2048x1664, .f32⟩
  | .hbm, ⟨5, _⟩ => ⟨S4x2048x1664, .f32⟩
  | .hbm, ⟨6, _⟩ => ⟨S4x2048x1024, .f32⟩
  | .hbm, ⟨7, _⟩ => ⟨S4x2048x1024, .f32⟩
  | .hbm, ⟨8, _⟩ => ⟨S_, .f32⟩
  | .hbm, ⟨9, _⟩ => ⟨S4x2048x3136, .f32⟩
  | .hbm, ⟨10, _⟩ => ⟨S4x2048x1664, .f32⟩
  | .hbm, ⟨11, _⟩ => ⟨S4x2048x448, .f32⟩
  | .hbm, ⟨12, _⟩ => ⟨S_, .f32⟩
  | .hbm, ⟨13, _⟩ => ⟨S4x1x1664, .f32⟩
  | .hbm, ⟨14, _⟩ => ⟨S4x2047x1664, .f32⟩
  | .hbm, ⟨15, _⟩ => ⟨S4x2048x1664, .f32⟩
  | .hbm, ⟨16, _⟩ => ⟨S_, .f32⟩
  | .hbm, ⟨17, _⟩ => ⟨S4x1x1664, .f32⟩
  | .hbm, ⟨18, _⟩ => ⟨S4x2048x1024, .f32⟩
  | .hbm, ⟨19, _⟩ => ⟨S_, .f32⟩
  | .hbm, ⟨20, _⟩ => ⟨S4x2048x3136, .f32⟩
  | .hbm, ⟨21, _⟩ => ⟨S4x1x1664, .f32⟩
  | .hbm, ⟨22, _⟩ => ⟨S4x2047x1664, .f32⟩
  | .hbm, ⟨23, _⟩ => ⟨S_, .f32⟩
  | .hbm, ⟨24, _⟩ => ⟨S4x2048x1664, .f32⟩
  | .hbm, ⟨25, _⟩ => ⟨S4x2048x1664, .f32⟩
  | .hbm, ⟨26, _⟩ => ⟨S_, .f32⟩
  | .hbm, ⟨27, _⟩ => ⟨S4x2048x3136, .f32⟩
  | .hbm, ⟨28, _⟩ => ⟨S4x2048x3136, .f32⟩
  | .hbm, ⟨29, _⟩ => ⟨S_, .f32⟩
  | .hbm, ⟨30, _⟩ => ⟨S4x2048x3136, .f32⟩
  | .hbm, ⟨31, _⟩ => ⟨S4x2048x3136, .f32⟩
  | .hbm, ⟨32, _⟩ => ⟨S4x2048x1024, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S_, .f32⟩
  | .hbm, ⟨40, _⟩ => ⟨S4x2048x1, .f32⟩
  | .hbm, ⟨41, _⟩ => ⟨S4x2048x1, .f32⟩
  | .hbm, ⟨42, _⟩ => ⟨S4x2048x1, .f32⟩
  | .hbm, ⟨43, _⟩ => ⟨S4x2048x1, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S4x2048x1024, .f32⟩
  | .hbm, ⟨48, _⟩ => ⟨S4x2048x1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | .hbm, ⟨52, _⟩ => ⟨S4x2048x3136, .f32⟩
  | .hbm, ⟨53, _⟩ => ⟨S4x2048x1024, .f32⟩
  | .hbm, ⟨54, _⟩ => ⟨S4x2048x1024, .f32⟩
  | .hbm, ⟨55, _⟩ => ⟨S_, .f32⟩
  | .hbm, ⟨56, _⟩ => ⟨S1024, .f32⟩
  | .hbm, ⟨57, _⟩ => ⟨S1x1x1024, .f32⟩
  | .hbm, ⟨58, _⟩ => ⟨S4x2048x1024, .f32⟩
  | .hbm, ⟨59, _⟩ => ⟨S4x2048x1024, .f32⟩
  | .hbm, ⟨60, _⟩ => ⟨S_, .f32⟩
  | .hbm, ⟨61, _⟩ => ⟨S1024, .f32⟩
  | .hbm, ⟨62, _⟩ => ⟨S4x2048x1024, .f32⟩
  | .hbm, ⟨63, _⟩ => ⟨S_, .f32⟩
  | .hbm, ⟨64, _⟩ => ⟨S4x2048, .f32⟩
  | .hbm, ⟨65, _⟩ => ⟨S4x2048x1, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1, .f32⟩
  | .hbm, ⟨70, _⟩ => ⟨S_, .f32⟩
  | .hbm, ⟨71, _⟩ => ⟨S4x2048x1, .f32⟩
  | .hbm, ⟨72, _⟩ => ⟨S4x2048x1, .f32⟩
  | .hbm, ⟨73, _⟩ => ⟨S_, .f32⟩
  | .hbm, ⟨74, _⟩ => ⟨S4x2048, .f32⟩
  | .hbm, ⟨75, _⟩ => ⟨S4x2048x1024, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S4x2048x1024, .f32⟩
  | .hbm, ⟨80, _⟩ => ⟨S8192x3136, .f32⟩
  | .hbm, ⟨81, _⟩ => ⟨S8192x1024, .f32⟩
  | .hbm, ⟨82, _⟩ => ⟨S8192x448, .f32⟩
  | .hbm, ⟨83, _⟩ => ⟨S_, .f32⟩
  | .hbm, ⟨84, _⟩ => ⟨S8192x64, .f32⟩
  | .hbm, ⟨85, _⟩ => ⟨S8192x2688, .f32⟩
  | .hbm, ⟨86, _⟩ => ⟨S8192x3200, .f32⟩
  | .hbm, ⟨87, _⟩ => ⟨S8192x3200, .bf16⟩
  | .hbm, ⟨88, _⟩ => ⟨S1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_11 : Ref sig .tc := ⟨.hbm, 60, rfl⟩
abbrev main_v40 : Ref sig .tc := ⟨.hbm, 61, rfl⟩
abbrev main_v41 : Ref sig .tc := ⟨.hbm, 62, rfl⟩
abbrev main_cst_12 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_v49 : Ref sig .tc := ⟨.hbm, 72, rfl⟩
abbrev main_cst_14 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== Kernel3.lean ====
abbrev S4x2048x1024 : Shape := ⟨3, ![4, 2048, 1024]⟩
abbrev S1024 : Shape := ⟨1, ![1024]⟩
abbrev S4x2048x3136 : Shape := ⟨3, ![4, 2048, 3136]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1024x8192 : Shape := ⟨2, ![1024, 8192]⟩
abbrev S8192x3136 : Shape := ⟨2, ![8192, 3136]⟩
abbrev S8192x448 : Shape := ⟨2, ![8192, 448]⟩
abbrev S8192x64 : Shape := ⟨2, ![8192, 64]⟩
abbrev S8192x2688 : Shape := ⟨2, ![8192, 2688]⟩
abbrev S8192x3200 : Shape := ⟨2, ![8192, 3200]⟩
abbrev S1024x3200 : Shape := ⟨2, ![1024, 3200]⟩
abbrev S1024x1024 : Shape := ⟨2, ![1024, 1024]⟩
abbrev S1024x640 : Shape := ⟨2, ![1024, 640]⟩

abbrev nBuf : Space → Nat
  | .hbm => 30
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x3136, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S8192x1024, .f32⟩
  | .hbm, ⟨20, _⟩ => ⟨S1024x8192, .f32⟩
  | .hbm, ⟨21, _⟩ => ⟨S1024x8192, .bf16⟩
  | .hbm, ⟨22, _⟩ => ⟨S8192x3136, .f32⟩
  | .hbm, ⟨23, _⟩ => ⟨S8192x448, .f32⟩
  | .hbm, ⟨24, _⟩ => ⟨S_, .f32⟩
  | .hbm, ⟨25, _⟩ => ⟨S8192x64, .f32⟩
  | .hbm, ⟨26, _⟩ => ⟨S8192x2688, .f32⟩
  | .hbm, ⟨27, _⟩ => ⟨S8192x3200, .f32⟩
  | .hbm, ⟨28, _⟩ => ⟨S8192x3200, .bf16⟩
  | .hbm, ⟨29, _⟩ => ⟨S1024x3200, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 8], ![false, false]⟩

def k0_cond3 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4x2048x1024 : Shape := ⟨3, ![4, 2048, 1024]⟩
abbrev S1024 : Shape := ⟨1, ![1024]⟩
abbrev S4x2048x3136 : Shape := ⟨3, ![4, 2048, 3136]⟩
abbrev S_ : Shape := ⟨0, ![]⟩
abbrev S1024x3136 : Shape := ⟨2, ![1024, 3136]⟩
abbrev S4x2048 : Shape := ⟨2, ![4, 2048]⟩
abbrev S4x2048x1 : Shape := ⟨3, ![4, 2048, 1]⟩
abbrev S1x1x1024 : Shape := ⟨3, ![1, 1, 1024]⟩
abbrev S3136x1024 : Shape := ⟨2, ![3136, 1024]⟩
abbrev S1024x448 : Shape := ⟨2, ![1024, 448]⟩
abbrev S1024x64 : Shape := ⟨2, ![1024, 64]⟩
abbrev S1024x2688 : Shape := ⟨2, ![1024, 2688]⟩
abbrev S1024x3200 : Shape := ⟨2, ![1024, 3200]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x3136, .f32⟩
  | .hbm, ⟨3, _⟩ => ⟨S_, .f32⟩
  | .hbm, ⟨4, _⟩ => ⟨S1024x3136, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x3136, .f32⟩
  | .hbm, ⟨22, _⟩ => ⟨S3136x1024, .f32⟩
  | .hbm, ⟨23, _⟩ => ⟨S1024x3136, .f32⟩
  | .hbm, ⟨24, _⟩ => ⟨S1024x448, .f32⟩
  | .hbm, ⟨25, _⟩ => ⟨S_, .f32⟩
  | .hbm, ⟨26, _⟩ => ⟨S1024x64, .f32⟩
  | .hbm, ⟨27, _⟩ => ⟨S1024x2688, .f32⟩
  | .hbm, ⟨28, _⟩ => ⟨S1024x3200, .f32⟩
  | .hbm, ⟨29, _⟩ => ⟨S1024x3200, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel4.lean ====
abbrev S4x2048x1024 : Shape := ⟨3, ![4, 2048, 1024]⟩
abbrev S1024 : Shape := ⟨1, ![1024]⟩
abbrev S1024x3136 : Shape := ⟨2, ![1024, 3136]⟩
abbrev S1024x448 : Shape := ⟨2, ![1024, 448]⟩
abbrev S_ : Shape := ⟨0, ![]⟩
abbrev S1024x64 : Shape := ⟨2, ![1024, 64]⟩
abbrev S1024x2688 : Shape := ⟨2, ![1024, 2688]⟩
abbrev S1024x3200 : Shape := ⟨2, ![1024, 3200]⟩
abbrev S8192x1024 : Shape := ⟨2, ![8192, 1024]⟩
abbrev S1x1024 : Shape := ⟨2, ![1, 1024]⟩
abbrev S1024x8192 : Shape := ⟨2, ![1024, 8192]⟩
abbrev S8192x512 : Shape := ⟨2, ![8192, 512]⟩
abbrev S8192x1664 : Shape := ⟨2, ![8192, 1664]⟩
abbrev S256x1024 : Shape := ⟨2, ![256, 1024]⟩
abbrev S1024x256 : Shape := ⟨2, ![1024, 256]⟩
abbrev S256x512 : Shape := ⟨2, ![256, 512]⟩
abbrev S256x1664 : Shape := ⟨2, ![256, 1664]⟩
abbrev S256 : Shape := ⟨1, ![256]⟩
abbrev S256x1 : Shape := ⟨2, ![256, 1]⟩
abbrev S1024x512 : Shape := ⟨2, ![1024, 512]⟩
abbrev S1024x1664 : Shape := ⟨2, ![1024, 1664]⟩
abbrev S1024x1024 : Shape := ⟨2, ![1024, 1024]⟩

abbrev nBuf : Space → Nat
  | .hbm => 15
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x3136, .f32⟩
  | .hbm, ⟨3, _⟩ => ⟨S1024x448, .f32⟩
  | .hbm, ⟨4, _⟩ => ⟨S_, .f32⟩
  | .hbm, ⟨5, _⟩ => ⟨S1024x64, .f32⟩
  | .hbm, ⟨6, _⟩ => ⟨S1024x2688, .f32⟩
  | .hbm, ⟨7, _⟩ => ⟨S1024x3200, .f32⟩
  | .hbm, ⟨8, _⟩ => ⟨S1024x3200, .bf16⟩
  | .hbm, ⟨9, _⟩ => ⟨S8192x1024, .f32⟩
  | .hbm, ⟨10, _⟩ => ⟨S1x1024, .f32⟩
  | .hbm, ⟨11, _⟩ => ⟨S1024x8192, .bf16⟩
  | .hbm, ⟨12, _⟩ => ⟨S8192x512, .f32⟩
  | .hbm, ⟨13, _⟩ => ⟨S8192x1664, .f32⟩
  | .hbm, ⟨14, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3200, .bf16⟩
  | .local _ .vmem, ⟨4, _⟩ => ⟨S1024x256, .bf16⟩
  | .local _ .vmem, ⟨5, _⟩ => ⟨S1024x256, .bf16⟩
  | .local _ .vmem, ⟨6, _⟩ => ⟨S256x512, .f32⟩
  | .local _ .vmem, ⟨7, _⟩ => ⟨S256x512, .f32⟩
  | .local _ .vmem, ⟨8, _⟩ => ⟨S256x1664, .f32⟩
  | .local _ .vmem, ⟨9, _⟩ => ⟨S256x1664, .f32⟩
  | .local _ .vmem, ⟨10, _⟩ => ⟨S256x1024, .f32⟩
  | .local _ .vmem, ⟨11, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4x2048x1024 : Shape := ⟨3, ![4, 2048, 1024]⟩
abbrev S1024 : Shape := ⟨1, ![1024]⟩
abbrev S1024x3136 : Shape := ⟨2, ![1024, 3136]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x3136 : Shape := ⟨3, ![4, 2048, 3136]⟩
abbrev S8192x3136 : Shape := ⟨2, ![8192, 3136]⟩
abbrev S8192x1024 : Shape := ⟨2, ![8192, 1024]⟩
abbrev S1024x8192 : Shape := ⟨2, ![1024, 8192]⟩
abbrev S8192x448 : Shape := ⟨2, ![8192, 448]⟩
abbrev S8192x512 : Shape := ⟨2, ![8192, 512]⟩
abbrev S8192x1664 : Shape := ⟨2, ![8192, 1664]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x3136, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x3136, .f32⟩
  | .hbm, ⟨20, _⟩ => ⟨S8192x3136, .f32⟩
  | .hbm, ⟨21, _⟩ => ⟨S8192x1024, .f32⟩
  | .hbm, ⟨22, _⟩ => ⟨S1024x8192, .f32⟩
  | .hbm, ⟨23, _⟩ => ⟨S1024x8192, .bf16⟩
  | .hbm, ⟨24, _⟩ => ⟨S8192x448, .f32⟩
  | .hbm, ⟨25, _⟩ => ⟨S_, .i32⟩
  | .hbm, ⟨26, _⟩ => ⟨S_, .f32⟩
  | .hbm, ⟨27, _⟩ => ⟨S8192x512, .f32⟩
  | .hbm, ⟨28, _⟩ => ⟨S8192x1664, .f32⟩
  | .hbm, ⟨29, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel5.lean ====
abbrev S4x1024x392 : Shape := ⟨3, ![4, 1024, 392]⟩
abbrev S1x1024x392 : Shape := ⟨3, ![1, 1024, 392]⟩
abbrev S4x256x392 : Shape := ⟨3, ![4, 256, 392]⟩
abbrev S1x256x392 : Shape := ⟨3, ![1, 256, 392]⟩
abbrev S256x392 : Shape := ⟨2, ![256, 392]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x392, .bf16⟩
  | .hbm, ⟨1, _⟩ => ⟨S1x1024x392, .f32⟩
  | .hbm, ⟨2, _⟩ => ⟨S1x1024x392, .f32⟩
  | .hbm, ⟨3, _⟩ => ⟨S1x1024x392, .f32⟩
  | .hbm, ⟨4, _⟩ => ⟨S1x1024x392, .f32⟩
  | .hbm, ⟨5, _⟩ => ⟨S1x1024x392, .f32⟩
  | .hbm, ⟨6, _⟩ => ⟨S1x1024x392, .f32⟩
  | .hbm, ⟨7, _⟩ => ⟨S1x1024x392, .f32⟩
  | .local _ .vmem, ⟨0, _⟩ => ⟨S4x256x392, .bf16⟩
  | .local _ .vmem, ⟨1, _⟩ => ⟨S4x256x392, .bf16⟩
  | .local _ .vmem, ⟨2, _⟩ => ⟨S1x256x392, .f32⟩
  | .local _ .vmem, ⟨3, _⟩ => ⟨S1x256x392, .f32⟩
  | .local _ .vmem, ⟨4, _⟩ => ⟨S1x256x392, .f32⟩
  | .local _ .vmem, ⟨5, _⟩ => ⟨S1x256x392, .f32⟩
  | .local _ .vmem, ⟨6, _⟩ => ⟨S1x256x392, .f32⟩
  | .local _ .vmem, ⟨7, _⟩ => ⟨S1x256x392, .f32⟩
  | .local _ .vmem, ⟨8, _⟩ => ⟨S1x256x392, .f32⟩
  | .local _ .vmem, ⟨9, _⟩ => ⟨S1x256x392, .f32⟩
  | .local _ .vmem, ⟨10, _⟩ => ⟨S1x256x392, .f32⟩
  | .local _ .vmem, ⟨11, _⟩ => ⟨S1x256x392, .f32⟩
  | .local _ .vmem, ⟨12, _⟩ => ⟨S1x256x392, .f32⟩
  | .local _ .vmem, ⟨13, _⟩ => ⟨S1x256x392, .f32⟩
  | .local _ .vmem, ⟨14, _⟩ => ⟨S1x256x392, .f32⟩
  | .local _ .vmem, ⟨15, _⟩ => ⟨S1x256x392, .f32⟩
  | _, _ => ⟨S4x1024x392, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x392 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x392 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x392 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x392 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x392 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x392 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x392 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x392 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4x1024x392 : Shape := ⟨3, ![4, 1024, 392]⟩
abbrev S1x1024x392 : Shape := ⟨3, ![1, 1024, 392]⟩
abbrev S_ : Shape := ⟨0, ![]⟩
abbrev S1024x392 : Shape := ⟨2, ![1024, 392]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x392, .bf16⟩
  | .hbm, ⟨1, _⟩ => ⟨S1x1024x392, .f32⟩
  | .hbm, ⟨2, _⟩ => ⟨S1x1024x392, .f32⟩
  | .hbm, ⟨3, _⟩ => ⟨S1x1024x392, .f32⟩
  | .hbm, ⟨4, _⟩ => ⟨S4x1024x392, .f32⟩
  | .hbm, ⟨5, _⟩ => ⟨S_, .f32⟩
  | .hbm, ⟨6, _⟩ => ⟨S1024x392, .f32⟩
  | .hbm, ⟨7, _⟩ => ⟨S1x1024x392, .f32⟩
  | .hbm, ⟨8, _⟩ => ⟨S_, .f32⟩
  | .hbm, ⟨9, _⟩ => ⟨S1x1024x392, .f32⟩
  | .hbm, ⟨10, _⟩ => ⟨S1x1024x392, .f32⟩
  | .hbm, ⟨11, _⟩ => ⟨S_, .f32⟩
  | .hbm, ⟨12, _⟩ => ⟨S1x1024x392, .f32⟩
  | .hbm, ⟨13, _⟩ => ⟨S1x1024x392, .f32⟩
  | .hbm, ⟨14, _⟩ => ⟨S1x1024x392, .f32⟩
  | .hbm, ⟨15, _⟩ => ⟨S_, .f32⟩
  | .hbm, ⟨16, _⟩ => ⟨S1x1024x392, .f32⟩
  | .hbm, ⟨17, _⟩ => ⟨S1x1024x392, .f32⟩
  | .hbm, ⟨18, _⟩ => ⟨S1x1024x392, .f32⟩
  | .hbm, ⟨19, _⟩ => ⟨S_, .f32⟩
  | .hbm, ⟨20, _⟩ => ⟨S1x1024x392, .f32⟩
  | .hbm, ⟨21, _⟩ => ⟨S1x1024x392, .f32⟩
  | .hbm, ⟨22, _⟩ => ⟨S1x1024x392, .f32⟩
  | .hbm, ⟨23, _⟩ => ⟨S_, .f32⟩
  | .hbm, ⟨24, _⟩ => ⟨S1x1024x392, .f32⟩
  | .hbm, ⟨25, _⟩ => ⟨S1x1024x392, .f32⟩
  | .hbm, ⟨26, _⟩ => ⟨S_, .f32⟩
  | .hbm, ⟨27, _⟩ => ⟨S1x1024x392, .f32⟩
  | .hbm, ⟨28, _⟩ => ⟨S1x1024x392, .f32⟩
  | .hbm, ⟨29, _⟩ => ⟨S1x1024x392, .f32⟩
  | .hbm, ⟨30, _⟩ => ⟨S_, .f32⟩
  | .hbm, ⟨31, _⟩ => ⟨S1x1024x392, .f32⟩
  | .hbm, ⟨32, _⟩ => ⟨S1x1024x392, .f32⟩
  | .hbm, ⟨33, _⟩ => ⟨S1x1024x392, .f32⟩
  | .hbm, ⟨34, _⟩ => ⟨S_, .f32⟩
  | .hbm, ⟨35, _⟩ => ⟨S1x1024x392, .f32⟩
  | .hbm, ⟨36, _⟩ => ⟨S1x1024x392, .f32⟩
  | .hbm, ⟨37, _⟩ => ⟨S1x1024x392, .f32⟩
  | .hbm, ⟨38, _⟩ => ⟨S_, .f32⟩
  | .hbm, ⟨39, _⟩ => ⟨S1x1024x392, .f32⟩
  | .hbm, ⟨40, _⟩ => ⟨S1x1024x392, .f32⟩
  | _, _ => ⟨S4x1024x392, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel6.lean ====
abbrev S4x256x96 : Shape := ⟨3, ![4, 256, 96]⟩
abbrev S1x256x96 : Shape := ⟨3, ![1, 256, 96]⟩
abbrev S256x96 : Shape := ⟨2, ![256, 96]⟩

abbrev nBuf : Space → Nat
  | .hbm => 8
  | .vmem => 8
  | .smem => 0
  | _ => 0

abbrev bufTy : (tb : Table) → Fin (tcTables nBuf tb) → BufTy
  | .hbm, ⟨0, _⟩ => ⟨S4x256x96, .bf16⟩
  | .hbm, ⟨1, _⟩ => ⟨S1x256x96, .f32⟩
  | .hbm, ⟨2, _⟩ => ⟨S1x256x96, .f32⟩
  | .hbm, ⟨3, _⟩ => ⟨S1x256x96, .f32⟩
  | .hbm, ⟨4, _⟩ => ⟨S1x256x96, .f32⟩
  | .hbm, ⟨5, _⟩ => ⟨S1x256x96, .f32⟩
  | .hbm, ⟨6, _⟩ => ⟨S1x256x96, .f32⟩
  | .hbm, ⟨7, _⟩ => ⟨S1x256x96, .f32⟩
  | .local _ .vmem, ⟨0, _⟩ => ⟨S4x256x96, .bf16⟩
  | .local _ .vmem, ⟨1, _⟩ => ⟨S1x256x96, .f32⟩
  | .local _ .vmem, ⟨2, _⟩ => ⟨S1x256x96, .f32⟩
  | .local _ .vmem, ⟨3, _⟩ => ⟨S1x256x96, .f32⟩
  | .local _ .vmem, ⟨4, _⟩ => ⟨S1x256x96, .f32⟩
  | .local _ .vmem, ⟨5, _⟩ => ⟨S1x256x96, .f32⟩
  | .local _ .vmem, ⟨6, _⟩ => ⟨S1x256x96, .f32⟩
  | .local _ .vmem, ⟨7, _⟩ => ⟨S1x256x96, .f32⟩
  | _, _ => ⟨S4x256x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x256x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference6Ideal.lean ====
abbrev S4x256x96 : Shape := ⟨3, ![4, 256, 96]⟩
abbrev S1x256x96 : Shape := ⟨3, ![1, 256, 96]⟩
abbrev S_ : Shape := ⟨0, ![]⟩
abbrev S256x96 : Shape := ⟨2, ![256, 96]⟩

abbrev nBuf : Space → Nat
  | .hbm => 41
  | .vmem => 0
  | .smem => 0
  | _ => 0

abbrev bufTy : (tb : Table) → Fin (tcTables nBuf tb) → BufTy
  | .hbm, ⟨0, _⟩ => ⟨S4x256x96, .bf16⟩
  | .hbm, ⟨1, _⟩ => ⟨S1x256x96, .f32⟩
  | .hbm, ⟨2, _⟩ => ⟨S1x256x96, .f32⟩
  | .hbm, ⟨3, _⟩ => ⟨S1x256x96, .f32⟩
  | .hbm, ⟨4, _⟩ => ⟨S4x256x96, .f32⟩
  | .hbm, ⟨5, _⟩ => ⟨S_, .f32⟩
  | .hbm, ⟨6, _⟩ => ⟨S256x96, .f32⟩
  | .hbm, ⟨7, _⟩ => ⟨S1x256x96, .f32⟩
  | .hbm, ⟨8, _⟩ => ⟨S_, .f32⟩
  | .hbm, ⟨9, _⟩ => ⟨S1x256x96, .f32⟩
  | .hbm, ⟨10, _⟩ => ⟨S1x256x96, .f32⟩
  | .hbm, ⟨11, _⟩ => ⟨S_, .f32⟩
  | .hbm, ⟨12, _⟩ => ⟨S1x256x96, .f32⟩
  | .hbm, ⟨13, _⟩ => ⟨S1x256x96, .f32⟩
  | .hbm, ⟨14, _⟩ => ⟨S1x256x96, .f32⟩
  | .hbm, ⟨15, _⟩ => ⟨S_, .f32⟩
  | .hbm, ⟨16, _⟩ => ⟨S1x256x96, .f32⟩
  | .hbm, ⟨17, _⟩ => ⟨S1x256x96, .f32⟩
  | .hbm, ⟨18, _⟩ => ⟨S1x256x96, .f32⟩
  | .hbm, ⟨19, _⟩ => ⟨S_, .f32⟩
  | .hbm, ⟨20, _⟩ => ⟨S1x256x96, .f32⟩
  | .hbm, ⟨21, _⟩ => ⟨S1x256x96, .f32⟩
  | .hbm, ⟨22, _⟩ => ⟨S1x256x96, .f32⟩
  | .hbm, ⟨23, _⟩ => ⟨S_, .f32⟩
  | .hbm, ⟨24, _⟩ => ⟨S1x256x96, .f32⟩
  | .hbm, ⟨25, _⟩ => ⟨S1x256x96, .f32⟩
  | .hbm, ⟨26, _⟩ => ⟨S_, .f32⟩
  | .hbm, ⟨27, _⟩ => ⟨S1x256x96, .f32⟩
  | .hbm, ⟨28, _⟩ => ⟨S1x256x96, .f32⟩
  | .hbm, ⟨29, _⟩ => ⟨S1x256x96, .f32⟩
  | .hbm, ⟨30, _⟩ => ⟨S_, .f32⟩
  | .hbm, ⟨31, _⟩ => ⟨S1x256x96, .f32⟩
  | .hbm, ⟨32, _⟩ => ⟨S1x256x96, .f32⟩
  | .hbm, ⟨33, _⟩ => ⟨S1x256x96, .f32⟩
  | .hbm, ⟨34, _⟩ => ⟨S_, .f32⟩
  | .hbm, ⟨35, _⟩ => ⟨S1x256x96, .f32⟩
  | .hbm, ⟨36, _⟩ => ⟨S1x256x96, .f32⟩
  | .hbm, ⟨37, _⟩ => ⟨S1x256x96, .f32⟩
  | .hbm, ⟨38, _⟩ => ⟨S_, .f32⟩
  | .hbm, ⟨39, _⟩ => ⟨S1x256x96, .f32⟩
  | .hbm, ⟨40, _⟩ => ⟨S1x256x96, .f32⟩
  | _, _ => ⟨S4x256x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel7.lean ====
abbrev S4x128x128 : Shape := ⟨3, ![4, 128, 128]⟩
abbrev S1x128x128 : Shape := ⟨3, ![1, 128, 128]⟩
abbrev S128x128 : Shape := ⟨2, ![128, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x128x128, .bf16⟩
  | .hbm, ⟨1, _⟩ => ⟨S1x128x128, .f32⟩
  | .hbm, ⟨2, _⟩ => ⟨S1x128x128, .f32⟩
  | .hbm, ⟨3, _⟩ => ⟨S1x128x128, .f32⟩
  | .hbm, ⟨4, _⟩ => ⟨S1x128x128, .f32⟩
  | .hbm, ⟨5, _⟩ => ⟨S1x128x128, .f32⟩
  | .hbm, ⟨6, _⟩ => ⟨S1x128x128, .f32⟩
  | .hbm, ⟨7, _⟩ => ⟨S1x128x128, .f32⟩
  | .local _ .vmem, ⟨0, _⟩ => ⟨S4x128x128, .bf16⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | _, _ => ⟨S4x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference7Ideal.lean ====
abbrev S4x128x128 : Shape := ⟨3, ![4, 128, 128]⟩
abbrev S1x128x128 : Shape := ⟨3, ![1, 128, 128]⟩
abbrev S_ : Shape := ⟨0, ![]⟩
abbrev S128x128 : Shape := ⟨2, ![128, 128]⟩

abbrev nBuf : Space → Nat
  | .hbm => 41
  | .vmem => 0
  | .smem => 0
  | _ => 0

abbrev bufTy : (tb : Table) → Fin (tcTables nBuf tb) → BufTy
  | .hbm, ⟨0, _⟩ => ⟨S4x128x128, .bf16⟩
  | .hbm, ⟨1, _⟩ => ⟨S1x128x128, .f32⟩
  | .hbm, ⟨2, _⟩ => ⟨S1x128x128, .f32⟩
  | .hbm, ⟨3, _⟩ => ⟨S1x128x128, .f32⟩
  | .hbm, ⟨4, _⟩ => ⟨S4x128x128, .f32⟩
  | .hbm, ⟨5, _⟩ => ⟨S_, .f32⟩
  | .hbm, ⟨6, _⟩ => ⟨S128x128, .f32⟩
  | .hbm, ⟨7, _⟩ => ⟨S1x128x128, .f32⟩
  | .hbm, ⟨8, _⟩ => ⟨S_, .f32⟩
  | .hbm, ⟨9, _⟩ => ⟨S1x128x128, .f32⟩
  | .hbm, ⟨10, _⟩ => ⟨S1x128x128, .f32⟩
  | .hbm, ⟨11, _⟩ => ⟨S_, .f32⟩
  | .hbm, ⟨12, _⟩ => ⟨S1x128x128, .f32⟩
  | .hbm, ⟨13, _⟩ => ⟨S1x128x128, .f32⟩
  | .hbm, ⟨14, _⟩ => ⟨S1x128x128, .f32⟩
  | .hbm, ⟨15, _⟩ => ⟨S_, .f32⟩
  | .hbm, ⟨16, _⟩ => ⟨S1x128x128, .f32⟩
  | .hbm, ⟨17, _⟩ => ⟨S1x128x128, .f32⟩
  | .hbm, ⟨18, _⟩ => ⟨S1x128x128, .f32⟩
  | .hbm, ⟨19, _⟩ => ⟨S_, .f32⟩
  | .hbm, ⟨20, _⟩ => ⟨S1x128x128, .f32⟩
  | .hbm, ⟨21, _⟩ => ⟨S1x128x128, .f32⟩
  | .hbm, ⟨22, _⟩ => ⟨S1x128x128, .f32⟩
  | .hbm, ⟨23, _⟩ => ⟨S_, .f32⟩
  | .hbm, ⟨24, _⟩ => ⟨S1x128x128, .f32⟩
  | .hbm, ⟨25, _⟩ => ⟨S1x128x128, .f32⟩
  | .hbm, ⟨26, _⟩ => ⟨S_, .f32⟩
  | .hbm, ⟨27, _⟩ => ⟨S1x128x128, .f32⟩
  | .hbm, ⟨28, _⟩ => ⟨S1x128x128, .f32⟩
  | .hbm, ⟨29, _⟩ => ⟨S1x128x128, .f32⟩
  | .hbm, ⟨30, _⟩ => ⟨S_, .f32⟩
  | .hbm, ⟨31, _⟩ => ⟨S1x128x128, .f32⟩
  | .hbm, ⟨32, _⟩ => ⟨S1x128x128, .f32⟩
  | .hbm, ⟨33, _⟩ => ⟨S1x128x128, .f32⟩
  | .hbm, ⟨34, _⟩ => ⟨S_, .f32⟩
  | .hbm, ⟨35, _⟩ => ⟨S1x128x128, .f32⟩
  | .hbm, ⟨36, _⟩ => ⟨S1x128x128, .f32⟩
  | .hbm, ⟨37, _⟩ => ⟨S1x128x128, .f32⟩
  | .hbm, ⟨38, _⟩ => ⟨S_, .f32⟩
  | .hbm, ⟨39, _⟩ => ⟨S1x128x128, .f32⟩
  | .hbm, ⟨40, _⟩ => ⟨S1x128x128, .f32⟩
  | _, _ => ⟨S4x128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel8.lean ====
abbrev S4x64x64 : Shape := ⟨3, ![4, 64, 64]⟩
abbrev S1x64x64 : Shape := ⟨3, ![1, 64, 64]⟩
abbrev S64x64 : Shape := ⟨2, ![64, 64]⟩

abbrev nBuf : Space → Nat
  | .hbm => 8
  | .vmem => 8
  | .smem => 0
  | _ => 0

abbrev bufTy : (tb : Table) → Fin (tcTables nBuf tb) → BufTy
  | .hbm, ⟨0, _⟩ => ⟨S4x64x64, .bf16⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S1x64x64, .f32⟩
  | .hbm, ⟨5, _⟩ => ⟨S1x64x64, .f32⟩
  | .hbm, ⟨6, _⟩ => ⟨S1x64x64, .f32⟩
  | .hbm, ⟨7, _⟩ => ⟨S1x64x64, .f32⟩
  | .local _ .vmem, ⟨0, _⟩ => ⟨S4x64x64, .bf16⟩
  | .local _ .vmem, ⟨1, _⟩ => ⟨S1x64x64, .f32⟩
  | .local _ .vmem, ⟨2, _⟩ => ⟨S1x64x64, .f32⟩
  | .local _ .vmem, ⟨3, _⟩ => ⟨S1x64x64, .f32⟩
  | .local _ .vmem, ⟨4, _⟩ => ⟨S1x64x64, .f32⟩
  | .local _ .vmem, ⟨5, _⟩ => ⟨S1x64x64, .f32⟩
  | .local _ .vmem, ⟨6, _⟩ => ⟨S1x64x64, .f32⟩
  | .local _ .vmem, ⟨7, _⟩ => ⟨S1x64x64, .f32⟩
  | _, _ => ⟨S4x64x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x64x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference8Ideal.lean ====
abbrev S4x64x64 : Shape := ⟨3, ![4, 64, 64]⟩
abbrev S1x64x64 : Shape := ⟨3, ![1, 64, 64]⟩
abbrev S_ : Shape := ⟨0, ![]⟩
abbrev S64x64 : Shape := ⟨2, ![64, 64]⟩

abbrev nBuf : Space → Nat
  | .hbm => 41
  | .vmem => 0
  | .smem => 0
  | _ => 0

abbrev bufTy : (tb : Table) → Fin (tcTables nBuf tb) → BufTy
  | .hbm, ⟨0, _⟩ => ⟨S4x64x64, .bf16⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S4x64x64, .f32⟩
  | .hbm, ⟨5, _⟩ => ⟨S_, .f32⟩
  | .hbm, ⟨6, _⟩ => ⟨S64x64, .f32⟩
  | .hbm, ⟨7, _⟩ => ⟨S1x64x64, .f32⟩
  | .hbm, ⟨8, _⟩ => ⟨S_, .f32⟩
  | .hbm, ⟨9, _⟩ => ⟨S1x64x64, .f32⟩
  | .hbm, ⟨10, _⟩ => ⟨S1x64x64, .f32⟩
  | .hbm, ⟨11, _⟩ => ⟨S_, .f32⟩
  | .hbm, ⟨12, _⟩ => ⟨S1x64x64, .f32⟩
  | .hbm, ⟨13, _⟩ => ⟨S1x64x64, .f32⟩
  | .hbm, ⟨14, _⟩ => ⟨S1x64x64, .f32⟩
  | .hbm, ⟨15, _⟩ => ⟨S_, .f32⟩
  | .hbm, ⟨16, _⟩ => ⟨S1x64x64, .f32⟩
  | .hbm, ⟨17, _⟩ => ⟨S1x64x64, .f32⟩
  | .hbm, ⟨18, _⟩ => ⟨S1x64x64, .f32⟩
  | .hbm, ⟨19, _⟩ => ⟨S_, .f32⟩
  | .hbm, ⟨20, _⟩ => ⟨S1x64x64, .f32⟩
  | .hbm, ⟨21, _⟩ => ⟨S1x64x64, .f32⟩
  | .hbm, ⟨22, _⟩ => ⟨S1x64x64, .f32⟩
  | .hbm, ⟨23, _⟩ => ⟨S_, .f32⟩
  | .hbm, ⟨24, _⟩ => ⟨S1x64x64, .f32⟩
  | .hbm, ⟨25, _⟩ => ⟨S1x64x64, .f32⟩
  | .hbm, ⟨26, _⟩ => ⟨S_, .f32⟩
  | .hbm, ⟨27, _⟩ => ⟨S1x64x64, .f32⟩
  | .hbm, ⟨28, _⟩ => ⟨S1x64x64, .f32⟩
  | .hbm, ⟨29, _⟩ => ⟨S1x64x64, .f32⟩
  | .hbm, ⟨30, _⟩ => ⟨S_, .f32⟩
  | .hbm, ⟨31, _⟩ => ⟨S1x64x64, .f32⟩
  | .hbm, ⟨32, _⟩ => ⟨S1x64x64, .f32⟩
  | .hbm, ⟨33, _⟩ => ⟨S1x64x64, .f32⟩
  | .hbm, ⟨34, _⟩ => ⟨S_, .f32⟩
  | .hbm, ⟨35, _⟩ => ⟨S1x64x64, .f32⟩
  | .hbm, ⟨36, _⟩ => ⟨S1x64x64, .f32⟩
  | .hbm, ⟨37, _⟩ => ⟨S1x64x64, .f32⟩
  | .hbm, ⟨38, _⟩ => ⟨S_, .f32⟩
  | .hbm, ⟨39, _⟩ => ⟨S1x64x64, .f32⟩
  | .hbm, ⟨40, _⟩ => ⟨S1x64x64, .f32⟩
  | _, _ => ⟨S4x64x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel9.lean ====
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S4x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference9Ideal.lean ====
abbrev S4x128x1024 : Shape := ⟨3, ![4, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel10.lean ====
abbrev S4x64x64 : Shape := ⟨3, ![4, 64, 64]⟩
abbrev S1x64x64 : Shape := ⟨3, ![1, 64, 64]⟩
abbrev S64x64 : Shape := ⟨2, ![64, 64]⟩

abbrev nBuf : Space → Nat
  | .hbm => 8
  | .vmem => 8
  | .smem => 0
  | _ => 0

abbrev bufTy : (tb : Table) → Fin (tcTables nBuf tb) → BufTy
  | .hbm, ⟨0, _⟩ => ⟨S4x64x64, .bf16⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S1x64x64, .f32⟩
  | .hbm, ⟨5, _⟩ => ⟨S1x64x64, .f32⟩
  | .hbm, ⟨6, _⟩ => ⟨S1x64x64, .f32⟩
  | .hbm, ⟨7, _⟩ => ⟨S1x64x64, .f32⟩
  | .local _ .vmem, ⟨0, _⟩ => ⟨S4x64x64, .bf16⟩
  | .local _ .vmem, ⟨1, _⟩ => ⟨S1x64x64, .f32⟩
  | .local _ .vmem, ⟨2, _⟩ => ⟨S1x64x64, .f32⟩
  | .local _ .vmem, ⟨3, _⟩ => ⟨S1x64x64, .f32⟩
  | .local _ .vmem, ⟨4, _⟩ => ⟨S1x64x64, .f32⟩
  | .local _ .vmem, ⟨5, _⟩ => ⟨S1x64x64, .f32⟩
  | .local _ .vmem, ⟨6, _⟩ => ⟨S1x64x64, .f32⟩
  | .local _ .vmem, ⟨7, _⟩ => ⟨S1x64x64, .f32⟩
  | _, _ => ⟨S4x64x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x64x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S4x64x64 : Shape := ⟨3, ![4, 64, 64]⟩
abbrev S1x64x64 : Shape := ⟨3, ![1, 64, 64]⟩
abbrev S_ : Shape := ⟨0, ![]⟩
abbrev S64x64 : Shape := ⟨2, ![64, 64]⟩

abbrev nBuf : Space → Nat
  | .hbm => 41
  | .vmem => 0
  | .smem => 0
  | _ => 0

abbrev bufTy : (tb : Table) → Fin (tcTables nBuf tb) → BufTy
  | .hbm, ⟨0, _⟩ => ⟨S4x64x64, .bf16⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S4x64x64, .f32⟩
  | .hbm, ⟨5, _⟩ => ⟨S_, .f32⟩
  | .hbm, ⟨6, _⟩ => ⟨S64x64, .f32⟩
  | .hbm, ⟨7, _⟩ => ⟨S1x64x64, .f32⟩
  | .hbm, ⟨8, _⟩ => ⟨S_, .f32⟩
  | .hbm, ⟨9, _⟩ => ⟨S1x64x64, .f32⟩
  | .hbm, ⟨10, _⟩ => ⟨S1x64x64, .f32⟩
  | .hbm, ⟨11, _⟩ => ⟨S_, .f32⟩
  | .hbm, ⟨12, _⟩ => ⟨S1x64x64, .f32⟩
  | .hbm, ⟨13, _⟩ => ⟨S1x64x64, .f32⟩
  | .hbm, ⟨14, _⟩ => ⟨S1x64x64, .f32⟩
  | .hbm, ⟨15, _⟩ => ⟨S_, .f32⟩
  | .hbm, ⟨16, _⟩ => ⟨S1x64x64, .f32⟩
  | .hbm, ⟨17, _⟩ => ⟨S1x64x64, .f32⟩
  | .hbm, ⟨18, _⟩ => ⟨S1x64x64, .f32⟩
  | .hbm, ⟨19, _⟩ => ⟨S_, .f32⟩
  | .hbm, ⟨20, _⟩ => ⟨S1x64x64, .f32⟩
  | .hbm, ⟨21, _⟩ => ⟨S1x64x64, .f32⟩
  | .hbm, ⟨22, _⟩ => ⟨S1x64x64, .f32⟩
  | .hbm, ⟨23, _⟩ => ⟨S_, .f32⟩
  | .hbm, ⟨24, _⟩ => ⟨S1x64x64, .f32⟩
  | .hbm, ⟨25, _⟩ => ⟨S1x64x64, .f32⟩
  | .hbm, ⟨26, _⟩ => ⟨S_, .f32⟩
  | .hbm, ⟨27, _⟩ => ⟨S1x64x64, .f32⟩
  | .hbm, ⟨28, _⟩ => ⟨S1x64x64, .f32⟩
  | .hbm, ⟨29, _⟩ => ⟨S1x64x64, .f32⟩
  | .hbm, ⟨30, _⟩ => ⟨S_, .f32⟩
  | .hbm, ⟨31, _⟩ => ⟨S1x64x64, .f32⟩
  | .hbm, ⟨32, _⟩ => ⟨S1x64x64, .f32⟩
  | .hbm, ⟨33, _⟩ => ⟨S1x64x64, .f32⟩
  | .hbm, ⟨34, _⟩ => ⟨S_, .f32⟩
  | .hbm, ⟨35, _⟩ => ⟨S1x64x64, .f32⟩
  | .hbm, ⟨36, _⟩ => ⟨S1x64x64, .f32⟩
  | .hbm, ⟨37, _⟩ => ⟨S1x64x64, .f32⟩
  | .hbm, ⟨38, _⟩ => ⟨S_, .f32⟩
  | .hbm, ⟨39, _⟩ => ⟨S1x64x64, .f32⟩
  | .hbm, ⟨40, _⟩ => ⟨S1x64x64, .f32⟩
  | _, _ => ⟨S4x64x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel11.lean ====
abbrev S4x2048 : Shape := ⟨2, ![4, 2048]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S128x1 : Shape := ⟨2, ![128, 1]⟩
abbrev S1x8192 : Shape := ⟨2, ![1, 8192]⟩
abbrev S8192x128 : Shape := ⟨2, ![8192, 128]⟩
abbrev S1x256 : Shape := ⟨2, ![1, 256]⟩
abbrev S256x128 : Shape := ⟨2, ![256, 128]⟩
abbrev S32x1 : Shape := ⟨2, ![32, 1]⟩
abbrev S32x256 : Shape := ⟨2, ![32, 256]⟩
abbrev S128x256 : Shape := ⟨2, ![128, 256]⟩

abbrev nBuf : Space → Nat
  | .hbm => 22
  | .vmem => 7
  | .smem => 0
  | _ => 0

abbrev bufTy : (tb : Table) → Fin (tcTables nBuf tb) → BufTy
  | .hbm, ⟨0, _⟩ => ⟨S4x2048, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S1x32, .f32⟩
  | .hbm, ⟨16, _⟩ => ⟨S4x32, .f32⟩
  | .hbm, ⟨17, _⟩ => ⟨S128, .f32⟩
  | .hbm, ⟨18, _⟩ => ⟨S128x1, .f32⟩
  | .hbm, ⟨19, _⟩ => ⟨S1x8192, .i32⟩
  | .hbm, ⟨20, _⟩ => ⟨S8192x128, .f32⟩
  | .hbm, ⟨21, _⟩ => ⟨S8192x128, .f32⟩
  | .local _ .vmem, ⟨0, _⟩ => ⟨S1x256, .i32⟩
  | .local _ .vmem, ⟨1, _⟩ => ⟨S1x256, .i32⟩
  | .local _ .vmem, ⟨2, _⟩ => ⟨S128x1, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S4x2048 : Shape := ⟨2, ![4, 2048]⟩
abbrev S4x2048x1 : Shape := ⟨3, ![4, 2048, 1]⟩
abbrev S32 : Shape := ⟨1, ![32]⟩
abbrev S_ : Shape := ⟨0, ![]⟩
abbrev S1x1x32 : Shape := ⟨3, ![1, 1, 32]⟩
abbrev S4x2048x32 : Shape := ⟨3, ![4, 2048, 32]⟩
abbrev S4x2048x64 : Shape := ⟨3, ![4, 2048, 64]⟩
abbrev S4x2048x128 : Shape := ⟨3, ![4, 2048, 128]⟩
abbrev S8192x128 : Shape := ⟨2, ![8192, 128]⟩

abbrev nBuf : Space → Nat
  | .hbm => 28
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S4x2048, .f32⟩
  | .hbm, ⟨2, _⟩ => ⟨S4x2048x1, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S1x1x32, .f32⟩
  | .hbm, ⟨18, _⟩ => ⟨S4x2048x32, .f32⟩
  | .hbm, ⟨19, _⟩ => ⟨S4x2048x32, .f32⟩
  | .hbm, ⟨20, _⟩ => ⟨S4x2048x32, .f32⟩
  | .hbm, ⟨21, _⟩ => ⟨S4x2048x64, .f32⟩
  | .hbm, ⟨22, _⟩ => ⟨S4x2048x64, .f32⟩
  | .hbm, ⟨23, _⟩ => ⟨S4x2048x128, .f32⟩
  | .hbm, ⟨24, _⟩ => ⟨S8192x128, .f32⟩
  | .hbm, ⟨25, _⟩ => ⟨S4x2048x64, .f32⟩
  | .hbm, ⟨26, _⟩ => ⟨S4x2048x128, .f32⟩
  | .hbm, ⟨27, _⟩ => ⟨S8192x128, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Kernel12.lean ====
abbrev S4x2048x448 : Shape := ⟨3, ![4, 2048, 448]⟩
abbrev S4x2048x1664 : Shape := ⟨3, ![4, 2048, 1664]⟩
abbrev S4x2048x64 : Shape := ⟨3, ![4, 2048, 64]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S1664 : Shape := ⟨1, ![1664]⟩
abbrev S512 : Shape := ⟨1, ![512]⟩
abbrev S64x512 : Shape := ⟨2, ![64, 512]⟩
abbrev S8192x448 : Shape := ⟨2, ![8192, 448]⟩
abbrev S_ : Shape := ⟨0, ![]⟩
abbrev S8192x512 : Shape := ⟨2, ![8192, 512]⟩
abbrev S256x4x192 : Shape := ⟨3, ![256, 4, 192]⟩
abbrev S256x4x128 : Shape := ⟨3, ![256, 4, 128]⟩
abbrev S256x512 : Shape := ⟨2, ![256, 512]⟩
abbrev S256x4x64 : Shape := ⟨3, ![256, 4, 64]⟩
abbrev S1x256 : Shape := ⟨2, ![1, 256]⟩
abbrev S1x128 : Shape := ⟨2, ![1, 128]⟩
abbrev S1x1664 : Shape := ⟨2, ![1, 1664]⟩
abbrev S1x512 : Shape := ⟨2, ![1, 512]⟩
abbrev S128x512 : Shape := ⟨2, ![128, 512]⟩
abbrev S8192x1664 : Shape := ⟨2, ![8192, 1664]⟩
abbrev S4x2048x128 : Shape := ⟨3, ![4, 2048, 128]⟩
abbrev S8192x128 : Shape := ⟨2, ![8192, 128]⟩
abbrev S8192x1024 : Shape := ⟨2, ![8192, 1024]⟩
abbrev S256x1664 : Shape := ⟨2, ![256, 1664]⟩
abbrev S8x1664 : Shape := ⟨2, ![8, 1664]⟩
abbrev S256x128 : Shape := ⟨2, ![256, 128]⟩
abbrev S256x1024 : Shape := ⟨2, ![256, 1024]⟩
abbrev S256x256 : Shape := ⟨2, ![256, 256]⟩
abbrev S256x1 : Shape := ⟨2, ![256, 1]⟩

abbrev nBuf : Space → Nat
  | .hbm => 53
  | .vmem => 42
  | .smem => 0
  | _ => 0

abbrev bufTy : (tb : Table) → Fin (tcTables nBuf tb) → BufTy
  | .hbm, ⟨0, _⟩ => ⟨S4x2048x448, .f32⟩
  | .hbm, ⟨1, _⟩ => ⟨S4x2048x1664, .f32⟩
  | .hbm, ⟨2, _⟩ => ⟨S4x2048x64, .f32⟩
  | .hbm, ⟨3, _⟩ => ⟨S4x2048x64, .f32⟩
  | .hbm, ⟨4, _⟩ => ⟨S256, .f32⟩
  | .hbm, ⟨5, _⟩ => ⟨S256x768, .f32⟩
  | .hbm, ⟨6, _⟩ => ⟨S128, .f32⟩
  | .hbm, ⟨7, _⟩ => ⟨S128x1024, .f32⟩
  | .hbm, ⟨8, _⟩ => ⟨S1664, .f32⟩
  | .hbm, ⟨9, _⟩ => ⟨S512, .f32⟩
  | .hbm, ⟨10, _⟩ => ⟨S64x512, .f32⟩
  | .hbm, ⟨11, _⟩ => ⟨S512, .f32⟩
  | .hbm, ⟨12, _⟩ => ⟨S64x512, .f32⟩
  | .hbm, ⟨13, _⟩ => ⟨S512, .f32⟩
  | .hbm, ⟨14, _⟩ => ⟨S512, .f32⟩
  | .hbm, ⟨15, _⟩ => ⟨S8192x448, .f32⟩
  | .hbm, ⟨16, _⟩ => ⟨S_, .i32⟩
  | .hbm, ⟨17, _⟩ => ⟨S_, .f32⟩
  | .hbm, ⟨18, _⟩ => ⟨S8192x512, .f32⟩
  | .hbm, ⟨19, _⟩ => ⟨S256x4x192, .f32⟩
  | .hbm, ⟨20, _⟩ => ⟨S256x4x128, .f32⟩
  | .hbm, ⟨21, _⟩ => ⟨S256x512, .f32⟩
  | .hbm, ⟨22, _⟩ => ⟨S256x4x64, .f32⟩
  | .hbm, ⟨23, _⟩ => ⟨S_, .f32⟩
  | .hbm, ⟨24, _⟩ => ⟨S256x4x64, .f32⟩
  | .hbm, ⟨25, _⟩ => ⟨S256x4x128, .f32⟩
  | .hbm, ⟨26, _⟩ => ⟨S256x512, .f32⟩
  | .hbm, ⟨27, _⟩ => ⟨S_, .f32⟩
  | .hbm, ⟨28, _⟩ => ⟨S64x512, .f32⟩
  | .hbm, ⟨29, _⟩ => ⟨S1x256, .f32⟩
  | .hbm, ⟨30, _⟩ => ⟨S1x128, .f32⟩
  | .hbm, ⟨31, _⟩ => ⟨S1x1664, .f32⟩
  | .hbm, ⟨32, _⟩ => ⟨S1x512, .f32⟩
  | .hbm, ⟨33, _⟩ => ⟨S128x512, .f32⟩
  | .hbm, ⟨34, _⟩ => ⟨S1x512, .f32⟩
  | .hbm, ⟨35, _⟩ => ⟨S128x512, .f32⟩
  | .hbm, ⟨36, _⟩ => ⟨S1x512, .f32⟩
  | .hbm, ⟨37, _⟩ => ⟨S1x512, .f32⟩
  | .hbm, ⟨38, _⟩ => ⟨S8192x1664, .f32⟩
  | .hbm, ⟨39, _⟩ => ⟨S4x2048x128, .f32⟩
  | .hbm, ⟨40, _⟩ => ⟨S8192x128, .f32⟩
  | .hbm, ⟨41, _⟩ => ⟨S4x2048x128, .f32⟩
  | .hbm, ⟨42, _⟩ => ⟨S8192x128, .f32⟩
  | .hbm, ⟨43, _⟩ => ⟨S8192x512, .bf16⟩
  | .hbm, ⟨44, _⟩ => ⟨S8192x512, .bf16⟩
  | .hbm, ⟨45, _⟩ => ⟨S8192x1024, .bf16⟩
  | .hbm, ⟨46, _⟩ => ⟨S8192x128, .bf16⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .local _ .vmem, ⟨0, _⟩ => ⟨S256x512, .f32⟩
  | .local _ .vmem, ⟨1, _⟩ => ⟨S256x512, .f32⟩
  | .local _ .vmem, ⟨2, _⟩ => ⟨S256x1664, .f32⟩
  | .local _ .vmem, ⟨3, _⟩ => ⟨S256x1664, .f32⟩
  | .local _ .vmem, ⟨4, _⟩ => ⟨S8x1664, .f32⟩
  | .local _ .vmem, ⟨5, _⟩ => ⟨S8x1664, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x256, .f32⟩
  | .local _ .vmem, ⟨11, _⟩ => ⟨S256x512, .f32⟩
  | .local _ .vmem, ⟨12, _⟩ => ⟨S256x512, .f32⟩
  | .local _ .vmem, ⟨13, _⟩ => ⟨S1x128, .f32⟩
  | .local _ .vmem, ⟨14, _⟩ => ⟨S128x1024, .f32⟩
  | .local _ .vmem, ⟨15, _⟩ => ⟨S1x1664, .f32⟩
  | .local _ .vmem, ⟨16, _⟩ => ⟨S1x512, .f32⟩
  | .local _ .vmem, ⟨17, _⟩ => ⟨S128x512, .f32⟩
  | .local _ .vmem, ⟨18, _⟩ => ⟨S1x512, .f32⟩
  | .local _ .vmem, ⟨19, _⟩ => ⟨S128x512, .f32⟩
  | .local _ .vmem, ⟨20, _⟩ => ⟨S1x512, .f32⟩
  | .local _ .vmem, ⟨21, _⟩ => ⟨S1x512, .f32⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x1024, .bf16⟩
  | .local _ .vmem, ⟨27, _⟩ => ⟨S256x1024, .bf16⟩
  | .local _ .vmem, ⟨28, _⟩ => ⟨S256x128, .bf16⟩
  | .local _ .vmem, ⟨29, _⟩ => ⟨S256x128, .bf16⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S256x512, .f32⟩
  | .local _ .vmem, ⟨39, _⟩ => ⟨S256x512, .f32⟩
  | .local _ .vmem, ⟨40, _⟩ => ⟨S256x512, .f32⟩
  | .local _ .vmem, ⟨41, _⟩ => ⟨S256x512, .f32⟩
  | _, _ => ⟨S4x2048x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24_0 : Ref sig .tc := ⟨.hbm, 43, rfl⟩
abbrev main_v24_1 : Ref sig .tc := ⟨.hbm, 44, rfl⟩
abbrev main_v24_2 : Ref sig .tc := ⟨.hbm, 45, rfl⟩
abbrev main_v24_3 : Ref sig .tc := ⟨.hbm, 46, rfl⟩
abbrev main_v24_4 : Ref sig .tc := ⟨.hbm, 47, rfl⟩
abbrev main_v24_5 : Ref sig .tc := ⟨.hbm, 48, rfl⟩
abbrev main_v24_6 : Ref sig .tc := ⟨.hbm, 49, rfl⟩
abbrev main_v24_7 : Ref sig .tc := ⟨.hbm, 50, rfl⟩
abbrev main_v24_8 : Ref sig .tc := ⟨.hbm, 51, rfl⟩
abbrev main_v24_9 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_stg26_0 : Ref sig .tc := ⟨.vmem, 40, rfl⟩
abbrev cc0_stg26_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39
abbrev cc0_sem26_0 : DmaSem sig := 40
abbrev cc0_sem26_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1664 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== Reference12Ideal.lean ====
abbrev S4x2048x448 : Shape := ⟨3, ![4, 2048, 448]⟩
abbrev S4x2048x1664 : Shape := ⟨3, ![4, 2048, 1664]⟩
abbrev S4x2048x64 : Shape := ⟨3, ![4, 2048, 64]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S1664 : Shape := ⟨1, ![1664]⟩
abbrev S512 : Shape := ⟨1, ![512]⟩
abbrev S64x512 : Shape := ⟨2, ![64, 512]⟩
abbrev S4x2048x256 : Shape := ⟨3, ![4, 2048, 256]⟩
abbrev S4x2048x128 : Shape := ⟨3, ![4, 2048, 128]⟩
abbrev S_ : Shape := ⟨0, ![]⟩
abbrev S4x2048 : Shape := ⟨2, ![4, 2048]⟩
abbrev S4x2048x1 : Shape := ⟨3, ![4, 2048, 1]⟩
abbrev S1x1x256 : Shape := ⟨3, ![1, 1, 256]⟩
abbrev S4x2048x768 : Shape := ⟨3, ![4, 2048, 768]⟩
abbrev S4x2048x4x192 : Shape := ⟨4, ![4, 2048, 4, 192]⟩
abbrev S4x2048x4x128 : Shape := ⟨4, ![4, 2048, 4, 128]⟩
abbrev S4x2048x4x64 : Shape := ⟨4, ![4, 2048, 4, 64]⟩
abbrev S1x1x128 : Shape := ⟨3, ![1, 1, 128]⟩
abbrev S4x2048x1024 : Shape := ⟨3, ![4, 2048, 1024]⟩
abbrev S4x2048x1x64 : Shape := ⟨4, ![4, 2048, 1, 64]⟩
abbrev S4x2048x4x32 : Shape := ⟨4, ![4, 2048, 4, 32]⟩
abbrev S4x2048x32 : Shape := ⟨3, ![4, 2048, 32]⟩
abbrev S4x1x1664 : Shape := ⟨3, ![4, 1, 1664]⟩
abbrev S4x2047x1664 : Shape := ⟨3, ![4, 2047, 1664]⟩
abbrev S1x1x1664 : Shape := ⟨3, ![1, 1, 1664]⟩
abbrev S4x2048x512 : Shape := ⟨3, ![4, 2048, 512]⟩
abbrev S1x1x512 : Shape := ⟨3, ![1, 1, 512]⟩
abbrev S4x2048x8x64 : Shape := ⟨4, ![4, 2048, 8, 64]⟩
abbrev S4x2048x8 : Shape := ⟨3, ![4, 2048, 8]⟩
abbrev S4x2048x8x1 : Shape := ⟨4, ![4, 2048, 8, 1]⟩
abbrev S8192x512 : Shape := ⟨2, ![8192, 512]⟩
abbrev S8192x1024 : Shape := ⟨2, ![8192, 1024]⟩
abbrev S8192x128 : Shape := ⟨2, ![8192, 128]⟩

abbrev nBuf : Space → Nat
  | .hbm => 173
  | .vmem => 0
  | .smem => 0
  | _ => 0

abbrev hbmTy0_0 (i : Nat) : BufTy := match i % 128 with
  | 0 => ⟨S4x2048x448, .f32⟩
  | 1 => ⟨S4x2048x1664, .f32⟩
  | 2 => ⟨S4x2048x64, .f32⟩
  | 3 => ⟨S4x2048x64, .f32⟩
  | 4 => ⟨S256, .f32⟩
  | 5 => ⟨S256x768, .f32⟩
  | 6 => ⟨S128, .f32⟩
  | 7 => ⟨S128x1024, .f32⟩
  | 8 => ⟨S1664, .f32⟩
  | 9 => ⟨S512, .f32⟩
  | 10 => ⟨S64x512, .f32⟩
  | 11 => ⟨S512, .f32⟩
  | 12 => ⟨S64x512, .f32⟩
  | 13 => ⟨S512, .f32⟩
  | 14 => ⟨S512, .f32⟩
  | 15 => ⟨S4x2048x256, .f32⟩
  | 16 => ⟨S4x2048x128, .f32⟩
  | 17 => ⟨S4x2048x64, .f32⟩
  | 18 => ⟨S4x2048x256, .f32⟩
  | 19 => ⟨S_, .f32⟩
  | 20 => ⟨S4x2048, .f32⟩
  | 21 => ⟨S4x2048x1, .f32⟩
  | 22 => ⟨S_, .f32⟩
  | 23 => ⟨S4x2048x1, .f32⟩
  | 24 => ⟨S4x2048x1, .f32⟩
  | 25 => ⟨S_, .f32⟩
  | 26 => ⟨S4x2048x1, .f32⟩
  | 27 => ⟨S4x2048x1, .f32⟩
  | 28 => ⟨S4x2048x1, .f32⟩
  | 29 => ⟨S4x2048x256, .f32⟩
  | 30 => ⟨S4x2048x256, .f32⟩
  | 31 => ⟨S1x1x256, .f32⟩
  | 32 => ⟨S4x2048x256, .f32⟩
  | 33 => ⟨S4x2048x256, .f32⟩
  | 34 => ⟨S4x2048x768, .f32⟩
  | 35 => ⟨S4x2048x4x192, .f32⟩
  | 36 => ⟨S4x2048x4x128, .f32⟩
  | 37 => ⟨S4x2048x4x64, .f32⟩
  | 38 => ⟨S4x2048x128, .f32⟩
  | 39 => ⟨S_, .f32⟩
  | 40 => ⟨S4x2048, .f32⟩
  | 41 => ⟨S4x2048x1, .f32⟩
  | 42 => ⟨S_, .f32⟩
  | 43 => ⟨S4x2048x1, .f32⟩
  | 44 => ⟨S4x2048x1, .f32⟩
  | 45 => ⟨S_, .f32⟩
  | 46 => ⟨S4x2048x1, .f32⟩
  | 47 => ⟨S4x2048x1, .f32⟩
  | 48 => ⟨S4x2048x1, .f32⟩
  | 49 => ⟨S4x2048x128, .f32⟩
  | 50 => ⟨S4x2048x128, .f32⟩
  | 51 => ⟨S1x1x128, .f32⟩
  | 52 => ⟨S4x2048x128, .f32⟩
  | 53 => ⟨S4x2048x128, .f32⟩
  | 54 => ⟨S4x2048x1024, .f32⟩
  | 55 => ⟨S4x2048x1x64, .f32⟩
  | 56 => ⟨S4x2048x1x64, .f32⟩
  | 57 => ⟨S4x2048x4x32, .f32⟩
  | 58 => ⟨S4x2048x4x32, .f32⟩
  | 59 => ⟨S4x2048x4x64, .f32⟩
  | 60 => ⟨S4x2048x4x64, .f32⟩
  | 61 => ⟨S4x2048x4x32, .f32⟩
  | 62 => ⟨S4x2048x4x64, .f32⟩
  | 63 => ⟨S4x2048x4x64, .f32⟩
  | 64 => ⟨S4x2048x4x64, .f32⟩
  | 65 => ⟨S4x2048x4x64, .f32⟩
  | 66 => ⟨S4x2048x32, .f32⟩
  | 67 => ⟨S4x2048x32, .f32⟩
  | 68 => ⟨S4x2048x64, .f32⟩
  | 69 => ⟨S4x2048x32, .f32⟩
  | 70 => ⟨S4x2048x64, .f32⟩
  | 71 => ⟨S4x2048x64, .f32⟩
  | 72 => ⟨S4x2048x64, .f32⟩
  | 73 => ⟨S_, .f32⟩
  | 74 => ⟨S4x1x1664, .f32⟩
  | 75 => ⟨S4x2047x1664, .f32⟩
  | 76 => ⟨S4x2048x1664, .f32⟩
  | 77 => ⟨S4x2048x1664, .f32⟩
  | 78 => ⟨S1x1x1664, .f32⟩
  | 79 => ⟨S4x2048x1664, .f32⟩
  | 80 => ⟨S4x2048x1664, .f32⟩
  | 81 => ⟨S4x2048x1664, .f32⟩
  | 82 => ⟨S4x2048x512, .f32⟩
  | 83 => ⟨S4x2048x512, .f32⟩
  | 84 => ⟨S4x2048x512, .f32⟩
  | 85 => ⟨S4x2048x64, .f32⟩
  | 86 => ⟨S4x2048x64, .f32⟩
  | 87 => ⟨S4x2048x64, .f32⟩
  | 88 => ⟨S4x2048x512, .f32⟩
  | 89 => ⟨S1x1x512, .f32⟩
  | 90 => ⟨S4x2048x512, .f32⟩
  | 91 => ⟨S4x2048x512, .f32⟩
  | 92 => ⟨S4x2048x512, .f32⟩
  | 93 => ⟨S_, .f32⟩
  | 94 => ⟨S4x2048x512, .f32⟩
  | 95 => ⟨S4x2048x512, .f32⟩
  | 96 => ⟨S4x2048x512, .f32⟩
  | 97 => ⟨S4x2048x512, .f32⟩
  | 98 => ⟨S4x2048x512, .i1⟩
  | 99 => ⟨S4x2048x512, .f32⟩
  | 100 => ⟨S4x2048x512, .f32⟩
  | 101 => ⟨S4x2048x512, .f32⟩
  | 102 => ⟨S4x2048x512, .f32⟩
  | 103 => ⟨S4x2048x512, .f32⟩
  | 104 => ⟨S4x2048x512, .f32⟩
  | 105 => ⟨S4x2048x512, .f32⟩
  | 106 => ⟨S4x2048x512, .f32⟩
  | 107 => ⟨S4x2048x512, .f32⟩
  | 108 => ⟨S_, .f32⟩
  | 109 => ⟨S4x2048x512, .f32⟩
  | 110 => ⟨S4x2048x512, .f32⟩
  | 111 => ⟨S4x2048x512, .f32⟩
  | 112 => ⟨S4x2048x512, .f32⟩
  | 113 => ⟨S4x2048x512, .f32⟩
  | 114 => ⟨S4x2048x512, .f32⟩
  | 115 => ⟨S1x1x512, .f32⟩
  | 116 => ⟨S4x2048x512, .f32⟩
  | 117 => ⟨S4x2048x512, .f32⟩
  | 118 => ⟨S4x2048x512, .f32⟩
  | 119 => ⟨S4x2048x512, .f32⟩
  | 120 => ⟨S_, .f32⟩
  | 121 => ⟨S4x2048x512, .f32⟩
  | 122 => ⟨S4x2048x512, .f32⟩
  | 123 => ⟨S_, .f32⟩
  | 124 => ⟨S4x2048x512, .f32⟩
  | 125 => ⟨S4x2048x512, .f32⟩
  | 126 => ⟨S1x1x512, .f32⟩
  | 127 => ⟨S4x2048x512, .f32⟩
  | _ => ⟨S4x2048x448, .f32⟩

abbrev hbmTy0_1 (i : Nat) : BufTy := match i % 128 with
  | 0 => ⟨S4x2048x512, .f32⟩
  | 1 => ⟨S4x2048x8x64, .f32⟩
  | 2 => ⟨S4x2048x8x64, .f32⟩
  | 3 => ⟨S_, .f32⟩
  | 4 => ⟨S4x2048x8, .f32⟩
  | 5 => ⟨S4x2048x8x1, .f32⟩
  | 6 => ⟨S4x2048x8x1, .f32⟩
  | 7 => ⟨S_, .f32⟩
  | 8 => ⟨S4x2048x8x1, .f32⟩
  | 9 => ⟨S4x2048x8x1, .f32⟩
  | 10 => ⟨S4x2048x8x64, .f32⟩
  | 11 => ⟨S4x2048x8x64, .f32⟩
  | 12 => ⟨S4x2048x512, .f32⟩
  | 13 => ⟨S_, .f32⟩
  | 14 => ⟨S4x2048x512, .f32⟩
  | 15 => ⟨S4x2048x512, .f32⟩
  | 16 => ⟨S1x1x512, .f32⟩
  | 17 => ⟨S4x2048x512, .f32⟩
  | 18 => ⟨S4x2048x512, .f32⟩
  | 19 => ⟨S_, .f32⟩
  | 20 => ⟨S4x2048x512, .f32⟩
  | 21 => ⟨S4x2048x512, .f32⟩
  | 22 => ⟨S4x2048x512, .f32⟩
  | 23 => ⟨S8192x512, .f32⟩
  | 24 => ⟨S8192x512, .bf16⟩
  | 25 => ⟨S_, .f32⟩
  | 26 => ⟨S4x2048x4x64, .f32⟩
  | 27 => ⟨S4x2048x4x128, .f32⟩
  | 28 => ⟨S8192x512, .f32⟩
  | 29 => ⟨S8192x512, .bf16⟩
  | 30 => ⟨S8192x1024, .f32⟩
  | 31 => ⟨S8192x1024, .bf16⟩
  | 32 => ⟨S_, .f32⟩
  | 33 => ⟨S4x2048x64, .f32⟩
  | 34 => ⟨S4x2048x128, .f32⟩
  | 35 => ⟨S8192x128, .f32⟩
  | 36 => ⟨S8192x128, .bf16⟩
  | 37 => ⟨S8192x512, .f32⟩
  | 38 => ⟨S8192x512, .f32⟩
  | 39 => ⟨S8192x512, .f32⟩
  | 40 => ⟨S8192x512, .f32⟩
  | 41 => ⟨S4x2048x512, .f32⟩
  | 42 => ⟨S8192x512, .f32⟩
  | 43 => ⟨S4x2048x512, .f32⟩
  | 44 => ⟨S8192x512, .f32⟩
  | _ => ⟨S4x2048x448, .f32⟩

abbrev hbmTy (i : Nat) : BufTy := match i / 128 with
  | 0 => hbmTy0_0 i
  | 1 => hbmTy0_1 i
  | _ => ⟨S4x2048x448, .f32⟩

abbrev bufTy : (tb : Table) → Fin (tcTables nBuf tb) → BufTy
  | .hbm, ⟨i, _⟩ => hbmTy i
  | _, _ => ⟨S4x2048x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_call0_cst : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_call0_v5 : Ref sig .tc := ⟨.hbm, 99, rfl⟩
abbrev main_call0_v6 : Ref sig .tc := ⟨.hbm, 100, rfl⟩
abbrev main_call0_v7 : Ref sig .tc := ⟨.hbm, 101, rfl⟩
abbrev main_call0_v8 : Ref sig .tc := ⟨.hbm, 102, rfl⟩
abbrev main_call0_v9 : Ref sig .tc := ⟨.hbm, 103, rfl⟩
abbrev main_call0_v10 : Ref sig .tc := ⟨.hbm, 104, rfl⟩
abbrev main_call0_v11 : Ref sig .tc := ⟨.hbm, 105, rfl⟩
abbrev main_v71 : Ref sig .tc := ⟨.hbm, 106, rfl⟩
abbrev main_v72 : Ref sig .tc := ⟨.hbm, 107, rfl⟩
abbrev main_cst_6 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_7 : Ref sig .tc := ⟨.hbm, 120, rfl⟩
abbrev main_v84 : Ref sig .tc := ⟨.hbm, 121, rfl⟩
abbrev main_v85 : Ref sig .tc := ⟨.hbm, 122, rfl⟩
abbrev main_cst_8 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_call1_v0 : Ref sig .tc := ⟨.hbm, 130, rfl⟩
abbrev main_call1_cst : Ref sig .tc := ⟨.hbm, 131, rfl⟩
abbrev main_call1_v1 : Ref sig .tc := ⟨.hbm, 132, rfl⟩
abbrev main_call1_v2 : Ref sig .tc := ⟨.hbm, 133, rfl⟩
abbrev main_v92 : Ref sig .tc := ⟨.hbm, 134, rfl⟩
abbrev main_cst_9 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_10 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_11 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_12 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_13 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩

abbrev nD : Nat := 1
abbrev τ : Topo := Topo.v7x

variable {F : FTy → Type} [FloatOps F]
-- ==== Proof.Blocks.lean ====
/-
  The blocks of the attention gradient's body. At one grid point (one sequence, one head) the body takes the 2048 rows in
  eight blocks of 256 and goes through the 36 pairs (key block `j`, query block `i ≥ j`). This module names what one pair
  computes, once for every pair, and states that the stores the body leaves in its four outputs and in its accumulator of
  query gradients are folds of those blocks.
-/
module

public import proofs.«01_k».proof.Proof.Gen.KernelIdeal.Value
public import Idealize.ShloMosaic.Lib.Tactic

@[expose] public section

set_option maxRecDepth 16384

noncomputable section

open Idealize.ShloMosaic Idealize.ShloMosaic.TcCoe Idealize.SL.Sem

namespace Cert.KernelIdeal.Blocks

open Cert.KernelIdeal Cert.KernelIdeal.Gen

variable {F : FTy → Type} [FloatOps F]

/-! ## Rectangles -/

theorem rows_inb (i : Fin 8) : ∀ a, (![0, 256 * i.val, 0] : Fin 3 → ℕ) a + S1x256x128.size a ≤ S1x2048x128.size a := by
  revert i; decide

/-- Rows `256 i` to `256 i + 255` of an input's block. -/
abbrev rows (i : Fin 8) : Rect S1x2048x128 := Rect.unit ![0, 256 * i.val, 0] S1x256x128.size (rows_inb i)

theorem lrows_inb (i : Fin 8) : ∀ a, (![0, 0, 256 * i.val, 0] : Fin 4 → ℕ) a + S1x1x256x1.size a ≤ S1x1x2048x128.size a := by
  revert i; decide

/-- The same rows of the log-sums, their first lane. -/
abbrev lrows (i : Fin 8) : Rect S1x1x2048x128 := Rect.unit ![0, 0, 256 * i.val, 0] S1x1x256x1.size (lrows_inb i)

theorem drows_inb (i : Fin 8) : ∀ a, (![256 * i.val, 0] : Fin 2 → ℕ) a + S256x1.size a ≤ S2048x1.size a := by
  revert i; decide

/-- The same rows of the row products `delta`. -/
abbrev drows (i : Fin 8) : Rect S2048x1 := Rect.unit ![256 * i.val, 0] S256x1.size (drows_inb i)

theorem arows_inb (i : Fin 8) : ∀ a, (![256 * i.val, 0] : Fin 2 → ℕ) a + S256x256.size a ≤ S2048x256.size a := by
  revert i; decide

/-- The same rows of the accumulator of query gradients. -/
abbrev arows (i : Fin 8) : Rect S2048x256 := Rect.unit ![256 * i.val, 0] S256x256.size (arows_inb i)

theorem kcols_inb (j : Fin 8) : ∀ a, (![0, 256 * j.val, 0] : Fin 3 → ℕ) a + S1x256x128.size a ≤ S1x2048x256.size a := by
  revert j; decide

theorem vcols_inb (j : Fin 8) : ∀ a, (![0, 256 * j.val, 128] : Fin 3 → ℕ) a + S1x256x128.size a ≤ S1x2048x256.size a := by
  revert j; decide

/-- The rows of key block `j` of the key and value gradients: the key half of the lanes. -/
abbrev kcols (j : Fin 8) : Rect S1x2048x256 := Rect.unit ![0, 256 * j.val, 0] S1x256x128.size (kcols_inb j)

/-- The same, the value half of the lanes. -/
abbrev vcols (j : Fin 8) : Rect S1x2048x256 := Rect.unit ![0, 256 * j.val, 128] S1x256x128.size (vcols_inb j)

theorem rcols_inb (j : Fin 8) : ∀ a, (![0, 0, 256 * j.val, 0] : Fin 4 → ℕ) a + S1x1x256x128.size a ≤ S1x1x2048x128.size a := by
  revert j; decide

/-- The rows of key block `j` of the gradient of the shared key part. -/
abbrev rcols (j : Fin 8) : Rect S1x1x2048x128 := Rect.unit ![0, 0, 256 * j.val, 0] S1x1x256x128.size (rcols_inb j)

/-! ## One pair of blocks -/

/-- A block of an input as a matrix. -/
def one (a : Vec F S1x256x128 .bf16) : FVec F S256x128 .bf16 := shapeCast S256x128 a shapeCasts_S1x256x128_S256x128

/-- Two blocks side by side: the part of each head and the rotary part. -/
def pair (a b : Vec F S1x256x128 .bf16) : FVec F S256x256 .bf16 :=
  concatenate S256x256 1 [⟨S256x128, one a⟩, ⟨S256x128, one b⟩] concatenates_S256x128_S256x128_S256x256_d1

variable (q r k kr v d : Fin 8 → Vec F S1x256x128 .bf16) (l : Fin 8 → Vec F S1x1x256x1 .f32) (δ : Fin 8 → Vec F S256x1 .f32)

/-- The probabilities of query block `i` over key block `j`: the exponential of the scaled scores less the rows' log-sums,
    and on the diagonal pair the causal mask. -/
def prob (i j : Fin 8) : FVec F S256x256 .f32 :=
  let e : FVec F S256x256 .f32 := exp (subf
    (mulf (matmul dot_S256x256_S256x256_S256x256_1_1_0_0_n_n none (pair (q i) (r i)) (pair (k j) (kr j)) (constant S256x256 .f32 0x00000000#32))
      (broadcast S256x256 (Scalar.ofBits .f32 0x3D93CD3A#32)))
    (broadcastTo S256x256 (shapeCast S256x1 (l i) shapeCasts_S1x1x256x1_S256x1) broadcasts_S256x1_S256x256))
  if i = j then select k0_pay5 e (broadcast S256x256 (Scalar.ofBits .f32 0x00000000#32)) else e

/-- The gradient of the scores of query block `i` over key block `j`. -/
def dsc (i j : Fin 8) : FVec F S256x256 .bf16 :=
  truncf .bf16 (mulf (mulf (prob q r k kr l i j)
    (subf (matmul dot_S256x128_S256x128_S256x256_1_1_0_0_n_n none (one (d i)) (one (v j)) (constant S256x256 .f32 0x00000000#32))
      (broadcastTo S256x256 (δ i) broadcasts_S256x1_S256x256)))
    (broadcast S256x256 (Scalar.ofBits .f32 0x3D93CD3A#32))) bitsLt_bf16_f32

/-- What query block `i` adds to the value gradient of key block `j`. -/
def dvBlk (j i : Fin 8) : FVec F S256x128 .f32 :=
  matmul dot_S256x256_S256x128_S256x128_0_0_1_1_n_n none (truncf .bf16 (prob q r k kr l i j) bitsLt_bf16_f32) (one (d i)) (constant S256x128 .f32 0x00000000#32)

/-- What query block `i` adds to the key gradient of key block `j`. -/
def dkBlk (j i : Fin 8) : FVec F S256x256 .f32 :=
  matmul dot_S256x256_S256x256_S256x256_0_0_1_1_n_n none (dsc q r k kr v d l δ i j) (pair (q i) (r i)) (constant S256x256 .f32 0x00000000#32)

/-- What key block `j` adds to the query gradient of query block `i`. -/
def dqBlk (i j : Fin 8) : FVec F S256x256 .f32 :=
  matmul dot_S256x256_S256x256_S256x256_1_0_0_1_n_n none (dsc q r k kr v d l δ i j) (pair (k j) (kr j)) (constant S256x256 .f32 0x00000000#32)

/-! ## The order in which the body goes through the pairs -/

/-- The eight blocks. -/
def all8 : List (Fin 8) := [0, 1, 2, 3, 4, 5, 6, 7]

/-- The query blocks that key block `j` meets: `j` and those after it. -/
def after (j : Fin 8) : List (Fin 8) := all8.drop j.val

/-- The 36 pairs (query block, key block), in the order of the body. -/
def pairs : List (Fin 8 × Fin 8) := all8.flatMap fun j => (after j).map fun i => (i, j)

/-- The value gradient of key block `j`: its query blocks' terms added up in order. -/
def dvAll (j : Fin 8) : FVec F S256x128 .f32 :=
  (after j).foldl (fun a i => addf a (dvBlk q r k kr d l j i)) (broadcast S256x128 (Scalar.ofBits .f32 0x00000000#32))

/-- The key gradient of key block `j`: its query blocks' terms added up in order. -/
def dkAll (j : Fin 8) : FVec F S256x256 .f32 :=
  (after j).foldl (fun a i => addf a (dkBlk q r k kr v d l δ j i)) (broadcast S256x256 (Scalar.ofBits .f32 0x00000000#32))

/-- One pair's store into the accumulator of query gradients: the rows of its query block, read back and added to. -/
def push (w : View sig .tc .vmem S2048x256 .f32) (L : List (View.Piece (Elt F) S2048x256 .f32)) (p : Fin 8 × Fin 8) : List (View.Piece (Elt F) S2048x256 .f32) :=
  ⟨arows p.1, shapeCast S256x256 (addf (w.readCov L (arows p.1).toLoadRect) (dqBlk q r k kr v d l δ p.1 p.2)) shapeCasts_S256x256_S256x256⟩ :: L

/-- The accumulator's stores: the fill with zeros, then one store for every pair. -/
def acc (w : View sig .tc .vmem S2048x256 .f32) : List (View.Piece (Elt F) S2048x256 .f32) :=
  pairs.foldl (push q r k kr v d l δ w)
    [⟨Rect.unit ![0, 0] S2048x256.size inb_S2048x256_S2048x256_0_0, (k0_pay3 : FVec F S2048x256 .f32)⟩]

/-- The stores into the key and value gradients: for every key block its two halves. -/
def kvPieces : List (View.Piece (Elt F) S1x2048x256 .f32) :=
  all8.foldl (fun L j =>
    ⟨vcols j, shapeCast S1x256x128 (dvAll q r k kr d l j) shapeCasts_S256x128_S1x256x128⟩
    :: ⟨kcols j, shapeCast S1x256x128 (extractStridedSlice S256x128 ![0, 0] (dkAll q r k kr v d l δ j) slices_S256x256_o0_0_S256x128) shapeCasts_S256x128_S1x256x128⟩
    :: L) []

/-- The stores into the gradient of the shared key part: one for every key block. -/
def krPieces : List (View.Piece (Elt F) S1x1x2048x128 .f32) :=
  all8.foldl (fun L j =>
    ⟨rcols j, shapeCast S1x1x256x128 (extractStridedSlice S256x128 ![0, 128] (dkAll q r k kr v d l δ j) slices_S256x256_o0_128_S256x128) shapeCasts_S256x128_S1x1x256x128⟩
    :: L) []

/-! ## The body's stores are those -/

section

variable (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole)
  (arg5 : Memref sig .tc .vmem S1x2048x128 .bf16) (harg5 : arg5.IsWhole) (arg6 : Memref sig .tc .vmem S1x2048x128 .bf16) (harg6 : arg6.IsWhole) (arg7 : Memref sig .tc .vmem S1x2048x128 .f32) (harg7 : arg7.IsWhole) (arg8 : Memref sig .tc .vmem S1x2048x128 .bf16) (harg8 : arg8.IsWhole)
  (arg9 : Memref sig .tc .vmem S1x1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x2048x256 .f32) (harg12 : arg12.IsWhole)
  (arg13 : Memref sig .tc .vmem S1x1x2048x128 .f32) (harg13 : arg13.IsWhole) (arg14 : Memref sig .tc .vmem S2048x256 .f32) (harg14 : arg14.IsWhole) (arg15 : Memref sig .tc .vmem S2048x1 .f32) (harg15 : arg15.IsWhole)
  (x0 x1 x2 x3 x4 : Vec F S1x2048x128 .bf16) (x5 : Vec F S1x2048x128 .f32) (x6 : Vec F S1x2048x128 .bf16) (x7 : Vec F S1x1x2048x128 .f32)

/-- The loads of a whole input, block by block. -/
abbrev loads {e : EltTy} (a : Memref sig .tc .vmem S1x2048x128 e) (h : a.IsWhole) (x : Vec F S1x2048x128 e) (b : Fin 8) : Vec F S1x256x128 e :=
  View.readAt (Elt F) a.view (rows b).toLoadRect (h.unread x)

/-- The loads of the log-sums, block by block. -/
abbrev lloads (b : Fin 8) : Vec F S1x1x256x1 .f32 := View.readAt (Elt F) arg9.view (lrows b).toLoadRect (harg9.unread x7)

/-- The row products `delta`, as the body stores them. -/
abbrev delta : List (View.Piece (Elt F) S2048x1 .f32) :=
  [⟨Rect.unit ![0, 0] S2048x1.size inb_S2048x1_S2048x1_0_0,
    k0_pay4 (View.readAt (Elt F) arg8.view (Rect.unit ![0, 0, 0] S1x2048x128.size inb_S1x2048x128_S1x2048x128_0_0_0).toLoadRect (harg8.unread x6))
      (View.readAt (Elt F) arg7.view (Rect.unit ![0, 0, 0] S1x2048x128.size inb_S1x2048x128_S1x2048x128_0_0_0).toLoadRect (harg7.unread x5))⟩]

/-- The row products read back, block by block. -/
abbrev dloads (b : Fin 8) : Vec F S256x1 .f32 := arg15.view.readCov (delta arg7 harg7 arg8 harg8 x5 x6) (drows b).toLoadRect

/-- The accumulator's stores are the fold over the pairs. -/
theorem acc_pieces :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.1
      = acc (loads arg2 harg2 x0) (loads arg3 harg3 x1) (loads arg4 harg4 x2) (loads arg5 harg5 x3) (loads arg6 harg6 x4) (loads arg8 harg8 x6)
          (lloads arg9 harg9 x7) (dloads arg7 harg7 arg8 harg8 arg15 x5 x6) arg14.view := by
  sl_kernel_rfl

/-- The query gradient's store: the first 128 lanes of the accumulator. -/
theorem qn_pieces :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1
      = [⟨Rect.unit ![0, 0, 0] ![1, 2048, 128] inb_S1x2048x128_S1x2048x128_0_0_0,
          shapeCast S1x2048x128 (arg14.view.readCov (acc (loads arg2 harg2 x0) (loads arg3 harg3 x1) (loads arg4 harg4 x2) (loads arg5 harg5 x3) (loads arg6 harg6 x4) (loads arg8 harg8 x6)
          (lloads arg9 harg9 x7) (dloads arg7 harg7 arg8 harg8 arg15 x5 x6) arg14.view)
            (Rect.unit (s := S2048x256) ![0, 0] S2048x128.size inb_S2048x256_S2048x128_0_0).toLoadRect) shapeCasts_S2048x128_S1x2048x128⟩] := by
  sl_kernel_rfl

/-- The store of the query gradient's rotary part: the last 128 lanes of the accumulator. -/
theorem qr_pieces :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1
      = [⟨Rect.unit ![0, 0, 0] ![1, 2048, 128] inb_S1x2048x128_S1x2048x128_0_0_0,
          shapeCast S1x2048x128 (arg14.view.readCov (acc (loads arg2 harg2 x0) (loads arg3 harg3 x1) (loads arg4 harg4 x2) (loads arg5 harg5 x3) (loads arg6 harg6 x4) (loads arg8 harg8 x6)
          (lloads arg9 harg9 x7) (dloads arg7 harg7 arg8 harg8 arg15 x5 x6) arg14.view)
            (Rect.unit (s := S2048x256) ![0, 128] S2048x128.size inb_S2048x256_S2048x128_0_128).toLoadRect) shapeCasts_S2048x128_S1x2048x128⟩] := by
  sl_kernel_rfl

/-- The stores into the key and value gradients. -/
theorem kv_pieces :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1
      = kvPieces (loads arg2 harg2 x0) (loads arg3 harg3 x1) (loads arg4 harg4 x2) (loads arg5 harg5 x3) (loads arg6 harg6 x4) (loads arg8 harg8 x6)
          (lloads arg9 harg9 x7) (dloads arg7 harg7 arg8 harg8 arg15 x5 x6) := by
  sl_kernel_rfl

/-- The stores into the gradient of the shared key part. -/
theorem kr_pieces :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.1
      = krPieces (loads arg2 harg2 x0) (loads arg3 harg3 x1) (loads arg4 harg4 x2) (loads arg5 harg5 x3) (loads arg6 harg6 x4) (loads arg8 harg8 x6)
          (lloads arg9 harg9 x7) (dloads arg7 harg7 arg8 harg8 arg15 x5 x6) := by
  sl_kernel_rfl

end

end Cert.KernelIdeal.Blocks

end
-- ==== Proof.Tiles.lean ====
/-
  What one pair of blocks computes, read at one element over the extended reals: the probabilities, the gradient of the
  scores, and the three products that go into the value, key and query gradients.
-/
module

public import proofs.«01_k».proof.Proof.Blocks
public import Idealize.ShloMosaic.Lib.Pointwise
public import Idealize.ShloMosaic.Lib.ValueIdx

@[expose] public section

set_option maxRecDepth 16384

noncomputable section

open Idealize.ShloMosaic Idealize.ShloMosaic.TcCoe Idealize.SL.Sem

namespace Cert.KernelIdeal.Blocks

open Cert.KernelIdeal Cert.KernelIdeal.Gen

/-! ## Rows -/

/-- Row `a` of block `b` among all 2048 rows. -/
def row (b : Fin 8) (a : Fin 256) : Fin 2048 := ⟨256 * b.val + a.val, by omega⟩

/-- The scale of the scores, as the number its literal denotes. -/
def scale : EReal := Ideal.ofBits .f32 0x3D93CD3A#32

/-- The score of query row `R` against key row `κ`: the parts of the head and the rotary parts, multiplied and scaled. -/
def score (q r k kr : Fin 2048 → Fin 128 → EReal) (R κ : Fin 2048) : EReal :=
  ((∑ c, q R c * k κ c) + ∑ c, r R c * kr κ c) * scale

/-- The probability that the body puts on the pair: the exponential of the score less the row's log-sum, and zero for a
    key after the query. -/
def prb (q r k kr : Fin 2048 → Fin 128 → EReal) (l : Fin 2048 → EReal) (R κ : Fin 2048) : EReal :=
  if κ ≤ R then Ideal.exp (score q r k kr R κ - l R) else 0

/-- The gradient of the score. -/
def dscore (q r k kr v d : Fin 2048 → Fin 128 → EReal) (l δ : Fin 2048 → EReal) (R κ : Fin 2048) : EReal :=
  prb q r k kr l R κ * ((∑ c, d R c * v κ c) - δ R) * scale

section

variable (q r k kr v d : Fin 8 → Vec Ideal S1x256x128 .bf16) (l : Fin 8 → Vec Ideal S1x1x256x1 .f32) (δ : Fin 8 → Vec Ideal S256x1 .f32)

theorem one_apply (a : Vec Ideal S1x256x128 .bf16) (x : Fin 256) (c : Fin 128) : one a (ix2 x c) = a (ix3 0 x c) := by
  pointwise [one]

theorem pair_left (a b : Vec Ideal S1x256x128 .bf16) (x : Fin 256) (c : Fin 128) :
    pair a b (ix2 x (Fin.castAdd 128 c : Fin 256)) = a (ix3 0 x c) := by
  pointwise [pair, one, Fin.val_castAdd, c.isLt]

theorem pair_right (a b : Vec Ideal S1x256x128 .bf16) (x : Fin 256) (c : Fin 128) :
    pair a b (ix2 x (Fin.natAdd 128 c : Fin 256)) = b (ix3 0 x c) := by
  pointwise [pair, one, Fin.val_natAdd, Nat.add_sub_cancel_left, Nat.not_lt.mpr (Nat.le_add_right 128 _)]

/-- A sum over the 256 lanes of two blocks side by side is the sum over the one plus the sum over the other. -/
theorem sum_pair (f : Fin 256 → EReal) : ∑ c, f c = (∑ c : Fin 128, f (Fin.castAdd 128 c)) + ∑ c : Fin 128, f (Fin.natAdd 128 c) :=
  Fin.sum_univ_add (a := 128) (b := 128) f

theorem mask_apply (a b : Fin 256) : (k0_pay5 : IVec S256x256 1) (ix2 a b) = if b ≤ a then 1#1 else 0#1 := by
  pointwise [k0_pay5]
  rw [show ∀ y : BitVec 32, IntOp.addi (0#32) y = y from fun y => BitVec.zero_add y, show IntOp.addi (0#32) (BitVec.ofNat 32 b.val) = _ from BitVec.zero_add _,
    WordCmp.cmpi_sge_ofNat (by omega) (by omega)]
  by_cases hab : b ≤ a
  · rw [if_pos hab, decide_eq_true (Fin.le_def.mp hab)]; rfl
  · rw [if_neg hab, decide_eq_false (fun hh => hab (Fin.le_def.mpr hh))]; rfl

/-! ## The blocks at an element -/

variable (Q R K KR V D : Fin 2048 → Fin 128 → EReal) (L Δ : Fin 2048 → EReal)

/-- The blocks are those of whole arrays. -/
structure Blocked : Prop where
  q : ∀ b x c, q b (ix3 0 x c) = Q (row b x) c
  r : ∀ b x c, r b (ix3 0 x c) = R (row b x) c
  k : ∀ b x c, k b (ix3 0 x c) = K (row b x) c
  kr : ∀ b x c, kr b (ix3 0 x c) = KR (row b x) c
  v : ∀ b x c, v b (ix3 0 x c) = V (row b x) c
  d : ∀ b x c, d b (ix3 0 x c) = D (row b x) c
  l : ∀ b x, l b (ix4 0 0 x 0) = L (row b x)
  δ : ∀ b x, δ b (ix2 x 0) = Δ (row b x)

variable {q r k kr v d l δ Q R K KR V D L Δ}
variable (h : Blocked q r k kr v d l δ Q R K KR V D L Δ)
include h

theorem prob_apply (i j : Fin 8) (hij : j ≤ i) (a b : Fin 256) :
    prob q r k kr l i j (ix2 a b) = prb Q R K KR L (row i a) (row j b) := by
  unfold prob
  split
  · rename_i e
    subst e
    pointwise [mask_apply, sum_pair, pair_left, pair_right, h.q, h.r, h.k, h.kr, h.l]
    rw [prb]
    by_cases hab : b ≤ a
    · rw [if_pos hab, if_pos (by rw [Fin.le_def] at *; simp only [row]; omega)]
      exact WordCmp.select_one _ _
    · rw [if_neg hab, if_neg (by rw [Fin.le_def] at *; simp only [row]; omega)]
      exact WordCmp.select_zero _ _
  · rename_i e
    pointwise [sum_pair, pair_left, pair_right, h.q, h.r, h.k, h.kr, h.l]
    have hlt : j.val < i.val := lt_of_le_of_ne hij fun hh => e (Fin.ext hh.symm)
    rw [prb, if_pos (by rw [Fin.le_def]; simp only [row]; omega)]
    rfl

theorem dsc_apply (i j : Fin 8) (hij : j ≤ i) (a b : Fin 256) :
    dsc q r k kr v d l δ i j (ix2 a b) = dscore Q R K KR V D L Δ (row i a) (row j b) := by
  pointwise [dsc, prob_apply h i j hij, one_apply, h.d, h.v, h.δ]
  rfl

theorem dvBlk_apply (i j : Fin 8) (hij : j ≤ i) (b : Fin 256) (c : Fin 128) :
    dvBlk q r k kr d l j i (ix2 b c) = ∑ a : Fin 256, prb Q R K KR L (row i a) (row j b) * D (row i a) c := by
  pointwise [dvBlk, prob_apply h i j hij, one_apply, h.d]

theorem dkBlk_left (i j : Fin 8) (hij : j ≤ i) (b : Fin 256) (c : Fin 128) :
    dkBlk q r k kr v d l δ j i (ix2 b (Fin.castAdd 128 c : Fin 256)) = ∑ a : Fin 256, dscore Q R K KR V D L Δ (row i a) (row j b) * Q (row i a) c := by
  pointwise [dkBlk, dsc_apply h i j hij, pair_left, h.q]

theorem dkBlk_right (i j : Fin 8) (hij : j ≤ i) (b : Fin 256) (c : Fin 128) :
    dkBlk q r k kr v d l δ j i (ix2 b (Fin.natAdd 128 c : Fin 256)) = ∑ a : Fin 256, dscore Q R K KR V D L Δ (row i a) (row j b) * R (row i a) c := by
  pointwise [dkBlk, dsc_apply h i j hij, pair_right, h.r]

theorem dqBlk_left (i j : Fin 8) (hij : j ≤ i) (a : Fin 256) (c : Fin 128) :
    dqBlk q r k kr v d l δ i j (ix2 a (Fin.castAdd 128 c : Fin 256)) = ∑ b : Fin 256, dscore Q R K KR V D L Δ (row i a) (row j b) * K (row j b) c := by
  pointwise [dqBlk, dsc_apply h i j hij, pair_left, h.k]

theorem dqBlk_right (i j : Fin 8) (hij : j ≤ i) (a : Fin 256) (c : Fin 128) :
    dqBlk q r k kr v d l δ i j (ix2 a (Fin.natAdd 128 c : Fin 256)) = ∑ b : Fin 256, dscore Q R K KR V D L Δ (row i a) (row j b) * KR (row j b) c := by
  pointwise [dqBlk, dsc_apply h i j hij, pair_right, h.kr]

end

end Cert.KernelIdeal.Blocks

end
-- ==== Proof.Whole.lean ====
/-
  The four stores of the body over all rows: the sums over the blocks are sums over the 2048 rows, since a pair that the
  body leaves out has probability zero.
-/
module

public import proofs.«01_k».proof.Proof.Tiles
public import Idealize.ShloMosaic.Lib.Pipeline.ValueKit.Tiles
public import Idealize.ShloMosaic.Lib.Pipeline.ReadBack

@[expose] public section

set_option maxRecDepth 16384

noncomputable section

open Idealize.ShloMosaic Idealize.ShloMosaic.TcCoe Idealize.SL.Sem

namespace Cert.KernelIdeal.Blocks

open Cert.KernelIdeal Cert.KernelIdeal.Gen

/-- A coordinate of an element of a rectangle of stride one. -/
theorem emb_val {s : Shape} {off size : Fin s.rank → ℕ} {inb : ∀ a, off a + size a ≤ s.size a} {x : (⟨s.rank, size⟩ : Shape).Idx} {y : s.Idx}
    (h : (Rect.unit off size inb).emb x = y) (a : Fin s.rank) : off a + (x a : ℕ) = y a := by
  rw [← h]; exact (Rect.idx_unit_val off size inb x a).symm

/-! ## Sums over blocks -/

/-- A sum over the 2048 rows is the sum over the eight blocks of the sums over their rows. -/
theorem sum_rows (f : Fin 2048 → EReal) : ∑ R, f R = ∑ i : Fin 8, ∑ a : Fin 256, f (row i a) := by
  rw [← Finset.sum_product' Finset.univ Finset.univ (fun i a => f (row i a)), Finset.univ_product_univ]
  refine (Fintype.sum_equiv (finProdFinEquiv (m := 8) (n := 256)) _ _ fun p => ?_).symm
  congr 1
  exact Fin.ext (by simp only [row, finProdFinEquiv_apply_val]; omega)

/-- Every row is a row of one of the blocks. -/
theorem exists_row (R : Fin 2048) : ∃ i a, R = row i a :=
  ⟨⟨R.val / 256, by omega⟩, ⟨R.val % 256, by omega⟩, Fin.ext (by simp only [row]; omega)⟩

/-- A sum over the query blocks that key block `j` meets. -/
theorem sum_after (g : Fin 8 → EReal) (j : Fin 8) : ((after j).map g).sum = ∑ i, if j ≤ i then g i else 0 := by
  fin_cases j <;> simp [after, all8, Fin.sum_univ_eight, Fin.le_def, add_assoc]

/-- A fold of additions of arrays, at an element. -/
theorem fold_apply {s : Shape} {α : Type} (l : List α) (f : α → FVec Ideal s .f32) (z : FVec Ideal s .f32) (x : s.Idx) :
    l.foldl (fun a i => addf a (f i)) z x = z x + (l.map fun i => f i x).sum := by
  induction l generalizing z with
  | nil => simp
  | cons i l ih => rw [List.foldl_cons, ih, List.map_cons, List.sum_cons, ← add_assoc]; rfl

/-- Two entries pushed for every element of a list. -/
theorem mem_fold {α β : Type} (f g : α → β) (p : β) (js : List α) (M : List β) :
    p ∈ js.foldl (fun L j => f j :: g j :: L) M ↔ (∃ j ∈ js, p = f j ∨ p = g j) ∨ p ∈ M := by
  induction js generalizing M with
  | nil => simp
  | cons j js ih =>
    rw [List.foldl_cons, ih]
    simp only [List.mem_cons, exists_eq_or_imp]
    generalize (∃ j ∈ js, p = f j ∨ p = g j) = A
    tauto

/-- One entry pushed for every element of a list. -/
theorem mem_fold_one {α β : Type} (f : α → β) (p : β) (js : List α) (M : List β) :
    p ∈ js.foldl (fun L j => f j :: L) M ↔ (∃ j ∈ js, p = f j) ∨ p ∈ M := by
  induction js generalizing M with
  | nil => simp
  | cons j js ih =>
    rw [List.foldl_cons, ih]
    simp only [List.mem_cons, exists_eq_or_imp]
    generalize (∃ j ∈ js, p = f j) = A
    tauto

theorem mem_all8 (j : Fin 8) : j ∈ all8 := by revert j; decide

/-- A key after the query has probability zero. -/
theorem prb_of_not_le {Q R K KR : Fin 2048 → Fin 128 → EReal} {L : Fin 2048 → EReal} {i j : Fin 8} (hij : ¬j ≤ i) (a b : Fin 256) :
    prb Q R K KR L (row i a) (row j b) = 0 :=
  if_neg (by rw [Fin.le_def] at *; simp only [row]; omega)

theorem dscore_of_not_le {Q R K KR V D : Fin 2048 → Fin 128 → EReal} {L Δ : Fin 2048 → EReal} {i j : Fin 8} (hij : ¬j ≤ i) (a b : Fin 256) :
    dscore Q R K KR V D L Δ (row i a) (row j b) = 0 := by
  rw [dscore, prb_of_not_le hij, zero_mul, zero_mul]

section

variable {q r k kr v d : Fin 8 → Vec Ideal S1x256x128 .bf16} {l : Fin 8 → Vec Ideal S1x1x256x1 .f32} {δ : Fin 8 → Vec Ideal S256x1 .f32}
  {Q R K KR V D : Fin 2048 → Fin 128 → EReal} {L Δ : Fin 2048 → EReal}
  (h : Blocked q r k kr v d l δ Q R K KR V D L Δ)
include h

/-- The value gradient of a key block, over all query rows. -/
theorem dvAll_apply (j : Fin 8) (b : Fin 256) (c : Fin 128) :
    dvAll q r k kr d l j (ix2 b c) = ∑ x, prb Q R K KR L x (row j b) * D x c := by
  rw [dvAll, fold_apply, sum_after, sum_rows]
  pointwise
  refine Finset.sum_congr rfl fun i _ => ?_
  by_cases hij : j ≤ i
  · rw [if_pos hij, dvBlk_apply h i j hij]
  · rw [if_neg hij]
    exact (Finset.sum_eq_zero fun a _ => by rw [prb_of_not_le hij, zero_mul]).symm

/-- The key gradient of a key block, over all query rows: the lanes of the head's part. -/
theorem dkAll_left (j : Fin 8) (b : Fin 256) (c : Fin 128) :
    dkAll q r k kr v d l δ j (ix2 b (Fin.castAdd 128 c : Fin 256)) = ∑ x, dscore Q R K KR V D L Δ x (row j b) * Q x c := by
  rw [dkAll, fold_apply, sum_after, sum_rows]
  pointwise
  refine Finset.sum_congr rfl fun i _ => ?_
  by_cases hij : j ≤ i
  · rw [if_pos hij, dkBlk_left h i j hij]
  · rw [if_neg hij]
    exact (Finset.sum_eq_zero fun a _ => by rw [dscore_of_not_le hij, zero_mul]).symm

/-- The same, the lanes of the rotary part. -/
theorem dkAll_right (j : Fin 8) (b : Fin 256) (c : Fin 128) :
    dkAll q r k kr v d l δ j (ix2 b (Fin.natAdd 128 c : Fin 256)) = ∑ x, dscore Q R K KR V D L Δ x (row j b) * R x c := by
  rw [dkAll, fold_apply, sum_after, sum_rows]
  pointwise
  refine Finset.sum_congr rfl fun i _ => ?_
  by_cases hij : j ≤ i
  · rw [if_pos hij, dkBlk_right h i j hij]
  · rw [if_neg hij]
    exact (Finset.sum_eq_zero fun a _ => by rw [dscore_of_not_le hij, zero_mul]).symm

end

/-! ## The accumulator of query gradients -/

/-- An element of the accumulator after the stores for a list of pairs: what was there before, plus the terms of the pairs of
    its own query block. -/
theorem canon_push (q r k kr v d : Fin 8 → Vec Ideal S1x256x128 .bf16) (l : Fin 8 → Vec Ideal S1x1x256x1 .f32) (δ : Fin 8 → Vec Ideal S256x1 .f32)
    (w : View sig .tc .vmem S2048x256 .f32) (ps : List (Fin 8 × Fin 8)) (M : List (View.Piece (Elt Ideal) S2048x256 .f32)) (i : Fin 8) (x : S256x256.Idx) :
    View.canon (ps.foldl (push q r k kr v d l δ w) M) ((arows i).emb x)
      = (View.canon M ((arows i).emb x) : EReal) + (ps.map fun p => if p.1 = i then dqBlk q r k kr v d l δ i p.2 x else 0).sum := by
  induction ps generalizing M with
  | nil => simp
  | cons p ps ih =>
    rw [List.foldl_cons, ih, List.map_cons, List.sum_cons, ← add_assoc]
    congr 1
    obtain ⟨pi, pj⟩ := p
    by_cases e : pi = i
    · subst e
      rw [if_pos rfl, push, View.canon_cons_emb, View.readCov_eq_canon']
      exact congrFun (shapeCast_self (s := S256x256) _ _) x
    · rw [if_neg e, push, View.canon_cons_of_not_mem, add_zero]
      intro hm
      have := (Rect.mem_set_unit (inb := arows_inb pi)).mp hm 0
      have e0 : (((arows i).emb x) 0 : ℕ) = 256 * i.val + (x 0).val := (emb_val (s := S2048x256) (inb := arows_inb i) rfl 0).symm
      have hx : (x 0).val < 256 := (x 0).isLt
      simp only [Matrix.cons_val_zero] at this
      rw [e0] at this
      exact e (Fin.ext (by have h2 : S256x256.size 0 = 256 := rfl; omega))

/-- The pairs of one query block, in order. -/
theorem sum_pairs (g : Fin 8 → EReal) (i : Fin 8) : (pairs.map fun p => if p.1 = i then g p.2 else 0).sum = ∑ j, if j ≤ i then g j else 0 := by
  fin_cases i <;> simp [pairs, after, all8, Fin.sum_univ_eight, Fin.le_def, add_assoc]

section

variable {q r k kr v d : Fin 8 → Vec Ideal S1x256x128 .bf16} {l : Fin 8 → Vec Ideal S1x1x256x1 .f32} {δ : Fin 8 → Vec Ideal S256x1 .f32}
  {Q R K KR V D : Fin 2048 → Fin 128 → EReal} {L Δ : Fin 2048 → EReal}
  (h : Blocked q r k kr v d l δ Q R K KR V D L Δ)
  (w : View sig .tc .vmem S2048x256 .f32)
include h

/-- An element of the accumulator at the end: the zero it was filled with, plus its query block's terms. -/
theorem acc_apply (i : Fin 8) (x : S256x256.Idx) :
    View.canon (acc q r k kr v d l δ w) ((arows i).emb x) = ∑ j, if j ≤ i then dqBlk q r k kr v d l δ i j x else 0 := by
  rw [acc, canon_push, sum_pairs (fun j => dqBlk q r k kr v d l δ i j x)]
  rw [View.canon_cons_unit_lit _ _ _ (by decide)]
  pointwise [k0_pay3]

/-- The accumulator at the end, the lanes of the head's part: the query gradient over all key rows. -/
theorem acc_left (x : Fin 2048) (c : Fin 128) :
    View.canon (acc q r k kr v d l δ w) (ix2 x (Fin.castAdd 128 c : Fin 256)) = ∑ y, dscore Q R K KR V D L Δ x y * K y c := by
  obtain ⟨i, a, rfl⟩ := exists_row x
  have e : (ix2 (row i a) (Fin.castAdd 128 c : Fin 256) : S2048x256.Idx) = (arows i).emb (ix2 a (Fin.castAdd 128 c : Fin 256)) := by
    funext p
    refine Fin.ext ((Rect.idx_unit_val _ _ _ _ p).symm ▸ ?_)
    fin_cases p <;> simp [row]
  rw [e, acc_apply h, sum_rows]
  refine Finset.sum_congr rfl fun j _ => ?_
  by_cases hij : j ≤ i
  · rw [if_pos hij, dqBlk_left h i j hij]
  · rw [if_neg hij]
    exact (Finset.sum_eq_zero fun b _ => by rw [dscore_of_not_le hij, zero_mul]).symm

/-- The same, the lanes of the rotary part. -/
theorem acc_right (x : Fin 2048) (c : Fin 128) :
    View.canon (acc q r k kr v d l δ w) (ix2 x (Fin.natAdd 128 c : Fin 256)) = ∑ y, dscore Q R K KR V D L Δ x y * KR y c := by
  obtain ⟨i, a, rfl⟩ := exists_row x
  have e : (ix2 (row i a) (Fin.natAdd 128 c : Fin 256) : S2048x256.Idx) = (arows i).emb (ix2 a (Fin.natAdd 128 c : Fin 256)) := by
    funext p
    refine Fin.ext ((Rect.idx_unit_val _ _ _ _ p).symm ▸ ?_)
    fin_cases p <;> simp [row]
  rw [e, acc_apply h, sum_rows]
  refine Finset.sum_congr rfl fun j _ => ?_
  by_cases hij : j ≤ i
  · rw [if_pos hij, dqBlk_right h i j hij]
  · rw [if_neg hij]
    exact (Finset.sum_eq_zero fun b _ => by rw [dscore_of_not_le hij, zero_mul]).symm

/-! ## The stores of the key and value gradients -/

omit h in
/-- A store into the key and value gradients is one of the two stores of a key block. -/
theorem mem_kvPieces (p : View.Piece (Elt Ideal) S1x2048x256 .f32) : p ∈ kvPieces q r k kr v d l δ ↔ ∃ j,
    p = ⟨vcols j, shapeCast S1x256x128 (dvAll q r k kr d l j) shapeCasts_S256x128_S1x256x128⟩
    ∨ p = ⟨kcols j, shapeCast S1x256x128 (extractStridedSlice S256x128 ![0, 0] (dkAll q r k kr v d l δ j) slices_S256x256_o0_0_S256x128) shapeCasts_S256x128_S1x256x128⟩ := by
  rw [kvPieces, mem_fold]
  simp only [List.not_mem_nil, or_false]
  exact exists_congr fun j => and_iff_right (mem_all8 j)

omit h in
/-- A store into the gradient of the shared key part is that of a key block. -/
theorem mem_krPieces (p : View.Piece (Elt Ideal) S1x1x2048x128 .f32) : p ∈ krPieces q r k kr v d l δ ↔ ∃ j,
    p = ⟨rcols j, shapeCast S1x1x256x128 (extractStridedSlice S256x128 ![0, 128] (dkAll q r k kr v d l δ j) slices_S256x256_o0_128_S256x128) shapeCasts_S256x128_S1x1x256x128⟩ := by
  rw [krPieces, mem_fold_one]
  simp only [List.not_mem_nil, or_false]
  exact exists_congr fun j => and_iff_right (mem_all8 j)

/-- The key half of the lanes: the key gradient over all query rows. -/
theorem kv_left (y : Fin 2048) (c : Fin 128) :
    View.canon (kvPieces q r k kr v d l δ) (ix3 0 y (Fin.castAdd 128 c : Fin 256)) = ∑ x, dscore Q R K KR V D L Δ x y * Q x c := by
  obtain ⟨j, b, rfl⟩ := exists_row y
  refine View.canon_eq_of_allAt _ _ _ ⟨_, (mem_kvPieces _).mpr ⟨j, Or.inr rfl⟩, (Rect.mem_set_unit (inb := kcols_inb j)).mpr fun a => ?_⟩ ?_
  · fin_cases a <;> simp [row] <;> omega
  · intro p hp x hx
    obtain ⟨j', rfl | rfl⟩ := (mem_kvPieces _).mp hp
    · have e2 := emb_val (s := S1x2048x256) (inb := vcols_inb j') hx 2
      exact absurd e2 (by simp; omega)
    · have e1 := emb_val (s := S1x2048x256) (inb := kcols_inb j') hx 1
      have e2 := emb_val (s := S1x2048x256) (inb := kcols_inb j') hx 2
      change S1x256x128.Idx at x
      obtain ⟨u, x1, x2, rfl⟩ : ∃ u x1 x2, x = ix3 u x1 x2 := ⟨_, _, _, eq_ix3 x⟩
      simp [row] at e1 e2
      obtain rfl : j' = j := Fin.ext (by omega)
      obtain rfl : x1 = b := Fin.ext (by omega)
      obtain rfl : x2 = c := Fin.ext (by omega)
      rw [← dkAll_left h]
      pointwise
      rfl

/-- The value half of the lanes: the value gradient over all query rows. -/
theorem kv_right (y : Fin 2048) (c : Fin 128) :
    View.canon (kvPieces q r k kr v d l δ) (ix3 0 y (Fin.natAdd 128 c : Fin 256)) = ∑ x, prb Q R K KR L x y * D x c := by
  obtain ⟨j, b, rfl⟩ := exists_row y
  refine View.canon_eq_of_allAt _ _ _ ⟨_, (mem_kvPieces _).mpr ⟨j, Or.inl rfl⟩, (Rect.mem_set_unit (inb := vcols_inb j)).mpr fun a => ?_⟩ ?_
  · fin_cases a <;> simp [row] <;> omega
  · intro p hp x hx
    obtain ⟨j', rfl | rfl⟩ := (mem_kvPieces _).mp hp
    · have e1 := emb_val (s := S1x2048x256) (inb := vcols_inb j') hx 1
      have e2 := emb_val (s := S1x2048x256) (inb := vcols_inb j') hx 2
      change S1x256x128.Idx at x
      obtain ⟨u, x1, x2, rfl⟩ : ∃ u x1 x2, x = ix3 u x1 x2 := ⟨_, _, _, eq_ix3 x⟩
      simp [row] at e1 e2
      obtain rfl : j' = j := Fin.ext (by omega)
      obtain rfl : x1 = b := Fin.ext (by omega)
      obtain rfl : x2 = c := Fin.ext (by omega)
      rw [← dvAll_apply h]
      pointwise
    · have e2 := emb_val (s := S1x2048x256) (inb := kcols_inb j') hx 2
      change S1x256x128.Idx at x
      exact absurd e2 (by have h3 : (x 2).val < 128 := (x 2).isLt; simp; omega)

/-- The gradient of the shared key part over all query rows. -/
theorem kr_all (y : Fin 2048) (c : Fin 128) :
    View.canon (krPieces q r k kr v d l δ) (ix4 0 0 y c) = ∑ x, dscore Q R K KR V D L Δ x y * R x c := by
  obtain ⟨j, b, rfl⟩ := exists_row y
  refine View.canon_eq_of_allAt _ _ _ ⟨_, (mem_krPieces _).mpr ⟨j, rfl⟩, (Rect.mem_set_unit (inb := rcols_inb j)).mpr fun a => ?_⟩ ?_
  · fin_cases a <;> simp [row]
  · intro p hp x hx
    obtain ⟨j', rfl⟩ := (mem_krPieces _).mp hp
    have e1 := emb_val (s := S1x1x2048x128) (inb := rcols_inb j') hx 2
    have e2 := emb_val (s := S1x1x2048x128) (inb := rcols_inb j') hx 3
    change S1x1x256x128.Idx at x
    obtain ⟨u, w, x1, x2, rfl⟩ : ∃ u w x1 x2, x = ix4 u w x1 x2 := ⟨_, _, _, _, eq_ix4 x⟩
    simp [row] at e1 e2
    obtain rfl : j' = j := Fin.ext (by omega)
    obtain rfl : x1 = b := Fin.ext (by omega)
    obtain rfl : x2 = c := Fin.ext (by omega)
    rw [← dkAll_right h]
    pointwise
    congr 1

end

/-! ## The body's loads are blocks of its inputs -/

section

variable (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole)
  (arg5 : Memref sig .tc .vmem S1x2048x128 .bf16) (harg5 : arg5.IsWhole) (arg6 : Memref sig .tc .vmem S1x2048x128 .bf16) (harg6 : arg6.IsWhole) (arg7 : Memref sig .tc .vmem S1x2048x128 .f32) (harg7 : arg7.IsWhole) (arg8 : Memref sig .tc .vmem S1x2048x128 .bf16) (harg8 : arg8.IsWhole)
  (arg9 : Memref sig .tc .vmem S1x1x2048x128 .f32) (harg9 : arg9.IsWhole) (arg15 : Memref sig .tc .vmem S2048x1 .f32)
  (x0 x1 x2 x3 x4 : Vec Ideal S1x2048x128 .bf16) (x5 : Vec Ideal S1x2048x128 .f32) (x6 : Vec Ideal S1x2048x128 .bf16) (x7 : Vec Ideal S1x1x2048x128 .f32)

/-- A block of rows of an input, as a matrix over all rows. -/
abbrev mat {e : EltTy} (x : Vec Ideal S1x2048x128 e) (R : Fin 2048) (c : Fin 128) : Elt Ideal e := x (ix3 0 R c)

theorem loads_apply {e : EltTy} (a : Memref sig .tc .vmem S1x2048x128 e) (h : a.IsWhole) (x : Vec Ideal S1x2048x128 e) (b : Fin 8) (y : Fin 256) (c : Fin 128) :
    loads a h x b (ix3 0 y c) = x (ix3 0 (row b y) c) := by
  rw [loads, View.readAt_eq_ld, Memref.IsWhole.read_unread]
  refine View.ld_unit_apply_of x _ _ _ _ _ fun p => ?_
  fin_cases p <;> simp [row]

theorem lloads_apply (b : Fin 8) (y : Fin 256) : lloads arg9 harg9 x7 b (ix4 0 0 y 0) = x7 (ix4 0 0 (row b y) 0) := by
  rw [lloads, View.readAt_eq_ld, Memref.IsWhole.read_unread]
  refine View.ld_unit_apply_of x7 _ _ _ _ _ fun p => ?_
  fin_cases p <;> simp [row]

/-- The row products the body stores and reads back: for every row the product of `do` and `o`. -/
theorem dloads_apply (b : Fin 8) (y : Fin 256) :
    dloads arg7 harg7 arg8 harg8 arg15 x5 x6 b (ix2 y 0) = ∑ c, (x6 (ix3 0 (row b y) c) : EReal) * x5 (ix3 0 (row b y) c) := by
  rw [dloads, View.readCov_eq_canon', delta, View.canon_cons_unit_lit _ _ _ (by decide)]
  rw [View.readAt_eq_ld, Memref.IsWhole.read_unread, View.readAt_eq_ld, Memref.IsWhole.read_unread]
  have e : (drows b).toLoadRect.idx (ix2 y 0) = (ix2 (row b y) 0 : S2048x1.Idx) := by
    funext p
    refine Fin.ext ((Rect.idx_unit_val _ _ _ _ p).trans ?_)
    fin_cases p <;> simp [row]
  dsimp only
  rw [e, View.ld_unit_lit _ _ (by decide), View.ld_unit_lit _ _ (by decide)]
  pointwise [k0_pay4]

/-- The loads are the blocks of the inputs' matrices. -/
theorem blocked :
    Blocked (loads arg2 harg2 x0) (loads arg3 harg3 x1) (loads arg4 harg4 x2) (loads arg5 harg5 x3) (loads arg6 harg6 x4) (loads arg8 harg8 x6)
      (lloads arg9 harg9 x7) (dloads arg7 harg7 arg8 harg8 arg15 x5 x6)
      (mat x0) (mat x1) (mat x2) (mat x3) (mat x4) (mat x6) (fun R => x7 (ix4 0 0 R 0)) (fun R => ∑ c, mat x6 R c * mat x5 R c) where
  q := loads_apply arg2 harg2 x0
  r := loads_apply arg3 harg3 x1
  k := loads_apply arg4 harg4 x2
  kr := loads_apply arg5 harg5 x3
  v := loads_apply arg6 harg6 x4
  d := loads_apply arg8 harg8 x6
  l := lloads_apply arg9 harg9 x7
  δ := dloads_apply arg7 harg7 arg8 harg8 arg15 x5 x6

end

end Cert.KernelIdeal.Blocks

end
-- ==== Proof.Arrays.lean ====
/-
  The four result arrays of the launch, element by element, from the arrays the launch is given.
-/
module

public import proofs.«01_k».proof.Proof.Whole
public import Idealize.ShloMosaic.Lib.Pipeline.ValueKit

@[expose] public section

set_option maxRecDepth 16384

noncomputable section

open Idealize.ShloMosaic Idealize.ShloMosaic.TcCoe Idealize.SL.Sem

namespace Cert.KernelIdeal.Blocks

open Cert.KernelIdeal Cert.KernelIdeal.Gen

/-- Which block every window holds at a grid point (sequence, head). -/
theorem idx : ∀ t : Fin cfg0.N,
    win0_0.index t = ![(grid0.coords t 0).val, 0, (grid0.coords t 1).val]
    ∧ win0_1.index t = ![(grid0.coords t 0).val, 0, (grid0.coords t 1).val]
    ∧ win0_2.index t = ![(grid0.coords t 0).val, 0, 2 * (grid0.coords t 1).val]
    ∧ win0_3.index t = ![(grid0.coords t 0).val, 0, 0]
    ∧ win0_4.index t = ![(grid0.coords t 0).val, 0, 2 * (grid0.coords t 1).val + 1]
    ∧ win0_5.index t = ![(grid0.coords t 0).val, 0, (grid0.coords t 1).val]
    ∧ win0_6.index t = ![(grid0.coords t 0).val, 0, (grid0.coords t 1).val]
    ∧ win0_7.index t = ![(grid0.coords t 0).val, (grid0.coords t 1).val, 0, 0]
    ∧ win0_8.index t = ![(grid0.coords t 0).val, 0, (grid0.coords t 1).val]
    ∧ win0_9.index t = ![(grid0.coords t 0).val, 0, (grid0.coords t 1).val]
    ∧ win0_10.index t = ![(grid0.coords t 0).val, 0, (grid0.coords t 1).val]
    ∧ win0_11.index t = ![(grid0.coords t 1).val, (grid0.coords t 0).val, 0, 0] :=
  (by decide +kernel : ∀ t : Fin grid0.N, _)

variable (m : (ℓ : Loc nD τ sig) → Buf (Elt Ideal) ℓ) (c : Dev nD)

/-- Lane `x` of head `h`, among four heads of 128 lanes. -/
def lane (h : Fin 4) (x : Fin 128) : Fin 512 := ⟨128 * h.val + x.val, by omega⟩

/-- Lane `x` of the key half of head `h`, among four heads of 256 lanes. -/
def klane (h : Fin 4) (x : Fin 128) : Fin 1024 := ⟨256 * h.val + x.val, by omega⟩

/-- Lane `x` of the value half of head `h`. -/
def vlane (h : Fin 4) (x : Fin 128) : Fin 1024 := ⟨256 * h.val + 128 + x.val, by omega⟩

/-- The matrices that the launch works on at sequence `b` and head `h`. -/
def qM (b h : Fin 4) (R : Fin 2048) (x : Fin 128) : EReal := V m c main_v31 (ix3 b R (lane h x))
def rM (b h : Fin 4) (R : Fin 2048) (x : Fin 128) : EReal := V m c main_v34 (ix3 b R (lane h x))
def kM (b h : Fin 4) (R : Fin 2048) (x : Fin 128) : EReal := V m c main_v37 (ix3 b R (klane h x))
def krM (b : Fin 4) (R : Fin 2048) (x : Fin 128) : EReal := V m c main_v39 (ix3 b R x)
def vM (b h : Fin 4) (R : Fin 2048) (x : Fin 128) : EReal := V m c main_v37 (ix3 b R (vlane h x))
def oM (b h : Fin 4) (R : Fin 2048) (x : Fin 128) : EReal := V m c main_v26 (ix3 b R (lane h x))
def dM (b h : Fin 4) (R : Fin 2048) (x : Fin 128) : EReal := V m c main_v41 (ix3 b R (lane h x))
def lM (b h : Fin 4) (R : Fin 2048) : EReal := V m c main_v29 (ix4 b h R 0)

/-- The probabilities at sequence `b` and head `h`. -/
def pM (b h : Fin 4) : Fin 2048 → Fin 2048 → EReal :=
  prb (qM m c b h) (rM m c b h) (kM m c b h) (krM m c b) (lM m c b h)

/-- The gradient of the scores at sequence `b` and head `h`. -/
def dsM (b h : Fin 4) : Fin 2048 → Fin 2048 → EReal :=
  dscore (qM m c b h) (rM m c b h) (kM m c b h) (krM m c b) (vM m c b h) (dM m c b h) (lM m c b h)
    (fun R => ∑ x, dM m c b h R x * oM m c b h R x)

/-- The grid point's sequence. -/
def sq (t : Fin cfg0.N) : Fin 4 := grid0.coords t 0

/-- The grid point's head. -/
def hd (t : Fin cfg0.N) : Fin 4 := grid0.coords t 1

/-! Where an element of a window's block lies in its array. -/

theorem rd0 (A : S4x2048x512.Idx → Elt Ideal .bf16) (t : Fin cfg0.N) (R : Fin 2048) (x : Fin 128) :
    ((cfg0.win 0).blk t).view.read (Elt Ideal) A (ix3 0 R x : S1x2048x128.Idx) = A (ix3 (sq t) R (lane (hd t) x)) := by
  show A ((win0_0.rect t).emb (ix3 0 R x : S1x2048x128.Idx)) = _
  congr 1
  funext a
  apply Fin.ext
  rw [Pipeline.Window.rect_emb_val (w := win0_0) (hk := rfl), (idx t).1]
  fin_cases a <;> simp [lane, klane, vlane, sq, hd] <;> omega
theorem rd1 (A : S4x2048x512.Idx → Elt Ideal .bf16) (t : Fin cfg0.N) (R : Fin 2048) (x : Fin 128) :
    ((cfg0.win 1).blk t).view.read (Elt Ideal) A (ix3 0 R x : S1x2048x128.Idx) = A (ix3 (sq t) R (lane (hd t) x)) := by
  show A ((win0_1.rect t).emb (ix3 0 R x : S1x2048x128.Idx)) = _
  congr 1
  funext a
  apply Fin.ext
  rw [Pipeline.Window.rect_emb_val (w := win0_1) (hk := rfl), (idx t).2.1]
  fin_cases a <;> simp [lane, klane, vlane, sq, hd] <;> omega
theorem rd2 (A : S4x2048x1024.Idx → Elt Ideal .bf16) (t : Fin cfg0.N) (R : Fin 2048) (x : Fin 128) :
    ((cfg0.win 2).blk t).view.read (Elt Ideal) A (ix3 0 R x : S1x2048x128.Idx) = A (ix3 (sq t) R (klane (hd t) x)) := by
  show A ((win0_2.rect t).emb (ix3 0 R x : S1x2048x128.Idx)) = _
  congr 1
  funext a
  apply Fin.ext
  rw [Pipeline.Window.rect_emb_val (w := win0_2) (hk := rfl), (idx t).2.2.1]
  fin_cases a <;> simp [lane, klane, vlane, sq, hd] <;> omega
theorem rd3 (A : S4x2048x128.Idx → Elt Ideal .bf16) (t : Fin cfg0.N) (R : Fin 2048) (x : Fin 128) :
    ((cfg0.win 3).blk t).view.read (Elt Ideal) A (ix3 0 R x : S1x2048x128.Idx) = A (ix3 (sq t) R x) := by
  show A ((win0_3.rect t).emb (ix3 0 R x : S1x2048x128.Idx)) = _
  congr 1
  funext a
  apply Fin.ext
  rw [Pipeline.Window.rect_emb_val (w := win0_3) (hk := rfl), (idx t).2.2.2.1]
  fin_cases a <;> simp [lane, klane, vlane, sq, hd] <;> omega
theorem rd4 (A : S4x2048x1024.Idx → Elt Ideal .bf16) (t : Fin cfg0.N) (R : Fin 2048) (x : Fin 128) :
    ((cfg0.win 4).blk t).view.read (Elt Ideal) A (ix3 0 R x : S1x2048x128.Idx) = A (ix3 (sq t) R (vlane (hd t) x)) := by
  show A ((win0_4.rect t).emb (ix3 0 R x : S1x2048x128.Idx)) = _
  congr 1
  funext a
  apply Fin.ext
  rw [Pipeline.Window.rect_emb_val (w := win0_4) (hk := rfl), (idx t).2.2.2.2.1]
  fin_cases a <;> simp [lane, klane, vlane, sq, hd] <;> omega
theorem rd5 (A : S4x2048x512.Idx → Elt Ideal .f32) (t : Fin cfg0.N) (R : Fin 2048) (x : Fin 128) :
    ((cfg0.win 5).blk t).view.read (Elt Ideal) A (ix3 0 R x : S1x2048x128.Idx) = A (ix3 (sq t) R (lane (hd t) x)) := by
  show A ((win0_5.rect t).emb (ix3 0 R x : S1x2048x128.Idx)) = _
  congr 1
  funext a
  apply Fin.ext
  rw [Pipeline.Window.rect_emb_val (w := win0_5) (hk := rfl), (idx t).2.2.2.2.2.1]
  fin_cases a <;> simp [lane, klane, vlane, sq, hd] <;> omega
theorem rd6 (A : S4x2048x512.Idx → Elt Ideal .bf16) (t : Fin cfg0.N) (R : Fin 2048) (x : Fin 128) :
    ((cfg0.win 6).blk t).view.read (Elt Ideal) A (ix3 0 R x : S1x2048x128.Idx) = A (ix3 (sq t) R (lane (hd t) x)) := by
  show A ((win0_6.rect t).emb (ix3 0 R x : S1x2048x128.Idx)) = _
  congr 1
  funext a
  apply Fin.ext
  rw [Pipeline.Window.rect_emb_val (w := win0_6) (hk := rfl), (idx t).2.2.2.2.2.2.1]
  fin_cases a <;> simp [lane, klane, vlane, sq, hd] <;> omega
theorem rd7 (A : S4x4x2048x128.Idx → Elt Ideal .f32) (t : Fin cfg0.N) (R : Fin 2048) :
    ((cfg0.win 7).blk t).view.read (Elt Ideal) A (ix4 0 0 R 0 : S1x1x2048x128.Idx) = A (ix4 (sq t) (hd t) R 0) := by
  show A ((win0_7.rect t).emb (ix4 0 0 R 0 : S1x1x2048x128.Idx)) = _
  congr 1
  funext a
  apply Fin.ext
  rw [Pipeline.Window.rect_emb_val (w := win0_7) (hk := rfl), (idx t).2.2.2.2.2.2.2.1]
  fin_cases a <;> simp [sq, hd]

/-! The blocks of the inputs are the matrices of their sequence and head. -/

theorem in0 (t : Fin cfg0.N) : mat (iblk m c 0 t) = qM m c (sq t) (hd t) := by
  funext R x; exact rd0 (V m c main_v31) t R x
theorem in1 (t : Fin cfg0.N) : mat (iblk m c 1 t) = rM m c (sq t) (hd t) := by
  funext R x; exact rd1 (V m c main_v34) t R x
theorem in2 (t : Fin cfg0.N) : mat (iblk m c 2 t) = kM m c (sq t) (hd t) := by
  funext R x; exact rd2 (V m c main_v37) t R x
theorem in3 (t : Fin cfg0.N) : mat (iblk m c 3 t) = krM m c (sq t) := by
  funext R x; exact rd3 (V m c main_v39) t R x
theorem in4 (t : Fin cfg0.N) : mat (iblk m c 4 t) = vM m c (sq t) (hd t) := by
  funext R x; exact rd4 (V m c main_v37) t R x
theorem in5 (t : Fin cfg0.N) : mat (iblk m c 5 t) = oM m c (sq t) (hd t) := by
  funext R x; exact rd5 (V m c main_v26) t R x
theorem in6 (t : Fin cfg0.N) : mat (iblk m c 6 t) = dM m c (sq t) (hd t) := by
  funext R x; exact rd6 (V m c main_v41) t R x
theorem in7 (t : Fin cfg0.N) : (fun R : Fin 2048 => (iblk m c 7 t : Vec Ideal S1x1x2048x128 .f32) (ix4 0 0 R 0)) = lM m c (sq t) (hd t) := by
  funext R; exact rd7 (V m c main_v29) t R

/-- The blocks that the body loads at a grid point are those of that point's matrices. -/
theorem blockedAt (t : Fin cfg0.N) :
    Blocked (loads (ms0_0 t) (hs0_0 t) (iblk m c 0 t)) (loads (ms0_1 t) (hs0_1 t) (iblk m c 1 t)) (loads (ms0_2 t) (hs0_2 t) (iblk m c 2 t))
      (loads (ms0_3 t) (hs0_3 t) (iblk m c 3 t)) (loads (ms0_4 t) (hs0_4 t) (iblk m c 4 t)) (loads (ms0_6 t) (hs0_6 t) (iblk m c 6 t))
      (lloads (ms0_7 t) (hs0_7 t) (iblk m c 7 t)) (dloads (ms0_5 t) (hs0_5 t) (ms0_6 t) (hs0_6 t) scM0_1 (iblk m c 5 t) (iblk m c 6 t))
      (qM m c (sq t) (hd t)) (rM m c (sq t) (hd t)) (kM m c (sq t) (hd t)) (krM m c (sq t)) (vM m c (sq t) (hd t)) (dM m c (sq t) (hd t)) (lM m c (sq t) (hd t))
      (fun R => ∑ x, dM m c (sq t) (hd t) R x * oM m c (sq t) (hd t) R x) := by
  have h := blocked (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) scM0_1 (iblk m c 0 t) (iblk m c 1 t) (iblk m c 2 t) (iblk m c 3 t) (iblk m c 4 t) (iblk m c 5 t) (iblk m c 6 t) (iblk m c 7 t)
  rw [in0, in1, in2, in3, in4, in5, in6, in7] at h
  exact h

end Cert.KernelIdeal.Blocks

end
-- ==== Proof.Finals.lean ====
/-
  The four result arrays after the run, element by element.
-/
module

public import proofs.«01_k».proof.Proof.Arrays

@[expose] public section

set_option maxRecDepth 16384

noncomputable section

open Idealize.ShloMosaic Idealize.ShloMosaic.TcCoe Idealize.SL.Sem

namespace Cert.KernelIdeal.Blocks

open Cert.KernelIdeal Cert.KernelIdeal.Gen

variable (m : (ℓ : Loc nD τ sig) → Buf (Elt Ideal) ℓ) (c : Dev nD)

/-- The first output at a block's element: the query gradient, the part of the head. -/
theorem out8_apply (t : Fin cfg0.N) (R : Fin 2048) (x : Fin 128) :
    (outsAt0 m c t).1 (ix3 0 R x) = ∑ y, dsM m c (sq t) (hd t) R y * kM m c (sq t) (hd t) y x := by
  simp only [outsAt0]
  rw [out0_A_8, qn_pieces, View.read_writes_junk_eq_canon, View.canon_cons_unit_lit _ _ _ (by decide), View.readCov_eq_canon']
  pointwise
  refine Eq.trans ?_ (acc_left (blockedAt m c t) scM0_0.view R x)
  congr 1

/-- The second output at a block's element: the query gradient, the rotary part. -/
theorem out9_apply (t : Fin cfg0.N) (R : Fin 2048) (x : Fin 128) :
    (outsAt0 m c t).2.1 (ix3 0 R x) = ∑ y, dsM m c (sq t) (hd t) R y * krM m c (sq t) y x := by
  simp only [outsAt0]
  rw [out0_A_9, qr_pieces, View.read_writes_junk_eq_canon, View.canon_cons_unit_lit _ _ _ (by decide), View.readCov_eq_canon']
  pointwise
  refine Eq.trans ?_ (acc_right (blockedAt m c t) scM0_0.view R x)
  congr 1

/-- The third output at a block's element, the key half of the lanes: the key gradient. -/
theorem out10_key (t : Fin cfg0.N) (y : Fin 2048) (x : Fin 128) :
    (outsAt0 m c t).2.2.1 (ix3 0 y (Fin.castAdd 128 x : Fin 256)) = ∑ R, dsM m c (sq t) (hd t) R y * qM m c (sq t) (hd t) R x := by
  simp only [outsAt0]
  rw [out0_A_10, kv_pieces, View.read_writes_junk_eq_canon]
  exact kv_left (blockedAt m c t) y x

/-- The third output at a block's element, the value half of the lanes: the value gradient. -/
theorem out10_value (t : Fin cfg0.N) (y : Fin 2048) (x : Fin 128) :
    (outsAt0 m c t).2.2.1 (ix3 0 y (Fin.natAdd 128 x : Fin 256)) = ∑ R, pM m c (sq t) (hd t) R y * dM m c (sq t) (hd t) R x := by
  simp only [outsAt0]
  rw [out0_A_10, kv_pieces, View.read_writes_junk_eq_canon]
  exact kv_right (blockedAt m c t) y x

/-- The fourth output at a block's element: the gradient of the shared key part, of this head. -/
theorem out11_apply (t : Fin cfg0.N) (y : Fin 2048) (x : Fin 128) :
    (outsAt0 m c t).2.2.2 (ix4 0 0 y x) = ∑ R, dsM m c (sq t) (hd t) R y * rM m c (sq t) (hd t) R x := by
  simp only [outsAt0]
  rw [out0_A_11, kr_pieces, View.read_writes_junk_eq_canon]
  exact kr_all (blockedAt m c t) y x

/-! ## The arrays after the run -/

/-- The head of a lane among 512. -/
def hd4 (x : Fin 512) : Fin 4 := ⟨x.val / 128, by omega⟩
/-- The place of a lane within its head. -/
def ln4 (x : Fin 512) : Fin 128 := ⟨x.val % 128, by omega⟩
/-- The head of a lane among 1024. -/
def hd8 (x : Fin 1024) : Fin 4 := ⟨x.val / 256, by omega⟩
/-- The place of a lane within its half of its head. -/
def ln8 (x : Fin 1024) : Fin 128 := ⟨x.val % 128, by omega⟩

/-- The first result. -/
def R8 : S4x2048x512.Idx → EReal := fun i =>
  ∑ y, dsM m c (i 0) (hd4 (i 2)) (i 1) y * kM m c (i 0) (hd4 (i 2)) y (ln4 (i 2))

/-- The second result. -/
def R9 : S4x2048x512.Idx → EReal := fun i =>
  ∑ y, dsM m c (i 0) (hd4 (i 2)) (i 1) y * krM m c (i 0) y (ln4 (i 2))

/-- The third result. -/
def R10 : S4x2048x1024.Idx → EReal := fun i =>
  if (i 2).val % 256 < 128 then ∑ R, dsM m c (i 0) (hd8 (i 2)) R (i 1) * qM m c (i 0) (hd8 (i 2)) R (ln8 (i 2))
  else ∑ R, pM m c (i 0) (hd8 (i 2)) R (i 1) * dM m c (i 0) (hd8 (i 2)) R (ln8 (i 2))

/-- The fourth result. -/
def R11 : S4x4x2048x128.Idx → EReal := fun i =>
  ∑ R, dsM m c (i 1) (i 0) R (i 2) * rM m c (i 1) (i 0) R (i 3)

theorem wr8 (t : Fin cfg0.N) (R : Fin 2048) (x : Fin 128) :
    ((cfg0.win 8).blk t).view.emb (ix3 0 R x : S1x2048x128.Idx) = (ix3 (sq t) R (lane (hd t) x) : S4x2048x512.Idx) := by
  show (win0_8.rect t).emb (ix3 0 R x : S1x2048x128.Idx) = _
  funext a
  apply Fin.ext
  rw [Pipeline.Window.rect_emb_val (w := win0_8) (hk := rfl), (idx t).2.2.2.2.2.2.2.2.1]
  fin_cases a <;> simp [lane, sq, hd] <;> omega

theorem wr9 (t : Fin cfg0.N) (R : Fin 2048) (x : Fin 128) :
    ((cfg0.win 9).blk t).view.emb (ix3 0 R x : S1x2048x128.Idx) = (ix3 (sq t) R (lane (hd t) x) : S4x2048x512.Idx) := by
  show (win0_9.rect t).emb (ix3 0 R x : S1x2048x128.Idx) = _
  funext a
  apply Fin.ext
  rw [Pipeline.Window.rect_emb_val (w := win0_9) (hk := rfl), (idx t).2.2.2.2.2.2.2.2.2.1]
  fin_cases a <;> simp [lane, sq, hd] <;> omega

theorem wr10 (t : Fin cfg0.N) (R : Fin 2048) (x : Fin 256) :
    ((cfg0.win 10).blk t).view.emb (ix3 0 R x : S1x2048x256.Idx) = (ix3 (sq t) R ⟨256 * (hd t).val + x.val, by omega⟩ : S4x2048x1024.Idx) := by
  show (win0_10.rect t).emb (ix3 0 R x : S1x2048x256.Idx) = _
  funext a
  apply Fin.ext
  rw [Pipeline.Window.rect_emb_val (w := win0_10) (hk := rfl), (idx t).2.2.2.2.2.2.2.2.2.2.1]
  fin_cases a <;> simp [sq, hd] <;> omega

theorem wr11 (t : Fin cfg0.N) (R : Fin 2048) (x : Fin 128) :
    ((cfg0.win 11).blk t).view.emb (ix4 0 0 R x : S1x1x2048x128.Idx) = (ix4 (hd t) (sq t) R x : S4x4x2048x128.Idx) := by
  show (win0_11.rect t).emb (ix4 0 0 R x : S1x1x2048x128.Idx) = _
  funext a
  apply Fin.ext
  rw [Pipeline.Window.rect_emb_val (w := win0_11) (hk := rfl), (idx t).2.2.2.2.2.2.2.2.2.2.2]
  fin_cases a <;> simp [sq, hd]

theorem hd4_lane (h : Fin 4) (x : Fin 128) : hd4 (lane h x) = h := Fin.ext (by simp only [hd4, lane]; omega)
theorem ln4_lane (h : Fin 4) (x : Fin 128) : ln4 (lane h x) = x := Fin.ext (by simp only [ln4, lane]; omega)

theorem final8 : (dats m 0 c).arrAt 8 cfg0.N = R8 m c := by
  refine (dats m 0 c).arrAt_eq_of_covers 8 _ (by decide +kernel) fun t _ y => ?_
  obtain ⟨u, R, x, rfl⟩ : ∃ (u : Fin 1) (R : Fin 2048) (x : Fin 128), y = (ix3 u R x : S1x2048x128.Idx) := ⟨_, _, _, eq_ix3 (n0 := 1) (n1 := 2048) (n2 := 128) y⟩
  obtain rfl : u = 0 := Subsingleton.elim _ _
  rw [after0_8]
  refine (out8_apply m c t R x).trans ?_
  rw [wr8]
  simp only [R8]
  rw [show ((ix3 (sq t) R (lane (hd t) x) : S4x2048x512.Idx) 2) = lane (hd t) x from rfl, hd4_lane, ln4_lane]
  rfl

theorem final9 : (dats m 0 c).arrAt 9 cfg0.N = R9 m c := by
  refine (dats m 0 c).arrAt_eq_of_covers 9 _ (by decide +kernel) fun t _ y => ?_
  obtain ⟨u, R, x, rfl⟩ : ∃ (u : Fin 1) (R : Fin 2048) (x : Fin 128), y = (ix3 u R x : S1x2048x128.Idx) := ⟨_, _, _, eq_ix3 (n0 := 1) (n1 := 2048) (n2 := 128) y⟩
  obtain rfl : u = 0 := Subsingleton.elim _ _
  rw [after0_9]
  refine (out9_apply m c t R x).trans ?_
  rw [wr9]
  simp only [R9]
  rw [show ((ix3 (sq t) R (lane (hd t) x) : S4x2048x512.Idx) 2) = lane (hd t) x from rfl, hd4_lane, ln4_lane]
  rfl

theorem final10 : (dats m 0 c).arrAt 10 cfg0.N = R10 m c := by
  refine (dats m 0 c).arrAt_eq_of_covers 10 _ (by decide +kernel) fun t _ y => ?_
  obtain ⟨u, R, x, rfl⟩ : ∃ (u : Fin 1) (R : Fin 2048) (x : Fin 256), y = (ix3 u R x : S1x2048x256.Idx) := ⟨_, _, _, eq_ix3 (n0 := 1) (n1 := 2048) (n2 := 256) y⟩
  obtain rfl : u = 0 := Subsingleton.elim _ _
  rw [after0_10, wr10]
  simp only [R10]
  rw [show ((ix3 (sq t) R ⟨256 * (hd t).val + x.val, by omega⟩ : S4x2048x1024.Idx) 2) = (⟨256 * (hd t).val + x.val, by omega⟩ : Fin 1024) from rfl]
  have hh : hd8 ⟨256 * (hd t).val + x.val, by omega⟩ = hd t := Fin.ext (by simp only [hd8]; omega)
  rw [hh]
  have key : (∃ z : Fin 128, x = Fin.castAdd 128 z) ∨ ∃ z : Fin 128, x = Fin.natAdd 128 z := by
    by_cases hx : x.val < 128
    · exact Or.inl ⟨⟨x.val, hx⟩, rfl⟩
    · exact Or.inr ⟨⟨x.val - 128, by omega⟩, Fin.ext (by simp; omega)⟩
  rcases key with ⟨z, rfl⟩ | ⟨z, rfl⟩
  · refine (out10_key m c t R z).trans ?_
    have hz : z.val < 128 := z.isLt
    rw [if_pos (by simp; omega), show ln8 ⟨256 * (hd t).val + (Fin.castAdd 128 z).val, by omega⟩ = z from Fin.ext (by simp [ln8]; omega)]
    rfl
  · refine (out10_value m c t R z).trans ?_
    rw [if_neg (by simp; omega), show ln8 ⟨256 * (hd t).val + (Fin.natAdd 128 z).val, by omega⟩ = z from Fin.ext (by simp [ln8]; omega)]
    rfl

theorem final11 : (dats m 0 c).arrAt 11 cfg0.N = R11 m c := by
  refine (dats m 0 c).arrAt_eq_of_covers 11 _ (by decide +kernel) fun t _ y => ?_
  obtain ⟨u, w, R, x, rfl⟩ : ∃ (u w : Fin 1) (R : Fin 2048) (x : Fin 128), y = (ix4 u w R x : S1x1x2048x128.Idx) :=
    ⟨_, _, _, _, eq_ix4 (n0 := 1) (n1 := 1) (n2 := 2048) (n3 := 128) y⟩
  obtain rfl : u = 0 := Subsingleton.elim _ _
  obtain rfl : w = 0 := Subsingleton.elim _ _
  rw [after0_11]
  refine (out11_apply m c t R x).trans ?_
  rw [wr11]
  rfl

end Cert.KernelIdeal.Blocks

end
-- ==== Proof.Softmax.lean ====
/-
  The causal softmax over real scores and the gradient of its scores: what does not depend on the number that is taken off
  the scores of a row before their exponentials, and how the extended reals of a program hold these numbers.
-/
module

public import proofs.«01_k».proof.Proof.Tiles
public import Mathlib.Analysis.SpecialFunctions.Log.Basic

@[expose] public section

noncomputable section

open Idealize.ShloMosaic

namespace Cert.Softmax

/-! ## Real numbers -/

/-- The weight of key `κ` for query `R`: the exponential of its score, and zero after the query. -/
def wt (s : Fin 2048 → Fin 2048 → ℝ) (R κ : Fin 2048) : ℝ := if κ ≤ R then Real.exp (s R κ) else 0

/-- The sum of a query's weights. -/
def tot (s : Fin 2048 → Fin 2048 → ℝ) (R : Fin 2048) : ℝ := ∑ κ, wt s R κ

/-- The probability of key `κ` for query `R`. -/
def prob (s : Fin 2048 → Fin 2048 → ℝ) (R κ : Fin 2048) : ℝ := wt s R κ / tot s R

/-- The gradient of the scores when `p` is the gradient of the probabilities. -/
def grad (s p : Fin 2048 → Fin 2048 → ℝ) (R κ : Fin 2048) : ℝ :=
  prob s R κ * (p R κ - ∑ y, prob s R y * p R y)

variable (s p : Fin 2048 → Fin 2048 → ℝ)

theorem wt_nonneg (R κ : Fin 2048) : 0 ≤ wt s R κ := by
  unfold wt; split_ifs
  · exact (Real.exp_pos _).le
  · exact le_rfl

theorem tot_pos (R : Fin 2048) : 0 < tot s R :=
  Finset.sum_pos' (fun κ _ => wt_nonneg s R κ) ⟨R, Finset.mem_univ _, by simpa [wt] using Real.exp_pos _⟩

/-- Taking `M R` off the scores of row `R` divides its weights by the exponential of `M R`. -/
theorem wt_shift (M : Fin 2048 → ℝ) (R κ : Fin 2048) :
    wt (fun R κ => s R κ - M R) R κ = wt s R κ * Real.exp (-M R) := by
  unfold wt; split_ifs
  · show Real.exp (s R κ - M R) = _
    rw [sub_eq_add_neg, Real.exp_add]
  · rw [zero_mul]

theorem tot_shift (M : Fin 2048 → ℝ) (R : Fin 2048) :
    tot (fun R κ => s R κ - M R) R = tot s R * Real.exp (-M R) := by
  unfold tot; rw [Finset.sum_mul]; exact Finset.sum_congr rfl fun κ _ => wt_shift s M R κ

/-- The probabilities do not change. -/
theorem prob_shift (M : Fin 2048 → ℝ) : prob (fun R κ => s R κ - M R) = prob s := by
  funext R κ
  unfold prob; rw [wt_shift, tot_shift, mul_div_mul_right _ _ (Real.exp_ne_zero _)]

/-- The weight after the row's log-sum is taken off its scores is the probability. -/
theorem exp_sub_log (M : Fin 2048 → ℝ) (R κ : Fin 2048) :
    (if κ ≤ R then Real.exp (s R κ - (M R + Real.log (tot (fun R κ => s R κ - M R) R))) else 0) = prob s R κ := by
  rw [← prob_shift s M]
  unfold prob
  by_cases h : κ ≤ R
  · rw [if_pos h, ← sub_sub, Real.exp_sub, Real.exp_log (tot_pos _ R)]
    simp only [wt, if_pos h]
  · rw [if_neg h]; simp only [wt, if_neg h, zero_div]

/-- The gradient in the form that differentiates a quotient of the weights by their sum. -/
theorem grad_quot (R κ : Fin 2048) :
    (p R κ / tot s R + -∑ y, p R y * (1 / (tot s R * tot s R)) * wt s R y) * wt s R κ = grad s p R κ := by
  have h : tot s R ≠ 0 := (tot_pos s R).ne'
  have e : ∑ y, p R y * (1 / (tot s R * tot s R)) * wt s R y = (∑ y, prob s R y * p R y) / tot s R := by
    rw [Finset.sum_div]; refine Finset.sum_congr rfl fun y _ => ?_
    unfold prob; field_simp
  rw [e]; unfold grad prob; field_simp; ring

/-- Taking a number off each row of the scores does not change the gradient. -/
theorem grad_shift (M : Fin 2048 → ℝ) : grad (fun R κ => s R κ - M R) p = grad s p := by
  funext R κ
  unfold grad; rw [prob_shift]

/-- After the query the gradient is zero. -/
theorem grad_after {R κ : Fin 2048} (h : ¬κ ≤ R) : grad s p R κ = 0 := by
  unfold grad prob wt; rw [if_neg h, zero_div, zero_mul]

/-! ## Extended reals -/

/-- A sum of real numbers, read as an extended real. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The score that a program holds: no number, `⊥`, after the query. -/
def masked (R κ : Fin 2048) : EReal := if κ ≤ R then (s R κ : EReal) else ⊥

/-- The maximum of a row is a real number. -/
theorem max_real (R : Fin 2048) : ∃ M : ℝ, (Finset.univ : Finset (Fin 2048)).fold max ⊥ (masked s R) = (M : EReal) := by
  have hb : (Finset.univ : Finset (Fin 2048)).fold max ⊥ (masked s R) ≠ ⊥ := by
    have : (s R R : EReal) ≤ (Finset.univ : Finset (Fin 2048)).fold max ⊥ (masked s R) :=
      Finset.le_fold_max _ |>.mpr (Or.inr ⟨R, Finset.mem_univ _, by simp [masked]⟩)
    intro h; rw [h] at this; exact absurd (le_bot_iff.mp this) (EReal.coe_ne_bot _)
  have ht : (Finset.univ : Finset (Fin 2048)).fold max ⊥ (masked s R) ≠ ⊤ := by
    have : (Finset.univ : Finset (Fin 2048)).fold max ⊥ (masked s R) < ⊤ :=
      (Finset.fold_max_lt _).mpr ⟨bot_lt_top, fun κ _ => by
        unfold masked; split_ifs
        · exact EReal.coe_lt_top _
        · exact bot_lt_top⟩
    exact this.ne
  exact ⟨_, (EReal.coe_toReal ht hb).symm⟩

theorem exp_masked (M : Fin 2048 → ℝ) (R κ : Fin 2048) :
    Ideal.exp (masked s R κ - (M R : EReal)) = ((wt (fun R κ => s R κ - M R) R κ : ℝ) : EReal) := by
  unfold masked wt; split_ifs
  · rw [← EReal.coe_sub, Ideal.exp_coe]
  · rw [EReal.bot_sub, Ideal.exp_bot, EReal.coe_zero]

theorem div_real (x : ℝ) {y : ℝ} (h : y ≠ 0) : Ideal.div (x : EReal) (y : EReal) = ((x / y : ℝ) : EReal) := by
  rw [Ideal.div_coe h, ← EReal.coe_mul, mul_one_div]

theorem log_real {y : ℝ} (h : 0 < y) : Ideal.log (y : EReal) = ((Real.log y : ℝ) : EReal) := by
  rw [Ideal.log_coe, if_neg (not_le.mpr h)]

/-- The number by which the scores are scaled. -/
theorem scale_real : ∃ σ : ℝ, Cert.KernelIdeal.Blocks.scale = (σ : EReal) := by
  unfold Cert.KernelIdeal.Blocks.scale
  simp [Ideal.ofBits, Ideal.ieee]
  exact ⟨_, rfl⟩

/-! ## Attention over four sequences and four heads -/

/-- Six arrays of real numbers: the queries, their rotary lanes, the keys, the rotary lanes of the keys, the values and the
    gradient of the output. -/
structure Args where
  q : Fin 4 → Fin 2048 → Fin 4 → Fin 128 → ℝ
  r : Fin 4 → Fin 2048 → Fin 4 → Fin 64 → ℝ
  k : Fin 4 → Fin 2048 → Fin 4 → Fin 128 → ℝ
  kr : Fin 4 → Fin 2048 → Fin 64 → ℝ
  v : Fin 4 → Fin 2048 → Fin 4 → Fin 128 → ℝ
  d : Fin 4 → Fin 2048 → Fin 4 → Fin 128 → ℝ
  σ : ℝ

variable (A : Args)

/-- The scores of sequence `b` and head `h`. -/
def Args.sc (b h : Fin 4) (R κ : Fin 2048) : ℝ :=
  ((∑ x, A.q b R h x * A.k b κ h x) + ∑ x, A.r b R h x * A.kr b κ x) * A.σ

/-- The gradient of the probabilities. -/
def Args.dp (b h : Fin 4) (R κ : Fin 2048) : ℝ := ∑ x, A.d b R h x * A.v b κ h x

/-- The probabilities. -/
def Args.pr (b h : Fin 4) (R κ : Fin 2048) : ℝ := prob (A.sc b h) R κ

/-- The gradient of the unscaled scores. -/
def Args.gr (b h : Fin 4) (R κ : Fin 2048) : ℝ := grad (A.sc b h) (A.dp b h) R κ * A.σ

/-- The extended reals of an argument are these real numbers. -/
structure Args.Holds (x0 : Shape.Idx ⟨4, ![4, 2048, 4, 128]⟩ → EReal) (x1 : Shape.Idx ⟨4, ![4, 2048, 4, 64]⟩ → EReal)
    (x2 : Shape.Idx ⟨4, ![4, 2048, 4, 128]⟩ → EReal) (x3 : Shape.Idx ⟨3, ![4, 2048, 64]⟩ → EReal)
    (x4 x5 : Shape.Idx ⟨4, ![4, 2048, 4, 128]⟩ → EReal) : Prop where
  hq : ∀ b R h x, x0 (ix4 b R h x) = (A.q b R h x : EReal)
  hr : ∀ b R h x, x1 (ix4 b R h x) = (A.r b R h x : EReal)
  hk : ∀ b R h x, x2 (ix4 b R h x) = (A.k b R h x : EReal)
  hkr : ∀ b R x, x3 (ix3 b R x) = (A.kr b R x : EReal)
  hv : ∀ b R h x, x4 (ix4 b R h x) = (A.v b R h x : EReal)
  hd : ∀ b R h x, x5 (ix4 b R h x) = (A.d b R h x : EReal)
  hσ : Cert.KernelIdeal.Blocks.scale = (A.σ : EReal)

/-- A sum of products of real numbers, read as extended reals. -/
theorem coe_dot {ι : Type} [Fintype ι] (f g : ι → ℝ) : (∑ i, (f i : EReal) * (g i : EReal)) = ((∑ i, f i * g i : ℝ) : EReal) := by
  rw [coe_sum]; exact Finset.sum_congr rfl fun i _ => (EReal.coe_mul _ _).symm

end Cert.Softmax

end
-- ==== Proof.Host.lean ====
/-
  The arrays that the launch is given, element by element, from the arguments: the layouts, and the output and the row
  log-sums that the forward pass saved.
-/
module

public import proofs.«01_k».proof.Proof.Finals
public import proofs.«01_k».proof.Proof.Softmax
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.KernelIdeal.Blocks

open Cert.KernelIdeal Cert.KernelIdeal.Gen

variable (m : (ℓ : Loc nD τ sig) → Buf (Elt Ideal) ℓ) (c : Dev nD)

/-- The query matrix is the first argument's head. -/
theorem qM_eq (b h : Fin 4) (R : Fin 2048) (x : Fin 128) :
    qM m c b h R x = m (c.tc.loc main_arg0) (ix4 b R h x : S4x2048x4x128.Idx) := by
  unfold qM V
  simp only [hostOps0, hostOps0_1, hostOps0_2, hostOps0_3, hostOps0_4, hostOps0_5, hostOps0_6, List.flatten_cons,
    List.flatten_nil, List.cons_append, List.nil_append]
  after_reads_simp
  have hx : (lane h x).val % 128 = x.val := by show (128 * h.val + x.val) % 128 = _; omega
  have hh : (lane h x).val / 128 = h.val := by show (128 * h.val + x.val) / 128 = _; omega
  pointwise [hx, hh]

/-- The matrix of the output's gradient is the last argument's head. -/
theorem dM_eq (b h : Fin 4) (R : Fin 2048) (x : Fin 128) :
    dM m c b h R x = m (c.tc.loc main_arg5) (ix4 b R h x : S4x2048x4x128.Idx) := by
  unfold dM V
  simp only [hostOps0, hostOps0_1, hostOps0_2, hostOps0_3, hostOps0_4, hostOps0_5, hostOps0_6, List.flatten_cons,
    List.flatten_nil, List.cons_append, List.nil_append]
  after_reads_simp
  have hx : (lane h x).val % 128 = x.val := by show (128 * h.val + x.val) % 128 = _; omega
  have hh : (lane h x).val / 128 = h.val := by show (128 * h.val + x.val) / 128 = _; omega
  pointwise [hx, hh]

/-- The key matrix is the third argument's head. -/
theorem kM_eq (b h : Fin 4) (R : Fin 2048) (x : Fin 128) :
    kM m c b h R x = m (c.tc.loc main_arg2) (ix4 b R h x : S4x2048x4x128.Idx) := by
  unfold kM V
  simp only [hostOps0, hostOps0_1, hostOps0_2, hostOps0_3, hostOps0_4, hostOps0_5, hostOps0_6, List.flatten_cons,
    List.flatten_nil, List.cons_append, List.nil_append]
  after_reads_simp
  have hx : (klane h x).val % 256 = x.val := by show (256 * h.val + x.val) % 256 = _; omega
  have hh : (klane h x).val / 256 = h.val := by show (256 * h.val + x.val) / 256 = _; omega
  pointwise [hx, hh, x.isLt]
  after_reads_simp

/-- The value matrix is the fifth argument's head. -/
theorem vM_eq (b h : Fin 4) (R : Fin 2048) (x : Fin 128) :
    vM m c b h R x = m (c.tc.loc main_arg4) (ix4 b R h x : S4x2048x4x128.Idx) := by
  unfold vM V
  simp only [hostOps0, hostOps0_1, hostOps0_2, hostOps0_3, hostOps0_4, hostOps0_5, hostOps0_6, List.flatten_cons,
    List.flatten_nil, List.cons_append, List.nil_append]
  after_reads_simp
  have hx : (vlane h x).val % 256 = 128 + x.val := by show (256 * h.val + 128 + x.val) % 256 = _; omega
  have hh : (vlane h x).val / 256 = h.val := by show (256 * h.val + 128 + x.val) / 256 = _; omega
  pointwise [hx, hh, Nat.not_lt.mpr (Nat.le_add_right 128 x.val), Nat.add_sub_cancel_left]
  after_reads_simp

/-- Rotary lanes of four heads, padded with zeros to 128 lanes. -/
theorem pad4_apply (A : FVec Ideal S4x2048x4x64 .f32) (b h : Fin 4) (R : Fin 2048) (x : Fin 128) :
    pad S4x2048x4x128 ![0, 0, 0, 0] ![0, 0, 0, 64] ![0, 0, 0, 0] A
        (sitofp .f32 (constantI S_ 32 0#32) : FVec Ideal S_ .f32)
        pads_S4x2048x4x64_S4x2048x4x128_000_000_000_0640 h_S_ (ix4 b R h x)
      = if hx : x.val < 64 then A (ix4 b R h ⟨x.val, hx⟩) else 0 := by
  pointwise
  rw [show (FloatOps.sitofp .f32 0#32 : Ideal .f32) = (0 : EReal) by
    show (((0#32 : BitVec 32).toInt : ℝ) : EReal) = 0
    simp]

/-- Rotary lanes of one head, padded with zeros to 128 lanes. -/
theorem pad3_apply (A : FVec Ideal S4x2048x64 .f32) (b : Fin 4) (R : Fin 2048) (x : Fin 128) :
    pad S4x2048x128 ![0, 0, 0] ![0, 0, 64] ![0, 0, 0] A
        (sitofp .f32 (constantI S_ 32 0#32) : FVec Ideal S_ .f32)
        pads_S4x2048x64_S4x2048x128_000_000_0640 h_S_ (ix3 b R x)
      = if hx : x.val < 64 then A (ix3 b R ⟨x.val, hx⟩) else 0 := by
  pointwise
  rw [show (FloatOps.sitofp .f32 0#32 : Ideal .f32) = (0 : EReal) by
    show (((0#32 : BitVec 32).toInt : ℝ) : EReal) = 0
    simp]

/-- The queries' rotary matrix is the second argument's head, padded. -/
theorem rM_eq (b h : Fin 4) (R : Fin 2048) (x : Fin 128) :
    rM m c b h R x
      = if hx : x.val < 64 then m (c.tc.loc main_arg1) (ix4 b R h ⟨x.val, hx⟩ : S4x2048x4x64.Idx) else (0 : EReal) := by
  unfold rM V
  simp only [hostOps0, hostOps0_1, hostOps0_2, hostOps0_3, hostOps0_4, hostOps0_5, hostOps0_6, List.flatten_cons,
    List.flatten_nil, List.cons_append, List.nil_append]
  after_reads_simp
  have hx : (lane h x).val % 128 = x.val := by show (128 * h.val + x.val) % 128 = _; omega
  have hh : (lane h x).val / 128 = h.val := by show (128 * h.val + x.val) / 128 = _; omega
  simp only [StableHlo.TRef.ofBuf_toBuf]
  pointwise [hx, hh]
  exact pad4_apply (m (c.tc.loc main_arg1)) b h R x

/-- The keys' rotary matrix is the fourth argument, padded. -/
theorem krM_eq (b : Fin 4) (R : Fin 2048) (x : Fin 128) :
    krM m c b R x
      = if hx : x.val < 64 then m (c.tc.loc main_arg3) (ix3 b R ⟨x.val, hx⟩ : S4x2048x64.Idx) else (0 : EReal) := by
  unfold krM V
  simp only [hostOps0, hostOps0_1, hostOps0_2, hostOps0_3, hostOps0_4, hostOps0_5, hostOps0_6, List.flatten_cons,
    List.flatten_nil, List.cons_append, List.nil_append]
  after_reads_simp
  simp only [StableHlo.TRef.ofBuf_toBuf]
  pointwise
  exact pad3_apply (m (c.tc.loc main_arg3)) b R x

/-- The scores of the host's lines, masked. -/
def sArr (A0 : FVec Ideal S4x2048x4x128 .f32) (A1 : FVec Ideal S4x2048x4x64 .f32) (A2 : FVec Ideal S4x2048x4x128 .f32)
    (A3 : FVec Ideal S4x2048x64 .f32) : FVec Ideal S4x4x2048x2048 .f32 :=
  select (broadcastInDim S4x4x2048x2048 ![2, 3] bcast_S2048x2048_S4x4x2048x2048_2_3
      (cmpi CmpIPredicate.sge
        (broadcastInDim S2048x2048 ![0, 1] bcast_S2048x1_S2048x2048_0_1
          (broadcastInDim S2048x1 ![0] bcast_S2048_S2048x1_0 (iotaInDim S2048 32 0)))
        (broadcastInDim S2048x2048 ![0, 1] bcast_S1x2048_S2048x2048_0_1
          (broadcastInDim S1x2048 ![1] bcast_S2048_S1x2048_1 (iotaInDim S2048 32 0)))))
    (mulf (addf
        (Host.dotGeneral dot_S4x2048x4x128_S4x2048x4x128_S4x4x2048x2048_3_3_1_1_02_02 none A0 A2)
        (Host.dotGeneral dot_S4x2048x4x64_S4x2048x4x64_S4x4x2048x2048_3_3_1_1_02_02 none A1
          (broadcastInDim S4x2048x4x64 ![0, 1, 2, 3] bcast_S4x2048x1x64_S4x2048x4x64_0_1_2_3
            (broadcastInDim S4x2048x1x64 ![0, 1, 3] bcast_S4x2048x64_S4x2048x1x64_0_1_3 A3))))
      (broadcastInDim S4x4x2048x2048 ![] bcast_S_S4x4x2048x2048 (constant S_ FTy.f32 0x3D93CD3A#32)))
    (broadcastInDim S4x4x2048x2048 ![] bcast_S_S4x4x2048x2048 (constant S_ FTy.f32 0xFF800000#32))

/-- The maximum of each row of the scores. -/
def topArr (s : FVec Ideal S4x4x2048x2048 .f32) : FVec Ideal S4x4x2048 .f32 :=
  Host.reduce FloatOps.maximumf s (constant S_ FTy.f32 0xFF800000#32) reducesTo_S4x4x2048x2048_S4x4x2048_d3 h_S_

/-- The exponentials of the scores less their row's maximum. -/
def eArr (s : FVec Ideal S4x4x2048x2048 .f32) : FVec Ideal S4x4x2048x2048 .f32 :=
  Host.exp (subf s (broadcastInDim S4x4x2048x2048 ![0, 1, 2, 3] bcast_S4x4x2048x1_S4x4x2048x2048_0_1_2_3
    (broadcastInDim S4x4x2048x1 ![0, 1, 2] bcast_S4x4x2048_S4x4x2048x1_0_1_2 (topArr s))))

/-- Their row sums. -/
def totArr (s : FVec Ideal S4x4x2048x2048 .f32) : FVec Ideal S4x4x2048x1 .f32 :=
  broadcastInDim S4x4x2048x1 ![0, 1, 2] bcast_S4x4x2048_S4x4x2048x1_0_1_2
    (Host.reduceAdd (eArr s) (constant S_ FTy.f32 0#32) reducesTo_S4x4x2048x2048_S4x4x2048_d3 h_S_)

/-- The row log-sums, the same number in all 128 lanes. -/
def lArr (s : FVec Ideal S4x4x2048x2048 .f32) : FVec Ideal S4x4x2048x128 .f32 :=
  broadcastInDim S4x4x2048x128 ![0, 1, 2, 3] bcast_S4x4x2048x1_S4x4x2048x128_0_1_2_3
    (addf (broadcastInDim S4x4x2048x1 ![0, 1, 2] bcast_S4x4x2048_S4x4x2048x1_0_1_2 (topArr s)) (Host.log (totArr s)))

/-- The output: the probabilities times the values. -/
def oArr (s : FVec Ideal S4x4x2048x2048 .f32) (A4 : FVec Ideal S4x2048x4x128 .f32) : FVec Ideal S4x2048x512 .f32 :=
  shapeCast S4x2048x512 (transpose S4x2048x4x128 [0, 3, 1, 2]
    (Host.dotGeneral dot_S4x2048x4x128_S4x4x2048x2048_S4x4x128x2048_1_3_3_2_02_01 none A4
      (Host.divf (eArr s) (broadcastInDim S4x4x2048x2048 ![0, 1, 2, 3] bcast_S4x4x2048x1_S4x4x2048x2048_0_1_2_3 (totArr s))))
    transposes_S4x4x128x2048_S4x2048x4x128_0_3_1_2) shapeCasts_S4x2048x4x128_S4x2048x512

/-- The launch's log-sums are those of the host's scores. -/
theorem v29_eq : V m c main_v29 = lArr (sArr (m (c.tc.loc main_arg0)) (m (c.tc.loc main_arg1)) (m (c.tc.loc main_arg2)) (m (c.tc.loc main_arg3))) := by
  unfold V
  simp only [hostOps0, hostOps0_1, hostOps0_2, hostOps0_3, hostOps0_4, hostOps0_5, hostOps0_6, List.flatten_cons,
    List.flatten_nil, List.cons_append, List.nil_append]
  after_reads_simp
  rfl

/-- The launch's output is that of the host's scores. -/
theorem v26_eq : V m c main_v26 = oArr (sArr (m (c.tc.loc main_arg0)) (m (c.tc.loc main_arg1)) (m (c.tc.loc main_arg2)) (m (c.tc.loc main_arg3))) (m (c.tc.loc main_arg4)) := by
  unfold V
  simp only [hostOps0, hostOps0_1, hostOps0_2, hostOps0_3, hostOps0_4, hostOps0_5, hostOps0_6, List.flatten_cons,
    List.flatten_nil, List.cons_append, List.nil_append]
  after_reads_simp
  rfl

/-- One score: the scaled sum of the two products, and no number after the query. -/
theorem sArr_apply (A0 : FVec Ideal S4x2048x4x128 .f32) (A1 : FVec Ideal S4x2048x4x64 .f32) (A2 : FVec Ideal S4x2048x4x128 .f32)
    (A3 : FVec Ideal S4x2048x64 .f32) (b h : Fin 4) (R κ : Fin 2048) : sArr A0 A1 A2 A3 (ix4 b h R κ) =
      if κ ≤ R then ((∑ x, A0 (ix4 b R h x) * A2 (ix4 b κ h x)) + ∑ x, A1 (ix4 b R h x) * A3 (ix3 b κ x)) * scale else ⊥ := by
  pointwise [sArr]
  rw [WordCmp.cmpi_sge_ofNat (by omega) (by omega),
    show Ideal.ofBits FTy.f32 4286578688#32 = ⊥ by simp [Ideal.ofBits, Ideal.ieee]]
  by_cases hκ : κ ≤ R
  · rw [if_pos hκ, decide_eq_true (show κ.val ≤ R.val from hκ)]
    exact WordCmp.select_one _ _
  · rw [if_neg hκ, decide_eq_false (show ¬κ.val ≤ R.val from hκ)]
    exact WordCmp.select_zero _ _

/-- One row maximum. -/
theorem topArr_apply (s : FVec Ideal S4x4x2048x2048 .f32) (b h : Fin 4) (R : Fin 2048) : topArr s (ix3 b h R) =
    (Finset.univ : Finset (Fin 2048)).fold max ⊥ (fun κ => s (ix4 b h R κ)) := by
  pointwise [topArr]
  rw [show Ideal.ofBits FTy.f32 4286578688#32 = ⊥ by simp [Ideal.ofBits, Ideal.ieee]]

/-- One exponential. -/
theorem eArr_apply (s : FVec Ideal S4x4x2048x2048 .f32) (b h : Fin 4) (R κ : Fin 2048) : eArr s (ix4 b h R κ) =
    Ideal.exp (s (ix4 b h R κ) - topArr s (ix3 b h R)) := by
  pointwise [eArr]

/-- One row sum. -/
theorem totArr_apply (s : FVec Ideal S4x4x2048x2048 .f32) (b h : Fin 4) (R : Fin 2048) : totArr s (ix4 b h R 0) =
    ∑ κ, eArr s (ix4 b h R κ) := by
  pointwise [totArr]

/-- A column of row numbers plus a column's logarithms. -/
theorem lCol_apply (x : FVec Ideal S4x4x2048 .f32) (y : FVec Ideal S4x4x2048x1 .f32) (b h : Fin 4) (R : Fin 2048) :
    addf (broadcastInDim S4x4x2048x1 ![0, 1, 2] bcast_S4x4x2048_S4x4x2048x1_0_1_2 x) (Host.log y) (ix4 b h R 0)
      = x (ix3 b h R) + Ideal.log (y (ix4 b h R 0)) := by
  pointwise

/-- A column repeated over the lanes. -/
theorem lanes_apply (y : FVec Ideal S4x4x2048x1 .f32) (b h : Fin 4) (R : Fin 2048) :
    broadcastInDim S4x4x2048x128 ![0, 1, 2, 3] bcast_S4x4x2048x1_S4x4x2048x128_0_1_2_3 y (ix4 b h R 0)
      = y (ix4 b h R 0) := by
  pointwise

/-- One log-sum. -/
theorem lArr_apply (s : FVec Ideal S4x4x2048x2048 .f32) (b h : Fin 4) (R : Fin 2048) :
    lArr s (ix4 b h R 0) = topArr s (ix3 b h R) + Ideal.log (totArr s (ix4 b h R 0)) :=
  (lanes_apply _ b h R).trans (lCol_apply _ _ b h R)

/-- One element of the output. -/
theorem oArr_apply (s : FVec Ideal S4x4x2048x2048 .f32) (A4 : FVec Ideal S4x2048x4x128 .f32) (b h : Fin 4) (R : Fin 2048) (x : Fin 128) : oArr s A4 (ix3 b R (lane h x)) =
    ∑ κ, A4 (ix4 b κ h x) * Ideal.div (eArr s (ix4 b h R κ)) (totArr s (ix4 b h R 0)) := by
  have hx : (lane h x).val % 128 = x.val := by show (128 * h.val + x.val) % 128 = _; omega
  have hh : (lane h x).val / 128 = h.val := by show (128 * h.val + x.val) / 128 = _; omega
  pointwise [oArr, hx, hh]

end Cert.KernelIdeal.Blocks

end
-- ==== Proof.Given.lean ====
/-
  The kernel's probabilities and score gradients when its arguments are real numbers.
-/
module

public import proofs.«01_k».proof.Proof.Host

@[expose] public section

set_option maxRecDepth 16384

noncomputable section

open Idealize.ShloMosaic Idealize.ShloMosaic.TcCoe Idealize.SL.Sem

namespace Cert.KernelIdeal.Blocks

open Cert.KernelIdeal Cert.KernelIdeal.Gen Cert.Softmax

variable {A : Args} {A0 : FVec Ideal S4x2048x4x128 .f32} {A1 : FVec Ideal S4x2048x4x64 .f32} {A2 : FVec Ideal S4x2048x4x128 .f32}
  {A3 : FVec Ideal S4x2048x64 .f32} {A4 A5 : FVec Ideal S4x2048x4x128 .f32}

/-- The host's scores are the real scores, masked. -/
theorem sArr_masked (hA : A.Holds A0 A1 A2 A3 A4 A5) (b h : Fin 4) (R κ : Fin 2048) :
    sArr A0 A1 A2 A3 (ix4 b h R κ) = masked (A.sc b h) R κ := by
  rw [sArr_apply]
  unfold masked
  by_cases hκ : κ ≤ R
  · rw [if_pos hκ, if_pos hκ, hA.hσ]
    simp only [hA.hq, hA.hk, hA.hr, hA.hkr]
    rw [coe_dot, coe_dot, ← EReal.coe_add, ← EReal.coe_mul]
    rfl
  · rw [if_neg hκ, if_neg hκ]

/-- The maximum of each row of the host's scores is a real number. -/
theorem top_real (hA : A.Holds A0 A1 A2 A3 A4 A5) (b h : Fin 4) :
    ∃ M : Fin 2048 → ℝ, ∀ R, topArr (sArr A0 A1 A2 A3) (ix3 b h R) = (M R : EReal) := by
  choose M hM using max_real (A.sc b h)
  refine ⟨M, fun R => ?_⟩
  rw [topArr_apply, ← hM]
  congr 1
  funext κ
  exact sArr_masked hA b h R κ

variable {b h : Fin 4} {M : Fin 2048 → ℝ}

/-- The host's weights are the real weights of the scores less the row maxima. -/
theorem eArr_real (hA : A.Holds A0 A1 A2 A3 A4 A5) (hM : ∀ R, topArr (sArr A0 A1 A2 A3) (ix3 b h R) = (M R : EReal)) (R κ : Fin 2048) :
    eArr (sArr A0 A1 A2 A3) (ix4 b h R κ) = ((wt (fun R κ => A.sc b h R κ - M R) R κ : ℝ) : EReal) := by
  rw [eArr_apply, hM, sArr_masked hA, exp_masked]

/-- Their row sums. -/
theorem totArr_real (hA : A.Holds A0 A1 A2 A3 A4 A5) (hM : ∀ R, topArr (sArr A0 A1 A2 A3) (ix3 b h R) = (M R : EReal)) (R : Fin 2048) :
    totArr (sArr A0 A1 A2 A3) (ix4 b h R 0) = ((tot (fun R κ => A.sc b h R κ - M R) R : ℝ) : EReal) := by
  rw [totArr_apply]
  simp only [eArr_real hA hM]
  rw [← coe_sum]
  rfl

/-- The row log-sums that the forward pass saved. -/
theorem lArr_real (hA : A.Holds A0 A1 A2 A3 A4 A5) (hM : ∀ R, topArr (sArr A0 A1 A2 A3) (ix3 b h R) = (M R : EReal)) (R : Fin 2048) :
    lArr (sArr A0 A1 A2 A3) (ix4 b h R 0) = ((M R + Real.log (tot (fun R κ => A.sc b h R κ - M R) R) : ℝ) : EReal) := by
  rw [lArr_apply, hM, totArr_real hA hM, log_real (tot_pos _ R), ← EReal.coe_add]

/-- The output that the forward pass saved. -/
theorem oArr_real (hA : A.Holds A0 A1 A2 A3 A4 A5) (R : Fin 2048) (x : Fin 128) :
    oArr (sArr A0 A1 A2 A3) A4 (ix3 b R (lane h x)) = ((∑ κ, A.v b κ h x * A.pr b h R κ : ℝ) : EReal) := by
  obtain ⟨M, hM⟩ := top_real hA b h
  rw [oArr_apply, totArr_real hA hM, ← coe_dot]
  refine Finset.sum_congr rfl fun κ _ => ?_
  rw [eArr_real hA hM, div_real _ (tot_pos _ R).ne', hA.hv]
  show _ = _ * ((Cert.Softmax.prob (A.sc b h) R κ : ℝ) : EReal)
  rw [← prob_shift (A.sc b h) M]
  rfl

/-- A product of rotary lanes padded with zeros is the product of the lanes. -/
theorem pad_dot (f g : Fin 64 → ℝ) :
    (∑ x : Fin 128, (if hx : x.val < 64 then (f ⟨x.val, hx⟩ : EReal) else 0) * (if hx : x.val < 64 then (g ⟨x.val, hx⟩ : EReal) else 0))
      = ((∑ x, f x * g x : ℝ) : EReal) := by
  rw [← coe_dot, Fin.sum_univ_add (a := 64) (b := 64)
    (fun x : Fin 128 => (if hx : x.val < 64 then (f ⟨x.val, hx⟩ : EReal) else 0) * (if hx : x.val < 64 then (g ⟨x.val, hx⟩ : EReal) else 0))]
  rw [Finset.sum_eq_zero (s := Finset.univ) (f := fun x : Fin 64 =>
    (if hx : (Fin.natAdd 64 x : Fin 128).val < 64 then (f ⟨(Fin.natAdd 64 x : Fin 128).val, hx⟩ : EReal) else 0)
      * (if hx : (Fin.natAdd 64 x : Fin 128).val < 64 then (g ⟨(Fin.natAdd 64 x : Fin 128).val, hx⟩ : EReal) else 0)), add_zero]
  · refine Finset.sum_congr rfl fun x _ => ?_
    rw [dif_pos (show (Fin.castAdd 64 x : Fin 128).val < 64 from x.isLt), dif_pos (show (Fin.castAdd 64 x : Fin 128).val < 64 from x.isLt)]
    rfl
  · intro x _
    rw [dif_neg (show ¬(Fin.natAdd 64 x : Fin 128).val < 64 from by show ¬64 + x.val < 64; omega), zero_mul]

/-! ## The kernel's matrices -/

/-- The arguments of the kernel are the real arrays `A`. -/
abbrev Given (A : Args) (m : (ℓ : Loc nD τ sig) → Buf (Elt Ideal) ℓ) (c : Dev nD) : Prop :=
  A.Holds (m (c.tc.loc main_arg0)) (m (c.tc.loc main_arg1)) (m (c.tc.loc main_arg2)) (m (c.tc.loc main_arg3))
    (m (c.tc.loc main_arg4)) (m (c.tc.loc main_arg5))

variable {m : (ℓ : Loc nD τ sig) → Buf (Elt Ideal) ℓ} {c : Dev nD}

theorem qM_real (hA : Given A m c) (R : Fin 2048) (x : Fin 128) : qM m c b h R x = (A.q b R h x : EReal) :=
  (qM_eq m c b h R x).trans (hA.hq b R h x)

theorem kM_real (hA : Given A m c) (R : Fin 2048) (x : Fin 128) : kM m c b h R x = (A.k b R h x : EReal) :=
  (kM_eq m c b h R x).trans (hA.hk b R h x)

theorem vM_real (hA : Given A m c) (R : Fin 2048) (x : Fin 128) : vM m c b h R x = (A.v b R h x : EReal) :=
  (vM_eq m c b h R x).trans (hA.hv b R h x)

theorem dM_real (hA : Given A m c) (R : Fin 2048) (x : Fin 128) : dM m c b h R x = (A.d b R h x : EReal) :=
  (dM_eq m c b h R x).trans (hA.hd b R h x)

theorem rM_real (hA : Given A m c) (R : Fin 2048) (x : Fin 128) :
    rM m c b h R x = if hx : x.val < 64 then (A.r b R h ⟨x.val, hx⟩ : EReal) else 0 := by
  rw [rM_eq]
  by_cases hx : x.val < 64
  · rw [dif_pos hx, dif_pos hx]; exact hA.hr b R h ⟨x.val, hx⟩
  · rw [dif_neg hx, dif_neg hx]

theorem krM_real (hA : Given A m c) (R : Fin 2048) (x : Fin 128) :
    krM m c b R x = if hx : x.val < 64 then (A.kr b R ⟨x.val, hx⟩ : EReal) else 0 := by
  rw [krM_eq]
  by_cases hx : x.val < 64
  · rw [dif_pos hx, dif_pos hx]; exact hA.hkr b R ⟨x.val, hx⟩
  · rw [dif_neg hx, dif_neg hx]

/-- The kernel's scores are the real scores. -/
theorem score_real (hA : Given A m c) (R κ : Fin 2048) :
    score (qM m c b h) (rM m c b h) (kM m c b h) (krM m c b) R κ = (A.sc b h R κ : EReal) := by
  unfold score
  simp only [qM_real hA, kM_real hA, rM_real hA, krM_real hA]
  rw [coe_dot, pad_dot (fun x => A.r b R h x) (fun x => A.kr b κ x), hA.hσ, ← EReal.coe_add, ← EReal.coe_mul]
  rfl

/-- The kernel's probabilities are the probabilities. -/
theorem pM_real (hA : Given A m c) (R κ : Fin 2048) : pM m c b h R κ = (A.pr b h R κ : EReal) := by
  obtain ⟨M, hM⟩ := top_real hA b h
  have hl : lM m c b h R = ((M R + Real.log (tot (fun R κ => A.sc b h R κ - M R) R) : ℝ) : EReal) := by
    unfold lM
    rw [v29_eq]
    exact lArr_real hA hM R
  unfold pM prb
  rw [score_real hA, hl]
  show _ = ((Cert.Softmax.prob (A.sc b h) R κ : ℝ) : EReal)
  rw [← exp_sub_log (A.sc b h) M R κ]
  by_cases hκ : κ ≤ R
  · rw [if_pos hκ, if_pos hκ, ← EReal.coe_sub, Ideal.exp_coe]
  · rw [if_neg hκ, if_neg hκ, EReal.coe_zero]

/-- The row products of the output and its gradient: the probabilities' gradient, averaged by the probabilities. -/
theorem delta_real (R : Fin 2048) :
    ∑ x, A.d b R h x * ∑ κ, A.v b κ h x * A.pr b h R κ = ∑ y, Cert.Softmax.prob (A.sc b h) R y * A.dp b h R y := by
  unfold Args.dp Args.pr
  simp only [Finset.mul_sum]
  rw [Finset.sum_comm]
  exact Finset.sum_congr rfl fun y _ => Finset.sum_congr rfl fun x _ => by ring

/-- The kernel's score gradients are the gradients. -/
theorem dsM_real (hA : Given A m c) (R κ : Fin 2048) : dsM m c b h R κ = (A.gr b h R κ : EReal) := by
  have ho : ∀ x, oM m c b h R x = ((∑ κ, A.v b κ h x * A.pr b h R κ : ℝ) : EReal) := fun x => by
    unfold oM
    rw [v26_eq]
    exact oArr_real hA R x
  have hp : prb (qM m c b h) (rM m c b h) (kM m c b h) (krM m c b) (lM m c b h) R κ = (A.pr b h R κ : EReal) := pM_real hA R κ
  unfold dsM dscore
  rw [hp]
  simp only [ho, dM_real hA, vM_real hA]
  rw [coe_dot, coe_dot, delta_real, hA.hσ, ← EReal.coe_sub, ← EReal.coe_mul, ← EReal.coe_mul]
  rfl

end Cert.KernelIdeal.Blocks

end
-- ==== Proof.Reference.lean ====
/-
  The reference's results, element by element, from real arguments.
-/
module

public import proofs.«01_k».proof.Proof.Softmax
public import proofs.«01_k».proof.Proof.Finals
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Read Cert.Softmax
open Cert.KernelIdeal.Blocks (scale hd4 ln4 hd8 ln8)

variable (x0 : FVec Ideal S4x2048x4x128 .f32) (x1 : FVec Ideal S4x2048x4x64 .f32) (x2 : FVec Ideal S4x2048x4x128 .f32)
  (x3 : FVec Ideal S4x2048x64 .f32) (x4 x5 : FVec Ideal S4x2048x4x128 .f32)

/-- The integer zero, read as a number. -/
theorem sitofp_zero : (FloatOps.sitofp .f32 0#32 : Ideal .f32) = (0 : EReal) := by
  show (((0#32 : BitVec 32).toInt : ℝ) : EReal) = 0
  simp

/-- The keys' rotary lanes, the same for every head. -/
theorem v1_at (b h : Fin 4) (R : Fin 2048) (x : Fin 64) : val_main_v1 (F := Ideal) x3 (ix4 b R h x) = x3 (ix3 b R x) := by
  pointwise [val_main_v1, val_main_v0]

/-- The causal mask chooses the first array up to the query. -/
theorem mask_at (b h : Fin 4) (R κ : Fin 2048) (x y : EReal) :
    Scalar.select (val_main_v14_1 (F := Ideal) (ix4 b h R κ)) x y = if κ ≤ R then x else y := by
  pointwise [val_main_v14_1, val_main_v13, val_main_v12, val_main_v11, val_main_v10, val_main_v9, val_main_v8, val_main_v7]
  rw [WordCmp.cmpi_sge_ofNat (by omega) (by omega)]
  by_cases hκ : κ ≤ R
  · rw [if_pos hκ, decide_eq_true (show κ.val ≤ R.val from hκ)]
    exact WordCmp.select_one _ _
  · rw [if_neg hκ, decide_eq_false (show ¬κ.val ≤ R.val from hκ)]
    exact WordCmp.select_zero _ _

/-- One scaled score. -/
theorem v6_at (b h : Fin 4) (R κ : Fin 2048) : val_main_v6 (F := Ideal) x0 x1 x2 x3 (ix4 b h R κ)
    = ((∑ x, x0 (ix4 b R h x) * x2 (ix4 b κ h x)) + ∑ x, x1 (ix4 b R h x) * x3 (ix3 b κ x)) * scale := by
  unfold val_main_v6 val_main_v4 val_main_v2 val_main_v3 val_main_v5 val_main_cst
  pointwise [v1_at]
  rfl

/-- One masked score. -/
theorem v14_at (b h : Fin 4) (R κ : Fin 2048) : val_main_v14_0 (F := Ideal) x0 x1 x2 x3 (ix4 b h R κ)
    = if κ ≤ R then val_main_v6 (F := Ideal) x0 x1 x2 x3 (ix4 b h R κ) else ⊥ := by
  have e : val_main_call0_v2 (F := Ideal) (ix4 b h R κ) = (⊥ : EReal) := by
    pointwise [val_main_call0_v2, val_main_call0_v0, val_main_cst_0]
    show Ideal.ofBits .f32 0xFF800000#32 = ⊥
    simp [Ideal.ofBits, Ideal.ieee]
  rw [← e]
  exact mask_at b h R κ _ _

/-- One row maximum. -/
theorem v15_at (b h : Fin 4) (R : Fin 2048) : val_main_v15 (F := Ideal) x0 x1 x2 x3 (ix3 b h R)
    = (Finset.univ : Finset (Fin 2048)).fold max ⊥ (fun κ => val_main_v14_0 (F := Ideal) x0 x1 x2 x3 (ix4 b h R κ)) := by
  unfold val_main_v15 val_main_cst_1
  generalize val_main_v14_0 (F := Ideal) x0 x1 x2 x3 = s
  pointwise
  rw [show Ideal.ofBits FTy.f32 4286578688#32 = ⊥ by simp [Ideal.ofBits, Ideal.ieee]]

/-- The word of minus infinity is the least number. -/
theorem bot_max (s : EReal) : Ideal.ofBits FTy.f32 4286578688#32 ⊔ s = s := by
  rw [show Ideal.ofBits FTy.f32 4286578688#32 = ⊥ by simp [Ideal.ofBits, Ideal.ieee]]
  exact max_eq_right bot_le

/-- The row of minus infinities. -/
theorem v21_at (i : S4x4x2048.Idx) : val_main_v21 (F := Ideal) i = Ideal.ofBits FTy.f32 4286578688#32 := by
  pointwise [val_main_v21, val_main_cst_3]

/-- A maximum of two arrays at an index. -/
theorem max_at (a s : FVec Ideal S4x4x2048 .f32) (i : S4x4x2048.Idx) : maximumf a s i = max (a i : EReal) (s i) := rfl

/-- The larger of a row maximum and minus infinity. -/
theorem v22_at (i : S4x4x2048.Idx) : val_main_v22 (F := Ideal) x0 x1 x2 x3 i
    = val_main_v15 (F := Ideal) x0 x1 x2 x3 i := by
  unfold val_main_v22
  rw [max_at, v21_at, bot_max]

/-- One exponential. -/
theorem v35_at (b h : Fin 4) (R κ : Fin 2048) : val_main_v35 (F := Ideal) x0 x1 x2 x3 (ix4 b h R κ)
    = Ideal.exp (val_main_v14_0 (F := Ideal) x0 x1 x2 x3 (ix4 b h R κ) - val_main_v22 (F := Ideal) x0 x1 x2 x3 (ix3 b h R)) := by
  unfold val_main_v35 val_main_v34 val_main_v33 val_main_v32
  generalize val_main_v14_0 (F := Ideal) x0 x1 x2 x3 = s
  generalize val_main_v22 (F := Ideal) x0 x1 x2 x3 = t
  pointwise

/-- One row sum. -/
theorem v37_at (b h : Fin 4) (R : Fin 2048) : val_main_v37 (F := Ideal) x0 x1 x2 x3 (ix4 b h R 0)
    = ∑ κ, val_main_v35 (F := Ideal) x0 x1 x2 x3 (ix4 b h R κ) := by
  unfold val_main_v37 val_main_v36 val_main_cst_9
  generalize val_main_v35 (F := Ideal) x0 x1 x2 x3 = s
  pointwise

/-- One probability. -/
theorem v39_at (b h : Fin 4) (R κ : Fin 2048) : val_main_v39 (F := Ideal) x0 x1 x2 x3 (ix4 b h R κ)
    = Ideal.div (val_main_v35 (F := Ideal) x0 x1 x2 x3 (ix4 b h R κ)) (val_main_v37 (F := Ideal) x0 x1 x2 x3 (ix4 b h R 0)) := by
  unfold val_main_v39 val_main_v38
  generalize val_main_v35 (F := Ideal) x0 x1 x2 x3 = s
  generalize val_main_v37 (F := Ideal) x0 x1 x2 x3 = t
  pointwise

/-- One gradient of a probability. -/
theorem v46_at (b h : Fin 4) (R κ : Fin 2048) : val_main_v46 (F := Ideal) x4 x5 (ix4 b h R κ)
    = ∑ x, x5 (ix4 b R h x) * x4 (ix4 b κ h x) := by
  unfold val_main_v46 val_main_v45
  pointwise

/-- The gradient of a row sum, before its sign. -/
theorem v52_at (b h : Fin 4) (R : Fin 2048) : val_main_v52 (F := Ideal) x0 x1 x2 x3 x4 x5 (ix3 b h R)
    = ∑ κ, val_main_v46 (F := Ideal) x4 x5 (ix4 b h R κ)
        * Ideal.div 1 (val_main_v37 (F := Ideal) x0 x1 x2 x3 (ix4 b h R 0) * val_main_v37 (F := Ideal) x0 x1 x2 x3 (ix4 b h R 0))
        * val_main_v35 (F := Ideal) x0 x1 x2 x3 (ix4 b h R κ) := by
  unfold val_main_v52 val_main_v51 val_main_v50 val_main_v49 val_main_v42 val_main_v41 val_main_v40 val_main_cst_10 val_main_cst_11
  generalize val_main_v35 (F := Ideal) x0 x1 x2 x3 = s
  generalize val_main_v37 (F := Ideal) x0 x1 x2 x3 = t
  generalize val_main_v46 (F := Ideal) x4 x5 = u
  pointwise

/-- The gradient of a row sum. -/
theorem v57_at (b h : Fin 4) (R : Fin 2048) : val_main_v57 (F := Ideal) x0 x1 x2 x3 x4 x5 (ix3 b h R)
    = -val_main_v52 (F := Ideal) x0 x1 x2 x3 x4 x5 (ix3 b h R) := by
  unfold val_main_v57 val_main_v54 val_main_v53 val_main_cst_12
  generalize val_main_v52 (F := Ideal) x0 x1 x2 x3 x4 x5 = s
  pointwise
  simp

/-- The gradient of a masked score. -/
theorem v60_at (b h : Fin 4) (R κ : Fin 2048) : val_main_v60 (F := Ideal) x0 x1 x2 x3 x4 x5 (ix4 b h R κ)
    = (Ideal.div (val_main_v46 (F := Ideal) x4 x5 (ix4 b h R κ)) (val_main_v37 (F := Ideal) x0 x1 x2 x3 (ix4 b h R 0))
        + val_main_v57 (F := Ideal) x0 x1 x2 x3 x4 x5 (ix3 b h R)) * val_main_v35 (F := Ideal) x0 x1 x2 x3 (ix4 b h R κ) := by
  unfold val_main_v60 val_main_v59 val_main_v58 val_main_v56 val_main_v55
  generalize val_main_v35 (F := Ideal) x0 x1 x2 x3 = s
  generalize val_main_v37 (F := Ideal) x0 x1 x2 x3 = t
  generalize val_main_v46 (F := Ideal) x4 x5 = u
  generalize val_main_v57 (F := Ideal) x0 x1 x2 x3 x4 x5 = w
  pointwise

/-- The gradient of an unscaled score. -/
theorem v63_at (b h : Fin 4) (R κ : Fin 2048) : val_main_v63 (F := Ideal) x0 x1 x2 x3 x4 x5 (ix4 b h R κ)
    = (if κ ≤ R then val_main_v60 (F := Ideal) x0 x1 x2 x3 x4 x5 (ix4 b h R κ) else 0) * scale := by
  rw [← mask_at b h R κ]
  unfold val_main_v63 val_main_v62 val_main_v61 val_main_cst_13 val_main_call1_v0 val_main_call1_cst
  generalize val_main_v60 (F := Ideal) x0 x1 x2 x3 x4 x5 = s
  pointwise
  rfl

/-- The first result. -/
theorem v72_at (b : Fin 4) (R : Fin 2048) (y : Fin 512) : val_main_v72 (F := Ideal) x0 x1 x2 x3 x4 x5 (ix3 b R y)
    = ∑ κ, val_main_v63 (F := Ideal) x0 x1 x2 x3 x4 x5 (ix4 b (hd4 y) R κ) * x2 (ix4 b κ (hd4 y) (ln4 y)) := by
  unfold val_main_v72 val_main_v71 val_main_v70
  generalize val_main_v63 (F := Ideal) x0 x1 x2 x3 x4 x5 = s
  pointwise
  rfl

/-- The gradient of the queries' rotary lanes. -/
theorem v67_at (b h : Fin 4) (R : Fin 2048) (x : Fin 64) : val_main_v67 (F := Ideal) x0 x1 x2 x3 x4 x5 (ix4 b R h x)
    = ∑ κ, val_main_v63 (F := Ideal) x0 x1 x2 x3 x4 x5 (ix4 b h R κ) * val_main_v1 (F := Ideal) x3 (ix4 b κ h x) := by
  unfold val_main_v67 val_main_v66
  generalize val_main_v63 (F := Ideal) x0 x1 x2 x3 x4 x5 = s
  generalize val_main_v1 (F := Ideal) x3 = v
  pointwise

/-- The second result is padded with zeros. -/
theorem v74_pad (b : Fin 4) (R : Fin 2048) (y : Fin 512) : val_main_v74 (F := Ideal) x0 x1 x2 x3 x4 x5 (ix3 b R y)
    = if hx : (ln4 y).val < 64 then val_main_v67 (F := Ideal) x0 x1 x2 x3 x4 x5 (ix4 b R (hd4 y) ⟨(ln4 y).val, hx⟩) else (0 : EReal) := by
  unfold val_main_v74 val_main_v73 val_main_call2_v0 val_main_c
  generalize val_main_v67 (F := Ideal) x0 x1 x2 x3 x4 x5 = s
  pointwise
  rw [sitofp_zero]
  by_cases hx : y.val % 128 < 64
  · rw [dif_pos ⟨by omega, hx⟩, dif_pos (show (ln4 y).val < 64 from hx)]
    rfl
  · rw [dif_neg (fun h => hx h.2), dif_neg (show ¬(ln4 y).val < 64 from hx)]

/-- The second result. -/
theorem v74_at (b : Fin 4) (R : Fin 2048) (y : Fin 512) : val_main_v74 (F := Ideal) x0 x1 x2 x3 x4 x5 (ix3 b R y)
    = if hx : (ln4 y).val < 64 then
        ∑ κ, val_main_v63 (F := Ideal) x0 x1 x2 x3 x4 x5 (ix4 b (hd4 y) R κ) * x3 (ix3 b κ ⟨(ln4 y).val, hx⟩) else (0 : EReal) := by
  rw [v74_pad]
  by_cases hx : (ln4 y).val < 64
  · rw [dif_pos hx, dif_pos hx, v67_at]
    exact Finset.sum_congr rfl fun κ _ => by rw [v1_at]
  · rw [dif_neg hx, dif_neg hx]

/-- The third result. -/
theorem v76_at (b : Fin 4) (R : Fin 2048) (y : Fin 1024) : val_main_v76 (F := Ideal) x0 x1 x2 x3 x4 x5 (ix3 b R y)
    = if y.val % 256 < 128 then
        ∑ κ, val_main_v63 (F := Ideal) x0 x1 x2 x3 x4 x5 (ix4 b (hd8 y) κ R) * x0 (ix4 b κ (hd8 y) (ln8 y))
      else ∑ κ, x5 (ix4 b κ (hd8 y) (ln8 y)) * val_main_v39 (F := Ideal) x0 x1 x2 x3 (ix4 b (hd8 y) κ R) := by
  unfold val_main_v76 val_main_v75 val_main_v69 val_main_v68 val_main_v48 val_main_v47 val_main_v45
  generalize val_main_v63 (F := Ideal) x0 x1 x2 x3 x4 x5 = s
  generalize val_main_v39 (F := Ideal) x0 x1 x2 x3 = t
  pointwise
  by_cases hx : y.val % 256 < 128
  · rw [dif_pos hx, if_pos hx]
    have e : (⟨y.val % 256, hx⟩ : Fin 128) = ln8 y := Fin.ext (show y.val % 256 = y.val % 128 by omega)
    exact Finset.sum_congr rfl fun κ _ => congrArg (fun z => s (ix4 b (hd8 y) κ R) * x0 (ix4 b κ (hd8 y) z)) e
  · rw [dif_neg hx, if_neg hx]
    have e : (⟨y.val % 256 - 128, by omega⟩ : Fin 128) = ln8 y := Fin.ext (show y.val % 256 - 128 = y.val % 128 by omega)
    exact Finset.sum_congr rfl fun κ _ => congrArg (fun z => x5 (ix4 b κ (hd8 y) z) * t (ix4 b (hd8 y) κ R)) e

/-- The fourth result. -/
theorem v78_at (b h : Fin 4) (R : Fin 2048) (x : Fin 128) : val_main_v78 (F := Ideal) x0 x1 x2 x3 x4 x5 (ix4 h b R x)
    = if hx : x.val < 64 then
        ∑ κ, val_main_v63 (F := Ideal) x0 x1 x2 x3 x4 x5 (ix4 b h κ R) * x1 (ix4 b κ h ⟨x.val, hx⟩) else 0 := by
  unfold val_main_v78 val_main_v77 val_main_v65 val_main_v64 val_main_call3_v0 val_main_c_14
  generalize val_main_v63 (F := Ideal) x0 x1 x2 x3 x4 x5 = s
  pointwise
  rw [sitofp_zero]

end Cert.ReferenceIdeal.Attn

end
-- ==== Proof.Target.lean ====
/-
  The reference's probabilities and score gradients when its arguments are real numbers.
-/
module

public import proofs.«01_k».proof.Proof.Reference

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Read Cert.Softmax

variable {A : Args} {x0 : FVec Ideal S4x2048x4x128 .f32} {x1 : FVec Ideal S4x2048x4x64 .f32} {x2 : FVec Ideal S4x2048x4x128 .f32}
  {x3 : FVec Ideal S4x2048x64 .f32} {x4 x5 : FVec Ideal S4x2048x4x128 .f32}

/-- The reference's scores are the real scores, masked. -/
theorem v14_real (hA : A.Holds x0 x1 x2 x3 x4 x5) (b h : Fin 4) (R κ : Fin 2048) :
    val_main_v14_0 (F := Ideal) x0 x1 x2 x3 (ix4 b h R κ) = masked (A.sc b h) R κ := by
  rw [v14_at, v6_at]
  unfold masked
  by_cases hκ : κ ≤ R
  · rw [if_pos hκ, if_pos hκ, hA.hσ]
    simp only [hA.hq, hA.hk, hA.hr, hA.hkr]
    rw [coe_dot, coe_dot, ← EReal.coe_add, ← EReal.coe_mul]
    rfl
  · rw [if_neg hκ, if_neg hκ]

/-- What the reference takes off each row of its scores is a real number. -/
theorem v22_real (hA : A.Holds x0 x1 x2 x3 x4 x5) (b h : Fin 4) :
    ∃ M : Fin 2048 → ℝ, ∀ R, val_main_v22 (F := Ideal) x0 x1 x2 x3 (ix3 b h R) = (M R : EReal) := by
  choose M hM using max_real (A.sc b h)
  refine ⟨M, fun R => ?_⟩
  rw [v22_at, v15_at, ← hM]
  congr 1
  funext κ
  exact v14_real hA b h R κ

variable {b h : Fin 4} {M : Fin 2048 → ℝ}

/-- The reference's weights. -/
theorem v35_real (hA : A.Holds x0 x1 x2 x3 x4 x5) (hM : ∀ R, val_main_v22 (F := Ideal) x0 x1 x2 x3 (ix3 b h R) = (M R : EReal)) (R κ : Fin 2048) :
    val_main_v35 (F := Ideal) x0 x1 x2 x3 (ix4 b h R κ) = ((wt (fun R κ => A.sc b h R κ - M R) R κ : ℝ) : EReal) := by
  rw [v35_at, hM, v14_real hA, exp_masked]

/-- Their row sums. -/
theorem v37_real (hA : A.Holds x0 x1 x2 x3 x4 x5) (hM : ∀ R, val_main_v22 (F := Ideal) x0 x1 x2 x3 (ix3 b h R) = (M R : EReal)) (R : Fin 2048) :
    val_main_v37 (F := Ideal) x0 x1 x2 x3 (ix4 b h R 0) = ((tot (fun R κ => A.sc b h R κ - M R) R : ℝ) : EReal) := by
  rw [v37_at]
  simp only [v35_real hA hM]
  rw [← coe_sum]
  rfl

/-- The reference's probabilities. -/
theorem v39_real (hA : A.Holds x0 x1 x2 x3 x4 x5) (R κ : Fin 2048) :
    val_main_v39 (F := Ideal) x0 x1 x2 x3 (ix4 b h R κ) = (A.pr b h R κ : EReal) := by
  obtain ⟨M, hM⟩ := v22_real hA b h
  rw [v39_at, v37_real hA hM, v35_real hA hM, div_real _ (tot_pos _ R).ne']
  show _ = ((Cert.Softmax.prob (A.sc b h) R κ : ℝ) : EReal)
  rw [← prob_shift (A.sc b h) M]
  rfl

/-- The gradient of the reference's probabilities. -/
theorem v46_real (hA : A.Holds x0 x1 x2 x3 x4 x5) (R κ : Fin 2048) :
    val_main_v46 (F := Ideal) x4 x5 (ix4 b h R κ) = (A.dp b h R κ : EReal) := by
  rw [v46_at]
  simp only [hA.hd, hA.hv]
  rw [coe_dot]
  rfl

/-- The gradient of the reference's exponentials. -/
theorem v60_real (hA : A.Holds x0 x1 x2 x3 x4 x5) (R κ : Fin 2048) :
    val_main_v60 (F := Ideal) x0 x1 x2 x3 x4 x5 (ix4 b h R κ) = ((grad (A.sc b h) (A.dp b h) R κ : ℝ) : EReal) := by
  obtain ⟨M, hM⟩ := v22_real hA b h
  have ht := (tot_pos (fun R κ => A.sc b h R κ - M R) R).ne'
  have e52 : val_main_v52 (F := Ideal) x0 x1 x2 x3 x4 x5 (ix3 b h R)
      = ((∑ y, A.dp b h R y * (1 / (tot (fun R κ => A.sc b h R κ - M R) R * tot (fun R κ => A.sc b h R κ - M R) R))
          * wt (fun R κ => A.sc b h R κ - M R) R y : ℝ) : EReal) := by
    rw [v52_at, coe_sum]
    refine Finset.sum_congr rfl fun y _ => ?_
    rw [v46_real hA, v37_real hA hM, v35_real hA hM, ← EReal.coe_mul, ← EReal.coe_one, div_real _ (mul_ne_zero ht ht),
      ← EReal.coe_mul, ← EReal.coe_mul]
  rw [v60_at, v57_at, e52, v46_real hA, v37_real hA hM, v35_real hA hM, div_real _ ht, ← EReal.coe_neg, ← EReal.coe_add,
    ← EReal.coe_mul, grad_quot, grad_shift]

/-- The reference's score gradients. -/
theorem v63_real (hA : A.Holds x0 x1 x2 x3 x4 x5) (R κ : Fin 2048) :
    val_main_v63 (F := Ideal) x0 x1 x2 x3 x4 x5 (ix4 b h R κ) = (A.gr b h R κ : EReal) := by
  rw [v63_at, hA.hσ]
  unfold Args.gr
  by_cases hκ : κ ≤ R
  · rw [if_pos hκ, v60_real hA, ← EReal.coe_mul]
  · rw [if_neg hκ, grad_after _ _ hκ, zero_mul, zero_mul, EReal.coe_zero]

end Cert.ReferenceIdeal.Attn

end
-- ==== Proof.Equal.lean ====
/-
  From finite arguments the launch and the reference end with the same four arrays.
-/
module

public import proofs.«01_k».proof.Defs
public import proofs.«01_k».proof.Proof.Given
public import proofs.«01_k».proof.Proof.Target
public import Idealize.ShloMosaic.Lib.Pointwise.Select

@[expose] public section

set_option maxRecDepth 16384

noncomputable section

open Idealize.ShloMosaic Idealize.ShloMosaic.TcCoe Idealize.SL.Sem

namespace Cert.Equal

open Cert.Softmax Cert.KernelIdeal.Blocks

/-! ## Finite arguments are real arrays -/

/-- The side conditions of the precondition's text. -/
theorem facts : Cert.Pre_finite.Facts := ⟨by decide, by decide, by decide⟩

/-- A number whose absolute value is less than infinity is real. -/
theorem real_of_lt (x : EReal)
    (h : FloatOps.cmpf (F := Ideal) .olt (FloatOps.hostAbsf x : Ideal .f32) (FloatOps.ofBits .f32 0x7F800000#32) = 1#1) :
    x = (x.toReal : EReal) := by
  have hi : Ideal.ofBits .f32 0x7F800000#32 = ⊤ := by simp [Ideal.ofBits, Ideal.ieee]
  have hlt : max x (-x) < Ideal.ofBits .f32 0x7F800000#32 := (Ideal.cmp_olt_eq_one _ _).mp h
  rw [hi, max_lt_iff] at hlt
  refine (EReal.coe_toReal hlt.1.ne fun hb => ?_).symm
  rw [hb] at hlt
  exact absurd hlt.2 (by simp)

/-- The real arrays of six arguments. -/
def realArgs (σ : ℝ) (x0 : Shape.Idx ⟨4, ![4, 2048, 4, 128]⟩ → EReal) (x1 : Shape.Idx ⟨4, ![4, 2048, 4, 64]⟩ → EReal)
    (x2 : Shape.Idx ⟨4, ![4, 2048, 4, 128]⟩ → EReal) (x3 : Shape.Idx ⟨3, ![4, 2048, 64]⟩ → EReal)
    (x4 x5 : Shape.Idx ⟨4, ![4, 2048, 4, 128]⟩ → EReal) : Args where
  q b R h x := (x0 (ix4 b R h x)).toReal
  r b R h x := (x1 (ix4 b R h x)).toReal
  k b R h x := (x2 (ix4 b R h x)).toReal
  kr b R x := (x3 (ix3 b R x)).toReal
  v b R h x := (x4 (ix4 b R h x)).toReal
  d b R h x := (x5 (ix4 b R h x)).toReal
  σ := σ

/-- Arguments that meet the precondition hold real arrays. -/
theorem holds_of_finite [Cert.Pre_finite.Facts] (m : (ℓ : Loc Cert.KernelIdeal.nD Cert.KernelIdeal.τ Cert.KernelIdeal.sig) → Buf (Elt Ideal) ℓ)
    (hm : Cert.Pre_KernelIdeal_finite m) (c : Dev Cert.KernelIdeal.nD) : ∃ A, Given A m c := by
  obtain ⟨σ, hσ⟩ := scale_real
  obtain ⟨h0, h1, h2, h3, h4, h5⟩ := hm c
  exact ⟨realArgs σ _ _ _ _ _ _,
    ⟨fun b R h x => real_of_lt _ (congrFun h0 (ix4 b R h x)), fun b R h x => real_of_lt _ (congrFun h1 (ix4 b R h x)),
     fun b R h x => real_of_lt _ (congrFun h2 (ix4 b R h x)), fun b R x => real_of_lt _ (congrFun h3 (ix3 b R x)),
     fun b R h x => real_of_lt _ (congrFun h4 (ix4 b R h x)), fun b R h x => real_of_lt _ (congrFun h5 (ix4 b R h x)), hσ⟩⟩

/-! ## The four results -/

open Cert.ReferenceIdeal.Read Cert.ReferenceIdeal.Attn

variable {A : Args} {m : (ℓ : Loc Cert.KernelIdeal.nD Cert.KernelIdeal.τ Cert.KernelIdeal.sig) → Buf (Elt Ideal) ℓ}
  {c : Dev Cert.KernelIdeal.nD} {x0 : FVec Ideal Cert.ReferenceIdeal.S4x2048x4x128 .f32} {x1 : FVec Ideal Cert.ReferenceIdeal.S4x2048x4x64 .f32}
  {x2 : FVec Ideal Cert.ReferenceIdeal.S4x2048x4x128 .f32} {x3 : FVec Ideal Cert.ReferenceIdeal.S4x2048x64 .f32}
  {x4 x5 : FVec Ideal Cert.ReferenceIdeal.S4x2048x4x128 .f32}

/-- The gradient of the queries, the part of each head. -/
theorem first (hA : Given A m c) (hB : A.Holds x0 x1 x2 x3 x4 x5) :
    R8 m c = val_main_v72 (F := Ideal) x0 x1 x2 x3 x4 x5 := by
  funext i
  obtain ⟨b, R, y, rfl⟩ : ∃ (b : Fin 4) (R : Fin 2048) (y : Fin 512), i = ix3 b R y := ⟨_, _, _, eq_ix3 (n0 := 4) (n1 := 2048) (n2 := 512) i⟩
  rw [v72_at]
  refine Finset.sum_congr rfl fun κ _ => ?_
  rw [v63_real hB, hB.hk]
  exact congrArg₂ (· * ·) (dsM_real hA R κ) (kM_real hA κ (ln4 y))

/-- The gradient of the queries, the rotary part. -/
theorem second (hA : Given A m c) (hB : A.Holds x0 x1 x2 x3 x4 x5) :
    R9 m c = val_main_v74 (F := Ideal) x0 x1 x2 x3 x4 x5 := by
  funext i
  obtain ⟨b, R, y, rfl⟩ : ∃ (b : Fin 4) (R : Fin 2048) (y : Fin 512), i = ix3 b R y := ⟨_, _, _, eq_ix3 (n0 := 4) (n1 := 2048) (n2 := 512) i⟩
  rw [v74_at]
  show ∑ κ, dsM m c b (hd4 y) R κ * krM m c b κ (ln4 y) = _
  by_cases hx : (ln4 y).val < 64
  · rw [dif_pos hx]
    refine Finset.sum_congr rfl fun κ _ => ?_
    rw [v63_real hB, hB.hkr, dsM_real hA, krM_real hA, dif_pos hx]
  · rw [dif_neg hx]
    refine Finset.sum_eq_zero fun κ _ => ?_
    rw [krM_real hA, dif_neg hx, mul_zero]

/-- The gradients of the keys and of the values, head by head. -/
theorem third (hA : Given A m c) (hB : A.Holds x0 x1 x2 x3 x4 x5) :
    R10 m c = val_main_v76 (F := Ideal) x0 x1 x2 x3 x4 x5 := by
  funext i
  obtain ⟨b, R, y, rfl⟩ : ∃ (b : Fin 4) (R : Fin 2048) (y : Fin 1024), i = ix3 b R y := ⟨_, _, _, eq_ix3 (n0 := 4) (n1 := 2048) (n2 := 1024) i⟩
  rw [v76_at]
  show (if y.val % 256 < 128 then ∑ κ, dsM m c b (hd8 y) κ R * qM m c b (hd8 y) κ (ln8 y)
    else ∑ κ, pM m c b (hd8 y) κ R * dM m c b (hd8 y) κ (ln8 y)) = _
  by_cases hx : y.val % 256 < 128
  · rw [if_pos hx, if_pos hx]
    refine Finset.sum_congr rfl fun κ _ => ?_
    rw [v63_real hB, hB.hq, dsM_real hA, qM_real hA]
  · rw [if_neg hx, if_neg hx]
    refine Finset.sum_congr rfl fun κ _ => ?_
    rw [v39_real hB, hB.hd, pM_real hA, dM_real hA, mul_comm]

/-- The gradient of the keys' rotary lanes, one head at a time. -/
theorem fourth (hA : Given A m c) (hB : A.Holds x0 x1 x2 x3 x4 x5) :
    R11 m c = val_main_v78 (F := Ideal) x0 x1 x2 x3 x4 x5 := by
  funext i
  obtain ⟨h, b, R, x, rfl⟩ : ∃ (h b : Fin 4) (R : Fin 2048) (x : Fin 128), i = ix4 h b R x :=
    ⟨_, _, _, _, eq_ix4 (n0 := 4) (n1 := 4) (n2 := 2048) (n3 := 128) i⟩
  rw [v78_at]
  show ∑ κ, dsM m c b h κ R * rM m c b h κ x = _
  by_cases hx : x.val < 64
  · rw [dif_pos hx]
    refine Finset.sum_congr rfl fun κ _ => ?_
    rw [v63_real hB, hB.hr, dsM_real hA, rM_real hA, dif_pos hx]
  · rw [dif_neg hx]
    refine Finset.sum_eq_zero fun κ _ => ?_
    rw [rM_real hA, dif_neg hx, mul_zero]

end Cert.Equal

end
-- ==== Proof.Norm.lean ====
/-
  The pieces of the input projection that its three calls share: the normalised row, the padded columns, and the rows of all
  sequences side by side.
-/
module

public import Idealize.ShloMosaic.Lib.Pointwise

@[expose] public section

noncomputable section

open Idealize.ShloMosaic

namespace Cert.Norm

/-- One row's mean square with the small constant added. -/
def square (x : Fin 1024 → EReal) : EReal :=
  Ideal.div (∑ k, x k * x k) (Ideal.ofBits FTy.f32 0x44800000#32) + Ideal.ofBits FTy.f32 0x358637BD#32

/-- One row, normalised. -/
def hat (x : Fin 1024 → EReal) (k : Fin 1024) : EReal := x k * Ideal.rsqrt (square x)

/-- One row, normalised and scaled lane by lane. -/
def scaled (x g : Fin 1024 → EReal) (k : Fin 1024) : EReal := hat x k * g k

/-- The projection's columns with 64 columns of zeros after the first 448. -/
def padded (f : Fin 3136 → EReal) (j : Fin 3200) : EReal :=
  if h : j.val < 448 then f ⟨j.val, by omega⟩ else if h' : j.val < 512 then 0 else f ⟨j.val - 64, by omega⟩

/-- A row's sequence. -/
def seq (r : Fin 8192) : Fin 4 := ⟨r.val / 2048, by omega⟩

/-- A row's place in its sequence. -/
def pos (r : Fin 8192) : Fin 2048 := ⟨r.val % 2048, by omega⟩

/-- Row `R` of block `t`, of 32 blocks of 256 rows. -/
def row (t : Fin 32) (R : Fin 256) : Fin 8192 := ⟨256 * t.val + R.val, by omega⟩

end Cert.Norm

end
-- ==== Proof.InputMath.lean ====
/-
  The gradient of the norm and of the input projection, on numbers: the projection's columns group by group, and the
  two spellings of the norm's gradient, which are equal over the real numbers.
-/
module

public import proofs.«01_k».proof.Proof.Norm
public import proofs.«01_k».proof.Proof.Softmax

@[expose] public section

noncomputable section

open Idealize.ShloMosaic

namespace Cert.InputMath

open Cert.Norm Cert.Softmax

/-! ## The columns -/

/-- The projection's 3136 columns: 448 of one group, 1664 of the next and 1024 of the last. -/
def join (a : Fin 448 → EReal) (b : Fin 1664 → EReal) (d : Fin 1024 → EReal) (j : Fin 3136) : EReal :=
  if h : j.val < 448 then a ⟨j.val, h⟩ else if h' : j.val < 2112 then b ⟨j.val - 448, by omega⟩ else d ⟨j.val - 2112, by omega⟩

/-- 448 numbers with 64 zeros after them. -/
def wide (a : Fin 448 → EReal) (j : Fin 512) : EReal := if h : j.val < 448 then a ⟨j.val, h⟩ else 0

theorem sum_columns (f : Fin 3136 → EReal) : ∑ j, f j
    = (∑ j : Fin 448, f ⟨j.val, by omega⟩) + (∑ j : Fin 1664, f ⟨448 + j.val, by omega⟩) + ∑ j : Fin 1024, f ⟨2112 + j.val, by omega⟩ :=
  (Fin.sum_univ_add (a := 2112) (b := 1024) f).trans
    (congrArg (· + _) (Fin.sum_univ_add (a := 448) (b := 1664) fun j => f (Fin.castAdd 1024 j)))

theorem sum_wide (a : Fin 448 → EReal) (w : Fin 512 → EReal) :
    ∑ j, wide a j * w j = ∑ j : Fin 448, a j * w ⟨j.val, by omega⟩ := by
  refine (Fin.sum_univ_add (a := 448) (b := 64) fun j => wide a j * w j).trans ?_
  rw [Finset.sum_eq_zero (s := (Finset.univ : Finset (Fin 64))), add_zero]
  · refine Finset.sum_congr rfl fun j _ => ?_
    unfold wide
    rw [dif_pos (show (Fin.castAdd 64 j).val < 448 from j.isLt)]
    rfl
  · intro j _
    unfold wide
    rw [dif_neg (show ¬(Fin.natAdd 448 j).val < 448 from Nat.not_lt.mpr (Nat.le_add_right _ _)), zero_mul]

/-- The three products of the padded groups add up to the product over all columns. -/
theorem sum_groups (a : Fin 448 → EReal) (b : Fin 1664 → EReal) (d : Fin 1024 → EReal) (w : Fin 3136 → EReal) :
    (∑ j : Fin 512, wide a j * padded w ⟨j.val, by omega⟩) + (∑ j : Fin 1664, b j * padded w ⟨512 + j.val, by omega⟩)
      + (∑ j : Fin 1024, d j * padded w ⟨2176 + j.val, by omega⟩) = ∑ j, join a b d j * w j := by
  rw [sum_columns, sum_wide a fun j => padded w ⟨j.val, by omega⟩]
  refine congrArg₂ (· + ·) (congrArg₂ (· + ·) ?_ ?_) ?_
  · refine Finset.sum_congr rfl fun j _ => ?_
    unfold padded join
    rw [dif_pos (show j.val < 448 from j.isLt), dif_pos (show j.val < 448 from j.isLt)]
  · refine Finset.sum_congr rfl fun j _ => ?_
    unfold padded join
    rw [dif_neg (show ¬512 + j.val < 448 by omega), dif_neg (show ¬512 + j.val < 512 by omega),
      dif_neg (show ¬448 + j.val < 448 by omega), dif_pos (show 448 + j.val < 2112 by omega)]
    exact congrArg₂ (· * ·) (congrArg b (Fin.ext (by show j.val = 448 + j.val - 448; omega)))
      (congrArg w (Fin.ext (by show 512 + j.val - 64 = 448 + j.val; omega)))
  · refine Finset.sum_congr rfl fun j _ => ?_
    unfold padded join
    rw [dif_neg (show ¬2176 + j.val < 448 by omega), dif_neg (show ¬2176 + j.val < 512 by omega),
      dif_neg (show ¬2112 + j.val < 448 by omega), dif_neg (show ¬2112 + j.val < 2112 by omega)]
    exact congrArg₂ (· * ·) (congrArg d (Fin.ext (by show j.val = 2112 + j.val - 2112; omega)))
      (congrArg w (Fin.ext (by show 2176 + j.val - 64 = 2112 + j.val; omega)))

/-- The columns with the 64 zeros, group by group. -/
theorem padded_join (a : Fin 448 → EReal) (b : Fin 1664 → EReal) (d : Fin 1024 → EReal) (j : Fin 3200) :
    padded (join a b d) j = if h : j.val < 512 then wide a ⟨j.val, h⟩
      else if h' : j.val < 2176 then b ⟨j.val - 512, by omega⟩ else d ⟨j.val - 2176, by omega⟩ := by
  unfold padded wide join
  by_cases h : j.val < 448
  · rw [dif_pos h, dif_pos (show j.val < 512 by omega), dif_pos h, dif_pos h]
  · by_cases h' : j.val < 512
    · rw [dif_neg h, dif_pos h', dif_pos h', dif_neg h]
    · rw [dif_neg h, dif_neg h', dif_neg h', dif_neg (show ¬j.val - 64 < 448 by omega)]
      by_cases h2 : j.val < 2176
      · rw [dif_pos h2, dif_pos (show j.val - 64 < 2112 by omega)]
        exact congrArg b (Fin.ext (by show j.val - 64 - 448 = j.val - 512; omega))
      · rw [dif_neg h2, dif_neg (show ¬j.val - 64 < 2112 by omega)]
        exact congrArg d (Fin.ext (by show j.val - 64 - 2112 = j.val - 2176; omega))

/-! ## The norm's gradient -/

/-- The number of lanes. -/
def lanes : EReal := Ideal.ofBits FTy.f32 0x44800000#32

/-- The gradient of a row of the input, from that of the scaled row: the part along the normalised row is taken off. -/
def back (x D E : Fin 1024 → EReal) (k : Fin 1024) : EReal :=
  (D k - hat x k * Ideal.div (∑ k, D k * hat x k) lanes) * Ideal.rsqrt (square x) + E k

/-- What the derivative of the mean square sends back to every lane of the row. -/
def along (x D : Fin 1024 → EReal) : EReal :=
  Ideal.div ((∑ k, x k * D k) * (Ideal.ofBits FTy.f32 0xBF000000#32 * Ideal.div (Ideal.rsqrt (square x)) (square x))) lanes

/-- The same gradient by the rule of products: the two factors of the square each send back their part. -/
def back' (x D E : Fin 1024 → EReal) (k : Fin 1024) : EReal :=
  E k + D k * Ideal.rsqrt (square x) + x k * along x D + along x D * x k

theorem lanes_real : lanes = ((1024 : ℝ) : EReal) := by
  unfold lanes
  simp [Ideal.ofBits, Ideal.ieee]
  rw [← EReal.coe_mul]
  norm_num

theorem half_real : Ideal.ofBits FTy.f32 0xBF000000#32 = ((-(1 / 2) : ℝ) : EReal) := by
  simp [Ideal.ofBits, Ideal.ieee]
  rw [← EReal.coe_mul]
  norm_num

theorem small_real : ∃ e : ℝ, 0 < e ∧ Ideal.ofBits FTy.f32 0x358637BD#32 = (e : EReal) := by
  simp [Ideal.ofBits, Ideal.ieee]
  refine ⟨_, ?_, rfl⟩
  positivity

theorem sum_real {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A row of real numbers has a positive real mean square, with the small constant added. -/
theorem square_real (x : Fin 1024 → ℝ) : ∃ q : ℝ, 0 < q ∧ square (fun k => (x k : EReal)) = (q : EReal) := by
  obtain ⟨e, he, hE⟩ := small_real
  refine ⟨(∑ k, x k * x k) / 1024 + e, ?_, ?_⟩
  · have : 0 ≤ ∑ k, x k * x k := Finset.sum_nonneg fun k _ => mul_self_nonneg _
    positivity
  · unfold square
    rw [hE, show Ideal.ofBits FTy.f32 0x44800000#32 = ((1024 : ℝ) : EReal) from lanes_real]
    simp only [← EReal.coe_mul]
    rw [sum_real, div_real _ (by norm_num), ← EReal.coe_add]

/-- Over the real numbers the two spellings are equal. -/
theorem back_eq (x D E : Fin 1024 → ℝ) (k : Fin 1024) :
    back (fun k => (x k : EReal)) (fun k => (D k : EReal)) (fun k => (E k : EReal)) k
      = back' (fun k => (x k : EReal)) (fun k => (D k : EReal)) (fun k => (E k : EReal)) k := by
  obtain ⟨q, hq, hQ⟩ := square_real x
  have hs : Ideal.rsqrt (q : EReal) = (((Real.sqrt q)⁻¹ : ℝ) : EReal) := by
    rw [Ideal.rsqrt_coe, if_neg (not_lt.mpr hq.le), if_neg hq.ne']
  unfold back back' along hat
  rw [hQ, hs, lanes_real, half_real]
  simp only [← EReal.coe_mul]
  rw [sum_real, sum_real, div_real _ (by norm_num), div_real _ hq.ne']
  simp only [← EReal.coe_mul]
  rw [div_real _ (by norm_num)]
  simp only [← EReal.coe_mul, ← EReal.coe_add, ← EReal.coe_sub]
  refine congrArg _ ?_
  have hr : (Real.sqrt q)⁻¹ * (Real.sqrt q)⁻¹ = q⁻¹ := by rw [← mul_inv, Real.mul_self_sqrt hq.le]
  have hS : ∑ k, D k * (x k * (Real.sqrt q)⁻¹) = (∑ k, x k * D k) * (Real.sqrt q)⁻¹ := by
    rw [Finset.sum_mul]
    exact Finset.sum_congr rfl fun k _ => by ring
  rw [hS]
  generalize (∑ k, x k * D k) = S
  rw [show (Real.sqrt q)⁻¹ / q = (Real.sqrt q)⁻¹ * ((Real.sqrt q)⁻¹ * (Real.sqrt q)⁻¹) by rw [hr]; rfl]
  ring

end Cert.InputMath

end
-- ==== Proof.InputReference.lean ====
/-
  The plain gradient through the norm and the input projection, read element by element.
-/
module

public import proofs.«01_k».proof.Proof.InputMath
public import proofs.«01_k».proof.Proof.Gen.Reference2Ideal.Run
public import proofs.«01_k».proof.Proof.Gen.Reference2Ideal.Read

@[expose] public section

set_option maxRecDepth 16384

noncomputable section

open Idealize.ShloMosaic Idealize.ShloMosaic.TcCoe Idealize.SL.Sem

namespace Cert.Reference2Ideal.Input

open Cert.Reference2Ideal Cert.Reference2Ideal.Gen Cert.Reference2Ideal.Read Cert.Norm Cert.InputMath

/-- A sum over the first two of three axes. -/
theorem sum_two {n0 n1 n2 : ℕ} (h : (⟨3, ![n0, n1, n2]⟩ : Shape).ReducesTo [0, 1] ⟨1, ![n2]⟩) (v : (⟨3, ![n0, n1, n2]⟩ : Shape).Idx → EReal)
    (k : Fin n2) : Ideal.hostReduceAdd h v 0 (ix1 k) = ∑ a : Fin n0, ∑ b : Fin n1, v (ix3 a b k) := by
  unfold Ideal.hostReduceAdd
  rw [zero_add, ← Finset.sum_product' Finset.univ Finset.univ (fun a b => v (ix3 a b k)), Finset.univ_product_univ]
  refine Finset.sum_filter_eq_sum_of_fiber _ (fun p : Fin n0 × Fin n1 => ix3 p.1 p.2 k)
    (fun p p' e => Prod.ext (congrFun e 0) (congrFun e 1)) (fun i => ?_) v
  constructor
  · intro e
    refine ⟨(i 0, i 1), ?_⟩
    funext a
    apply Fin.ext
    match a with
    | ⟨0, _⟩ => rfl
    | ⟨1, _⟩ => rfl
    | ⟨2, _⟩ => exact (congrArg Fin.val (congrFun e 0)).symm
  · rintro ⟨p, rfl⟩
    funext b
    apply Fin.ext
    match b with
    | ⟨0, _⟩ => rfl

variable (x0 : FVec Ideal S4x2048x1024 .f32) (x1 : FVec Ideal S1024 .f32) (x2 : FVec Ideal S1024x3136 .f32)
  (x3 : FVec Ideal S4x2048x448 .f32) (x4 x5 : FVec Ideal S4x2048x1664 .f32) (x6 x7 : FVec Ideal S4x2048x1024 .f32)

/-- What a row takes from the row after it: nothing at a sequence's end. -/
def moved (b : Fin 4) (R : Fin 2048) (j : Fin 1664) : EReal := if h : R.val = 2047 then 0 else x5 (ix3 b ⟨R.val + 1, by omega⟩ j)

/-- The gradient of a row of the projection's output. -/
def dp (b : Fin 4) (R : Fin 2048) : Fin 3136 → EReal :=
  join (fun j => x3 (ix3 b R j)) (fun j => x4 (ix3 b R j) + moved x5 b R j) (fun j => x6 (ix3 b R j))

/-- The gradient of a scaled row. -/
def du (b : Fin 4) (R : Fin 2048) (k : Fin 1024) : EReal := ∑ j, dp x3 x4 x5 x6 b R j * x2 (ix2 k j)

theorem v11_at (b : Fin 4) (R : Fin 2048) (j : Fin 1664) : val_main_v11 (F := Ideal) x5 (ix3 b R j) = moved x5 b R j := by
  unfold val_main_v11 val_main_v10 val_main_cst_3 moved
  pointwise
  by_cases h : R.val = 2047
  · rw [dif_pos h, dif_neg (by omega)]
  · rw [dif_neg h, dif_pos (by omega)]
    exact congrArg (fun z => x5 (ix3 b z j)) (Fin.ext (Nat.add_comm _ _))

theorem v16_at (b : Fin 4) (R : Fin 2048) (j : Fin 3136) : val_main_v16 (F := Ideal) x3 x4 x5 x6 (ix3 b R j) = dp x3 x4 x5 x6 b R j := by
  unfold dp join
  simp only [← v11_at]
  unfold val_main_v16 val_main_v15 val_main_v14 val_main_v13 val_main_v12 val_main_v8 val_main_cst_2 val_main_cst_4 val_main_cst_5
  generalize val_main_v11 (F := Ideal) x5 = y
  pointwise
  by_cases h : j.val < 448
  · rw [dif_neg (show ¬(2112 ≤ j.val ∧ j.val - 2112 < 1024) by omega), dif_pos h, dif_neg (show ¬(448 ≤ j.val ∧ j.val - 448 < 1664) by omega),
      dif_pos h, zero_add, add_zero]
  · by_cases h' : j.val < 2112
    · rw [dif_neg (show ¬(2112 ≤ j.val ∧ j.val - 2112 < 1024) by omega), dif_neg h, dif_pos (show 448 ≤ j.val ∧ j.val - 448 < 1664 by omega),
        dif_neg h, dif_pos h', zero_add, zero_add]
    · rw [dif_pos (show 2112 ≤ j.val ∧ j.val - 2112 < 1024 by omega), dif_neg h, dif_neg (show ¬(448 ≤ j.val ∧ j.val - 448 < 1664) by omega),
        dif_neg h, dif_neg h', add_zero, add_zero]

theorem v34_at (b : Fin 4) (R : Fin 2048) (k : Fin 1024) : val_main_v34 (F := Ideal) x2 x3 x4 x5 x6 (ix3 b R k) = du x2 x3 x4 x5 x6 b R k := by
  unfold du
  simp only [← v16_at]
  unfold val_main_v34
  generalize val_main_v16 (F := Ideal) x3 x4 x5 x6 = y
  pointwise

theorem v39_at (b : Fin 4) (R : Fin 2048) (k : Fin 1024) :
    val_main_v39 (F := Ideal) x1 x2 x3 x4 x5 x6 (ix3 b R k) = du x2 x3 x4 x5 x6 b R k * x1 (ix1 k) := by
  rw [← v34_at]
  unfold val_main_v39 val_main_v38 val_main_v30
  generalize val_main_v34 (F := Ideal) x2 x3 x4 x5 x6 = y
  pointwise

theorem v23_at (b : Fin 4) (R : Fin 2048) : val_main_v23 (F := Ideal) x0 (ix3 b R 0) = square (fun k => x0 (ix3 b R k)) := by
  unfold square
  pointwise [val_main_v23, val_main_v22, val_main_v21, val_main_v20, val_main_v19, val_main_v18, val_main_v17, val_main_cst_6, val_main_cst_7, val_main_cst_8]

theorem v29_at (b : Fin 4) (R : Fin 2048) (k : Fin 1024) : val_main_v29 (F := Ideal) x0 (ix3 b R k) = hat (fun k => x0 (ix3 b R k)) k := by
  unfold hat
  rw [← v23_at]
  unfold val_main_v29 val_main_v28 val_main_v24
  generalize val_main_v23 (F := Ideal) x0 = y
  pointwise

theorem v36_at (k : Fin 1024) : val_main_v36 (F := Ideal) x0 x2 x3 x4 x5 x6 (ix1 k)
    = ∑ b : Fin 4, ∑ R : Fin 2048, hat (fun k => x0 (ix3 b R k)) k * du x2 x3 x4 x5 x6 b R k := by
  simp only [← v29_at, ← v34_at]
  unfold val_main_v36 val_main_v35 val_main_cst_10
  generalize val_main_v34 (F := Ideal) x2 x3 x4 x5 x6 = y
  generalize val_main_v29 (F := Ideal) x0 = z
  pointwise
  refine (sum_two _ _ k).trans ?_
  pointwise

/-- One element of the scale's gradient. -/
theorem v63_at (k : Fin 1024) : val_main_v63 (F := Ideal) x0 x2 x3 x4 x5 x6 (ix2 0 k)
    = ∑ b : Fin 4, ∑ R : Fin 2048, hat (fun k => x0 (ix3 b R k)) k * du x2 x3 x4 x5 x6 b R k := by
  rw [← v36_at]
  unfold val_main_v63 val_main_v40 val_main_v37 val_main_cst_11
  generalize val_main_v36 (F := Ideal) x0 x2 x3 x4 x5 x6 = y
  pointwise
  refine (sum_two _ _ k).trans ?_
  rw [Fin.sum_univ_one, Fin.sum_univ_one]
  pointwise

/-- One element of the projection's gradient with 64 columns of zeros after the first 448. -/
theorem v62_at (r : Fin 8192) (j : Fin 3200) : val_main_v62 (F := Ideal) x3 x4 x5 x6 (ix2 r j)
    = padded (dp x3 x4 x5 x6 (seq r) (pos r)) j := by
  rw [← funext fun j => v16_at x3 x4 x5 x6 (seq r) (pos r) j]
  unfold val_main_v62 val_main_v61 val_main_v60 val_main_v59 val_main_v58 val_main_v56 val_main_cst_15 padded seq pos
  generalize val_main_v16 (F := Ideal) x3 x4 x5 x6 = p
  pointwise
  by_cases h : j.val < 448
  · rw [dif_pos h, dif_pos h]
  · by_cases h' : j.val < 512
    · rw [dif_neg h, dif_neg h, dif_pos h', dif_pos (show j.val - 448 < 64 by omega)]
    · rw [dif_neg h, dif_neg h, dif_neg h', dif_neg (show ¬j.val - 448 < 64 by omega)]
      exact congrArg (fun z => p (ix3 _ _ z)) (Fin.ext (by show 448 + (j.val - 448 - 64) = j.val - 64; omega))

/-- One element of the input's gradient, by sequence and place. -/
theorem v55_at (b : Fin 4) (R : Fin 2048) (k : Fin 1024) : val_main_v55 (F := Ideal) x0 x1 x2 x3 x4 x5 x6 x7 (ix3 b R k)
    = back' (fun k => x0 (ix3 b R k)) (fun k => du x2 x3 x4 x5 x6 b R k * x1 (ix1 k)) (fun k => x7 (ix3 b R k)) k := by
  unfold back' along lanes
  rw [← v23_at]
  simp only [← v39_at]
  unfold val_main_v55 val_main_v54 val_main_v53 val_main_v52 val_main_v51 val_main_v50 val_main_v49 val_main_v48 val_main_v47 val_main_v46
    val_main_v45 val_main_v44 val_main_v43 val_main_v42 val_main_v41 val_main_v27 val_main_v26 val_main_v25 val_main_v24
    val_main_cst_9 val_main_cst_12 val_main_cst_13 val_main_cst_14
  generalize val_main_v39 (F := Ideal) x1 x2 x3 x4 x5 x6 = y
  generalize val_main_v23 (F := Ideal) x0 = z
  pointwise
  simp only [Fin.sum_univ_one]

/-- One element of the input's gradient. -/
theorem v57_at (r : Fin 8192) (k : Fin 1024) : val_main_v57 (F := Ideal) x0 x1 x2 x3 x4 x5 x6 x7 (ix2 r k)
    = back' (fun k => x0 (ix3 (seq r) (pos r) k)) (fun k => du x2 x3 x4 x5 x6 (seq r) (pos r) k * x1 (ix1 k)) (fun k => x7 (ix3 (seq r) (pos r) k)) k := by
  rw [← v55_at]
  unfold val_main_v57 seq pos
  generalize val_main_v55 (F := Ideal) x0 x1 x2 x3 x4 x5 x6 x7 = y
  pointwise

end Cert.Reference2Ideal.Input

end
-- ==== Proof.InputGrad.lean ====
/-
  The gradient through the norm and the input projection: what the body's stores hold, element by element.
-/
module

public import proofs.«01_k».proof.Proof.Gen.Kernel2Ideal.Value
public import proofs.«01_k».proof.Proof.InputMath
public import Idealize.ShloMosaic.Lib.Pipeline.ValueKit
public import Idealize.ShloMosaic.Lib.Pipeline.ValueKit.Acc
public import Idealize.ShloMosaic.Lib.Pointwise
public import Idealize.ShloMosaic.Lib.Pointwise.Select
public import Idealize.ShloMosaic.Lib.StableHlo.RunRead

@[expose] public section

set_option maxRecDepth 16384

noncomputable section

open Idealize.ShloMosaic Idealize.ShloMosaic.TcCoe Idealize.SL.Sem

namespace Cert.Kernel2Ideal.InputGrad

open Cert.Kernel2Ideal Cert.Kernel2Ideal.Gen Cert.Norm Cert.InputMath

/-! ## The body's stores -/

theorem pay4_at (A : Vec Ideal S256x512 .f32) (R : Fin 256) (j : Fin 512) : k0_pay4 A (ix2 R j) = A (ix2 R j) := by
  unfold k0_pay4
  pointwise

theorem pay6_at (A : Vec Ideal S256x1024 .f32) (R : Fin 256) (j : Fin 1024) : k0_pay6 A (ix2 R j) = A (ix2 R j) := by
  unfold k0_pay6
  pointwise

/-- One where the next block belongs to the same sequence, zero at a sequence's last block. -/
def keep (i : grid0.Coords) : EReal := if ((i 0).val + 1) % 8 = 0 then 0 else 1

/-- The body's test for a sequence's last block, on the block's number. -/
theorem last_word : ∀ n : Fin 32,
    Scalar.cmpi CmpIPredicate.eq
      (Scalar.select
        (Scalar.andi
          (Scalar.xori
            (Scalar.cmpi CmpIPredicate.slt
              (Scalar.remsi (Scalar.addi (BitVec.ofNat 32 n.val) 1#32) (Scalar.select (Scalar.cmpi CmpIPredicate.eq 8#32 0#32) 1#32 8#32)) 0#32)
            (Scalar.cmpi CmpIPredicate.slt (Scalar.select (Scalar.cmpi CmpIPredicate.eq 8#32 0#32) 1#32 8#32) 0#32))
          (Scalar.cmpi CmpIPredicate.ne
            (Scalar.remsi (Scalar.addi (BitVec.ofNat 32 n.val) 1#32) (Scalar.select (Scalar.cmpi CmpIPredicate.eq 8#32 0#32) 1#32 8#32)) 0#32))
        (Scalar.addi
          (Scalar.remsi (Scalar.addi (BitVec.ofNat 32 n.val) 1#32) (Scalar.select (Scalar.cmpi CmpIPredicate.eq 8#32 0#32) 1#32 8#32))
          (Scalar.select (Scalar.cmpi CmpIPredicate.eq 8#32 0#32) 1#32 8#32))
        (Scalar.remsi (Scalar.addi (BitVec.ofNat 32 n.val) 1#32) (Scalar.select (Scalar.cmpi CmpIPredicate.eq 8#32 0#32) 1#32 8#32)))
      0#32 = if (n.val + 1) % 8 = 0 then 1#1 else 0#1 := by
  decide +kernel

/-- The body's test for a block's last row. -/
theorem last_row : ∀ R : Fin 256, IntOp.cmpi CmpIPredicate.eq (BitVec.ofNat 32 R.val) 255#32 = if R.val = 255 then 1#1 else 0#1 := by
  decide +kernel

/-- The block's last row takes its neighbour from the next block; every other row has it below. -/
theorem pay5_at (i : grid0.Coords) (A B : Vec Ideal S256x1664 .f32) (C : Vec Ideal S1x1664 .f32) (R : Fin 256) (j : Fin 1664) :
    k0_pay5 i A B C (ix2 R j) = A (ix2 R j) + if h : R.val = 255 then C (ix2 0 j) * keep i else B (ix2 ⟨R.val + 1, by omega⟩ j) := by
  unfold k0_pay5
  pointwise
  rw [last_row R, last_word (i 0)]
  refine congrArg (A (ix2 R j) + ·) ?_
  unfold keep
  by_cases h : R.val = 255
  · rw [if_pos h, dif_pos h, WordCmp.select_one]
    by_cases h' : ((i 0).val + 1) % 8 = 0
    · rw [if_pos h', if_pos h', WordCmp.select_one, mul_zero]
    · rw [if_neg h', if_neg h', WordCmp.select_zero, mul_one]
  · rw [if_neg h, dif_neg h, WordCmp.select_zero]
    exact congrArg (fun z => B (ix2 z j)) (Fin.ext (by show (R.val + 256 - 255) % 256 = R.val + 1; omega))

theorem pay7_at (A : Vec Ideal S256x512 .bf16) (B : Vec Ideal S256x1664 .bf16) (D : Vec Ideal S256x1024 .bf16)
    (U : Vec Ideal S1024x512 .bf16) (V : Vec Ideal S1024x1664 .bf16) (W : Vec Ideal S1024x1024 .bf16) (R : Fin 256) (k : Fin 1024) :
    k0_pay7 A B D U V W (ix2 R k) = (∑ j, A (ix2 R j) * U (ix2 k j)) + (∑ j, B (ix2 R j) * V (ix2 k j)) + ∑ j, D (ix2 R j) * W (ix2 k j) := by
  unfold k0_pay7
  pointwise

theorem pay8_at (X : Vec Ideal S256x1024 .f32) (R : Fin 256) (k : Fin 1024) : k0_pay8 X (ix2 R k) = X (ix2 R k) := by
  unfold k0_pay8
  pointwise

theorem pay9_at (X : Vec Ideal S256x1024 .f32) (R : Fin 256) (k : Fin 1024) :
    k0_pay9 X (ix2 R k) = hat (fun k => X (ix2 R k)) k := by
  unfold k0_pay9 hat square
  pointwise [pay8_at]

theorem pay10_at (A : Vec Ideal S256x512 .bf16) (B : Vec Ideal S256x1664 .bf16) (D : Vec Ideal S256x1024 .bf16)
    (U : Vec Ideal S1024x512 .bf16) (V : Vec Ideal S1024x1664 .bf16) (W : Vec Ideal S1024x1024 .bf16) (G : Vec Ideal S1x1024 .f32)
    (R : Fin 256) (k : Fin 1024) : k0_pay10 A B D U V W G (ix2 R k) = k0_pay7 A B D U V W (ix2 R k) * G (ix2 0 k) := by
  unfold k0_pay10
  generalize k0_pay7 A B D U V W = d
  pointwise

theorem pay11_at (A : Vec Ideal S256x512 .bf16) (B : Vec Ideal S256x1664 .bf16) (D : Vec Ideal S256x1024 .bf16)
    (U : Vec Ideal S1024x512 .bf16) (V : Vec Ideal S1024x1664 .bf16) (W : Vec Ideal S1024x1024 .bf16) (X : Vec Ideal S256x1024 .f32)
    (G : Vec Ideal S1x1024 .f32) (R : Fin 256) :
    k0_pay11 A B D U V W X G (ix2 R 0) = ∑ k, k0_pay7 A B D U V W (ix2 R k) * G (ix2 0 k) * hat (fun k => X (ix2 R k)) k := by
  refine Eq.trans (b := ∑ k, k0_pay10 A B D U V W G (ix2 R k) * k0_pay9 X (ix2 R k)) ?_
    (Finset.sum_congr rfl fun k _ => congrArg₂ (· * ·) (pay10_at A B D U V W G R k) (pay9_at X R k))
  unfold k0_pay11
  generalize k0_pay10 A B D U V W G = d
  generalize k0_pay9 X = u
  pointwise

/-- The first store: the gradient of the input. -/
theorem pay1_at (A : Vec Ideal S256x512 .bf16) (B : Vec Ideal S256x1664 .bf16) (D : Vec Ideal S256x1024 .bf16)
    (U : Vec Ideal S1024x512 .bf16) (V : Vec Ideal S1024x1664 .bf16) (W : Vec Ideal S1024x1024 .bf16) (X : Vec Ideal S256x1024 .f32)
    (G : Vec Ideal S1x1024 .f32) (E : Vec Ideal S256x1024 .f32) (R : Fin 256) (k : Fin 1024) :
    k0_pay1 (k0_pay8 X) (k0_pay9 X) (k0_pay10 A B D U V W G) (k0_pay11 A B D U V W X G) k0_pay12 E (ix2 R k)
      = back (fun k => X (ix2 R k)) (fun k => k0_pay7 A B D U V W (ix2 R k) * G (ix2 0 k)) (fun k => E (ix2 R k)) k := by
  unfold back
  beta_reduce
  rw [← pay11_at, ← pay10_at, ← pay9_at]
  unfold k0_pay1
  generalize k0_pay10 A B D U V W G = d
  generalize k0_pay9 X = u
  generalize k0_pay11 A B D U V W X G = s
  unfold k0_pay12 lanes square
  pointwise [pay8_at]

/-- What a block adds to the gradient of the norm's scale. -/
theorem pay2_at (D U : FVec Ideal S256x1024 .f32) (k : Fin 1024) : k0_pay2 D U (ix2 0 k) = ∑ R, D (ix2 R k) * U (ix2 R k) := by
  unfold k0_pay2
  pointwise

theorem pay3_at (D U : FVec Ideal S256x1024 .f32) (Z : Vec Ideal S1x1024 .f32) (k : Fin 1024) :
    k0_pay3 D U Z (ix2 0 k) = Z (ix2 0 k) + ∑ R, D (ix2 R k) * U (ix2 R k) := by
  rw [← pay2_at]
  unfold k0_pay3
  generalize k0_pay2 D U = u
  pointwise

/-! ## The arrays that the launch is given -/

variable (m : (ℓ : Loc nD τ sig) → Buf (Elt Ideal) ℓ) (c : Dev nD)

/-- Row `r` of the input. -/
def xr (r : Fin 8192) (k : Fin 1024) : EReal := m (c.tc.loc main_arg0) (ix3 (seq r) (pos r) k : S4x2048x1024.Idx)
/-- The norm's scale. -/
def gr (k : Fin 1024) : EReal := m (c.tc.loc main_arg1) (ix1 k : S1024.Idx)
/-- Row `k` of the weights. -/
def wr (k : Fin 1024) (j : Fin 3136) : EReal := m (c.tc.loc main_arg2) (ix2 k j : S1024x3136.Idx)
/-- Row `r` of the gradient of the first 448 columns. -/
def ar (r : Fin 8192) (j : Fin 448) : EReal := m (c.tc.loc main_arg3) (ix3 (seq r) (pos r) j : S4x2048x448.Idx)
/-- Row `r` of the gradient of the next 1664 columns. -/
def br (r : Fin 8192) (j : Fin 1664) : EReal := m (c.tc.loc main_arg4) (ix3 (seq r) (pos r) j : S4x2048x1664.Idx)
/-- Row `r` of the gradient of the same columns moved on by one place. -/
def sr (r : Fin 8192) (j : Fin 1664) : EReal := m (c.tc.loc main_arg5) (ix3 (seq r) (pos r) j : S4x2048x1664.Idx)
/-- Row `r` of the gradient of the last 1024 columns. -/
def zr (r : Fin 8192) (j : Fin 1024) : EReal := m (c.tc.loc main_arg6) (ix3 (seq r) (pos r) j : S4x2048x1024.Idx)
/-- Row `r` of the gradient that comes to the input past the block. -/
def er (r : Fin 8192) (k : Fin 1024) : EReal := m (c.tc.loc main_arg7) (ix3 (seq r) (pos r) k : S4x2048x1024.Idx)

theorem v7_at (r : Fin 8192) (k : Fin 1024) : V m c main_v7 (ix2 r k : S8192x1024.Idx) = xr m c r k := by
  unfold V
  simp only [hostOps0, hostOps0_1, hostOps0_2, List.flatten_cons, List.flatten_nil, List.cons_append, List.nil_append]
  after_reads_simp
  unfold xr seq pos
  pointwise

theorem v8_at (k : Fin 1024) : V m c main_v8 (ix2 0 k : S1x1024.Idx) = gr m c k := by
  unfold V
  simp only [hostOps0, hostOps0_1, hostOps0_2, List.flatten_cons, List.flatten_nil, List.cons_append, List.nil_append]
  after_reads_simp
  unfold gr
  pointwise

theorem v9_at (r : Fin 8192) (j : Fin 1664) : V m c main_v9 (ix2 r j : S8192x1664.Idx) = br m c r j := by
  unfold V
  simp only [hostOps0, hostOps0_1, hostOps0_2, List.flatten_cons, List.flatten_nil, List.cons_append, List.nil_append]
  after_reads_simp
  unfold br seq pos
  pointwise

theorem v10_at (r : Fin 8192) (j : Fin 1664) : V m c main_v10 (ix2 r j : S8192x1664.Idx) = sr m c r j := by
  unfold V
  simp only [hostOps0, hostOps0_1, hostOps0_2, List.flatten_cons, List.flatten_nil, List.cons_append, List.nil_append]
  after_reads_simp
  unfold sr seq pos
  pointwise

theorem v11_at (r : Fin 8192) (j : Fin 1024) : V m c main_v11 (ix2 r j : S8192x1024.Idx) = zr m c r j := by
  unfold V
  simp only [hostOps0, hostOps0_1, hostOps0_2, List.flatten_cons, List.flatten_nil, List.cons_append, List.nil_append]
  after_reads_simp
  unfold zr seq pos
  pointwise

theorem v12_at (r : Fin 8192) (k : Fin 1024) : V m c main_v12 (ix2 r k : S8192x1024.Idx) = er m c r k := by
  unfold V
  simp only [hostOps0, hostOps0_1, hostOps0_2, List.flatten_cons, List.flatten_nil, List.cons_append, List.nil_append]
  after_reads_simp
  unfold er seq pos
  pointwise

/-- Rows of 448 numbers, padded with zeros to 512. -/
theorem pad_apply (A : FVec Ideal S8192x448 .f32) (r : Fin 8192) (j : Fin 512) :
    pad S8192x512 ![0, 0] ![0, 64] ![0, 0] A (sitofp .f32 (constantI S_ 32 0#32) : FVec Ideal S_ .f32)
        pads_S8192x448_S8192x512_000_0640 h_S_ (ix2 r j) = wide (fun j => A (ix2 r j)) j := by
  unfold wide
  pointwise
  rw [show (FloatOps.sitofp .f32 0#32 : Ideal .f32) = (0 : EReal) by
    show (((0#32 : BitVec 32).toInt : ℝ) : EReal) = 0
    simp]

theorem v6_at (r : Fin 8192) (j : Fin 512) : V m c main_v6 (ix2 r j : S8192x512.Idx) = wide (ar m c r) j := by
  unfold V
  simp only [hostOps0, hostOps0_1, hostOps0_2, List.flatten_cons, List.flatten_nil, List.cons_append, List.nil_append]
  after_reads_simp
  simp only [StableHlo.TRef.ofBuf_toBuf]
  refine (pad_apply _ r j).trans ?_
  refine congrArg (fun f => wide f j) (funext fun j => ?_)
  unfold ar seq pos
  pointwise
  rfl

theorem v4_at (k : Fin 1024) (j : Fin 3200) : V m c main_v4 (ix2 k j : S1024x3200.Idx) = padded (wr m c k) j := by
  unfold V
  simp only [hostOps0, hostOps0_1, hostOps0_2, List.flatten_cons, List.flatten_nil, List.cons_append, List.nil_append]
  after_reads_simp
  unfold padded wr
  pointwise
  by_cases h : j.val < 448
  · simp only [dif_pos h]
    after_reads_simp
    pointwise
  · by_cases h' : j.val < 512
    · simp only [dif_neg h, dif_pos h', dif_pos (show j.val - 448 < 64 by omega)]
      after_reads_simp
      pointwise
    · simp only [dif_neg h, dif_neg h', dif_neg (show ¬j.val - 448 < 64 by omega)]
      after_reads_simp
      pointwise
      exact congrArg (fun z => m (c.tc.loc main_arg2) (ix2 k z)) (Fin.ext (by show 448 + (j.val - 448 - 64) = j.val - 64; omega))

/-! ## The blocks that a grid point reads and writes -/

/-- Which block every window holds at a grid point. -/
theorem idx : ∀ t : Fin cfg0.N,
    win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![min (32 * (t.val + 1)) 1023, 0]
    ∧ win0_7.index t = ![t.val, 0] ∧ win0_8.index t = ![t.val, 0] ∧ win0_9.index t = ![t.val, 0] ∧ win0_10.index t = ![t.val, 0]
    ∧ win0_11.index t = ![0, 0] ∧ (grid0.coords t 0).val = t.val :=
  (by decide +kernel : ∀ t : Fin grid0.N, _)

theorem in0 (t : Fin cfg0.N) (R : Fin 256) (k : Fin 1024) :
    (iblk m c 0 t : Vec Ideal S256x1024 .f32) (ix2 R k) = xr m c (row t R) k := by
  rw [← v7_at]
  show V m c main_v7 ((win0_0.rect t).emb (ix2 R k : S256x1024.Idx)) = _
  congr 1
  funext a
  apply Fin.ext
  rw [Pipeline.Window.rect_emb_val (w := win0_0) (hk := rfl), (idx t).1]
  fin_cases a <;> simp [row] <;> omega

theorem in1 (t : Fin cfg0.N) (k : Fin 1024) : (iblk m c 1 t : Vec Ideal S1x1024 .f32) (ix2 0 k) = gr m c k := by
  rw [← v8_at]
  show V m c main_v8 ((win0_1.rect t).emb (ix2 0 k : S1x1024.Idx)) = _
  congr 1
  funext a
  apply Fin.ext
  rw [Pipeline.Window.rect_emb_val (w := win0_1) (hk := rfl), (idx t).2.1]
  fin_cases a <;> simp

theorem in2 (t : Fin cfg0.N) (k : Fin 1024) (j : Fin 3200) :
    (iblk m c 2 t : Vec Ideal S1024x3200 .bf16) (ix2 k j) = padded (wr m c k) j := by
  rw [← v4_at]
  show V m c main_v4 ((win0_2.rect t).emb (ix2 k j : S1024x3200.Idx)) = _
  congr 1
  funext a
  apply Fin.ext
  rw [Pipeline.Window.rect_emb_val (w := win0_2) (hk := rfl), (idx t).2.2.1]
  fin_cases a <;> simp

theorem in3 (t : Fin cfg0.N) (R : Fin 256) (j : Fin 512) :
    (iblk m c 3 t : Vec Ideal S256x512 .f32) (ix2 R j) = wide (ar m c (row t R)) j := by
  rw [← v6_at]
  show V m c main_v6 ((win0_3.rect t).emb (ix2 R j : S256x512.Idx)) = _
  congr 1
  funext a
  apply Fin.ext
  rw [Pipeline.Window.rect_emb_val (w := win0_3) (hk := rfl), (idx t).2.2.2.1]
  fin_cases a <;> simp [row] <;> omega

theorem in4 (t : Fin cfg0.N) (R : Fin 256) (j : Fin 1664) :
    (iblk m c 4 t : Vec Ideal S256x1664 .f32) (ix2 R j) = br m c (row t R) j := by
  rw [← v9_at]
  show V m c main_v9 ((win0_4.rect t).emb (ix2 R j : S256x1664.Idx)) = _
  congr 1
  funext a
  apply Fin.ext
  rw [Pipeline.Window.rect_emb_val (w := win0_4) (hk := rfl), (idx t).2.2.2.2.1]
  fin_cases a <;> simp [row] <;> omega

theorem in5 (t : Fin cfg0.N) (R : Fin 256) (j : Fin 1664) :
    (iblk m c 5 t : Vec Ideal S256x1664 .f32) (ix2 R j) = sr m c (row t R) j := by
  rw [← v10_at]
  show V m c main_v10 ((win0_5.rect t).emb (ix2 R j : S256x1664.Idx)) = _
  congr 1
  funext a
  apply Fin.ext
  rw [Pipeline.Window.rect_emb_val (w := win0_5) (hk := rfl), (idx t).2.2.2.2.2.1]
  fin_cases a <;> simp [row] <;> omega

/-- The next block's first row, where there is a next block. -/
theorem in6 (t : Fin cfg0.N) (h : t.val < 31) (j : Fin 1664) :
    (iblk m c 6 t : Vec Ideal S8x1664 .f32) (ix2 0 j) = sr m c ⟨256 * (t.val + 1), by omega⟩ j := by
  rw [← v10_at]
  show V m c main_v10 ((win0_6.rect t).emb (ix2 0 j : S8x1664.Idx)) = _
  congr 1
  funext a
  apply Fin.ext
  rw [Pipeline.Window.rect_emb_val (w := win0_6) (hk := rfl), (idx t).2.2.2.2.2.2.1]
  fin_cases a <;> simp <;> omega

theorem in7 (t : Fin cfg0.N) (R : Fin 256) (j : Fin 1024) :
    (iblk m c 7 t : Vec Ideal S256x1024 .f32) (ix2 R j) = zr m c (row t R) j := by
  rw [← v11_at]
  show V m c main_v11 ((win0_7.rect t).emb (ix2 R j : S256x1024.Idx)) = _
  congr 1
  funext a
  apply Fin.ext
  rw [Pipeline.Window.rect_emb_val (w := win0_7) (hk := rfl), (idx t).2.2.2.2.2.2.2.1]
  fin_cases a <;> simp [row] <;> omega

theorem in8 (t : Fin cfg0.N) (R : Fin 256) (k : Fin 1024) :
    (iblk m c 8 t : Vec Ideal S256x1024 .f32) (ix2 R k) = er m c (row t R) k := by
  rw [← v12_at]
  show V m c main_v12 ((win0_8.rect t).emb (ix2 R k : S256x1024.Idx)) = _
  congr 1
  funext a
  apply Fin.ext
  rw [Pipeline.Window.rect_emb_val (w := win0_8) (hk := rfl), (idx t).2.2.2.2.2.2.2.2.1]
  fin_cases a <;> simp [row] <;> omega

end Cert.Kernel2Ideal.InputGrad

end
-- ==== Proof.InputTarget.lean ====
/-
  The gradient through the norm and the input projection: the launch's three results, element by element, from its
  arguments.
-/
module

public import proofs.«01_k».proof.Proof.InputGrad

@[expose] public section

set_option maxRecDepth 16384

noncomputable section

open Idealize.ShloMosaic Idealize.ShloMosaic.TcCoe Idealize.SL.Sem

namespace Cert.Kernel2Ideal.InputGrad

open Cert.Kernel2Ideal Cert.Kernel2Ideal.Gen Cert.Norm Cert.InputMath

variable (m : (ℓ : Loc nD τ sig) → Buf (Elt Ideal) ℓ) (c : Dev nD)

/-- What a row takes from the row after it: nothing at a sequence's end. -/
def moved (r : Fin 8192) (j : Fin 1664) : EReal := if h : r.val % 2048 = 2047 then 0 else sr m c ⟨r.val + 1, by omega⟩ j

/-- The gradient of a row of the projection's output. -/
def dp (r : Fin 8192) : Fin 3136 → EReal := join (ar m c r) (fun j => br m c r j + moved m c r j) (zr m c r)

/-- The gradient of a scaled row. -/
def du (r : Fin 8192) (k : Fin 1024) : EReal := ∑ j, dp m c r j * wr m c k j

/-! ## What a block computes -/

/-- A block of the gradient of the first columns. -/
abbrev ga (t : Fin cfg0.N) : FVec Ideal S256x512 .bf16 := k0_pay4 (iblk m c 3 t)
/-- A block of the gradient of the middle columns. -/
abbrev gb (t : Fin cfg0.N) : FVec Ideal S256x1664 .bf16 :=
  k0_pay5 (grid0.coords t) (iblk m c 4 t) (iblk m c 5 t) (View.ld (iblk m c 6 t) (Rect.unit ![0, 0] ![1, 1664] inb_S8x1664_S1x1664_0_0))
/-- A block of the gradient of the last columns. -/
abbrev gz (t : Fin cfg0.N) : FVec Ideal S256x1024 .bf16 := k0_pay6 (iblk m c 7 t)
/-- The weights' first columns. -/
abbrev wa (t : Fin cfg0.N) : Vec Ideal S1024x512 .bf16 :=
  View.ld (iblk m c 2 t) (Rect.unit ![0, 0] ![1024, 512] inb_S1024x3200_S1024x512_0_0)
/-- The weights' middle columns. -/
abbrev wb (t : Fin cfg0.N) : Vec Ideal S1024x1664 .bf16 :=
  View.ld (iblk m c 2 t) (Rect.unit ![0, 512] ![1024, 1664] inb_S1024x3200_S1024x1664_0_512)
/-- The weights' last columns. -/
abbrev wz (t : Fin cfg0.N) : Vec Ideal S1024x1024 .bf16 :=
  View.ld (iblk m c 2 t) (Rect.unit ![0, 2176] ![1024, 1024] inb_S1024x3200_S1024x1024_0_2176)

theorem ga_at (t : Fin cfg0.N) (R : Fin 256) (j : Fin 512) : ga m c t (ix2 R j) = wide (ar m c (row t R)) j :=
  (pay4_at _ R j).trans (in3 m c t R j)

theorem gz_at (t : Fin cfg0.N) (R : Fin 256) (j : Fin 1024) : gz m c t (ix2 R j) = zr m c (row t R) j :=
  (pay6_at _ R j).trans (in7 m c t R j)

theorem gb_at (t : Fin cfg0.N) (R : Fin 256) (j : Fin 1664) :
    gb m c t (ix2 R j) = br m c (row t R) j + moved m c (row t R) j := by
  have ht : t.val < 32 := lt_of_lt_of_eq t.isLt N_0
  refine (pay5_at _ _ _ _ R j).trans (congrArg₂ (· + ·) (in4 m c t R j) ?_)
  unfold moved keep
  rw [(idx t).2.2.2.2.2.2.2.2.2.2.2.2]
  have e : (row t R).val = 256 * t.val + R.val := rfl
  by_cases h : R.val = 255
  · rw [dif_pos h]
    by_cases h' : (t.val + 1) % 8 = 0
    · rw [if_pos h', mul_zero, dif_pos (by omega)]
    · rw [if_neg h', mul_one, dif_neg (by omega)]
      refine Eq.trans ?_ ((in6 m c t (by omega) j).trans ?_)
      · pointwise
      · exact congrArg (fun z => sr m c z j) (Fin.ext (by show 256 * (t.val + 1) = (row t R).val + 1; omega))
  · rw [dif_neg h, dif_neg (by omega)]
    refine (in5 m c t ⟨R.val + 1, by omega⟩ j).trans ?_
    exact congrArg (fun z => sr m c z j) (Fin.ext (by show 256 * t.val + (R.val + 1) = (row t R).val + 1; omega))

theorem wa_at (t : Fin cfg0.N) (k : Fin 1024) (j : Fin 512) : wa m c t (ix2 k j) = padded (wr m c k) ⟨j.val, by omega⟩ := by
  rw [← in2 m c t]
  unfold wa
  pointwise

theorem wb_at (t : Fin cfg0.N) (k : Fin 1024) (j : Fin 1664) : wb m c t (ix2 k j) = padded (wr m c k) ⟨512 + j.val, by omega⟩ := by
  rw [← in2 m c t]
  unfold wb
  pointwise

theorem wz_at (t : Fin cfg0.N) (k j : Fin 1024) : wz m c t (ix2 k j) = padded (wr m c k) ⟨2176 + j.val, by omega⟩ := by
  rw [← in2 m c t]
  unfold wz
  pointwise

/-- The three products of a block are its rows' gradient. -/
theorem du_at (t : Fin cfg0.N) (R : Fin 256) (k : Fin 1024) :
    k0_pay7 (ga m c t) (gb m c t) (gz m c t) (wa m c t) (wb m c t) (wz m c t) (ix2 R k) = du m c (row t R) k := by
  refine (pay7_at _ _ _ _ _ _ R k).trans (Eq.trans ?_ (sum_groups (ar m c (row t R)) (fun j => br m c (row t R) j + moved m c (row t R) j)
    (zr m c (row t R)) (wr m c k)))
  refine congrArg₂ (· + ·) (congrArg₂ (· + ·) ?_ ?_) ?_
  · exact Finset.sum_congr rfl fun j _ => congrArg₂ (· * ·) (ga_at m c t R j) (wa_at m c t k j)
  · exact Finset.sum_congr rfl fun j _ => congrArg₂ (· * ·) (gb_at m c t R j) (wb_at m c t k j)
  · exact Finset.sum_congr rfl fun j _ => congrArg₂ (· * ·) (gz_at m c t R j) (wz_at m c t k j)

/-! ## The first result -/

/-- The gradient of the input. -/
def R9 : S8192x1024.Idx → EReal := fun i => back (xr m c (i 0)) (fun k => du m c (i 0) k * gr m c k) (er m c (i 0)) (i 1)

theorem block9 (t : Fin cfg0.N) (R : Fin 256) (k : Fin 1024) :
    k0_pay1 (k0_pay8 (iblk m c 0 t)) (k0_pay9 (iblk m c 0 t)) (k0_pay10 (ga m c t) (gb m c t) (gz m c t) (wa m c t) (wb m c t) (wz m c t) (iblk m c 1 t))
      (k0_pay11 (ga m c t) (gb m c t) (gz m c t) (wa m c t) (wb m c t) (wz m c t) (iblk m c 0 t) (iblk m c 1 t)) k0_pay12 (iblk m c 8 t) (ix2 R k)
      = R9 m c (ix2 (row t R) k) := by
  refine (pay1_at _ _ _ _ _ _ _ _ _ R k).trans ?_
  show _ = back (xr m c (row t R)) (fun k => du m c (row t R) k * gr m c k) (er m c (row t R)) k
  have e0 := funext fun k => in0 m c t R k
  have e8 := funext fun k => in8 m c t R k
  have ed : (fun k => k0_pay7 (ga m c t) (gb m c t) (gz m c t) (wa m c t) (wb m c t) (wz m c t) (ix2 R k) * (iblk m c 1 t : Vec Ideal S1x1024 .f32) (ix2 0 k))
      = fun k => du m c (row t R) k * gr m c k := funext fun k => congrArg₂ (· * ·) (du_at m c t R k) (in1 m c t k)
  exact congrFun (congr (congrArg₂ back e0 ed) e8) k

theorem out9_at (t : Fin cfg0.N) (R : Fin 256) (k : Fin 1024) :
    (outsAt0 m c t.val t.isLt).1 (ix2 R k) = R9 m c (ix2 (row t R) k) := by
  have ht : t.val < 32 := lt_of_lt_of_eq t.isLt N_0
  by_cases h0 : t.val % 32 = 0
  · rw [outsAt0_A m c t h0 (by omega)]
    frame_out
    exact block9 m c t R k
  · rw [outsAt0_B m c t h0 (by omega)]
    frame_out
    exact block9 m c t R k

theorem wr9 (t : Fin cfg0.N) (R : Fin 256) (k : Fin 1024) :
    ((cfg0.win 9).blk t).view.emb (ix2 R k : S256x1024.Idx) = (ix2 (row t R) k : S8192x1024.Idx) := by
  show (win0_9.rect t).emb (ix2 R k : S256x1024.Idx) = _
  funext a
  apply Fin.ext
  rw [Pipeline.Window.rect_emb_val (w := win0_9) (hk := rfl), (idx t).2.2.2.2.2.2.2.2.2.1]
  fin_cases a <;> simp [row] <;> omega

theorem final9 : (dats m 0 c).arrAt 9 cfg0.N = R9 m c := by
  refine (dats m 0 c).arrAt_eq_of_covers 9 _ (by decide +kernel) fun t _ y => ?_
  obtain ⟨R, k, rfl⟩ : ∃ (R : Fin 256) (k : Fin 1024), y = (ix2 R k : S256x1024.Idx) := ⟨_, _, eq_ix2 (n0 := 256) (n1 := 1024) y⟩
  rw [wr9, after0_9]
  exact out9_at m c t R k

/-! ## The second result -/

/-- The gradient of the projection's output, with 64 columns of zeros after the first 448. -/
def R10 : S8192x3200.Idx → EReal := fun i => padded (dp m c (i 0)) (i 1)

/-- Where an element of a group of columns lies in the block. -/
theorem piece_at {w off : ℕ} {inb : ∀ a, (![0, off] : Fin 2 → ℕ) a + (![256, w] : Fin 2 → ℕ) a ≤ S256x3200.size a}
    {x : (⟨2, ![256, w]⟩ : Shape).Idx} {R : Fin 256} {j : Fin 3200}
    (hx : (Rect.unit (s := S256x3200) ![0, off] ![256, w] inb).emb x = ix2 R j) :
    ∃ h : off ≤ j.val ∧ j.val - off < w, x = ix2 R ⟨j.val - off, h.2⟩ := by
  have e0 : (0 : ℕ) + (x 0).val = R.val :=
    (Rect.idx_unit_val (s := S256x3200) ![0, off] ![256, w] inb x 0).symm.trans (congrArg Fin.val (congrFun hx 0))
  have e1 : off + (x 1).val = j.val :=
    (Rect.idx_unit_val (s := S256x3200) ![0, off] ![256, w] inb x 1).symm.trans (congrArg Fin.val (congrFun hx 1))
  obtain ⟨x0, x1, rfl⟩ : ∃ (x0 : Fin 256) (x1 : Fin w), x = ix2 x0 x1 := ⟨_, _, eq_ix2 x⟩
  change (0 : ℕ) + x0.val = R.val at e0
  change off + x1.val = j.val at e1
  obtain rfl : x0 = R := Fin.ext (by omega)
  have h1 := x1.isLt
  exact ⟨⟨by omega, by omega⟩, congrArg (fun z => ix2 x0 z) (Fin.ext (by show x1.val = j.val - off; omega))⟩

/-- Three groups of columns stored side by side. -/
theorem three_at (a : FVec Ideal S256x512 .bf16) (b : FVec Ideal S256x1664 .bf16) (d : FVec Ideal S256x1024 .bf16) (R : Fin 256) (j : Fin 3200) :
    View.canon (Val := Elt Ideal) (s := S256x3200) (e := .bf16)
      [⟨Rect.unit ![0, 2176] ![256, 1024] inb_S256x3200_S256x1024_0_2176, d⟩,
        ⟨Rect.unit ![0, 512] ![256, 1664] inb_S256x3200_S256x1664_0_512, b⟩,
        ⟨Rect.unit ![0, 0] ![256, 512] inb_S256x3200_S256x512_0_0, a⟩] (ix2 R j)
      = if h : j.val < 512 then a (ix2 R ⟨j.val, h⟩)
        else if h' : j.val < 2176 then b (ix2 R ⟨j.val - 512, by omega⟩) else d (ix2 R ⟨j.val - 2176, by omega⟩) := by
  refine View.canon_eq_of_allAt _ _ _ ?_ ?_
  · by_cases h : j.val < 512
    · refine ⟨⟨Rect.unit ![0, 0] ![256, 512] inb_S256x3200_S256x512_0_0, a⟩, List.mem_cons_of_mem _ (List.mem_cons_of_mem _ List.mem_cons_self),
        (Rect.mem_set_unit (inb := inb_S256x3200_S256x512_0_0)).mpr fun a => ?_⟩
      fin_cases a <;> simp <;> omega
    · by_cases h' : j.val < 2176
      · refine ⟨⟨Rect.unit ![0, 512] ![256, 1664] inb_S256x3200_S256x1664_0_512, b⟩, List.mem_cons_of_mem _ List.mem_cons_self,
          (Rect.mem_set_unit (inb := inb_S256x3200_S256x1664_0_512)).mpr fun a => ?_⟩
        fin_cases a <;> simp <;> omega
      · refine ⟨⟨Rect.unit ![0, 2176] ![256, 1024] inb_S256x3200_S256x1024_0_2176, d⟩, List.mem_cons_self,
          (Rect.mem_set_unit (inb := inb_S256x3200_S256x1024_0_2176)).mpr fun a => ?_⟩
        fin_cases a <;> simp <;> omega
  · intro p hp x hx
    rcases List.mem_cons.mp hp with rfl | hp
    · obtain ⟨h, rfl⟩ := piece_at (w := 1024) (off := 2176) (inb := inb_S256x3200_S256x1024_0_2176) hx
      rw [dif_neg (by omega), dif_neg (by omega)]
    · rcases List.mem_cons.mp hp with rfl | hp
      · obtain ⟨h, rfl⟩ := piece_at (w := 1664) (off := 512) (inb := inb_S256x3200_S256x1664_0_512) hx
        rw [dif_neg (by omega), dif_pos (by omega)]
      · obtain rfl := List.mem_singleton.mp hp
        obtain ⟨h, rfl⟩ := piece_at (w := 512) (off := 0) (inb := inb_S256x3200_S256x512_0_0) hx
        rw [dif_pos (by omega)]
        rfl

/-- The three groups of columns that a block stores are its rows' gradient. -/
theorem block10 (t : Fin cfg0.N) (R : Fin 256) (j : Fin 3200) :
    View.canon (Val := Elt Ideal) (s := S256x3200) (e := .bf16)
      [⟨Rect.unit ![0, 2176] ![256, 1024] inb_S256x3200_S256x1024_0_2176, gz m c t⟩,
        ⟨Rect.unit ![0, 512] ![256, 1664] inb_S256x3200_S256x1664_0_512, gb m c t⟩,
        ⟨Rect.unit ![0, 0] ![256, 512] inb_S256x3200_S256x512_0_0, ga m c t⟩] (ix2 R j) = R10 m c (ix2 (row t R) j) := by
  refine (three_at (ga m c t) (gb m c t) (gz m c t) R j).trans ?_
  show _ = padded (dp m c (row t R)) j
  rw [dp, padded_join]
  by_cases h : j.val < 512
  · rw [dif_pos h, dif_pos h]
    exact ga_at m c t R ⟨j.val, h⟩
  · rw [dif_neg h, dif_neg h]
    by_cases h' : j.val < 2176
    · rw [dif_pos h', dif_pos h']
      exact gb_at m c t R ⟨j.val - 512, by omega⟩
    · rw [dif_neg h', dif_neg h']
      exact gz_at m c t R ⟨j.val - 2176, by omega⟩

theorem out10_at (t : Fin cfg0.N) (R : Fin 256) (j : Fin 3200) :
    (outsAt0 m c t.val t.isLt).2.1 (ix2 R j) = R10 m c (ix2 (row t R) j) := by
  have ht : t.val < 32 := lt_of_lt_of_eq t.isLt N_0
  by_cases h0 : t.val % 32 = 0
  · rw [outsAt0_A m c t h0 (by omega)]
    frame_out
    exact block10 m c t R j
  · rw [outsAt0_B m c t h0 (by omega)]
    frame_out
    exact block10 m c t R j

theorem wr10 (t : Fin cfg0.N) (R : Fin 256) (j : Fin 3200) :
    ((cfg0.win 10).blk t).view.emb (ix2 R j : S256x3200.Idx) = (ix2 (row t R) j : S8192x3200.Idx) := by
  show (win0_10.rect t).emb (ix2 R j : S256x3200.Idx) = _
  funext a
  apply Fin.ext
  rw [Pipeline.Window.rect_emb_val (w := win0_10) (hk := rfl), (idx t).2.2.2.2.2.2.2.2.2.2.1]
  fin_cases a <;> simp [row] <;> omega

theorem final10 : (dats m 0 c).arrAt 10 cfg0.N = R10 m c := by
  refine (dats m 0 c).arrAt_eq_of_covers 10 _ (by decide +kernel) fun t _ y => ?_
  obtain ⟨R, j, rfl⟩ : ∃ (R : Fin 256) (j : Fin 3200), y = (ix2 R j : S256x3200.Idx) := ⟨_, _, eq_ix2 (n0 := 256) (n1 := 3200) y⟩
  rw [wr10, after0_10]
  exact out10_at m c t R j

/-! ## The third result -/

/-- The gradient of the norm's scale: every row's part added up. -/
def R11 : S1x1024.Idx → EReal := fun i => ∑ r, du m c r (i 1) * hat (xr m c r) (i 1)

/-- What one block adds. -/
def part (t : Fin cfg0.N) (y : S1x1024.Idx) : EReal := ∑ R, du m c (row t R) (y 1) * hat (xr m c (row t R)) (y 1)

theorem part_eq (t : Fin cfg0.N) (k : Fin 1024) :
    ∑ R, k0_pay7 (ga m c t) (gb m c t) (gz m c t) (wa m c t) (wb m c t) (wz m c t) (ix2 R k) * k0_pay9 (iblk m c 0 t) (ix2 R k)
      = part m c t (ix2 0 k) := by
  refine Finset.sum_congr rfl fun R _ => congrArg₂ (· * ·) (du_at m c t R k) ((pay9_at _ R k).trans ?_)
  exact congrArg (fun x => hat x k) (funext fun k => in0 m c t R k)

theorem first (t : Fin cfg0.N) (h : t.val % 32 = 0) (y : S1x1024.Idx) :
    (outsAt0 m c t.val t.isLt).2.2 y = (fun _ => 0 : S1x1024.Idx → EReal) y + part m c t y := by
  have ht : t.val < 32 := lt_of_lt_of_eq t.isLt N_0
  obtain ⟨u, k, rfl⟩ : ∃ (u : Fin 1) (k : Fin 1024), y = (ix2 u k : S1x1024.Idx) := ⟨_, _, eq_ix2 (n0 := 1) (n1 := 1024) y⟩
  obtain rfl : u = 0 := Subsingleton.elim _ _
  rw [outsAt0_A m c t h (by omega)]
  frame_out
  rw [pay2_at, zero_add]
  exact part_eq m c t k

theorem next (t : Fin cfg0.N) (h : ¬t.val % 32 = 0) (y : S1x1024.Idx) :
    (outsAt0 m c t.val t.isLt).2.2 y = (outsAt0 m c (t.val - 1) (Nat.lt_of_le_of_lt (Nat.sub_le _ _) t.isLt)).2.2 y + part m c t y := by
  obtain ⟨u, k, rfl⟩ : ∃ (u : Fin 1) (k : Fin 1024), y = (ix2 u k : S1x1024.Idx) := ⟨_, _, eq_ix2 (n0 := 1) (n1 := 1024) y⟩
  obtain rfl : u = 0 := Subsingleton.elim _ _
  rw [outsAt0_B m c t h (by omega)]
  frame_out
  rw [pay3_at]
  exact congrArg (_ + ·) (part_eq m c t k)

theorem out11_at (t : Fin cfg0.N) (h : t.val % 32 = 31) (k : Fin 1024) :
    (outsAt0 m c t.val t.isLt).2.2 (ix2 0 k) = R11 m c (ix2 0 k) := by
  have ht : t.val < 32 := lt_of_lt_of_eq t.isLt N_0
  rw [Pipeline.eq_sum_fin_of_reset_step_apply_of_flush (fun n h => (outsAt0 m c n h).2.2) 32 (fun _ => 0) (part m c)
    (first m c) (next m c) t h (ix2 0 k), zero_add]
  refine Fin.sum_mul_add_congr (S := 32) (n := 256) fun s n hl => ?_
  have hs : 32 * (t.val / 32) + s.val < cfg0.N := lt_of_lt_of_eq (by omega) N_0.symm
  have e : row ⟨32 * (t.val / 32) + s.val, hs⟩ n = ⟨s.val * 256 + n.val, hl⟩ :=
    Fin.ext (by show 256 * (32 * (t.val / 32) + s.val) + n.val = s.val * 256 + n.val; omega)
  exact congrArg (fun r => du m c r k * hat (xr m c r) k) e

theorem wr11 (t : Fin cfg0.N) (k : Fin 1024) :
    ((cfg0.win 11).blk t).view.emb (ix2 0 k : S1x1024.Idx) = (ix2 0 k : S1x1024.Idx) := by
  show (win0_11.rect t).emb (ix2 0 k : S1x1024.Idx) = _
  funext a
  apply Fin.ext
  rw [Pipeline.Window.rect_emb_val (w := win0_11) (hk := rfl), (idx t).2.2.2.2.2.2.2.2.2.2.2.1]
  fin_cases a <;> simp

theorem final11 : (dats m 0 c).arrAt 11 cfg0.N = R11 m c := by
  refine (dats m 0 c).arrAt_eq_of_covers 11 _ (by decide +kernel) fun t hf y => ?_
  obtain ⟨u, k, rfl⟩ : ∃ (u : Fin 1) (k : Fin 1024), y = (ix2 u k : S1x1024.Idx) := ⟨_, _, eq_ix2 (n0 := 1) (n1 := 1024) y⟩
  obtain rfl : u = 0 := Subsingleton.elim _ _
  rw [wr11, after0_11]
  exact out11_at m c t ((flush0_11 t).mp hf) k

end Cert.Kernel2Ideal.InputGrad

end
-- ==== Proof.Weight.lean ====
/-
  The gradient of the projection's weights: the launch's result, element by element, from its arguments.
-/
module

public import proofs.«01_k».proof.Proof.Gen.Kernel3Ideal.Value
public import proofs.«01_k».proof.Proof.Norm
public import Idealize.ShloMosaic.Lib.Pipeline.ValueKit
public import Idealize.ShloMosaic.Lib.Pipeline.ValueKit.Acc
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.Kernel3Ideal.Weight

open Cert.Kernel3Ideal Cert.Kernel3Ideal.Gen Cert.Norm

/-! ## The body's stores -/

theorem pay1_at (U : Vec Ideal S1024x1024 .bf16) (D : Vec Ideal S1024x640 .bf16) (k : Fin 1024) (j : Fin 640) :
    k0_pay1 U D (ix2 k j) = ∑ n, U (ix2 k n) * D (ix2 n j) := by
  unfold k0_pay1
  pointwise

theorem pay2_at (U : Vec Ideal S1024x1024 .bf16) (D : Vec Ideal S1024x640 .bf16) (k : Fin 1024) (j : Fin 640) :
    k0_pay2 U D (ix2 k j) = ∑ n, U (ix2 k n) * D (ix2 n j) := by
  rw [← pay1_at]
  unfold k0_pay2
  generalize k0_pay1 U D = u
  pointwise

theorem pay3_at (U : Vec Ideal S1024x1024 .bf16) (D : Vec Ideal S1024x640 .bf16) (A : Vec Ideal S1024x640 .f32) (k : Fin 1024) (j : Fin 640) :
    k0_pay3 U D A (ix2 k j) = A (ix2 k j) + ∑ n, U (ix2 k n) * D (ix2 n j) := by
  rw [← pay1_at]
  unfold k0_pay3
  generalize k0_pay1 U D = u
  pointwise

theorem pay4_at (A : Vec Ideal S1024x640 .f32) (k : Fin 1024) (j : Fin 640) : k0_pay4 A (ix2 k j) = A (ix2 k j) := by
  unfold k0_pay4
  pointwise

/-! ## The arrays that the launch is given -/

variable (m : (ℓ : Loc nD τ sig) → Buf (Elt Ideal) ℓ) (c : Dev nD)

/-- Row `r` of the input. -/
def xr (r : Fin 8192) (k : Fin 1024) : EReal := m (c.tc.loc main_arg0) (ix3 (seq r) (pos r) k : S4x2048x1024.Idx)
/-- The norm's scale. -/
def gr (k : Fin 1024) : EReal := m (c.tc.loc main_arg1) (ix1 k : S1024.Idx)
/-- Row `r` of the projection's gradient. -/
def dr (r : Fin 8192) (j : Fin 3136) : EReal := m (c.tc.loc main_arg2) (ix3 (seq r) (pos r) j : S4x2048x3136.Idx)

theorem v15_at (k : Fin 1024) (r : Fin 8192) : V m c main_v15 (ix2 k r : S1024x8192.Idx) = scaled (xr m c r) (gr m c) k := by
  unfold V
  simp only [hostOps0, List.flatten_cons, List.flatten_nil, List.cons_append, List.nil_append]
  after_reads_simp
  unfold scaled hat square xr gr seq pos
  pointwise

theorem v21_at (r : Fin 8192) (j : Fin 3200) : V m c main_v21 (ix2 r j : S8192x3200.Idx) = padded (dr m c r) j := by
  unfold V
  simp only [hostOps0, List.flatten_cons, List.flatten_nil, List.cons_append, List.nil_append]
  after_reads_simp
  unfold padded dr seq pos
  pointwise
  by_cases h : j.val < 448
  · simp only [dif_pos h]
    after_reads_simp
    pointwise
  · by_cases h' : j.val < 512
    · simp only [dif_neg h, dif_pos h', dif_pos (show j.val - 448 < 64 by omega)]
      after_reads_simp
      pointwise
    · simp only [dif_neg h, dif_neg h', dif_neg (show ¬j.val - 448 < 64 by omega)]
      after_reads_simp
      pointwise
      exact congrArg (fun z => m (c.tc.loc main_arg2) (ix3 (seq r) (pos r) z)) (Fin.ext (by show 448 + (j.val - 448 - 64) = j.val - 64; omega))

/-! ## The blocks that a grid point reads and writes -/

/-- Which block every window holds at a grid point. -/
theorem idx : ∀ t : Fin cfg0.N,
    win0_0.index t = ![0, t.val % 8] ∧ win0_1.index t = ![t.val % 8, t.val / 8] ∧ win0_2.index t = ![0, t.val / 8] :=
  (by decide +kernel : ∀ t : Fin grid0.N, _)

/-- Row `n` of the block of rows that a grid point takes. -/
def tok (t : Fin cfg0.N) (n : Fin 1024) : Fin 8192 := ⟨1024 * (t.val % 8) + n.val, by omega⟩

/-- Column `j` of the block of columns that a grid point works on. -/
def col (t : Fin cfg0.N) (j : Fin 640) : Fin 3200 :=
  ⟨640 * (t.val / 8) + j.val, by have h : t.val < 40 := lt_of_lt_of_eq t.isLt N_0; omega⟩

theorem in0 (t : Fin cfg0.N) (k n : Fin 1024) :
    (iblk m c 0 t : Vec Ideal S1024x1024 .bf16) (ix2 k n) = scaled (xr m c (tok t n)) (gr m c) k := by
  rw [← v15_at]
  show V m c main_v15 ((win0_0.rect t).emb (ix2 k n : S1024x1024.Idx)) = _
  congr 1
  funext a
  apply Fin.ext
  rw [Pipeline.Window.rect_emb_val (w := win0_0) (hk := rfl), (idx t).1]
  fin_cases a <;> simp [tok] <;> omega

theorem in1 (t : Fin cfg0.N) (n : Fin 1024) (j : Fin 640) :
    (iblk m c 1 t : Vec Ideal S1024x640 .bf16) (ix2 n j) = padded (dr m c (tok t n)) (col t j) := by
  rw [← v21_at]
  show V m c main_v21 ((win0_1.rect t).emb (ix2 n j : S1024x640.Idx)) = _
  congr 1
  funext a
  apply Fin.ext
  rw [Pipeline.Window.rect_emb_val (w := win0_1) (hk := rfl), (idx t).2.1]
  fin_cases a <;> simp [tok, col] <;> omega

/-- What one grid point adds. -/
def part (t : Fin cfg0.N) (y : S1024x640.Idx) : EReal :=
  ∑ n, scaled (xr m c (tok t n)) (gr m c) (y 0) * padded (dr m c (tok t n)) (col t (y 1))

/-- A grid point's block of the normalised rows. -/
abbrev blk0 (t : Fin cfg0.N) : Vec Ideal S1024x1024 .bf16 := iblk m c 0 t
/-- A grid point's block of the projection's gradient. -/
abbrev blk1 (t : Fin cfg0.N) : Vec Ideal S1024x640 .bf16 := iblk m c 1 t

theorem part_eq (t : Fin cfg0.N) (k : Fin 1024) (j : Fin 640) :
    ∑ n, blk0 m c t (ix2 k n) * blk1 m c t (ix2 n j) = part m c t (ix2 k j) := by
  refine Finset.sum_congr rfl fun n _ => ?_
  exact congrArg₂ (· * ·) (in0 m c t k n) (in1 m c t n j)

/-! ## The accumulator -/

theorem first (t : Fin cfg0.N) (h : t.val % 8 = 0) (y : S1024x640.Idx) :
    (outsAt0 m c t.val t.isLt).2 y = (fun _ => 0 : S1024x640.Idx → EReal) y + part m c t y := by
  obtain ⟨k, j, rfl⟩ : ∃ (k : Fin 1024) (j : Fin 640), y = (ix2 k j : S1024x640.Idx) := ⟨_, _, eq_ix2 (n0 := 1024) (n1 := 640) y⟩
  rw [outsAt0_A m c t h (by omega) (by omega)]
  frame_out
  rw [pay2_at, zero_add]
  exact part_eq m c t k j

theorem next (t : Fin cfg0.N) (h : ¬t.val % 8 = 0) (y : S1024x640.Idx) :
    (outsAt0 m c t.val t.isLt).2 y = (outsAt0 m c (t.val - 1) (Nat.lt_of_le_of_lt (Nat.sub_le _ _) t.isLt)).2 y + part m c t y := by
  obtain ⟨k, j, rfl⟩ : ∃ (k : Fin 1024) (j : Fin 640), y = (ix2 k j : S1024x640.Idx) := ⟨_, _, eq_ix2 (n0 := 1024) (n1 := 640) y⟩
  by_cases h2 : t.val % 8 = 7
  · rw [outsAt0_C m c t h (by omega) h2]
    frame_out
    rw [pay3_at]
    exact congrArg₂ (· + ·) (congrFun ((Memref.isWhole_whole cc0_scratch0).read_unread _) _) (part_eq m c t k j)
  · rw [outsAt0_B m c t h (by omega) h2]
    frame_out
    rw [pay3_at]
    exact congrArg₂ (· + ·) (congrFun ((Memref.isWhole_whole cc0_scratch0).read_unread _) _) (part_eq m c t k j)

/-- The last of a column block's eight points stores the accumulator. -/
theorem store (t : Fin cfg0.N) (h : t.val % 8 = 7) (k : Fin 1024) (j : Fin 640) :
    (outsAt0 m c t.val t.isLt).1 (ix2 k j) = (outsAt0 m c t.val t.isLt).2 (ix2 k j) := by
  rw [outsAt0_C m c t (by omega) (by omega) h]
  frame_out
  exact pay4_at _ k j

/-- The result: every row's products added up. -/
def R2 : S1024x3200.Idx → EReal := fun i => ∑ r, scaled (xr m c r) (gr m c) (i 0) * padded (dr m c r) (i 1)

theorem after (t : Fin cfg0.N) (h : t.val % 8 = 7) (k : Fin 1024) (j : Fin 640) :
    (outsAt0 m c t.val t.isLt).2 (ix2 k j) = R2 m c (ix2 k (col t j)) := by
  rw [Pipeline.eq_sum_fin_of_reset_step_apply_of_flush (fun n h => (outsAt0 m c n h).2) 8 (fun _ => 0) (part m c)
    (first m c) (next m c) t h (ix2 k j), zero_add]
  have ht : t.val < 40 := lt_of_lt_of_eq t.isLt N_0
  refine Fin.sum_mul_add_congr (S := 8) (n := 1024) fun s n hl => ?_
  have hs : 8 * (t.val / 8) + s.val < cfg0.N := lt_of_lt_of_eq (by omega) N_0.symm
  have e : tok ⟨8 * (t.val / 8) + s.val, hs⟩ n = ⟨s.val * 1024 + n.val, hl⟩ :=
    Fin.ext (by show 1024 * ((8 * (t.val / 8) + s.val) % 8) + n.val = s.val * 1024 + n.val; omega)
  have e' : col ⟨8 * (t.val / 8) + s.val, hs⟩ j = col t j :=
    Fin.ext (by show 640 * ((8 * (t.val / 8) + s.val) / 8) + j.val = 640 * (t.val / 8) + j.val; omega)
  show scaled (xr m c (tok _ n)) (gr m c) k * padded (dr m c (tok _ n)) (col _ j) = _
  rw [e, e']
  rfl

theorem wr2 (t : Fin cfg0.N) (k : Fin 1024) (j : Fin 640) :
    ((cfg0.win 2).blk t).view.emb (ix2 k j : S1024x640.Idx) = (ix2 k (col t j) : S1024x3200.Idx) := by
  show (win0_2.rect t).emb (ix2 k j : S1024x640.Idx) = _
  funext a
  apply Fin.ext
  rw [Pipeline.Window.rect_emb_val (w := win0_2) (hk := rfl), (idx t).2.2]
  fin_cases a <;> simp [col] <;> omega

theorem final2 : (dats m 0 c).arrAt 2 cfg0.N = R2 m c := by
  refine (dats m 0 c).arrAt_eq_of_covers 2 _ (by decide +kernel) fun t hf y => ?_
  obtain ⟨k, j, rfl⟩ : ∃ (k : Fin 1024) (j : Fin 640), y = (ix2 k j : S1024x640.Idx) := ⟨_, _, eq_ix2 (n0 := 1024) (n1 := 640) y⟩
  have h : t.val % 8 = 7 := (flush0_2 t).mp hf
  rw [wr2, after0_2]
  exact (store m c t h k j).trans (after m c t h k j)

end Cert.Kernel3Ideal.Weight

end
-- ==== Proof.WeightEqual.lean ====
/-
  The gradient of the projection's weights: the launch's result is the plain gradient's.
-/
module

public import proofs.«01_k».proof.Proof.Weight
public import proofs.«01_k».proof.Defs
public import proofs.«01_k».proof.Proof.Gen.Reference3Ideal.Run
public import proofs.«01_k».proof.Proof.Gen.Reference3Ideal.Read

@[expose] public section

set_option maxRecDepth 16384

noncomputable section

open Idealize.ShloMosaic Idealize.ShloMosaic.TcCoe Idealize.SL.Sem

namespace Cert.Reference3Ideal.Weight

open Cert.Reference3Ideal Cert.Reference3Ideal.Gen Cert.Reference3Ideal.Read Cert.Norm

variable (x0 : FVec Ideal S4x2048x1024 .f32) (x1 : FVec Ideal S1024 .f32) (x2 : FVec Ideal S4x2048x3136 .f32)

/-- One element of the normalised and scaled input. -/
theorem v13_at (b : Fin 4) (R : Fin 2048) (k : Fin 1024) : val_main_v13 (F := Ideal) x0 x1 (ix3 b R k)
    = scaled (fun k => x0 (ix3 b R k)) (fun k => x1 (ix1 k)) k := by
  unfold scaled hat square
  pointwise [val_main_v13, val_main_v12, val_main_v11, val_main_v10, val_main_v9, val_main_v8, val_main_v7, val_main_v6, val_main_v5,
    val_main_v4, val_main_v3, val_main_v2, val_main_v1, val_main_cst_0, val_main_cst_1, val_main_cst_2]

/-- One element of the weights' gradient, by sequence and place. -/
theorem v16_at (k : Fin 1024) (j : Fin 3136) : val_main_v16 (F := Ideal) x0 x1 x2 (ix2 k j)
    = ∑ b : Fin 4, ∑ R : Fin 2048, x2 (ix3 b R j) * scaled (fun k => x0 (ix3 b R k)) (fun k => x1 (ix1 k)) k := by
  simp only [← v13_at]
  unfold val_main_v16 val_main_v15
  generalize val_main_v13 (F := Ideal) x0 x1 = u
  pointwise

/-- One element of the result: the gradient's columns with 64 columns of zeros after the first 448. -/
theorem v21_at (k : Fin 1024) (j : Fin 3200) : val_main_v21 (F := Ideal) x0 x1 x2 (ix2 k j)
    = padded (fun j => val_main_v16 (F := Ideal) x0 x1 x2 (ix2 k j)) j := by
  unfold val_main_v21 val_main_v20 val_main_v19 val_main_v18 val_main_v17 val_main_cst_3 padded
  generalize val_main_v16 (F := Ideal) x0 x1 x2 = p
  pointwise
  by_cases h : j.val < 448
  · rw [dif_pos h, dif_pos h]
  · by_cases h' : j.val < 512
    · rw [dif_neg h, dif_neg h, dif_pos h', dif_pos (show j.val - 448 < 64 by omega)]
    · rw [dif_neg h, dif_neg h, dif_neg h', dif_neg (show ¬j.val - 448 < 64 by omega)]
      exact congrArg (fun z => p (ix2 k z)) (Fin.ext (by show 448 + (j.val - 448 - 64) = j.val - 64; omega))

end Cert.Reference3Ideal.Weight

namespace Cert.WeightEqual

open Cert.Norm Cert.Kernel3Ideal.Weight Cert.Reference3Ideal.Read Cert.Reference3Ideal.Weight

/-- A sum over all rows is the sum over the sequences and the places in them. -/
theorem sum_rows (f : Fin 4 → Fin 2048 → EReal) : ∑ r : Fin 8192, f (seq r) (pos r) = ∑ b, ∑ R, f b R := by
  refine (Fin.sum_mul_add_congr (S := 4) (n := 2048) (f := fun r => f (seq r) (pos r)) fun b R hl => ?_).symm
  have e : seq ⟨b.val * 2048 + R.val, hl⟩ = b := Fin.ext (by show (b.val * 2048 + R.val) / 2048 = b.val; omega)
  have e' : pos ⟨b.val * 2048 + R.val, hl⟩ = R := Fin.ext (by show (b.val * 2048 + R.val) % 2048 = R.val; omega)
  rw [e, e']

/-- A sum of products with padded columns is the padded sum. -/
theorem sum_padded {n : ℕ} (u : Fin n → EReal) (f : Fin n → Fin 3136 → EReal) (j : Fin 3200) :
    ∑ r, u r * padded (f r) j = padded (fun j => ∑ r, u r * f r j) j := by
  unfold padded
  by_cases h : j.val < 448
  · simp only [dif_pos h]
  · by_cases h' : j.val < 512
    · simp only [dif_neg h, dif_pos h', mul_zero, Finset.sum_const_zero]
    · simp only [dif_neg h, dif_neg h']

variable (m : (ℓ : Loc Cert.Kernel3Ideal.nD Cert.Kernel3Ideal.τ Cert.Kernel3Ideal.sig) → Buf (Elt Ideal) ℓ)
  (c : Dev Cert.Kernel3Ideal.nD)
  (x0 : FVec Ideal Cert.Reference3Ideal.S4x2048x1024 .f32) (x1 : FVec Ideal Cert.Reference3Ideal.S1024 .f32)
  (x2 : FVec Ideal Cert.Reference3Ideal.S4x2048x3136 .f32)

/-- The launch and the plain gradient are given the same arguments. -/
structure Same : Prop where
  input : x0 = m ((c.tc : Thread Cert.Kernel3Ideal.nD Cert.Kernel3Ideal.τ).loc Cert.Kernel3Ideal.main_arg0)
  scale : x1 = m ((c.tc : Thread Cert.Kernel3Ideal.nD Cert.Kernel3Ideal.τ).loc Cert.Kernel3Ideal.main_arg1)
  grad : x2 = m ((c.tc : Thread Cert.Kernel3Ideal.nD Cert.Kernel3Ideal.τ).loc Cert.Kernel3Ideal.main_arg2)

variable {m c x0 x1 x2}

theorem only (s : Same m c x0 x1 x2) : val_main_v21 (F := Ideal) x0 x1 x2 = R2 m c := by
  funext i
  obtain ⟨k, j, rfl⟩ : ∃ (k : Fin 1024) (j : Fin 3200), i = ix2 k j := ⟨_, _, eq_ix2 (n0 := 1024) (n1 := 3200) i⟩
  rw [Cert.Reference3Ideal.Weight.v21_at]
  show _ = ∑ r, scaled (xr m c r) (gr m c) k * padded (dr m c r) j
  rw [sum_padded]
  refine congrArg (fun f => padded f j) (funext fun j => ?_)
  rw [v16_at, ← sum_rows fun b R => x2 (ix3 b R j) * scaled (fun k => x0 (ix3 b R k)) (fun k => x1 (ix1 k)) k]
  obtain ⟨rfl, rfl, rfl⟩ := s
  exact Finset.sum_congr rfl fun r _ => mul_comm _ _

/-- The launch and the plain gradient leave the same result. -/
theorem algebraic : Cert.algebraic_Kernel3Ideal_Reference3Ideal := by
  intro m g m' g' _ hargs
  refine ⟨fun c => R2 m c, ?_, ?_⟩
  · refine (θ_run Cert.Kernel3Ideal.defs _ _).mono (fun r h c => ?_) (Cert.Kernel3Ideal.Value.run_blocks (F := Ideal) m g)
    obtain ⟨h0, hk⟩ := h c
    exact ⟨h0.trans (final2 m c), hk⟩
  · refine (θ_run Cert.Reference3Ideal.defs _ _).mono (fun r h c => ?_) (Cert.Reference3Ideal.Value.run (F := Ideal) m' g')
    obtain ⟨a0, a1, a2⟩ := hargs c
    have s := Same.mk (m := m) (c := c) a0 a1 a2
    obtain ⟨h0, hk⟩ := h c
    exact ⟨h0.trans ((val_main_v21_eq _ _ _).trans (only s)), hk⟩

end Cert.WeightEqual

end
-- ==== Proof.InputEqual.lean ====
/-
  From finite arguments the gradient through the norm and the input projection and the plain gradient end with the
  same three arrays.
-/
module

public import proofs.«01_k».proof.Defs
public import proofs.«01_k».proof.Proof.Equal
public import proofs.«01_k».proof.Proof.InputReference
public import proofs.«01_k».proof.Proof.InputTarget
public import proofs.«01_k».proof.Proof.WeightEqual

@[expose] public section

set_option maxRecDepth 16384

noncomputable section

open Idealize.ShloMosaic Idealize.ShloMosaic.TcCoe Idealize.SL.Sem

namespace Cert.InputEqual

open Cert.Norm Cert.InputMath Cert.Reference2Ideal.Read

/-! ## Real numbers -/

/-- An extended number that is a real number. -/
def IsReal (x : EReal) : Prop := ∃ y : ℝ, x = (y : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) {f : ι → EReal} (h : ∀ i, IsReal (f i)) : IsReal (∑ i ∈ s, f i) := by
  choose g hg using h
  exact ⟨∑ i ∈ s, g i, (Finset.sum_congr rfl fun i _ => hg i).trans (sum_real s g)⟩

/-- A row of three groups of real numbers. -/
theorem IsReal.join {a : Fin 448 → EReal} {b : Fin 1664 → EReal} {d : Fin 1024 → EReal} (ha : ∀ j, IsReal (a j)) (hb : ∀ j, IsReal (b j))
    (hd : ∀ j, IsReal (d j)) (j : Fin 3136) : IsReal (join a b d j) := by
  unfold Cert.InputMath.join
  split
  · exact ha _
  · split
    · exact hb _
    · exact hd _

/-- The two spellings of a row's gradient are equal on real numbers. -/
theorem back_of_real {x D E : Fin 1024 → EReal} (hx : ∀ k, IsReal (x k)) (hD : ∀ k, IsReal (D k)) (hE : ∀ k, IsReal (E k)) (k : Fin 1024) :
    back x D E k = back' x D E k := by
  choose x' ex using hx
  choose D' eD using hD
  choose E' eE using hE
  rw [funext ex, funext eD, funext eE]
  exact back_eq x' D' E' k

/-! ## The arguments -/

variable (m : (ℓ : Loc Cert.Kernel2Ideal.nD Cert.Kernel2Ideal.τ Cert.Kernel2Ideal.sig) → Buf (Elt Ideal) ℓ) (c : Dev Cert.Kernel2Ideal.nD)

section
open Cert.Kernel2Ideal.InputGrad

/-- Every argument holds real numbers. -/
structure Real : Prop where
  hx : ∀ r k, IsReal (xr m c r k)
  hg : ∀ k, IsReal (gr m c k)
  hw : ∀ k j, IsReal (wr m c k j)
  ha : ∀ r j, IsReal (ar m c r j)
  hb : ∀ r j, IsReal (br m c r j)
  hs : ∀ r j, IsReal (sr m c r j)
  hz : ∀ r j, IsReal (zr m c r j)
  he : ∀ r k, IsReal (er m c r k)

/-- The side conditions of the precondition's text. -/
theorem facts : Cert.Pre_finite2.Facts := ⟨by decide, by decide, by decide, by decide, by decide⟩

/-- Arguments that meet the precondition hold real numbers. -/
theorem real_of_finite [Cert.Pre_finite2.Facts] (hm : Cert.Pre_Kernel2Ideal_finite2 m) : Real m c := by
  obtain ⟨h0, h1, h2, h3, h4, h5, h6, h7⟩ := hm c
  exact ⟨fun r k => ⟨_, Cert.Equal.real_of_lt _ (congrFun h0 (ix3 (seq r) (pos r) k))⟩, fun k => ⟨_, Cert.Equal.real_of_lt _ (congrFun h1 (ix1 k))⟩,
    fun k j => ⟨_, Cert.Equal.real_of_lt _ (congrFun h2 (ix2 k j))⟩, fun r j => ⟨_, Cert.Equal.real_of_lt _ (congrFun h3 (ix3 (seq r) (pos r) j))⟩,
    fun r j => ⟨_, Cert.Equal.real_of_lt _ (congrFun h4 (ix3 (seq r) (pos r) j))⟩,
    fun r j => ⟨_, Cert.Equal.real_of_lt _ (congrFun h5 (ix3 (seq r) (pos r) j))⟩,
    fun r j => ⟨_, Cert.Equal.real_of_lt _ (congrFun h6 (ix3 (seq r) (pos r) j))⟩,
    fun r k => ⟨_, Cert.Equal.real_of_lt _ (congrFun h7 (ix3 (seq r) (pos r) k))⟩⟩

variable {m c}

/-- The gradient of a scaled row is then real. -/
theorem Real.du (H : Real m c) (r : Fin 8192) (k : Fin 1024) : IsReal (du m c r k) := by
  refine IsReal.sum _ fun j => IsReal.mul (IsReal.join (H.ha r) (fun j => IsReal.add (H.hb r j) ?_) (H.hz r) j) (H.hw k j)
  unfold moved
  split
  · exact ⟨0, EReal.coe_zero.symm⟩
  · exact H.hs _ j

end

/-! ## The three results -/

variable (x0 : FVec Ideal Cert.Reference2Ideal.S4x2048x1024 .f32) (x1 : FVec Ideal Cert.Reference2Ideal.S1024 .f32)
  (x2 : FVec Ideal Cert.Reference2Ideal.S1024x3136 .f32) (x3 : FVec Ideal Cert.Reference2Ideal.S4x2048x448 .f32)
  (x4 x5 : FVec Ideal Cert.Reference2Ideal.S4x2048x1664 .f32) (x6 x7 : FVec Ideal Cert.Reference2Ideal.S4x2048x1024 .f32)

/-- The launch and the plain gradient are given the same arguments. -/
structure Same : Prop where
  input : x0 = m ((c.tc : Thread Cert.Kernel2Ideal.nD Cert.Kernel2Ideal.τ).loc Cert.Kernel2Ideal.main_arg0)
  scale : x1 = m ((c.tc : Thread Cert.Kernel2Ideal.nD Cert.Kernel2Ideal.τ).loc Cert.Kernel2Ideal.main_arg1)
  weight : x2 = m ((c.tc : Thread Cert.Kernel2Ideal.nD Cert.Kernel2Ideal.τ).loc Cert.Kernel2Ideal.main_arg2)
  grad1 : x3 = m ((c.tc : Thread Cert.Kernel2Ideal.nD Cert.Kernel2Ideal.τ).loc Cert.Kernel2Ideal.main_arg3)
  grad2 : x4 = m ((c.tc : Thread Cert.Kernel2Ideal.nD Cert.Kernel2Ideal.τ).loc Cert.Kernel2Ideal.main_arg4)
  shifted : x5 = m ((c.tc : Thread Cert.Kernel2Ideal.nD Cert.Kernel2Ideal.τ).loc Cert.Kernel2Ideal.main_arg5)
  grad3 : x6 = m ((c.tc : Thread Cert.Kernel2Ideal.nD Cert.Kernel2Ideal.τ).loc Cert.Kernel2Ideal.main_arg6)
  past : x7 = m ((c.tc : Thread Cert.Kernel2Ideal.nD Cert.Kernel2Ideal.τ).loc Cert.Kernel2Ideal.main_arg7)

variable {m c x0 x1 x2 x3 x4 x5 x6 x7}

theorem moved_eq (s : Same m c x0 x1 x2 x3 x4 x5 x6 x7) (r : Fin 8192) (j : Fin 1664) :
    Cert.Reference2Ideal.Input.moved x5 (seq r) (pos r) j = Cert.Kernel2Ideal.InputGrad.moved m c r j := by
  unfold Cert.Reference2Ideal.Input.moved Cert.Kernel2Ideal.InputGrad.moved
  have hp : (pos r).val = r.val % 2048 := rfl
  by_cases h : r.val % 2048 = 2047
  · rw [dif_pos h, dif_pos (hp.trans h)]
  · rw [dif_neg h, dif_neg (fun e => h (hp.symm.trans e)), s.shifted]
    refine congrArg₂ (fun b R => m ((c.tc : Thread Cert.Kernel2Ideal.nD Cert.Kernel2Ideal.τ).loc Cert.Kernel2Ideal.main_arg5)
      (ix3 b R j : Cert.Reference2Ideal.S4x2048x1664.Idx)) (Fin.ext ?_) (Fin.ext ?_)
    · show r.val / 2048 = (r.val + 1) / 2048; omega
    · show r.val % 2048 + 1 = (r.val + 1) % 2048; omega

theorem dp_eq (s : Same m c x0 x1 x2 x3 x4 x5 x6 x7) (r : Fin 8192) :
    Cert.Reference2Ideal.Input.dp x3 x4 x5 x6 (seq r) (pos r) = Cert.Kernel2Ideal.InputGrad.dp m c r := by
  unfold Cert.Reference2Ideal.Input.dp Cert.Kernel2Ideal.InputGrad.dp
  simp only [moved_eq s]
  obtain ⟨rfl, rfl, rfl, rfl, rfl, rfl, rfl, rfl⟩ := s
  rfl

theorem du_eq (s : Same m c x0 x1 x2 x3 x4 x5 x6 x7) (r : Fin 8192) (k : Fin 1024) :
    Cert.Reference2Ideal.Input.du x2 x3 x4 x5 x6 (seq r) (pos r) k = Cert.Kernel2Ideal.InputGrad.du m c r k := by
  unfold Cert.Reference2Ideal.Input.du Cert.Kernel2Ideal.InputGrad.du
  rw [dp_eq s, s.weight]
  rfl

/-- The gradient of the input. -/
theorem first (s : Same m c x0 x1 x2 x3 x4 x5 x6 x7) (H : Real m c) :
    val_main_v57 (F := Ideal) x0 x1 x2 x3 x4 x5 x6 x7 = Cert.Kernel2Ideal.InputGrad.R9 m c := by
  funext i
  obtain ⟨r, k, rfl⟩ : ∃ (r : Fin 8192) (k : Fin 1024), i = ix2 r k := ⟨_, _, eq_ix2 (n0 := 8192) (n1 := 1024) i⟩
  rw [Cert.Reference2Ideal.Input.v57_at]
  simp only [du_eq s]
  obtain ⟨rfl, rfl, rfl, rfl, rfl, rfl, rfl, rfl⟩ := s
  exact (back_of_real (H.hx r) (fun k => IsReal.mul (H.du r k) (H.hg k)) (H.he r) k).symm

/-- The gradient of the projection's output. -/
theorem second (s : Same m c x0 x1 x2 x3 x4 x5 x6 x7) :
    val_main_v62 (F := Ideal) x3 x4 x5 x6 = Cert.Kernel2Ideal.InputGrad.R10 m c := by
  funext i
  obtain ⟨r, j, rfl⟩ : ∃ (r : Fin 8192) (j : Fin 3200), i = ix2 r j := ⟨_, _, eq_ix2 (n0 := 8192) (n1 := 3200) i⟩
  rw [Cert.Reference2Ideal.Input.v62_at, dp_eq s]
  rfl

/-- The gradient of the norm's scale. -/
theorem third (s : Same m c x0 x1 x2 x3 x4 x5 x6 x7) :
    val_main_v63 (F := Ideal) x0 x2 x3 x4 x5 x6 = Cert.Kernel2Ideal.InputGrad.R11 m c := by
  funext i
  obtain ⟨u, k, rfl⟩ : ∃ (u : Fin 1) (k : Fin 1024), i = ix2 u k := ⟨_, _, eq_ix2 (n0 := 1) (n1 := 1024) i⟩
  obtain rfl : u = 0 := Subsingleton.elim _ _
  rw [Cert.Reference2Ideal.Input.v63_at, ← Cert.WeightEqual.sum_rows fun b R =>
    hat (fun k => x0 (ix3 b R k)) k * Cert.Reference2Ideal.Input.du x2 x3 x4 x5 x6 b R k]
  simp only [du_eq s]
  obtain ⟨rfl, rfl, rfl, rfl, rfl, rfl, rfl, rfl⟩ := s
  exact Finset.sum_congr rfl fun r _ => mul_comm _ _

/-- The launch and the plain gradient leave the same results. -/
theorem algebraic [Cert.Pre_finite2.Facts] : Cert.algebraic_Kernel2Ideal_Reference2Ideal_pre_finite2 := by
  intro m g m' g' hm hargs
  refine ⟨fun c => Cert.Kernel2Ideal.InputGrad.R9 m c, fun c => Cert.Kernel2Ideal.InputGrad.R10 m c,
    fun c => Cert.Kernel2Ideal.InputGrad.R11 m c, ?_, ?_⟩
  · refine (θ_run Cert.Kernel2Ideal.defs _ _).mono (fun r h c => ?_) (Cert.Kernel2Ideal.Value.run_blocks (F := Ideal) m g)
    obtain ⟨h0, h1, h2, hk⟩ := h c
    exact ⟨h0.trans (Cert.Kernel2Ideal.InputGrad.final9 m c), h1.trans (Cert.Kernel2Ideal.InputGrad.final10 m c),
      h2.trans (Cert.Kernel2Ideal.InputGrad.final11 m c), hk⟩
  · refine (θ_run Cert.Reference2Ideal.defs _ _).mono (fun r h c => ?_) (Cert.Reference2Ideal.Value.run (F := Ideal) m' g')
    obtain ⟨a0, a1, a2, a3, a4, a5, a6, a7⟩ := hargs c
    have s := Same.mk (m := m) (c := c) a0 a1 a2 a3 a4 a5 a6 a7
    obtain ⟨h0, h1, h2, hk⟩ := h c
    exact ⟨h0.trans ((val_main_v57_eq m' c).trans (first s (real_of_finite m c hm))), h1.trans ((val_main_v62_eq _ _ _ _).trans (second s)),
      h2.trans ((val_main_v63_eq _ _ _ _ _ _).trans (third s)), hk⟩

end Cert.InputEqual

end
-- ==== Proof.Project.lean ====
/-
  The input projection: the launch's four results, element by element, from its arguments.
-/
module

public import proofs.«01_k».proof.Proof.Gen.Kernel4Ideal.Value
public import proofs.«01_k».proof.Proof.Norm
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.Kernel4Ideal.Project

open Cert.Kernel4Ideal Cert.Kernel4Ideal.Gen Cert.Norm

/-! ## The body's four stores -/

theorem pay1_at (X : Vec Ideal S256x1024 .f32) (G : Vec Ideal S1x1024 .f32) (R : Fin 256) (k : Fin 1024) :
    k0_pay1 X G (ix2 R k) = scaled (fun k => X (ix2 R k)) (fun k => G (ix2 0 k)) k := by
  unfold k0_pay1 scaled hat square
  pointwise

theorem pay2_at (X : Vec Ideal S256x1024 .f32) (G : Vec Ideal S1x1024 .f32) (R : Fin 256) (k : Fin 1024) :
    k0_pay2 X G (ix2 R k) = scaled (fun k => X (ix2 R k)) (fun k => G (ix2 0 k)) k := by
  unfold k0_pay2
  exact pay1_at X G R k

theorem pay3_at (X : Vec Ideal S256x1024 .f32) (G : Vec Ideal S1x1024 .f32) (R : Fin 256) (k : Fin 1024) :
    k0_pay3 X G (ix2 k R) = scaled (fun k => X (ix2 R k)) (fun k => G (ix2 0 k)) k := by
  rw [← pay1_at]
  unfold k0_pay3
  generalize k0_pay1 X G = u
  pointwise

theorem pay4_at (X : Vec Ideal S256x1024 .f32) (G : Vec Ideal S1x1024 .f32) (W : Vec Ideal S1024x512 .bf16) (R : Fin 256) (j : Fin 512) :
    k0_pay4 X G W (ix2 R j) = ∑ k, scaled (fun k => X (ix2 R k)) (fun k => G (ix2 0 k)) k * W (ix2 k j) := by
  simp only [← pay2_at]
  unfold k0_pay4
  generalize k0_pay2 X G = u
  pointwise

theorem pay5_at (X : Vec Ideal S256x1024 .f32) (G : Vec Ideal S1x1024 .f32) (W : Vec Ideal S1024x1664 .bf16) (R : Fin 256) (j : Fin 1664) :
    k0_pay5 X G W (ix2 R j) = ∑ k, scaled (fun k => X (ix2 R k)) (fun k => G (ix2 0 k)) k * W (ix2 k j) := by
  simp only [← pay2_at]
  unfold k0_pay5
  generalize k0_pay2 X G = u
  pointwise

theorem pay6_at (X : Vec Ideal S256x1024 .f32) (G : Vec Ideal S1x1024 .f32) (W : Vec Ideal S1024x1024 .bf16) (R : Fin 256) (j : Fin 1024) :
    k0_pay6 X G W (ix2 R j) = ∑ k, scaled (fun k => X (ix2 R k)) (fun k => G (ix2 0 k)) k * W (ix2 k j) := by
  simp only [← pay2_at]
  unfold k0_pay6
  generalize k0_pay2 X G = u
  pointwise

/-! ## The arrays that the launch is given -/

variable (m : (ℓ : Loc nD τ sig) → Buf (Elt Ideal) ℓ) (c : Dev nD)

/-- Row `r` of the input. -/
def xr (r : Fin 8192) (k : Fin 1024) : EReal := m (c.tc.loc main_arg0) (ix3 (seq r) (pos r) k : S4x2048x1024.Idx)
/-- The norm's scale. -/
def gr (k : Fin 1024) : EReal := m (c.tc.loc main_arg1) (ix1 k : S1024.Idx)
/-- Row `k` of the weights. -/
def wr (k : Fin 1024) (j : Fin 3136) : EReal := m (c.tc.loc main_arg2) (ix2 k j : S1024x3136.Idx)

theorem v5_at (r : Fin 8192) (k : Fin 1024) : V m c main_v5 (ix2 r k : S8192x1024.Idx) = xr m c r k := by
  unfold V
  simp only [hostOps0, List.flatten_cons, List.flatten_nil, List.cons_append, List.nil_append]
  after_reads_simp
  unfold xr seq pos
  pointwise

theorem v6_at (k : Fin 1024) : V m c main_v6 (ix2 0 k : S1x1024.Idx) = gr m c k := by
  unfold V
  simp only [hostOps0, List.flatten_cons, List.flatten_nil, List.cons_append, List.nil_append]
  after_reads_simp
  unfold gr
  pointwise

theorem v4_at (k : Fin 1024) (j : Fin 3200) : V m c main_v4 (ix2 k j : S1024x3200.Idx) = padded (wr m c k) j := by
  unfold V
  simp only [hostOps0, List.flatten_cons, List.flatten_nil, List.cons_append, List.nil_append]
  after_reads_simp
  unfold padded wr
  pointwise
  by_cases h : j.val < 448
  · simp only [dif_pos h]
    after_reads_simp
    pointwise
  · by_cases h' : j.val < 512
    · simp only [dif_neg h, dif_pos h', dif_pos (show j.val - 448 < 64 by omega)]
      after_reads_simp
      pointwise
    · simp only [dif_neg h, dif_neg h', dif_neg (show ¬j.val - 448 < 64 by omega)]
      after_reads_simp
      pointwise
      exact congrArg (fun z => m (c.tc.loc main_arg2) (ix2 k z)) (Fin.ext (by show 448 + (j.val - 448 - 64) = j.val - 64; omega))

/-! ## The blocks that a grid point reads and writes -/

/-- Which block every window holds at a grid point. -/
theorem idx : ∀ t : Fin cfg0.N,
    win0_0.index t = ![t.val, 0] ∧ win0_1.index t = ![0, 0] ∧ win0_2.index t = ![0, 0] ∧ win0_3.index t = ![0, t.val]
    ∧ win0_4.index t = ![t.val, 0] ∧ win0_5.index t = ![t.val, 0] ∧ win0_6.index t = ![t.val, 0] :=
  (by decide +kernel : ∀ t : Fin grid0.N, _)

theorem in0 (t : Fin cfg0.N) (R : Fin 256) (k : Fin 1024) :
    (iblk m c 0 t : Vec Ideal S256x1024 .f32) (ix2 R k) = xr m c (row t R) k := by
  rw [← v5_at]
  show V m c main_v5 ((win0_0.rect t).emb (ix2 R k : S256x1024.Idx)) = _
  congr 1
  funext a
  apply Fin.ext
  rw [Pipeline.Window.rect_emb_val (w := win0_0) (hk := rfl), (idx t).1]
  fin_cases a <;> simp [row] <;> omega

theorem in1 (t : Fin cfg0.N) (k : Fin 1024) : (iblk m c 1 t : Vec Ideal S1x1024 .f32) (ix2 0 k) = gr m c k := by
  rw [← v6_at]
  show V m c main_v6 ((win0_1.rect t).emb (ix2 0 k : S1x1024.Idx)) = _
  congr 1
  funext a
  apply Fin.ext
  rw [Pipeline.Window.rect_emb_val (w := win0_1) (hk := rfl), (idx t).2.1]
  fin_cases a <;> simp

theorem in2 (t : Fin cfg0.N) (k : Fin 1024) (j : Fin 3200) :
    (iblk m c 2 t : Vec Ideal S1024x3200 .bf16) (ix2 k j) = padded (wr m c k) j := by
  rw [← v4_at]
  show V m c main_v4 ((win0_2.rect t).emb (ix2 k j : S1024x3200.Idx)) = _
  congr 1
  funext a
  apply Fin.ext
  rw [Pipeline.Window.rect_emb_val (w := win0_2) (hk := rfl), (idx t).2.2.1]
  fin_cases a <;> simp

theorem ld0 (t : Fin cfg0.N) (R : Fin 256) : (fun k => View.ld (iblk m c 0 t) r0_0 (ix2 R k)) = xr m c (row t R) := by
  funext k
  rw [← in0]
  pointwise

theorem ld1 (t : Fin cfg0.N) : (fun k => View.ld (iblk m c 1 t) r0_1 (ix2 0 k)) = gr m c := by
  funext k
  rw [← in1 m c t]
  pointwise

/-- The rows' projection, with the columns padded. -/
def proj (r : Fin 8192) (j : Fin 3200) : EReal := ∑ k, scaled (xr m c r) (gr m c) k * padded (wr m c k) j

theorem out3_at (t : Fin cfg0.N) (R : Fin 256) (k : Fin 1024) :
    (dats m 0 c).after 3 t (ix2 k R : S1024x256.Idx) = scaled (xr m c (row t R)) (gr m c) k := by
  rw [after0_3]
  unfold out0_3
  rw [View.canon_cons_unit_lit _ _ _ (by decide)]
  refine (pay3_at _ _ R k).trans ?_
  rw [ld0, ld1]

theorem out4_at (t : Fin cfg0.N) (R : Fin 256) (j : Fin 512) :
    (dats m 0 c).after 4 t (ix2 R j : S256x512.Idx) = proj m c (row t R) ⟨j.val, by omega⟩ := by
  rw [after0_4]
  unfold out0_4 proj
  rw [View.canon_cons_unit_lit _ _ _ (by decide)]
  refine (pay4_at _ _ _ R j).trans ?_
  rw [ld0, ld1]
  refine Finset.sum_congr rfl fun k _ => congrArg _ ?_
  rw [← in2 m c t]
  pointwise

theorem out5_at (t : Fin cfg0.N) (R : Fin 256) (j : Fin 1664) :
    (dats m 0 c).after 5 t (ix2 R j : S256x1664.Idx) = proj m c (row t R) ⟨512 + j.val, by omega⟩ := by
  rw [after0_5]
  unfold out0_5 proj
  rw [View.canon_cons_unit_lit _ _ _ (by decide)]
  refine (pay5_at _ _ _ R j).trans ?_
  rw [ld0, ld1]
  refine Finset.sum_congr rfl fun k _ => congrArg _ ?_
  rw [← in2 m c t]
  pointwise

theorem out6_at (t : Fin cfg0.N) (R : Fin 256) (j : Fin 1024) :
    (dats m 0 c).after 6 t (ix2 R j : S256x1024.Idx) = proj m c (row t R) ⟨2176 + j.val, by omega⟩ := by
  rw [after0_6]
  unfold out0_6 proj
  rw [View.canon_cons_unit_lit _ _ _ (by decide)]
  refine (pay6_at _ _ _ R j).trans ?_
  rw [ld0, ld1]
  refine Finset.sum_congr rfl fun k _ => congrArg _ ?_
  rw [← in2 m c t]
  pointwise

/-! ## The arrays after the run -/

/-- The first result: the normalised rows, transposed. -/
def R3 : S1024x8192.Idx → EReal := fun i => scaled (xr m c (i 1)) (gr m c) (i 0)
/-- The second result: the projection's first 448 columns and 64 columns of zeros. -/
def R4 : S8192x512.Idx → EReal := fun i => proj m c (i 0) ⟨(i 1).val, lt_trans (i 1).isLt (by decide)⟩
/-- The third result: the columns that are shifted. -/
def R5 : S8192x1664.Idx → EReal := fun i => proj m c (i 0) ⟨512 + (i 1).val, by have : (i 1).val < 1664 := (i 1).isLt; omega⟩
/-- The fourth result: the gate's columns. -/
def R6 : S8192x1024.Idx → EReal := fun i => proj m c (i 0) ⟨2176 + (i 1).val, by have : (i 1).val < 1024 := (i 1).isLt; omega⟩

theorem wr3 (t : Fin cfg0.N) (R : Fin 256) (k : Fin 1024) :
    ((cfg0.win 3).blk t).view.emb (ix2 k R : S1024x256.Idx) = (ix2 k (row t R) : S1024x8192.Idx) := by
  show (win0_3.rect t).emb (ix2 k R : S1024x256.Idx) = _
  funext a
  apply Fin.ext
  rw [Pipeline.Window.rect_emb_val (w := win0_3) (hk := rfl), (idx t).2.2.2.1]
  fin_cases a <;> simp [row] <;> omega

theorem wr4 (t : Fin cfg0.N) (R : Fin 256) (j : Fin 512) :
    ((cfg0.win 4).blk t).view.emb (ix2 R j : S256x512.Idx) = (ix2 (row t R) j : S8192x512.Idx) := by
  show (win0_4.rect t).emb (ix2 R j : S256x512.Idx) = _
  funext a
  apply Fin.ext
  rw [Pipeline.Window.rect_emb_val (w := win0_4) (hk := rfl), (idx t).2.2.2.2.1]
  fin_cases a <;> simp [row] <;> omega

theorem wr5 (t : Fin cfg0.N) (R : Fin 256) (j : Fin 1664) :
    ((cfg0.win 5).blk t).view.emb (ix2 R j : S256x1664.Idx) = (ix2 (row t R) j : S8192x1664.Idx) := by
  show (win0_5.rect t).emb (ix2 R j : S256x1664.Idx) = _
  funext a
  apply Fin.ext
  rw [Pipeline.Window.rect_emb_val (w := win0_5) (hk := rfl), (idx t).2.2.2.2.2.1]
  fin_cases a <;> simp [row] <;> omega

theorem wr6 (t : Fin cfg0.N) (R : Fin 256) (j : Fin 1024) :
    ((cfg0.win 6).blk t).view.emb (ix2 R j : S256x1024.Idx) = (ix2 (row t R) j : S8192x1024.Idx) := by
  show (win0_6.rect t).emb (ix2 R j : S256x1024.Idx) = _
  funext a
  apply Fin.ext
  rw [Pipeline.Window.rect_emb_val (w := win0_6) (hk := rfl), (idx t).2.2.2.2.2.2]
  fin_cases a <;> simp [row] <;> omega

theorem final3 : (dats m 0 c).arrAt 3 cfg0.N = R3 m c := by
  refine (dats m 0 c).arrAt_eq_of_covers 3 _ (by decide +kernel) fun t _ y => ?_
  obtain ⟨k, R, rfl⟩ : ∃ (k : Fin 1024) (R : Fin 256), y = (ix2 k R : S1024x256.Idx) := ⟨_, _, eq_ix2 (n0 := 1024) (n1 := 256) y⟩
  refine (out3_at m c t R k).trans ?_
  rw [wr3]
  rfl

theorem final4 : (dats m 0 c).arrAt 4 cfg0.N = R4 m c := by
  refine (dats m 0 c).arrAt_eq_of_covers 4 _ (by decide +kernel) fun t _ y => ?_
  obtain ⟨R, j, rfl⟩ : ∃ (R : Fin 256) (j : Fin 512), y = (ix2 R j : S256x512.Idx) := ⟨_, _, eq_ix2 (n0 := 256) (n1 := 512) y⟩
  refine (out4_at m c t R j).trans ?_
  rw [wr4]
  rfl

theorem final5 : (dats m 0 c).arrAt 5 cfg0.N = R5 m c := by
  refine (dats m 0 c).arrAt_eq_of_covers 5 _ (by decide +kernel) fun t _ y => ?_
  obtain ⟨R, j, rfl⟩ : ∃ (R : Fin 256) (j : Fin 1664), y = (ix2 R j : S256x1664.Idx) := ⟨_, _, eq_ix2 (n0 := 256) (n1 := 1664) y⟩
  refine (out5_at m c t R j).trans ?_
  rw [wr5]
  rfl

theorem final6 : (dats m 0 c).arrAt 6 cfg0.N = R6 m c := by
  refine (dats m 0 c).arrAt_eq_of_covers 6 _ (by decide +kernel) fun t _ y => ?_
  obtain ⟨R, j, rfl⟩ : ∃ (R : Fin 256) (j : Fin 1024), y = (ix2 R j : S256x1024.Idx) := ⟨_, _, eq_ix2 (n0 := 256) (n1 := 1024) y⟩
  refine (out6_at m c t R j).trans ?_
  rw [wr6]
  rfl

end Cert.Kernel4Ideal.Project

end
-- ==== Proof.ProjectTarget.lean ====
/-
  The plain input projection's results, element by element, from its arguments.
-/
module

public import proofs.«01_k».proof.Proof.Gen.Reference4Ideal.Read
public import proofs.«01_k».proof.Proof.Norm
public import Idealize.ShloMosaic.Lib.Pointwise

@[expose] public section

set_option maxRecDepth 16384

noncomputable section

open Idealize.ShloMosaic Idealize.ShloMosaic.TcCoe Idealize.SL.Sem

namespace Cert.Reference4Ideal.Project

open Cert.Reference4Ideal Cert.Reference4Ideal.Gen Cert.Reference4Ideal.Read Cert.Norm

variable (x0 : FVec Ideal S4x2048x1024 .f32) (x1 : FVec Ideal S1024 .f32) (x2 : FVec Ideal S1024x3136 .f32)

/-- One element of the normalised and scaled input. -/
theorem v12_at (b : Fin 4) (R : Fin 2048) (k : Fin 1024) : val_main_v12 (F := Ideal) x0 x1 (ix3 b R k)
    = scaled (fun k => x0 (ix3 b R k)) (fun k => x1 (ix1 k)) k := by
  unfold scaled hat square
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]

/-- One element of the projection. -/
theorem v14_at (r : Fin 8192) (j : Fin 3136) : val_main_v14 (F := Ideal) x0 x1 x2 (ix2 r j)
    = ∑ k, scaled (fun k => x0 (ix3 (seq r) (pos r) k)) (fun k => x1 (ix1 k)) k * x2 (ix2 k j) := by
  simp only [← v12_at]
  unfold val_main_v14 val_main_v13 seq pos
  generalize val_main_v12 (F := Ideal) x0 x1 = u
  pointwise

/-- The first result. -/
theorem v17_at (r : Fin 8192) (k : Fin 1024) : val_main_v17 (F := Ideal) x0 x1 (ix2 k r)
    = scaled (fun k => x0 (ix3 (seq r) (pos r) k)) (fun k => x1 (ix1 k)) k := by
  rw [← v12_at]
  unfold val_main_v17 val_main_v16 val_main_v15 seq pos
  generalize val_main_v12 (F := Ideal) x0 x1 = u
  pointwise

/-- The second result. -/
theorem v19_at (r : Fin 8192) (j : Fin 512) : val_main_v19 (F := Ideal) x0 x1 x2 (ix2 r j)
    = if h : j.val < 448 then val_main_v14 (F := Ideal) x0 x1 x2 (ix2 r ⟨j.val, by omega⟩) else 0 := by
  unfold val_main_v19 val_main_v18 val_main_call0_v0 val_main_c
  generalize val_main_v14 (F := Ideal) x0 x1 x2 = p
  pointwise
  rw [show (FloatOps.sitofp .f32 0#32 : Ideal .f32) = (0 : EReal) by show (((0#32 : BitVec 32).toInt : ℝ) : EReal) = 0; simp]

/-- The third result. -/
theorem v20_at (r : Fin 8192) (j : Fin 1664) : val_main_v20 (F := Ideal) x0 x1 x2 (ix2 r j)
    = val_main_v14 (F := Ideal) x0 x1 x2 (ix2 r ⟨448 + j.val, by omega⟩) := by
  unfold val_main_v20
  generalize val_main_v14 (F := Ideal) x0 x1 x2 = p
  pointwise

/-- The fourth result. -/
theorem v21_at (r : Fin 8192) (j : Fin 1024) : val_main_v21 (F := Ideal) x0 x1 x2 (ix2 r j)
    = val_main_v14 (F := Ideal) x0 x1 x2 (ix2 r ⟨2112 + j.val, by omega⟩) := by
  unfold val_main_v21
  generalize val_main_v14 (F := Ideal) x0 x1 x2 = p
  pointwise

end Cert.Reference4Ideal.Project

end
-- ==== Proof.ProjectEqual.lean ====
/-
  The input projection: the launch's four results are the plain projection's.
-/
module

public import proofs.«01_k».proof.Proof.Project
public import proofs.«01_k».proof.Proof.ProjectTarget
public import proofs.«01_k».proof.Defs
public import proofs.«01_k».proof.Proof.Gen.Reference4Ideal.Run

@[expose] public section

set_option maxRecDepth 16384

noncomputable section

open Idealize.ShloMosaic Idealize.ShloMosaic.TcCoe Idealize.SL.Sem

namespace Cert.ProjectEqual

open Cert.Norm Cert.Kernel4Ideal.Project Cert.Reference4Ideal.Read Cert.Reference4Ideal.Project

/-! ## The padded columns -/

theorem padded_low (f : Fin 3136 → EReal) (j : Fin 3200) (h : j.val < 448) : padded f j = f ⟨j.val, by omega⟩ := by
  unfold padded; rw [dif_pos h]

theorem padded_zero (f : Fin 3136 → EReal) (j : Fin 3200) (h : ¬j.val < 448) (h' : j.val < 512) : padded f j = 0 := by
  unfold padded; rw [dif_neg h, dif_pos h']

theorem padded_high (f : Fin 3136 → EReal) (j : Fin 3200) (h' : ¬j.val < 512) : padded f j = f ⟨j.val - 64, by omega⟩ := by
  unfold padded; rw [dif_neg (by omega), dif_neg h']

/-! ## The four results -/

variable (m : (ℓ : Loc Cert.Kernel4Ideal.nD Cert.Kernel4Ideal.τ Cert.Kernel4Ideal.sig) → Buf (Elt Ideal) ℓ)
  (c : Dev Cert.Kernel4Ideal.nD)
  (x0 : FVec Ideal Cert.Reference4Ideal.S4x2048x1024 .f32) (x1 : FVec Ideal Cert.Reference4Ideal.S1024 .f32)
  (x2 : FVec Ideal Cert.Reference4Ideal.S1024x3136 .f32)

/-- The launch and the plain projection are given the same arguments. -/
structure Same : Prop where
  input : x0 = m ((c.tc : Thread Cert.Kernel4Ideal.nD Cert.Kernel4Ideal.τ).loc Cert.Kernel4Ideal.main_arg0)
  scale : x1 = m ((c.tc : Thread Cert.Kernel4Ideal.nD Cert.Kernel4Ideal.τ).loc Cert.Kernel4Ideal.main_arg1)
  weight : x2 = m ((c.tc : Thread Cert.Kernel4Ideal.nD Cert.Kernel4Ideal.τ).loc Cert.Kernel4Ideal.main_arg2)

variable {m c x0 x1 x2}

theorem first (s : Same m c x0 x1 x2) : val_main_v17 (F := Ideal) x0 x1 = R3 m c := by
  obtain ⟨rfl, rfl, rfl⟩ := s
  funext i
  obtain ⟨k, r, rfl⟩ : ∃ (k : Fin 1024) (r : Fin 8192), i = ix2 k r := ⟨_, _, eq_ix2 (n0 := 1024) (n1 := 8192) i⟩
  rw [v17_at]
  rfl

/-- One column of the plain projection. -/
theorem column (s : Same m c x0 x1 x2) (r : Fin 8192) (j : Fin 3136) : val_main_v14 (F := Ideal) x0 x1 x2 (ix2 r j)
    = ∑ k, scaled (xr m c r) (gr m c) k * wr m c k j := by
  obtain ⟨rfl, rfl, rfl⟩ := s
  rw [v14_at]
  rfl

theorem second (s : Same m c x0 x1 x2) : val_main_v19 (F := Ideal) x0 x1 x2 = R4 m c := by
  funext i
  obtain ⟨r, j, rfl⟩ : ∃ (r : Fin 8192) (j : Fin 512), i = ix2 r j := ⟨_, _, eq_ix2 (n0 := 8192) (n1 := 512) i⟩
  rw [v19_at]
  show _ = ∑ k, scaled (xr m c r) (gr m c) k * padded (wr m c k) ⟨j.val, by omega⟩
  by_cases h : j.val < 448
  · rw [dif_pos h, column s]
    exact Finset.sum_congr rfl fun k _ => congrArg _ (padded_low (wr m c k) ⟨j.val, by omega⟩ h).symm
  · rw [dif_neg h]
    refine (Finset.sum_eq_zero fun k _ => ?_).symm
    rw [padded_zero _ _ h j.isLt, mul_zero]

theorem third (s : Same m c x0 x1 x2) : val_main_v20 (F := Ideal) x0 x1 x2 = R5 m c := by
  funext i
  obtain ⟨r, j, rfl⟩ : ∃ (r : Fin 8192) (j : Fin 1664), i = ix2 r j := ⟨_, _, eq_ix2 (n0 := 8192) (n1 := 1664) i⟩
  rw [v20_at, column s]
  show _ = ∑ k, scaled (xr m c r) (gr m c) k * padded (wr m c k) ⟨512 + j.val, by omega⟩
  refine Finset.sum_congr rfl fun k _ => congrArg _ ?_
  rw [padded_high _ _ (by show ¬512 + j.val < 512; omega)]
  exact congrArg _ (Fin.ext (by show 448 + j.val = 512 + j.val - 64; omega))

theorem fourth (s : Same m c x0 x1 x2) : val_main_v21 (F := Ideal) x0 x1 x2 = R6 m c := by
  funext i
  obtain ⟨r, j, rfl⟩ : ∃ (r : Fin 8192) (j : Fin 1024), i = ix2 r j := ⟨_, _, eq_ix2 (n0 := 8192) (n1 := 1024) i⟩
  rw [v21_at, column s]
  show _ = ∑ k, scaled (xr m c r) (gr m c) k * padded (wr m c k) ⟨2176 + j.val, by omega⟩
  refine Finset.sum_congr rfl fun k _ => congrArg _ ?_
  rw [padded_high _ _ (by show ¬2176 + j.val < 512; omega)]
  exact congrArg _ (Fin.ext (by show 2112 + j.val = 2176 + j.val - 64; omega))

/-- The launch and the plain projection leave the same four results. -/
theorem algebraic : Cert.algebraic_Kernel4Ideal_Reference4Ideal := by
  intro m g m' g' _ hargs
  refine ⟨fun c => R3 m c, fun c => R4 m c, fun c => R5 m c, fun c => R6 m c, ?_, ?_⟩
  · refine (θ_run Cert.Kernel4Ideal.defs _ _).mono (fun r h c => ?_) (Cert.Kernel4Ideal.Value.run_blocks (F := Ideal) m g)
    obtain ⟨h0, h1, h2, h3, hk⟩ := h c
    exact ⟨h0.trans (final3 m c), h1.trans (final4 m c), h2.trans (final5 m c), h3.trans (final6 m c), hk⟩
  · refine (θ_run Cert.Reference4Ideal.defs _ _).mono (fun r h c => ?_) (Cert.Reference4Ideal.Value.run (F := Ideal) m' g')
    obtain ⟨a0, a1, a2⟩ := hargs c
    have s := Same.mk (m := m) (c := c) a0 a1 a2
    obtain ⟨h0, h1, h2, h3, hk⟩ := h c
    exact ⟨h0.trans ((val_main_v17_eq _ _).trans (first s)), h1.trans ((val_main_v19_eq _ _ _).trans (second s)),
      h2.trans ((val_main_v20_eq _ _ _).trans (third s)), h3.trans ((val_main_v21_eq _ _ _).trans (fourth s)), hk⟩

end Cert.ProjectEqual

end
-- ==== Proof.UpdateMath.lean ====
/-
  One element's optimiser step: the four parts' sum, the two moments and the weight's change.
-/
module

public import Idealize.ShloMosaic.Lib.Pointwise

@[expose] public section

noncomputable section

open Idealize.ShloMosaic

namespace Cert.Update

/-- The gradient's first moment after the step. -/
def first (g m : EReal) : EReal := Ideal.ofBits FTy.f32 0x3F666666#32 * m + Ideal.ofBits FTy.f32 0x3DCCCCCD#32 * g

/-- The gradient's second moment after the step. -/
def second (g v : EReal) : EReal := Ideal.ofBits FTy.f32 0x3F7FBE77#32 * v + Ideal.ofBits FTy.f32 0x3A83126F#32 * (g * g)

/-- The weight's change. -/
def change (w g m v : EReal) : EReal :=
  Ideal.ofBits FTy.f32 0xBA83126F#32
    * (Ideal.div (Ideal.div (first g m) (Ideal.ofBits FTy.f32 0x3F26BD02#32))
        (Ideal.sqrt (Ideal.div (second g v) (Ideal.ofBits FTy.f32 0x3C231ACC#32)) + Ideal.ofBits FTy.f32 0x322BCC77#32)
      + Ideal.ofBits FTy.f32 0x3C23D70A#32 * w)

/-- The sum of four parts, added one after another. -/
theorem sum_parts (p : Fin 4 → EReal) : p 0 + p 1 + p 2 + p 3 = ∑ k, p k := (Fin.sum_univ_four p).symm

variable {w g m v w' g' m' v' : EReal}

theorem first_congr (hg : g = g') (hm : m = m') : first g m = first g' m' := by rw [hg, hm]

theorem second_congr (hg : g = g') (hv : v = v') : second g v = second g' v' := by rw [hg, hv]

theorem change_congr (hw : w = w') (hg : g = g') (hm : m = m') (hv : v = v') : change w g m v = change w' g' m' v' := by
  rw [hw, hg, hm, hv]

/-! ## The arrays: one shard's gradient, and its weights and moments -/

variable {r c : Nat}

/-- The four parts' sum. -/
def gradient (p : (⟨3, ![4, r, c]⟩ : Shape).Idx → EReal) : (⟨3, ![1, r, c]⟩ : Shape).Idx → EReal :=
  fun i => ∑ k, p (ix3 k (i 1) (i 2))

/-- The first moments after the step. -/
def means (g m : (⟨3, ![1, r, c]⟩ : Shape).Idx → EReal) : (⟨3, ![1, r, c]⟩ : Shape).Idx → EReal := fun i => first (g i) (m i)

/-- The second moments after the step. -/
def vars (g v : (⟨3, ![1, r, c]⟩ : Shape).Idx → EReal) : (⟨3, ![1, r, c]⟩ : Shape).Idx → EReal := fun i => second (g i) (v i)

/-- The weights' change. -/
def changes (w g m v : (⟨3, ![1, r, c]⟩ : Shape).Idx → EReal) : (⟨3, ![1, r, c]⟩ : Shape).Idx → EReal :=
  fun i => change (w i) (g i) (m i) (v i)

/-- An index whose first coordinate has only one value. -/
theorem cell (i : (⟨3, ![1, r, c]⟩ : Shape).Idx) : ∃ (a : Fin r) (b : Fin c), i = ix3 0 a b :=
  ⟨i 1, i 2, (eq_ix3 i).trans (by rw [show i 0 = (0 : Fin 1) from Subsingleton.elim (α := Fin 1) _ _])⟩

end Cert.Update

end
-- ==== Proof.UpdateIn.lean ====
/-
  The optimiser's step of the input projection's weights: the launch's four results, element by element, from its arguments.
-/
module

public import proofs.«01_k».proof.Proof.Gen.Kernel5Ideal.Value
public import proofs.«01_k».proof.Proof.UpdateMath
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.Kernel5Ideal.Update

open Cert.Kernel5Ideal Cert.Kernel5Ideal.Gen Cert.Update

/-! ## The body's four stores -/

section
variable (p0 p1 p2 p3 : Vec Ideal S1x256x392 .bf16) (w m v : Vec Ideal S1x256x392 .f32) (a : Fin 256) (b : Fin 392)

/-- The four parts' sum. -/
theorem total_at : k0_pay5 p0 p1 p2 p3 (ix2 a b) = p0 (ix3 0 a b) + p1 (ix3 0 a b) + p2 (ix3 0 a b) + p3 (ix3 0 a b) := by
  unfold k0_pay5
  pointwise

theorem pay6_at : k0_pay6 p0 p1 p2 p3 (ix3 0 a b) = k0_pay5 p0 p1 p2 p3 (ix2 a b) := by
  unfold k0_pay6
  generalize k0_pay5 p0 p1 p2 p3 = g
  pointwise

theorem pay3_at : k0_pay3 (k0_pay8 p0 p1 p2 p3 m) (ix3 0 a b) = first (k0_pay5 p0 p1 p2 p3 (ix2 a b)) (m (ix3 0 a b)) := by
  unfold k0_pay3 k0_pay8 first
  generalize k0_pay5 p0 p1 p2 p3 = g
  pointwise

theorem pay4_at (g : FVec Ideal S256x392 .f32) : k0_pay4 g (k0_pay9 v) (ix3 0 a b) = second (g (ix2 a b)) (v (ix3 0 a b)) := by
  unfold k0_pay4 k0_pay1 k0_pay9 second
  pointwise

theorem pay2_at : k0_pay2 (k0_pay5 p0 p1 p2 p3) (k0_pay7 w) (k0_pay8 p0 p1 p2 p3 m) (k0_pay9 v) (ix3 0 a b)
    = change (w (ix3 0 a b)) (k0_pay5 p0 p1 p2 p3 (ix2 a b)) (m (ix3 0 a b)) (v (ix3 0 a b)) := by
  unfold k0_pay2 k0_pay1 k0_pay7 k0_pay8 k0_pay9 change first second
  generalize k0_pay5 p0 p1 p2 p3 = g
  pointwise

end

/-! ## The arrays that the launch is given -/

variable (m : (ℓ : Loc nD τ sig) → Buf (Elt Ideal) ℓ) (c : Dev nD)

/-- The gradient's parts. -/
abbrev parts : FVec Ideal S4x1024x392 .bf16 := m (c.tc.loc main_arg0)
/-- The weights. -/
abbrev weight : FVec Ideal S1x1024x392 .f32 := m (c.tc.loc main_arg1)
/-- The first moments. -/
abbrev mean : FVec Ideal S1x1024x392 .f32 := m (c.tc.loc main_arg2)
/-- The second moments. -/
abbrev var : FVec Ideal S1x1024x392 .f32 := m (c.tc.loc main_arg3)

/-! ## The blocks that a grid point reads and writes -/

/-- Row `a` of block `t`, of 4 blocks of 256 rows. -/
def row (t : Fin 4) (a : Fin 256) : Fin 1024 := ⟨256 * t.val + a.val, by omega⟩

/-- Which block every window holds at a grid point. -/
theorem idx : ∀ t : Fin cfg0.N,
    win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

theorem in0 (t : Fin cfg0.N) (k : Fin 4) (a : Fin 256) (b : Fin 392) :
    (iblk m c 0 t : Vec Ideal S4x256x392 .bf16) (ix3 k a b) = parts m c (ix3 k (row t a) b) := by
  show V m c main_arg0 ((win0_0.rect t).emb (ix3 k a b : S4x256x392.Idx)) = _
  rw [show (win0_0.rect t).emb (ix3 k a b : S4x256x392.Idx) = (ix3 k (row t a) b : S4x1024x392.Idx) from funext fun x => Fin.ext (by
    rw [Pipeline.Window.rect_emb_val (w := win0_0) (hk := rfl), (idx t).1]
    fin_cases x <;> simp [row] <;> omega)]

theorem in1 (t : Fin cfg0.N) (a : Fin 256) (b : Fin 392) :
    (iblk m c 1 t : Vec Ideal S1x256x392 .f32) (ix3 0 a b) = weight m c (ix3 0 (row t a) b) := by
  show V m c main_arg1 ((win0_1.rect t).emb (ix3 0 a b : S1x256x392.Idx)) = _
  rw [show (win0_1.rect t).emb (ix3 0 a b : S1x256x392.Idx) = (ix3 0 (row t a) b : S1x1024x392.Idx) from funext fun x => Fin.ext (by
    rw [Pipeline.Window.rect_emb_val (w := win0_1) (hk := rfl), (idx t).2.1]
    fin_cases x <;> simp [row] <;> omega)]

theorem in2 (t : Fin cfg0.N) (a : Fin 256) (b : Fin 392) :
    (iblk m c 2 t : Vec Ideal S1x256x392 .f32) (ix3 0 a b) = mean m c (ix3 0 (row t a) b) := by
  show V m c main_arg2 ((win0_2.rect t).emb (ix3 0 a b : S1x256x392.Idx)) = _
  rw [show (win0_2.rect t).emb (ix3 0 a b : S1x256x392.Idx) = (ix3 0 (row t a) b : S1x1024x392.Idx) from funext fun x => Fin.ext (by
    rw [Pipeline.Window.rect_emb_val (w := win0_2) (hk := rfl), (idx t).2.2.1]
    fin_cases x <;> simp [row] <;> omega)]

theorem in3 (t : Fin cfg0.N) (a : Fin 256) (b : Fin 392) :
    (iblk m c 3 t : Vec Ideal S1x256x392 .f32) (ix3 0 a b) = var m c (ix3 0 (row t a) b) := by
  show V m c main_arg3 ((win0_3.rect t).emb (ix3 0 a b : S1x256x392.Idx)) = _
  rw [show (win0_3.rect t).emb (ix3 0 a b : S1x256x392.Idx) = (ix3 0 (row t a) b : S1x1024x392.Idx) from funext fun x => Fin.ext (by
    rw [Pipeline.Window.rect_emb_val (w := win0_3) (hk := rfl), (idx t).2.2.2.1]
    fin_cases x <;> simp [row] <;> omega)]

section
variable (t : Fin cfg0.N) (a : Fin 256) (b : Fin 392)

theorem total : k0_pay5 (View.ld (iblk m c 0 t) r0_0) (View.ld (iblk m c 0 t) r0_1) (View.ld (iblk m c 0 t) r0_2)
    (View.ld (iblk m c 0 t) r0_3) (ix2 a b) = gradient (parts m c) (ix3 0 (row t a) b) := by
  refine (total_at _ _ _ _ a b).trans (Eq.trans ?_ (sum_parts fun k => parts m c (ix3 k (row t a) b)))
  beta_reduce
  rw [← in0, ← in0, ← in0, ← in0]
  generalize (iblk m c 0 t : Vec Ideal S4x256x392 .bf16) = x
  pointwise

theorem ld1 : View.ld (iblk m c 1 t) r0_4 (ix3 0 a b) = weight m c (ix3 0 (row t a) b) := by
  rw [← in1]
  pointwise

theorem ld2 : View.ld (iblk m c 2 t) r0_4 (ix3 0 a b) = mean m c (ix3 0 (row t a) b) := by
  rw [← in2]
  pointwise

theorem ld3 : View.ld (iblk m c 3 t) r0_4 (ix3 0 a b) = var m c (ix3 0 (row t a) b) := by
  rw [← in3]
  pointwise

theorem out4_at : (dats m 0 c).after 4 t (ix3 0 a b : S1x256x392.Idx) = gradient (parts m c) (ix3 0 (row t a) b) := by
  rw [after0_4]
  unfold out0_4
  rw [View.canon_cons_unit_lit _ _ _ (by decide)]
  refine (pay6_at _ _ _ _ a b).trans ?_
  exact total m c t a b

theorem out5_at : (dats m 0 c).after 5 t (ix3 0 a b : S1x256x392.Idx)
    = change (weight m c (ix3 0 (row t a) b)) (gradient (parts m c) (ix3 0 (row t a) b)) (mean m c (ix3 0 (row t a) b)) (var m c (ix3 0 (row t a) b)) := by
  rw [after0_5]
  unfold out0_5 k0_pay12 k0_pay11 k0_pay10
  rw [View.canon_cons_unit_lit _ _ _ (by decide)]
  refine (pay2_at _ _ _ _ _ _ _ a b).trans ?_
  exact change_congr (ld1 m c t a b) (total m c t a b) (ld2 m c t a b) (ld3 m c t a b)

theorem out6_at : (dats m 0 c).after 6 t (ix3 0 a b : S1x256x392.Idx) = first (gradient (parts m c) (ix3 0 (row t a) b)) (mean m c (ix3 0 (row t a) b)) := by
  rw [after0_6]
  unfold out0_6 k0_pay11
  rw [View.canon_cons_unit_lit _ _ _ (by decide)]
  refine (pay3_at _ _ _ _ _ a b).trans ?_
  exact first_congr (total m c t a b) (ld2 m c t a b)

theorem out7_at : (dats m 0 c).after 7 t (ix3 0 a b : S1x256x392.Idx) = second (gradient (parts m c) (ix3 0 (row t a) b)) (var m c (ix3 0 (row t a) b)) := by
  rw [after0_7]
  unfold out0_7 k0_pay12 k0_pay10
  rw [View.canon_cons_unit_lit _ _ _ (by decide)]
  refine (pay4_at _ a b _).trans ?_
  exact second_congr (total m c t a b) (ld3 m c t a b)

theorem wr4 : ((cfg0.win 4).blk t).view.emb (ix3 0 a b : S1x256x392.Idx) = (ix3 0 (row t a) b : S1x1024x392.Idx) := by
  show (win0_4.rect t).emb (ix3 0 a b : S1x256x392.Idx) = _
  funext x
  apply Fin.ext
  rw [Pipeline.Window.rect_emb_val (w := win0_4) (hk := rfl), (idx t).2.2.2.2.1]
  fin_cases x <;> simp [row] <;> omega

theorem wr5 : ((cfg0.win 5).blk t).view.emb (ix3 0 a b : S1x256x392.Idx) = (ix3 0 (row t a) b : S1x1024x392.Idx) := by
  show (win0_5.rect t).emb (ix3 0 a b : S1x256x392.Idx) = _
  funext x
  apply Fin.ext
  rw [Pipeline.Window.rect_emb_val (w := win0_5) (hk := rfl), (idx t).2.2.2.2.2.1]
  fin_cases x <;> simp [row] <;> omega

theorem wr6 : ((cfg0.win 6).blk t).view.emb (ix3 0 a b : S1x256x392.Idx) = (ix3 0 (row t a) b : S1x1024x392.Idx) := by
  show (win0_6.rect t).emb (ix3 0 a b : S1x256x392.Idx) = _
  funext x
  apply Fin.ext
  rw [Pipeline.Window.rect_emb_val (w := win0_6) (hk := rfl), (idx t).2.2.2.2.2.2.1]
  fin_cases x <;> simp [row] <;> omega

theorem wr7 : ((cfg0.win 7).blk t).view.emb (ix3 0 a b : S1x256x392.Idx) = (ix3 0 (row t a) b : S1x1024x392.Idx) := by
  show (win0_7.rect t).emb (ix3 0 a b : S1x256x392.Idx) = _
  funext x
  apply Fin.ext
  rw [Pipeline.Window.rect_emb_val (w := win0_7) (hk := rfl), (idx t).2.2.2.2.2.2.2]
  fin_cases x <;> simp [row] <;> omega

end

/-! ## The arrays after the run -/

theorem final4 : (dats m 0 c).arrAt 4 cfg0.N = gradient (parts m c) := by
  refine (dats m 0 c).arrAt_eq_of_covers 4 _ (by decide +kernel) fun t _ y => ?_
  obtain ⟨a, b, rfl⟩ := cell y
  refine (out4_at m c t a b).trans ?_
  rw [wr4]

theorem final5 : (dats m 0 c).arrAt 5 cfg0.N = changes (weight m c) (gradient (parts m c)) (mean m c) (var m c) := by
  refine (dats m 0 c).arrAt_eq_of_covers 5 _ (by decide +kernel) fun t _ y => ?_
  obtain ⟨a, b, rfl⟩ := cell y
  refine (out5_at m c t a b).trans ?_
  rw [wr5]
  rfl

theorem final6 : (dats m 0 c).arrAt 6 cfg0.N = means (gradient (parts m c)) (mean m c) := by
  refine (dats m 0 c).arrAt_eq_of_covers 6 _ (by decide +kernel) fun t _ y => ?_
  obtain ⟨a, b, rfl⟩ := cell y
  refine (out6_at m c t a b).trans ?_
  rw [wr6]
  rfl

theorem final7 : (dats m 0 c).arrAt 7 cfg0.N = vars (gradient (parts m c)) (var m c) := by
  refine (dats m 0 c).arrAt_eq_of_covers 7 _ (by decide +kernel) fun t _ y => ?_
  obtain ⟨a, b, rfl⟩ := cell y
  refine (out7_at m c t a b).trans ?_
  rw [wr7]
  rfl

end Cert.Kernel5Ideal.Update

end
-- ==== Proof.UpdateInEqual.lean ====
/-
  The optimiser's step of the input projection's weights: the launch's four results are the plain step's.
-/
module

public import proofs.«01_k».proof.Proof.UpdateIn
public import proofs.«01_k».proof.Proof.Gen.Reference5Ideal.Read
public import proofs.«01_k».proof.Defs

@[expose] public section

set_option maxRecDepth 16384

noncomputable section

open Idealize.ShloMosaic Idealize.ShloMosaic.TcCoe Idealize.SL.Sem

namespace Cert.UpdateInEqual

open Cert.Update Cert.Kernel5Ideal.Update Cert.Reference5Ideal Cert.Reference5Ideal.Read

/-! ## The plain step, element by element -/

section
variable (x0 : FVec Ideal S4x1024x392 .bf16) (x1 x2 x3 : FVec Ideal S1x1024x392 .f32)

theorem gradient_eq : val_main_v2 (F := Ideal) x0 = gradient x0 := by
  funext i
  obtain ⟨a, b, rfl⟩ := cell i
  show _ = ∑ k, x0 (ix3 k a b)
  unfold val_main_v2 val_main_v1 val_main_v0 val_main_cst
  pointwise

theorem means_eq : val_main_v7 (F := Ideal) x0 x2 = means (gradient x0) x2 := by
  rw [← gradient_eq]
  funext i
  obtain ⟨a, b, rfl⟩ := cell i
  unfold val_main_v7 val_main_v6 val_main_v5 val_main_v4 val_main_v3 val_main_cst_0 val_main_cst_1 means first
  generalize val_main_v2 (F := Ideal) x0 = g
  pointwise

theorem vars_eq : val_main_v13 (F := Ideal) x0 x3 = vars (gradient x0) x3 := by
  rw [← gradient_eq]
  funext i
  obtain ⟨a, b, rfl⟩ := cell i
  unfold val_main_v13 val_main_v12 val_main_v11 val_main_v10 val_main_v9 val_main_v8 val_main_cst_2 val_main_cst_3 vars second
  generalize val_main_v2 (F := Ideal) x0 = g
  pointwise

theorem changes_eq : val_main_v26 (F := Ideal) x0 x1 x2 x3 = changes x1 (gradient x0) x2 x3 := by
  funext i
  obtain ⟨a, b, rfl⟩ := cell i
  show _ = Ideal.ofBits FTy.f32 0xBA83126F#32
    * (Ideal.div (Ideal.div (means (gradient x0) x2 (ix3 0 a b)) (Ideal.ofBits FTy.f32 0x3F26BD02#32))
        (Ideal.sqrt (Ideal.div (vars (gradient x0) x3 (ix3 0 a b)) (Ideal.ofBits FTy.f32 0x3C231ACC#32)) + Ideal.ofBits FTy.f32 0x322BCC77#32)
      + Ideal.ofBits FTy.f32 0x3C23D70A#32 * x1 (ix3 0 a b))
  rw [← means_eq, ← vars_eq]
  unfold val_main_v26 val_main_v25 val_main_v24 val_main_v23 val_main_v22 val_main_v21 val_main_v20 val_main_v19 val_main_v18
    val_main_v17 val_main_v16 val_main_v15 val_main_v14 val_main_cst_4 val_main_cst_5 val_main_cst_6 val_main_cst_7 val_main_cst_8
  generalize val_main_v7 (F := Ideal) x0 x2 = p
  generalize val_main_v13 (F := Ideal) x0 x3 = q
  pointwise

end

/-- The launch and the plain step leave the same four results. -/
theorem algebraic : Cert.algebraic_Kernel5Ideal_Reference5Ideal := by
  intro m g m' g' _ hargs
  refine ⟨fun c => gradient (parts m c), fun c => changes (weight m c) (gradient (parts m c)) (mean m c) (var m c),
    fun c => means (gradient (parts m c)) (mean m c), fun c => vars (gradient (parts m c)) (var m c), ?_, ?_⟩
  · refine (θ_run Cert.Kernel5Ideal.defs _ _).mono (fun r h c => ?_) (Cert.Kernel5Ideal.Value.run_blocks (F := Ideal) m g)
    obtain ⟨h0, h1, h2, h3, hk⟩ := h c
    exact ⟨h0.trans (final4 m c), h1.trans (final5 m c), h2.trans (final6 m c), h3.trans (final7 m c), hk⟩
  · refine (θ_run Cert.Reference5Ideal.defs _ _).mono (fun r h c => ?_) (Cert.Reference5Ideal.Value.run (F := Ideal) m' g')
    obtain ⟨a0, a1, a2, a3⟩ := hargs c
    obtain ⟨h0, h1, h2, h3, hk⟩ := h c
    refine ⟨h0.trans ((val_main_v2_eq _).trans ((gradient_eq _).trans ?_)), h1.trans ((val_main_v26_eq _ _ _ _).trans ((changes_eq _ _ _ _).trans ?_)),
      h2.trans ((val_main_v7_eq _ _).trans ((means_eq _ _).trans ?_)), h3.trans ((val_main_v13_eq _ _).trans ((vars_eq _ _).trans ?_)), hk⟩
    · rw [a0]
    · rw [a0, a1, a2, a3]
    · rw [a0, a2]
    · rw [a0, a3]

end Cert.UpdateInEqual

end
-- ==== Proof.UpdateQuery.lean ====
/-
  The optimiser's step of the weights of the queries' second projection: the launch's four results, element by element, from its arguments.
-/
module

public import proofs.«01_k».proof.Proof.Gen.Kernel6Ideal.Value
public import proofs.«01_k».proof.Proof.UpdateMath
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.Kernel6Ideal.Update

open Cert.Kernel6Ideal Cert.Kernel6Ideal.Gen Cert.Update

/-! ## The body's four stores -/

section
variable (p0 p1 p2 p3 : Vec Ideal S1x256x96 .bf16) (w m v : Vec Ideal S1x256x96 .f32) (a : Fin 256) (b : Fin 96)

/-- The four parts' sum. -/
theorem total_at : k0_pay5 p0 p1 p2 p3 (ix2 a b) = p0 (ix3 0 a b) + p1 (ix3 0 a b) + p2 (ix3 0 a b) + p3 (ix3 0 a b) := by
  unfold k0_pay5
  pointwise

theorem pay6_at : k0_pay6 p0 p1 p2 p3 (ix3 0 a b) = k0_pay5 p0 p1 p2 p3 (ix2 a b) := by
  unfold k0_pay6
  generalize k0_pay5 p0 p1 p2 p3 = g
  pointwise

theorem pay3_at : k0_pay3 (k0_pay8 p0 p1 p2 p3 m) (ix3 0 a b) = first (k0_pay5 p0 p1 p2 p3 (ix2 a b)) (m (ix3 0 a b)) := by
  unfold k0_pay3 k0_pay8 first
  generalize k0_pay5 p0 p1 p2 p3 = g
  pointwise

theorem pay4_at (g : FVec Ideal S256x96 .f32) : k0_pay4 g (k0_pay9 v) (ix3 0 a b) = second (g (ix2 a b)) (v (ix3 0 a b)) := by
  unfold k0_pay4 k0_pay1 k0_pay9 second
  pointwise

theorem pay2_at : k0_pay2 (k0_pay5 p0 p1 p2 p3) (k0_pay7 w) (k0_pay8 p0 p1 p2 p3 m) (k0_pay9 v) (ix3 0 a b)
    = change (w (ix3 0 a b)) (k0_pay5 p0 p1 p2 p3 (ix2 a b)) (m (ix3 0 a b)) (v (ix3 0 a b)) := by
  unfold k0_pay2 k0_pay1 k0_pay7 k0_pay8 k0_pay9 change first second
  generalize k0_pay5 p0 p1 p2 p3 = g
  pointwise

end

/-! ## The arrays that the launch is given -/

variable (m : (ℓ : Loc nD τ sig) → Buf (Elt Ideal) ℓ) (c : Dev nD)

/-- The gradient's parts. -/
abbrev parts : FVec Ideal S4x256x96 .bf16 := m (c.tc.loc main_arg0)
/-- The weights. -/
abbrev weight : FVec Ideal S1x256x96 .f32 := m (c.tc.loc main_arg1)
/-- The first moments. -/
abbrev mean : FVec Ideal S1x256x96 .f32 := m (c.tc.loc main_arg2)
/-- The second moments. -/
abbrev var : FVec Ideal S1x256x96 .f32 := m (c.tc.loc main_arg3)

/-! ## The blocks that a grid point reads and writes -/

/-- Row `a` of the only block. -/
def row (t : Fin 1) (a : Fin 256) : Fin 256 := ⟨256 * t.val + a.val, by omega⟩

/-- Which block every window holds at a grid point. -/
theorem idx : ∀ t : Fin cfg0.N,
    win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

theorem in0 (t : Fin cfg0.N) (k : Fin 4) (a : Fin 256) (b : Fin 96) :
    (iblk m c 0 t : Vec Ideal S4x256x96 .bf16) (ix3 k a b) = parts m c (ix3 k (row t a) b) := by
  show V m c main_arg0 ((win0_0.rect t).emb (ix3 k a b : S4x256x96.Idx)) = _
  rw [show (win0_0.rect t).emb (ix3 k a b : S4x256x96.Idx) = (ix3 k (row t a) b : S4x256x96.Idx) from funext fun x => Fin.ext (by
    rw [Pipeline.Window.rect_emb_val (w := win0_0) (hk := rfl), (idx t).1]
    fin_cases x <;> simp [row] <;> omega)]

theorem in1 (t : Fin cfg0.N) (a : Fin 256) (b : Fin 96) :
    (iblk m c 1 t : Vec Ideal S1x256x96 .f32) (ix3 0 a b) = weight m c (ix3 0 (row t a) b) := by
  show V m c main_arg1 ((win0_1.rect t).emb (ix3 0 a b : S1x256x96.Idx)) = _
  rw [show (win0_1.rect t).emb (ix3 0 a b : S1x256x96.Idx) = (ix3 0 (row t a) b : S1x256x96.Idx) from funext fun x => Fin.ext (by
    rw [Pipeline.Window.rect_emb_val (w := win0_1) (hk := rfl), (idx t).2.1]
    fin_cases x <;> simp [row] <;> omega)]

theorem in2 (t : Fin cfg0.N) (a : Fin 256) (b : Fin 96) :
    (iblk m c 2 t : Vec Ideal S1x256x96 .f32) (ix3 0 a b) = mean m c (ix3 0 (row t a) b) := by
  show V m c main_arg2 ((win0_2.rect t).emb (ix3 0 a b : S1x256x96.Idx)) = _
  rw [show (win0_2.rect t).emb (ix3 0 a b : S1x256x96.Idx) = (ix3 0 (row t a) b : S1x256x96.Idx) from funext fun x => Fin.ext (by
    rw [Pipeline.Window.rect_emb_val (w := win0_2) (hk := rfl), (idx t).2.2.1]
    fin_cases x <;> simp [row] <;> omega)]

theorem in3 (t : Fin cfg0.N) (a : Fin 256) (b : Fin 96) :
    (iblk m c 3 t : Vec Ideal S1x256x96 .f32) (ix3 0 a b) = var m c (ix3 0 (row t a) b) := by
  show V m c main_arg3 ((win0_3.rect t).emb (ix3 0 a b : S1x256x96.Idx)) = _
  rw [show (win0_3.rect t).emb (ix3 0 a b : S1x256x96.Idx) = (ix3 0 (row t a) b : S1x256x96.Idx) from funext fun x => Fin.ext (by
    rw [Pipeline.Window.rect_emb_val (w := win0_3) (hk := rfl), (idx t).2.2.2.1]
    fin_cases x <;> simp [row] <;> omega)]

section
variable (t : Fin cfg0.N) (a : Fin 256) (b : Fin 96)

theorem total : k0_pay5 (View.ld (iblk m c 0 t) r0_0) (View.ld (iblk m c 0 t) r0_1) (View.ld (iblk m c 0 t) r0_2)
    (View.ld (iblk m c 0 t) r0_3) (ix2 a b) = gradient (parts m c) (ix3 0 (row t a) b) := by
  refine (total_at _ _ _ _ a b).trans (Eq.trans ?_ (sum_parts fun k => parts m c (ix3 k (row t a) b)))
  beta_reduce
  rw [← in0, ← in0, ← in0, ← in0]
  generalize (iblk m c 0 t : Vec Ideal S4x256x96 .bf16) = x
  pointwise

theorem ld1 : View.ld (iblk m c 1 t) r0_4 (ix3 0 a b) = weight m c (ix3 0 (row t a) b) := by
  rw [← in1]
  pointwise

theorem ld2 : View.ld (iblk m c 2 t) r0_4 (ix3 0 a b) = mean m c (ix3 0 (row t a) b) := by
  rw [← in2]
  pointwise

theorem ld3 : View.ld (iblk m c 3 t) r0_4 (ix3 0 a b) = var m c (ix3 0 (row t a) b) := by
  rw [← in3]
  pointwise

theorem out4_at : (dats m 0 c).after 4 t (ix3 0 a b : S1x256x96.Idx) = gradient (parts m c) (ix3 0 (row t a) b) := by
  rw [after0_4]
  unfold out0_4
  rw [View.canon_cons_unit_lit _ _ _ (by decide)]
  refine (pay6_at _ _ _ _ a b).trans ?_
  exact total m c t a b

theorem out5_at : (dats m 0 c).after 5 t (ix3 0 a b : S1x256x96.Idx)
    = change (weight m c (ix3 0 (row t a) b)) (gradient (parts m c) (ix3 0 (row t a) b)) (mean m c (ix3 0 (row t a) b)) (var m c (ix3 0 (row t a) b)) := by
  rw [after0_5]
  unfold out0_5 k0_pay12 k0_pay11 k0_pay10
  rw [View.canon_cons_unit_lit _ _ _ (by decide)]
  refine (pay2_at _ _ _ _ _ _ _ a b).trans ?_
  exact change_congr (ld1 m c t a b) (total m c t a b) (ld2 m c t a b) (ld3 m c t a b)

theorem out6_at : (dats m 0 c).after 6 t (ix3 0 a b : S1x256x96.Idx) = first (gradient (parts m c) (ix3 0 (row t a) b)) (mean m c (ix3 0 (row t a) b)) := by
  rw [after0_6]
  unfold out0_6 k0_pay11
  rw [View.canon_cons_unit_lit _ _ _ (by decide)]
  refine (pay3_at _ _ _ _ _ a b).trans ?_
  exact first_congr (total m c t a b) (ld2 m c t a b)

theorem out7_at : (dats m 0 c).after 7 t (ix3 0 a b : S1x256x96.Idx) = second (gradient (parts m c) (ix3 0 (row t a) b)) (var m c (ix3 0 (row t a) b)) := by
  rw [after0_7]
  unfold out0_7 k0_pay12 k0_pay10
  rw [View.canon_cons_unit_lit _ _ _ (by decide)]
  refine (pay4_at _ a b _).trans ?_
  exact second_congr (total m c t a b) (ld3 m c t a b)

theorem wr4 : ((cfg0.win 4).blk t).view.emb (ix3 0 a b : S1x256x96.Idx) = (ix3 0 (row t a) b : S1x256x96.Idx) := by
  show (win0_4.rect t).emb (ix3 0 a b : S1x256x96.Idx) = _
  funext x
  apply Fin.ext
  rw [Pipeline.Window.rect_emb_val (w := win0_4) (hk := rfl), (idx t).2.2.2.2.1]
  fin_cases x <;> simp [row] <;> omega

theorem wr5 : ((cfg0.win 5).blk t).view.emb (ix3 0 a b : S1x256x96.Idx) = (ix3 0 (row t a) b : S1x256x96.Idx) := by
  show (win0_5.rect t).emb (ix3 0 a b : S1x256x96.Idx) = _
  funext x
  apply Fin.ext
  rw [Pipeline.Window.rect_emb_val (w := win0_5) (hk := rfl), (idx t).2.2.2.2.2.1]
  fin_cases x <;> simp [row] <;> omega

theorem wr6 : ((cfg0.win 6).blk t).view.emb (ix3 0 a b : S1x256x96.Idx) = (ix3 0 (row t a) b : S1x256x96.Idx) := by
  show (win0_6.rect t).emb (ix3 0 a b : S1x256x96.Idx) = _
  funext x
  apply Fin.ext
  rw [Pipeline.Window.rect_emb_val (w := win0_6) (hk := rfl), (idx t).2.2.2.2.2.2.1]
  fin_cases x <;> simp [row] <;> omega

theorem wr7 : ((cfg0.win 7).blk t).view.emb (ix3 0 a b : S1x256x96.Idx) = (ix3 0 (row t a) b : S1x256x96.Idx) := by
  show (win0_7.rect t).emb (ix3 0 a b : S1x256x96.Idx) = _
  funext x
  apply Fin.ext
  rw [Pipeline.Window.rect_emb_val (w := win0_7) (hk := rfl), (idx t).2.2.2.2.2.2.2]
  fin_cases x <;> simp [row] <;> omega

end

/-! ## The arrays after the run -/

theorem final4 : (dats m 0 c).arrAt 4 cfg0.N = gradient (parts m c) := by
  refine (dats m 0 c).arrAt_eq_of_covers 4 _ (by decide +kernel) fun t _ y => ?_
  obtain ⟨a, b, rfl⟩ := cell y
  refine (out4_at m c t a b).trans ?_
  rw [wr4]

theorem final5 : (dats m 0 c).arrAt 5 cfg0.N = changes (weight m c) (gradient (parts m c)) (mean m c) (var m c) := by
  refine (dats m 0 c).arrAt_eq_of_covers 5 _ (by decide +kernel) fun t _ y => ?_
  obtain ⟨a, b, rfl⟩ := cell y
  refine (out5_at m c t a b).trans ?_
  rw [wr5]
  rfl

theorem final6 : (dats m 0 c).arrAt 6 cfg0.N = means (gradient (parts m c)) (mean m c) := by
  refine (dats m 0 c).arrAt_eq_of_covers 6 _ (by decide +kernel) fun t _ y => ?_
  obtain ⟨a, b, rfl⟩ := cell y
  refine (out6_at m c t a b).trans ?_
  rw [wr6]
  rfl

theorem final7 : (dats m 0 c).arrAt 7 cfg0.N = vars (gradient (parts m c)) (var m c) := by
  refine (dats m 0 c).arrAt_eq_of_covers 7 _ (by decide +kernel) fun t _ y => ?_
  obtain ⟨a, b, rfl⟩ := cell y
  refine (out7_at m c t a b).trans ?_
  rw [wr7]
  rfl

end Cert.Kernel6Ideal.Update

end
-- ==== Proof.UpdateQueryEqual.lean ====
/-
  The optimiser's step of the weights of the queries' second projection: the launch's four results are the plain step's.
-/
module

public import proofs.«01_k».proof.Proof.UpdateQuery
public import proofs.«01_k».proof.Proof.Gen.Reference6Ideal.Read
public import proofs.«01_k».proof.Defs

@[expose] public section

set_option maxRecDepth 16384

noncomputable section

open Idealize.ShloMosaic Idealize.ShloMosaic.TcCoe Idealize.SL.Sem

namespace Cert.UpdateQueryEqual

open Cert.Update Cert.Kernel6Ideal.Update Cert.Reference6Ideal Cert.Reference6Ideal.Read

/-! ## The plain step, element by element -/

section
variable (x0 : FVec Ideal S4x256x96 .bf16) (x1 x2 x3 : FVec Ideal S1x256x96 .f32)

theorem gradient_eq : val_main_v2 (F := Ideal) x0 = gradient x0 := by
  funext i
  obtain ⟨a, b, rfl⟩ := cell i
  show _ = ∑ k, x0 (ix3 k a b)
  unfold val_main_v2 val_main_v1 val_main_v0 val_main_cst
  pointwise

theorem means_eq : val_main_v7 (F := Ideal) x0 x2 = means (gradient x0) x2 := by
  rw [← gradient_eq]
  funext i
  obtain ⟨a, b, rfl⟩ := cell i
  unfold val_main_v7 val_main_v6 val_main_v5 val_main_v4 val_main_v3 val_main_cst_0 val_main_cst_1 means first
  generalize val_main_v2 (F := Ideal) x0 = g
  pointwise

theorem vars_eq : val_main_v13 (F := Ideal) x0 x3 = vars (gradient x0) x3 := by
  rw [← gradient_eq]
  funext i
  obtain ⟨a, b, rfl⟩ := cell i
  unfold val_main_v13 val_main_v12 val_main_v11 val_main_v10 val_main_v9 val_main_v8 val_main_cst_2 val_main_cst_3 vars second
  generalize val_main_v2 (F := Ideal) x0 = g
  pointwise

theorem changes_eq : val_main_v26 (F := Ideal) x0 x1 x2 x3 = changes x1 (gradient x0) x2 x3 := by
  funext i
  obtain ⟨a, b, rfl⟩ := cell i
  show _ = Ideal.ofBits FTy.f32 0xBA83126F#32
    * (Ideal.div (Ideal.div (means (gradient x0) x2 (ix3 0 a b)) (Ideal.ofBits FTy.f32 0x3F26BD02#32))
        (Ideal.sqrt (Ideal.div (vars (gradient x0) x3 (ix3 0 a b)) (Ideal.ofBits FTy.f32 0x3C231ACC#32)) + Ideal.ofBits FTy.f32 0x322BCC77#32)
      + Ideal.ofBits FTy.f32 0x3C23D70A#32 * x1 (ix3 0 a b))
  rw [← means_eq, ← vars_eq]
  unfold val_main_v26 val_main_v25 val_main_v24 val_main_v23 val_main_v22 val_main_v21 val_main_v20 val_main_v19 val_main_v18
    val_main_v17 val_main_v16 val_main_v15 val_main_v14 val_main_cst_4 val_main_cst_5 val_main_cst_6 val_main_cst_7 val_main_cst_8
  generalize val_main_v7 (F := Ideal) x0 x2 = p
  generalize val_main_v13 (F := Ideal) x0 x3 = q
  pointwise

end

/-- The launch and the plain step leave the same four results. -/
theorem algebraic : Cert.algebraic_Kernel6Ideal_Reference6Ideal := by
  intro m g m' g' _ hargs
  refine ⟨fun c => gradient (parts m c), fun c => changes (weight m c) (gradient (parts m c)) (mean m c) (var m c),
    fun c => means (gradient (parts m c)) (mean m c), fun c => vars (gradient (parts m c)) (var m c), ?_, ?_⟩
  · refine (θ_run Cert.Kernel6Ideal.defs _ _).mono (fun r h c => ?_) (Cert.Kernel6Ideal.Value.run_blocks (F := Ideal) m g)
    obtain ⟨h0, h1, h2, h3, hk⟩ := h c
    exact ⟨h0.trans (final4 m c), h1.trans (final5 m c), h2.trans (final6 m c), h3.trans (final7 m c), hk⟩
  · refine (θ_run Cert.Reference6Ideal.defs _ _).mono (fun r h c => ?_) (Cert.Reference6Ideal.Value.run (F := Ideal) m' g')
    obtain ⟨a0, a1, a2, a3⟩ := hargs c
    obtain ⟨h0, h1, h2, h3, hk⟩ := h c
    refine ⟨h0.trans ((val_main_v2_eq _).trans ((gradient_eq _).trans ?_)), h1.trans ((val_main_v26_eq _ _ _ _).trans ((changes_eq _ _ _ _).trans ?_)),
      h2.trans ((val_main_v7_eq _ _).trans ((means_eq _ _).trans ?_)), h3.trans ((val_main_v13_eq _ _).trans ((vars_eq _ _).trans ?_)), hk⟩
    · rw [a0]
    · rw [a0, a1, a2, a3]
    · rw [a0, a2]
    · rw [a0, a3]

end Cert.UpdateQueryEqual

end
-- ==== Proof.UpdateKeyValue.lean ====
/-
  The optimiser's step of the weights of the keys' and values' second projection: the launch's four results, element by element, from its arguments.
-/
module

public import proofs.«01_k».proof.Proof.Gen.Kernel7Ideal.Value
public import proofs.«01_k».proof.Proof.UpdateMath
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.Kernel7Ideal.Update

open Cert.Kernel7Ideal Cert.Kernel7Ideal.Gen Cert.Update

/-! ## The body's four stores -/

section
variable (p0 p1 p2 p3 : Vec Ideal S1x128x128 .bf16) (w m v : Vec Ideal S1x128x128 .f32) (a : Fin 128) (b : Fin 128)

/-- The four parts' sum. -/
theorem total_at : k0_pay5 p0 p1 p2 p3 (ix2 a b) = p0 (ix3 0 a b) + p1 (ix3 0 a b) + p2 (ix3 0 a b) + p3 (ix3 0 a b) := by
  unfold k0_pay5
  pointwise

theorem pay6_at : k0_pay6 p0 p1 p2 p3 (ix3 0 a b) = k0_pay5 p0 p1 p2 p3 (ix2 a b) := by
  unfold k0_pay6
  generalize k0_pay5 p0 p1 p2 p3 = g
  pointwise

theorem pay3_at : k0_pay3 (k0_pay8 p0 p1 p2 p3 m) (ix3 0 a b) = first (k0_pay5 p0 p1 p2 p3 (ix2 a b)) (m (ix3 0 a b)) := by
  unfold k0_pay3 k0_pay8 first
  generalize k0_pay5 p0 p1 p2 p3 = g
  pointwise

theorem pay4_at (g : FVec Ideal S128x128 .f32) : k0_pay4 g (k0_pay9 v) (ix3 0 a b) = second (g (ix2 a b)) (v (ix3 0 a b)) := by
  unfold k0_pay4 k0_pay1 k0_pay9 second
  pointwise

theorem pay2_at : k0_pay2 (k0_pay5 p0 p1 p2 p3) (k0_pay7 w) (k0_pay8 p0 p1 p2 p3 m) (k0_pay9 v) (ix3 0 a b)
    = change (w (ix3 0 a b)) (k0_pay5 p0 p1 p2 p3 (ix2 a b)) (m (ix3 0 a b)) (v (ix3 0 a b)) := by
  unfold k0_pay2 k0_pay1 k0_pay7 k0_pay8 k0_pay9 change first second
  generalize k0_pay5 p0 p1 p2 p3 = g
  pointwise

end

/-! ## The arrays that the launch is given -/

variable (m : (ℓ : Loc nD τ sig) → Buf (Elt Ideal) ℓ) (c : Dev nD)

/-- The gradient's parts. -/
abbrev parts : FVec Ideal S4x128x128 .bf16 := m (c.tc.loc main_arg0)
/-- The weights. -/
abbrev weight : FVec Ideal S1x128x128 .f32 := m (c.tc.loc main_arg1)
/-- The first moments. -/
abbrev mean : FVec Ideal S1x128x128 .f32 := m (c.tc.loc main_arg2)
/-- The second moments. -/
abbrev var : FVec Ideal S1x128x128 .f32 := m (c.tc.loc main_arg3)

/-! ## The blocks that a grid point reads and writes -/

/-- Row `a` of the only block. -/
def row (t : Fin 1) (a : Fin 128) : Fin 128 := ⟨128 * t.val + a.val, by omega⟩

/-- Which block every window holds at a grid point. -/
theorem idx : ∀ t : Fin cfg0.N,
    win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

theorem in0 (t : Fin cfg0.N) (k : Fin 4) (a : Fin 128) (b : Fin 128) :
    (iblk m c 0 t : Vec Ideal S4x128x128 .bf16) (ix3 k a b) = parts m c (ix3 k (row t a) b) := by
  show V m c main_arg0 ((win0_0.rect t).emb (ix3 k a b : S4x128x128.Idx)) = _
  rw [show (win0_0.rect t).emb (ix3 k a b : S4x128x128.Idx) = (ix3 k (row t a) b : S4x128x128.Idx) from funext fun x => Fin.ext (by
    rw [Pipeline.Window.rect_emb_val (w := win0_0) (hk := rfl), (idx t).1]
    fin_cases x <;> simp [row] <;> omega)]

theorem in1 (t : Fin cfg0.N) (a : Fin 128) (b : Fin 128) :
    (iblk m c 1 t : Vec Ideal S1x128x128 .f32) (ix3 0 a b) = weight m c (ix3 0 (row t a) b) := by
  show V m c main_arg1 ((win0_1.rect t).emb (ix3 0 a b : S1x128x128.Idx)) = _
  rw [show (win0_1.rect t).emb (ix3 0 a b : S1x128x128.Idx) = (ix3 0 (row t a) b : S1x128x128.Idx) from funext fun x => Fin.ext (by
    rw [Pipeline.Window.rect_emb_val (w := win0_1) (hk := rfl), (idx t).2.1]
    fin_cases x <;> simp [row] <;> omega)]

theorem in2 (t : Fin cfg0.N) (a : Fin 128) (b : Fin 128) :
    (iblk m c 2 t : Vec Ideal S1x128x128 .f32) (ix3 0 a b) = mean m c (ix3 0 (row t a) b) := by
  show V m c main_arg2 ((win0_2.rect t).emb (ix3 0 a b : S1x128x128.Idx)) = _
  rw [show (win0_2.rect t).emb (ix3 0 a b : S1x128x128.Idx) = (ix3 0 (row t a) b : S1x128x128.Idx) from funext fun x => Fin.ext (by
    rw [Pipeline.Window.rect_emb_val (w := win0_2) (hk := rfl), (idx t).2.2.1]
    fin_cases x <;> simp [row] <;> omega)]

theorem in3 (t : Fin cfg0.N) (a : Fin 128) (b : Fin 128) :
    (iblk m c 3 t : Vec Ideal S1x128x128 .f32) (ix3 0 a b) = var m c (ix3 0 (row t a) b) := by
  show V m c main_arg3 ((win0_3.rect t).emb (ix3 0 a b : S1x128x128.Idx)) = _
  rw [show (win0_3.rect t).emb (ix3 0 a b : S1x128x128.Idx) = (ix3 0 (row t a) b : S1x128x128.Idx) from funext fun x => Fin.ext (by
    rw [Pipeline.Window.rect_emb_val (w := win0_3) (hk := rfl), (idx t).2.2.2.1]
    fin_cases x <;> simp [row] <;> omega)]

section
variable (t : Fin cfg0.N) (a : Fin 128) (b : Fin 128)

theorem total : k0_pay5 (View.ld (iblk m c 0 t) r0_0) (View.ld (iblk m c 0 t) r0_1) (View.ld (iblk m c 0 t) r0_2)
    (View.ld (iblk m c 0 t) r0_3) (ix2 a b) = gradient (parts m c) (ix3 0 (row t a) b) := by
  refine (total_at _ _ _ _ a b).trans (Eq.trans ?_ (sum_parts fun k => parts m c (ix3 k (row t a) b)))
  beta_reduce
  rw [← in0, ← in0, ← in0, ← in0]
  generalize (iblk m c 0 t : Vec Ideal S4x128x128 .bf16) = x
  pointwise

theorem ld1 : View.ld (iblk m c 1 t) r0_4 (ix3 0 a b) = weight m c (ix3 0 (row t a) b) := by
  rw [← in1]
  pointwise

theorem ld2 : View.ld (iblk m c 2 t) r0_4 (ix3 0 a b) = mean m c (ix3 0 (row t a) b) := by
  rw [← in2]
  pointwise

theorem ld3 : View.ld (iblk m c 3 t) r0_4 (ix3 0 a b) = var m c (ix3 0 (row t a) b) := by
  rw [← in3]
  pointwise

theorem out4_at : (dats m 0 c).after 4 t (ix3 0 a b : S1x128x128.Idx) = gradient (parts m c) (ix3 0 (row t a) b) := by
  rw [after0_4]
  unfold out0_4
  rw [View.canon_cons_unit_lit _ _ _ (by decide)]
  refine (pay6_at _ _ _ _ a b).trans ?_
  exact total m c t a b

theorem out5_at : (dats m 0 c).after 5 t (ix3 0 a b : S1x128x128.Idx)
    = change (weight m c (ix3 0 (row t a) b)) (gradient (parts m c) (ix3 0 (row t a) b)) (mean m c (ix3 0 (row t a) b)) (var m c (ix3 0 (row t a) b)) := by
  rw [after0_5]
  unfold out0_5 k0_pay12 k0_pay11 k0_pay10
  rw [View.canon_cons_unit_lit _ _ _ (by decide)]
  refine (pay2_at _ _ _ _ _ _ _ a b).trans ?_
  exact change_congr (ld1 m c t a b) (total m c t a b) (ld2 m c t a b) (ld3 m c t a b)

theorem out6_at : (dats m 0 c).after 6 t (ix3 0 a b : S1x128x128.Idx) = first (gradient (parts m c) (ix3 0 (row t a) b)) (mean m c (ix3 0 (row t a) b)) := by
  rw [after0_6]
  unfold out0_6 k0_pay11
  rw [View.canon_cons_unit_lit _ _ _ (by decide)]
  refine (pay3_at _ _ _ _ _ a b).trans ?_
  exact first_congr (total m c t a b) (ld2 m c t a b)

theorem out7_at : (dats m 0 c).after 7 t (ix3 0 a b : S1x128x128.Idx) = second (gradient (parts m c) (ix3 0 (row t a) b)) (var m c (ix3 0 (row t a) b)) := by
  rw [after0_7]
  unfold out0_7 k0_pay12 k0_pay10
  rw [View.canon_cons_unit_lit _ _ _ (by decide)]
  refine (pay4_at _ a b _).trans ?_
  exact second_congr (total m c t a b) (ld3 m c t a b)

theorem wr4 : ((cfg0.win 4).blk t).view.emb (ix3 0 a b : S1x128x128.Idx) = (ix3 0 (row t a) b : S1x128x128.Idx) := by
  show (win0_4.rect t).emb (ix3 0 a b : S1x128x128.Idx) = _
  funext x
  apply Fin.ext
  rw [Pipeline.Window.rect_emb_val (w := win0_4) (hk := rfl), (idx t).2.2.2.2.1]
  fin_cases x <;> simp [row] <;> omega

theorem wr5 : ((cfg0.win 5).blk t).view.emb (ix3 0 a b : S1x128x128.Idx) = (ix3 0 (row t a) b : S1x128x128.Idx) := by
  show (win0_5.rect t).emb (ix3 0 a b : S1x128x128.Idx) = _
  funext x
  apply Fin.ext
  rw [Pipeline.Window.rect_emb_val (w := win0_5) (hk := rfl), (idx t).2.2.2.2.2.1]
  fin_cases x <;> simp [row] <;> omega

theorem wr6 : ((cfg0.win 6).blk t).view.emb (ix3 0 a b : S1x128x128.Idx) = (ix3 0 (row t a) b : S1x128x128.Idx) := by
  show (win0_6.rect t).emb (ix3 0 a b : S1x128x128.Idx) = _
  funext x
  apply Fin.ext
  rw [Pipeline.Window.rect_emb_val (w := win0_6) (hk := rfl), (idx t).2.2.2.2.2.2.1]
  fin_cases x <;> simp [row] <;> omega

theorem wr7 : ((cfg0.win 7).blk t).view.emb (ix3 0 a b : S1x128x128.Idx) = (ix3 0 (row t a) b : S1x128x128.Idx) := by
  show (win0_7.rect t).emb (ix3 0 a b : S1x128x128.Idx) = _
  funext x
  apply Fin.ext
  rw [Pipeline.Window.rect_emb_val (w := win0_7) (hk := rfl), (idx t).2.2.2.2.2.2.2]
  fin_cases x <;> simp [row] <;> omega

end

/-! ## The arrays after the run -/

theorem final4 : (dats m 0 c).arrAt 4 cfg0.N = gradient (parts m c) := by
  refine (dats m 0 c).arrAt_eq_of_covers 4 _ (by decide +kernel) fun t _ y => ?_
  obtain ⟨a, b, rfl⟩ := cell y
  refine (out4_at m c t a b).trans ?_
  rw [wr4]

theorem final5 : (dats m 0 c).arrAt 5 cfg0.N = changes (weight m c) (gradient (parts m c)) (mean m c) (var m c) := by
  refine (dats m 0 c).arrAt_eq_of_covers 5 _ (by decide +kernel) fun t _ y => ?_
  obtain ⟨a, b, rfl⟩ := cell y
  refine (out5_at m c t a b).trans ?_
  rw [wr5]
  rfl

theorem final6 : (dats m 0 c).arrAt 6 cfg0.N = means (gradient (parts m c)) (mean m c) := by
  refine (dats m 0 c).arrAt_eq_of_covers 6 _ (by decide +kernel) fun t _ y => ?_
  obtain ⟨a, b, rfl⟩ := cell y
  refine (out6_at m c t a b).trans ?_
  rw [wr6]
  rfl

theorem final7 : (dats m 0 c).arrAt 7 cfg0.N = vars (gradient (parts m c)) (var m c) := by
  refine (dats m 0 c).arrAt_eq_of_covers 7 _ (by decide +kernel) fun t _ y => ?_
  obtain ⟨a, b, rfl⟩ := cell y
  refine (out7_at m c t a b).trans ?_
  rw [wr7]
  rfl

end Cert.Kernel7Ideal.Update

end
-- ==== Proof.UpdateKeyValueEqual.lean ====
/-
  The optimiser's step of the weights of the keys' and values' second projection: the launch's four results are the plain step's.
-/
module

public import proofs.«01_k».proof.Proof.UpdateKeyValue
public import proofs.«01_k».proof.Proof.Gen.Reference7Ideal.Read
public import proofs.«01_k».proof.Defs

@[expose] public section

set_option maxRecDepth 16384

noncomputable section

open Idealize.ShloMosaic Idealize.ShloMosaic.TcCoe Idealize.SL.Sem

namespace Cert.UpdateKeyValueEqual

open Cert.Update Cert.Kernel7Ideal.Update Cert.Reference7Ideal Cert.Reference7Ideal.Read

/-! ## The plain step, element by element -/

section
variable (x0 : FVec Ideal S4x128x128 .bf16) (x1 x2 x3 : FVec Ideal S1x128x128 .f32)

theorem gradient_eq : val_main_v2 (F := Ideal) x0 = gradient x0 := by
  funext i
  obtain ⟨a, b, rfl⟩ := cell i
  show _ = ∑ k, x0 (ix3 k a b)
  unfold val_main_v2 val_main_v1 val_main_v0 val_main_cst
  pointwise

theorem means_eq : val_main_v7 (F := Ideal) x0 x2 = means (gradient x0) x2 := by
  rw [← gradient_eq]
  funext i
  obtain ⟨a, b, rfl⟩ := cell i
  unfold val_main_v7 val_main_v6 val_main_v5 val_main_v4 val_main_v3 val_main_cst_0 val_main_cst_1 means first
  generalize val_main_v2 (F := Ideal) x0 = g
  pointwise

theorem vars_eq : val_main_v13 (F := Ideal) x0 x3 = vars (gradient x0) x3 := by
  rw [← gradient_eq]
  funext i
  obtain ⟨a, b, rfl⟩ := cell i
  unfold val_main_v13 val_main_v12 val_main_v11 val_main_v10 val_main_v9 val_main_v8 val_main_cst_2 val_main_cst_3 vars second
  generalize val_main_v2 (F := Ideal) x0 = g
  pointwise

theorem changes_eq : val_main_v26 (F := Ideal) x0 x1 x2 x3 = changes x1 (gradient x0) x2 x3 := by
  funext i
  obtain ⟨a, b, rfl⟩ := cell i
  show _ = Ideal.ofBits FTy.f32 0xBA83126F#32
    * (Ideal.div (Ideal.div (means (gradient x0) x2 (ix3 0 a b)) (Ideal.ofBits FTy.f32 0x3F26BD02#32))
        (Ideal.sqrt (Ideal.div (vars (gradient x0) x3 (ix3 0 a b)) (Ideal.ofBits FTy.f32 0x3C231ACC#32)) + Ideal.ofBits FTy.f32 0x322BCC77#32)
      + Ideal.ofBits FTy.f32 0x3C23D70A#32 * x1 (ix3 0 a b))
  rw [← means_eq, ← vars_eq]
  unfold val_main_v26 val_main_v25 val_main_v24 val_main_v23 val_main_v22 val_main_v21 val_main_v20 val_main_v19 val_main_v18
    val_main_v17 val_main_v16 val_main_v15 val_main_v14 val_main_cst_4 val_main_cst_5 val_main_cst_6 val_main_cst_7 val_main_cst_8
  generalize val_main_v7 (F := Ideal) x0 x2 = p
  generalize val_main_v13 (F := Ideal) x0 x3 = q
  pointwise

end

/-- The launch and the plain step leave the same four results. -/
theorem algebraic : Cert.algebraic_Kernel7Ideal_Reference7Ideal := by
  intro m g m' g' _ hargs
  refine ⟨fun c => gradient (parts m c), fun c => changes (weight m c) (gradient (parts m c)) (mean m c) (var m c),
    fun c => means (gradient (parts m c)) (mean m c), fun c => vars (gradient (parts m c)) (var m c), ?_, ?_⟩
  · refine (θ_run Cert.Kernel7Ideal.defs _ _).mono (fun r h c => ?_) (Cert.Kernel7Ideal.Value.run_blocks (F := Ideal) m g)
    obtain ⟨h0, h1, h2, h3, hk⟩ := h c
    exact ⟨h0.trans (final4 m c), h1.trans (final5 m c), h2.trans (final6 m c), h3.trans (final7 m c), hk⟩
  · refine (θ_run Cert.Reference7Ideal.defs _ _).mono (fun r h c => ?_) (Cert.Reference7Ideal.Value.run (F := Ideal) m' g')
    obtain ⟨a0, a1, a2, a3⟩ := hargs c
    obtain ⟨h0, h1, h2, h3, hk⟩ := h c
    refine ⟨h0.trans ((val_main_v2_eq _).trans ((gradient_eq _).trans ?_)), h1.trans ((val_main_v26_eq _ _ _ _).trans ((changes_eq _ _ _ _).trans ?_)),
      h2.trans ((val_main_v7_eq _ _).trans ((means_eq _ _).trans ?_)), h3.trans ((val_main_v13_eq _ _).trans ((vars_eq _ _).trans ?_)), hk⟩
    · rw [a0]
    · rw [a0, a1, a2, a3]
    · rw [a0, a2]
    · rw [a0, a3]

end Cert.UpdateKeyValueEqual

end
-- ==== Proof.UpdateDecay.lean ====
/-
  The optimiser's step of the decay's second weights: the launch's four results, element by element, from its arguments.
-/
module

public import proofs.«01_k».proof.Proof.Gen.Kernel8Ideal.Value
public import proofs.«01_k».proof.Proof.UpdateMath
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.Kernel8Ideal.Update

open Cert.Kernel8Ideal Cert.Kernel8Ideal.Gen Cert.Update

/-! ## The body's four stores -/

section
variable (p0 p1 p2 p3 : Vec Ideal S1x64x64 .bf16) (w m v : Vec Ideal S1x64x64 .f32) (a : Fin 64) (b : Fin 64)

/-- The four parts' sum. -/
theorem total_at : k0_pay5 p0 p1 p2 p3 (ix2 a b) = p0 (ix3 0 a b) + p1 (ix3 0 a b) + p2 (ix3 0 a b) + p3 (ix3 0 a b) := by
  unfold k0_pay5
  pointwise

theorem pay6_at : k0_pay6 p0 p1 p2 p3 (ix3 0 a b) = k0_pay5 p0 p1 p2 p3 (ix2 a b) := by
  unfold k0_pay6
  generalize k0_pay5 p0 p1 p2 p3 = g
  pointwise

theorem pay3_at : k0_pay3 (k0_pay8 p0 p1 p2 p3 m) (ix3 0 a b) = first (k0_pay5 p0 p1 p2 p3 (ix2 a b)) (m (ix3 0 a b)) := by
  unfold k0_pay3 k0_pay8 first
  generalize k0_pay5 p0 p1 p2 p3 = g
  pointwise

theorem pay4_at (g : FVec Ideal S64x64 .f32) : k0_pay4 g (k0_pay9 v) (ix3 0 a b) = second (g (ix2 a b)) (v (ix3 0 a b)) := by
  unfold k0_pay4 k0_pay1 k0_pay9 second
  pointwise

theorem pay2_at : k0_pay2 (k0_pay5 p0 p1 p2 p3) (k0_pay7 w) (k0_pay8 p0 p1 p2 p3 m) (k0_pay9 v) (ix3 0 a b)
    = change (w (ix3 0 a b)) (k0_pay5 p0 p1 p2 p3 (ix2 a b)) (m (ix3 0 a b)) (v (ix3 0 a b)) := by
  unfold k0_pay2 k0_pay1 k0_pay7 k0_pay8 k0_pay9 change first second
  generalize k0_pay5 p0 p1 p2 p3 = g
  pointwise

end

/-! ## The arrays that the launch is given -/

variable (m : (ℓ : Loc nD τ sig) → Buf (Elt Ideal) ℓ) (c : Dev nD)

/-- The gradient's parts. -/
abbrev parts : FVec Ideal S4x64x64 .bf16 := m (c.tc.loc main_arg0)
/-- The weights. -/
abbrev weight : FVec Ideal S1x64x64 .f32 := m (c.tc.loc main_arg1)
/-- The first moments. -/
abbrev mean : FVec Ideal S1x64x64 .f32 := m (c.tc.loc main_arg2)
/-- The second moments. -/
abbrev var : FVec Ideal S1x64x64 .f32 := m (c.tc.loc main_arg3)

/-! ## The blocks that a grid point reads and writes -/

/-- Row `a` of the only block. -/
def row (t : Fin 1) (a : Fin 64) : Fin 64 := ⟨64 * t.val + a.val, by omega⟩

/-- Which block every window holds at a grid point. -/
theorem idx : ∀ t : Fin cfg0.N,
    win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

theorem in0 (t : Fin cfg0.N) (k : Fin 4) (a : Fin 64) (b : Fin 64) :
    (iblk m c 0 t : Vec Ideal S4x64x64 .bf16) (ix3 k a b) = parts m c (ix3 k (row t a) b) := by
  show V m c main_arg0 ((win0_0.rect t).emb (ix3 k a b : S4x64x64.Idx)) = _
  rw [show (win0_0.rect t).emb (ix3 k a b : S4x64x64.Idx) = (ix3 k (row t a) b : S4x64x64.Idx) from funext fun x => Fin.ext (by
    rw [Pipeline.Window.rect_emb_val (w := win0_0) (hk := rfl), (idx t).1]
    fin_cases x <;> simp [row] <;> omega)]

theorem in1 (t : Fin cfg0.N) (a : Fin 64) (b : Fin 64) :
    (iblk m c 1 t : Vec Ideal S1x64x64 .f32) (ix3 0 a b) = weight m c (ix3 0 (row t a) b) := by
  show V m c main_arg1 ((win0_1.rect t).emb (ix3 0 a b : S1x64x64.Idx)) = _
  rw [show (win0_1.rect t).emb (ix3 0 a b : S1x64x64.Idx) = (ix3 0 (row t a) b : S1x64x64.Idx) from funext fun x => Fin.ext (by
    rw [Pipeline.Window.rect_emb_val (w := win0_1) (hk := rfl), (idx t).2.1]
    fin_cases x <;> simp [row] <;> omega)]

theorem in2 (t : Fin cfg0.N) (a : Fin 64) (b : Fin 64) :
    (iblk m c 2 t : Vec Ideal S1x64x64 .f32) (ix3 0 a b) = mean m c (ix3 0 (row t a) b) := by
  show V m c main_arg2 ((win0_2.rect t).emb (ix3 0 a b : S1x64x64.Idx)) = _
  rw [show (win0_2.rect t).emb (ix3 0 a b : S1x64x64.Idx) = (ix3 0 (row t a) b : S1x64x64.Idx) from funext fun x => Fin.ext (by
    rw [Pipeline.Window.rect_emb_val (w := win0_2) (hk := rfl), (idx t).2.2.1]
    fin_cases x <;> simp [row] <;> omega)]

theorem in3 (t : Fin cfg0.N) (a : Fin 64) (b : Fin 64) :
    (iblk m c 3 t : Vec Ideal S1x64x64 .f32) (ix3 0 a b) = var m c (ix3 0 (row t a) b) := by
  show V m c main_arg3 ((win0_3.rect t).emb (ix3 0 a b : S1x64x64.Idx)) = _
  rw [show (win0_3.rect t).emb (ix3 0 a b : S1x64x64.Idx) = (ix3 0 (row t a) b : S1x64x64.Idx) from funext fun x => Fin.ext (by
    rw [Pipeline.Window.rect_emb_val (w := win0_3) (hk := rfl), (idx t).2.2.2.1]
    fin_cases x <;> simp [row] <;> omega)]

section
variable (t : Fin cfg0.N) (a : Fin 64) (b : Fin 64)

theorem total : k0_pay5 (View.ld (iblk m c 0 t) r0_0) (View.ld (iblk m c 0 t) r0_1) (View.ld (iblk m c 0 t) r0_2)
    (View.ld (iblk m c 0 t) r0_3) (ix2 a b) = gradient (parts m c) (ix3 0 (row t a) b) := by
  refine (total_at _ _ _ _ a b).trans (Eq.trans ?_ (sum_parts fun k => parts m c (ix3 k (row t a) b)))
  beta_reduce
  rw [← in0, ← in0, ← in0, ← in0]
  generalize (iblk m c 0 t : Vec Ideal S4x64x64 .bf16) = x
  pointwise

theorem ld1 : View.ld (iblk m c 1 t) r0_4 (ix3 0 a b) = weight m c (ix3 0 (row t a) b) := by
  rw [← in1]
  pointwise

theorem ld2 : View.ld (iblk m c 2 t) r0_4 (ix3 0 a b) = mean m c (ix3 0 (row t a) b) := by
  rw [← in2]
  pointwise

theorem ld3 : View.ld (iblk m c 3 t) r0_4 (ix3 0 a b) = var m c (ix3 0 (row t a) b) := by
  rw [← in3]
  pointwise

theorem out4_at : (dats m 0 c).after 4 t (ix3 0 a b : S1x64x64.Idx) = gradient (parts m c) (ix3 0 (row t a) b) := by
  rw [after0_4]
  unfold out0_4
  rw [View.canon_cons_unit_lit _ _ _ (by decide)]
  refine (pay6_at _ _ _ _ a b).trans ?_
  exact total m c t a b

theorem out5_at : (dats m 0 c).after 5 t (ix3 0 a b : S1x64x64.Idx)
    = change (weight m c (ix3 0 (row t a) b)) (gradient (parts m c) (ix3 0 (row t a) b)) (mean m c (ix3 0 (row t a) b)) (var m c (ix3 0 (row t a) b)) := by
  rw [after0_5]
  unfold out0_5 k0_pay12 k0_pay11 k0_pay10
  rw [View.canon_cons_unit_lit _ _ _ (by decide)]
  refine (pay2_at _ _ _ _ _ _ _ a b).trans ?_
  exact change_congr (ld1 m c t a b) (total m c t a b) (ld2 m c t a b) (ld3 m c t a b)

theorem out6_at : (dats m 0 c).after 6 t (ix3 0 a b : S1x64x64.Idx) = first (gradient (parts m c) (ix3 0 (row t a) b)) (mean m c (ix3 0 (row t a) b)) := by
  rw [after0_6]
  unfold out0_6 k0_pay11
  rw [View.canon_cons_unit_lit _ _ _ (by decide)]
  refine (pay3_at _ _ _ _ _ a b).trans ?_
  exact first_congr (total m c t a b) (ld2 m c t a b)

theorem out7_at : (dats m 0 c).after 7 t (ix3 0 a b : S1x64x64.Idx) = second (gradient (parts m c) (ix3 0 (row t a) b)) (var m c (ix3 0 (row t a) b)) := by
  rw [after0_7]
  unfold out0_7 k0_pay12 k0_pay10
  rw [View.canon_cons_unit_lit _ _ _ (by decide)]
  refine (pay4_at _ a b _).trans ?_
  exact second_congr (total m c t a b) (ld3 m c t a b)

theorem wr4 : ((cfg0.win 4).blk t).view.emb (ix3 0 a b : S1x64x64.Idx) = (ix3 0 (row t a) b : S1x64x64.Idx) := by
  show (win0_4.rect t).emb (ix3 0 a b : S1x64x64.Idx) = _
  funext x
  apply Fin.ext
  rw [Pipeline.Window.rect_emb_val (w := win0_4) (hk := rfl), (idx t).2.2.2.2.1]
  fin_cases x <;> simp [row] <;> omega

theorem wr5 : ((cfg0.win 5).blk t).view.emb (ix3 0 a b : S1x64x64.Idx) = (ix3 0 (row t a) b : S1x64x64.Idx) := by
  show (win0_5.rect t).emb (ix3 0 a b : S1x64x64.Idx) = _
  funext x
  apply Fin.ext
  rw [Pipeline.Window.rect_emb_val (w := win0_5) (hk := rfl), (idx t).2.2.2.2.2.1]
  fin_cases x <;> simp [row] <;> omega

theorem wr6 : ((cfg0.win 6).blk t).view.emb (ix3 0 a b : S1x64x64.Idx) = (ix3 0 (row t a) b : S1x64x64.Idx) := by
  show (win0_6.rect t).emb (ix3 0 a b : S1x64x64.Idx) = _
  funext x
  apply Fin.ext
  rw [Pipeline.Window.rect_emb_val (w := win0_6) (hk := rfl), (idx t).2.2.2.2.2.2.1]
  fin_cases x <;> simp [row] <;> omega

theorem wr7 : ((cfg0.win 7).blk t).view.emb (ix3 0 a b : S1x64x64.Idx) = (ix3 0 (row t a) b : S1x64x64.Idx) := by
  show (win0_7.rect t).emb (ix3 0 a b : S1x64x64.Idx) = _
  funext x
  apply Fin.ext
  rw [Pipeline.Window.rect_emb_val (w := win0_7) (hk := rfl), (idx t).2.2.2.2.2.2.2]
  fin_cases x <;> simp [row] <;> omega

end

/-! ## The arrays after the run -/

theorem final4 : (dats m 0 c).arrAt 4 cfg0.N = gradient (parts m c) := by
  refine (dats m 0 c).arrAt_eq_of_covers 4 _ (by decide +kernel) fun t _ y => ?_
  obtain ⟨a, b, rfl⟩ := cell y
  refine (out4_at m c t a b).trans ?_
  rw [wr4]

theorem final5 : (dats m 0 c).arrAt 5 cfg0.N = changes (weight m c) (gradient (parts m c)) (mean m c) (var m c) := by
  refine (dats m 0 c).arrAt_eq_of_covers 5 _ (by decide +kernel) fun t _ y => ?_
  obtain ⟨a, b, rfl⟩ := cell y
  refine (out5_at m c t a b).trans ?_
  rw [wr5]
  rfl

theorem final6 : (dats m 0 c).arrAt 6 cfg0.N = means (gradient (parts m c)) (mean m c) := by
  refine (dats m 0 c).arrAt_eq_of_covers 6 _ (by decide +kernel) fun t _ y => ?_
  obtain ⟨a, b, rfl⟩ := cell y
  refine (out6_at m c t a b).trans ?_
  rw [wr6]
  rfl

theorem final7 : (dats m 0 c).arrAt 7 cfg0.N = vars (gradient (parts m c)) (var m c) := by
  refine (dats m 0 c).arrAt_eq_of_covers 7 _ (by decide +kernel) fun t _ y => ?_
  obtain ⟨a, b, rfl⟩ := cell y
  refine (out7_at m c t a b).trans ?_
  rw [wr7]
  rfl

end Cert.Kernel8Ideal.Update

end
-- ==== Proof.UpdateDecayEqual.lean ====
/-
  The optimiser's step of the decay's second weights: the launch's four results are the plain step's.
-/
module

public import proofs.«01_k».proof.Proof.UpdateDecay
public import proofs.«01_k».proof.Proof.Gen.Reference8Ideal.Read
public import proofs.«01_k».proof.Defs

@[expose] public section

set_option maxRecDepth 16384

noncomputable section

open Idealize.ShloMosaic Idealize.ShloMosaic.TcCoe Idealize.SL.Sem

namespace Cert.UpdateDecayEqual

open Cert.Update Cert.Kernel8Ideal.Update Cert.Reference8Ideal Cert.Reference8Ideal.Read

/-! ## The plain step, element by element -/

section
variable (x0 : FVec Ideal S4x64x64 .bf16) (x1 x2 x3 : FVec Ideal S1x64x64 .f32)

theorem gradient_eq : val_main_v2 (F := Ideal) x0 = gradient x0 := by
  funext i
  obtain ⟨a, b, rfl⟩ := cell i
  show _ = ∑ k, x0 (ix3 k a b)
  unfold val_main_v2 val_main_v1 val_main_v0 val_main_cst
  pointwise

theorem means_eq : val_main_v7 (F := Ideal) x0 x2 = means (gradient x0) x2 := by
  rw [← gradient_eq]
  funext i
  obtain ⟨a, b, rfl⟩ := cell i
  unfold val_main_v7 val_main_v6 val_main_v5 val_main_v4 val_main_v3 val_main_cst_0 val_main_cst_1 means first
  generalize val_main_v2 (F := Ideal) x0 = g
  pointwise

theorem vars_eq : val_main_v13 (F := Ideal) x0 x3 = vars (gradient x0) x3 := by
  rw [← gradient_eq]
  funext i
  obtain ⟨a, b, rfl⟩ := cell i
  unfold val_main_v13 val_main_v12 val_main_v11 val_main_v10 val_main_v9 val_main_v8 val_main_cst_2 val_main_cst_3 vars second
  generalize val_main_v2 (F := Ideal) x0 = g
  pointwise

theorem changes_eq : val_main_v26 (F := Ideal) x0 x1 x2 x3 = changes x1 (gradient x0) x2 x3 := by
  funext i
  obtain ⟨a, b, rfl⟩ := cell i
  show _ = Ideal.ofBits FTy.f32 0xBA83126F#32
    * (Ideal.div (Ideal.div (means (gradient x0) x2 (ix3 0 a b)) (Ideal.ofBits FTy.f32 0x3F26BD02#32))
        (Ideal.sqrt (Ideal.div (vars (gradient x0) x3 (ix3 0 a b)) (Ideal.ofBits FTy.f32 0x3C231ACC#32)) + Ideal.ofBits FTy.f32 0x322BCC77#32)
      + Ideal.ofBits FTy.f32 0x3C23D70A#32 * x1 (ix3 0 a b))
  rw [← means_eq, ← vars_eq]
  unfold val_main_v26 val_main_v25 val_main_v24 val_main_v23 val_main_v22 val_main_v21 val_main_v20 val_main_v19 val_main_v18
    val_main_v17 val_main_v16 val_main_v15 val_main_v14 val_main_cst_4 val_main_cst_5 val_main_cst_6 val_main_cst_7 val_main_cst_8
  generalize val_main_v7 (F := Ideal) x0 x2 = p
  generalize val_main_v13 (F := Ideal) x0 x3 = q
  pointwise

end

/-- The launch and the plain step leave the same four results. -/
theorem algebraic : Cert.algebraic_Kernel8Ideal_Reference8Ideal := by
  intro m g m' g' _ hargs
  refine ⟨fun c => gradient (parts m c), fun c => changes (weight m c) (gradient (parts m c)) (mean m c) (var m c),
    fun c => means (gradient (parts m c)) (mean m c), fun c => vars (gradient (parts m c)) (var m c), ?_, ?_⟩
  · refine (θ_run Cert.Kernel8Ideal.defs _ _).mono (fun r h c => ?_) (Cert.Kernel8Ideal.Value.run_blocks (F := Ideal) m g)
    obtain ⟨h0, h1, h2, h3, hk⟩ := h c
    exact ⟨h0.trans (final4 m c), h1.trans (final5 m c), h2.trans (final6 m c), h3.trans (final7 m c), hk⟩
  · refine (θ_run Cert.Reference8Ideal.defs _ _).mono (fun r h c => ?_) (Cert.Reference8Ideal.Value.run (F := Ideal) m' g')
    obtain ⟨a0, a1, a2, a3⟩ := hargs c
    obtain ⟨h0, h1, h2, h3, hk⟩ := h c
    refine ⟨h0.trans ((val_main_v2_eq _).trans ((gradient_eq _).trans ?_)), h1.trans ((val_main_v26_eq _ _ _ _).trans ((changes_eq _ _ _ _).trans ?_)),
      h2.trans ((val_main_v7_eq _ _).trans ((means_eq _ _).trans ?_)), h3.trans ((val_main_v13_eq _ _).trans ((vars_eq _ _).trans ?_)), hk⟩
    · rw [a0]
    · rw [a0, a1, a2, a3]
    · rw [a0, a2]
    · rw [a0, a3]

end Cert.UpdateDecayEqual

end
-- ==== Proof.UpdateOut.lean ====
/-
  The optimiser's step of the output projection's weights: the launch's four results, element by element, from its arguments.
-/
module

public import proofs.«01_k».proof.Proof.Gen.Kernel9Ideal.Value
public import proofs.«01_k».proof.Proof.UpdateMath
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.Kernel9Ideal.Update

open Cert.Kernel9Ideal Cert.Kernel9Ideal.Gen Cert.Update

/-! ## The body's four stores -/

section
variable (p0 p1 p2 p3 : Vec Ideal S1x128x1024 .bf16) (w m v : Vec Ideal S1x128x1024 .f32) (a : Fin 128) (b : Fin 1024)

/-- The four parts' sum. -/
theorem total_at : k0_pay5 p0 p1 p2 p3 (ix2 a b) = p0 (ix3 0 a b) + p1 (ix3 0 a b) + p2 (ix3 0 a b) + p3 (ix3 0 a b) := by
  unfold k0_pay5
  pointwise

theorem pay6_at : k0_pay6 p0 p1 p2 p3 (ix3 0 a b) = k0_pay5 p0 p1 p2 p3 (ix2 a b) := by
  unfold k0_pay6
  generalize k0_pay5 p0 p1 p2 p3 = g
  pointwise

theorem pay3_at : k0_pay3 (k0_pay8 p0 p1 p2 p3 m) (ix3 0 a b) = first (k0_pay5 p0 p1 p2 p3 (ix2 a b)) (m (ix3 0 a b)) := by
  unfold k0_pay3 k0_pay8 first
  generalize k0_pay5 p0 p1 p2 p3 = g
  pointwise

theorem pay4_at (g : FVec Ideal S128x1024 .f32) : k0_pay4 g (k0_pay9 v) (ix3 0 a b) = second (g (ix2 a b)) (v (ix3 0 a b)) := by
  unfold k0_pay4 k0_pay1 k0_pay9 second
  pointwise

theorem pay2_at : k0_pay2 (k0_pay5 p0 p1 p2 p3) (k0_pay7 w) (k0_pay8 p0 p1 p2 p3 m) (k0_pay9 v) (ix3 0 a b)
    = change (w (ix3 0 a b)) (k0_pay5 p0 p1 p2 p3 (ix2 a b)) (m (ix3 0 a b)) (v (ix3 0 a b)) := by
  unfold k0_pay2 k0_pay1 k0_pay7 k0_pay8 k0_pay9 change first second
  generalize k0_pay5 p0 p1 p2 p3 = g
  pointwise

end

/-! ## The arrays that the launch is given -/

variable (m : (ℓ : Loc nD τ sig) → Buf (Elt Ideal) ℓ) (c : Dev nD)

/-- The gradient's parts. -/
abbrev parts : FVec Ideal S4x128x1024 .bf16 := m (c.tc.loc main_arg0)
/-- The weights. -/
abbrev weight : FVec Ideal S1x128x1024 .f32 := m (c.tc.loc main_arg1)
/-- The first moments. -/
abbrev mean : FVec Ideal S1x128x1024 .f32 := m (c.tc.loc main_arg2)
/-- The second moments. -/
abbrev var : FVec Ideal S1x128x1024 .f32 := m (c.tc.loc main_arg3)

/-! ## The blocks that a grid point reads and writes -/

/-- Row `a` of the only block. -/
def row (t : Fin 1) (a : Fin 128) : Fin 128 := ⟨128 * t.val + a.val, by omega⟩

/-- Which block every window holds at a grid point. -/
theorem idx : ∀ t : Fin cfg0.N,
    win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

theorem in0 (t : Fin cfg0.N) (k : Fin 4) (a : Fin 128) (b : Fin 1024) :
    (iblk m c 0 t : Vec Ideal S4x128x1024 .bf16) (ix3 k a b) = parts m c (ix3 k (row t a) b) := by
  show V m c main_arg0 ((win0_0.rect t).emb (ix3 k a b : S4x128x1024.Idx)) = _
  rw [show (win0_0.rect t).emb (ix3 k a b : S4x128x1024.Idx) = (ix3 k (row t a) b : S4x128x1024.Idx) from funext fun x => Fin.ext (by
    rw [Pipeline.Window.rect_emb_val (w := win0_0) (hk := rfl), (idx t).1]
    fin_cases x <;> simp [row] <;> omega)]

theorem in1 (t : Fin cfg0.N) (a : Fin 128) (b : Fin 1024) :
    (iblk m c 1 t : Vec Ideal S1x128x1024 .f32) (ix3 0 a b) = weight m c (ix3 0 (row t a) b) := by
  show V m c main_arg1 ((win0_1.rect t).emb (ix3 0 a b : S1x128x1024.Idx)) = _
  rw [show (win0_1.rect t).emb (ix3 0 a b : S1x128x1024.Idx) = (ix3 0 (row t a) b : S1x128x1024.Idx) from funext fun x => Fin.ext (by
    rw [Pipeline.Window.rect_emb_val (w := win0_1) (hk := rfl), (idx t).2.1]
    fin_cases x <;> simp [row] <;> omega)]

theorem in2 (t : Fin cfg0.N) (a : Fin 128) (b : Fin 1024) :
    (iblk m c 2 t : Vec Ideal S1x128x1024 .f32) (ix3 0 a b) = mean m c (ix3 0 (row t a) b) := by
  show V m c main_arg2 ((win0_2.rect t).emb (ix3 0 a b : S1x128x1024.Idx)) = _
  rw [show (win0_2.rect t).emb (ix3 0 a b : S1x128x1024.Idx) = (ix3 0 (row t a) b : S1x128x1024.Idx) from funext fun x => Fin.ext (by
    rw [Pipeline.Window.rect_emb_val (w := win0_2) (hk := rfl), (idx t).2.2.1]
    fin_cases x <;> simp [row] <;> omega)]

theorem in3 (t : Fin cfg0.N) (a : Fin 128) (b : Fin 1024) :
    (iblk m c 3 t : Vec Ideal S1x128x1024 .f32) (ix3 0 a b) = var m c (ix3 0 (row t a) b) := by
  show V m c main_arg3 ((win0_3.rect t).emb (ix3 0 a b : S1x128x1024.Idx)) = _
  rw [show (win0_3.rect t).emb (ix3 0 a b : S1x128x1024.Idx) = (ix3 0 (row t a) b : S1x128x1024.Idx) from funext fun x => Fin.ext (by
    rw [Pipeline.Window.rect_emb_val (w := win0_3) (hk := rfl), (idx t).2.2.2.1]
    fin_cases x <;> simp [row] <;> omega)]

section
variable (t : Fin cfg0.N) (a : Fin 128) (b : Fin 1024)

theorem total : k0_pay5 (View.ld (iblk m c 0 t) r0_0) (View.ld (iblk m c 0 t) r0_1) (View.ld (iblk m c 0 t) r0_2)
    (View.ld (iblk m c 0 t) r0_3) (ix2 a b) = gradient (parts m c) (ix3 0 (row t a) b) := by
  refine (total_at _ _ _ _ a b).trans (Eq.trans ?_ (sum_parts fun k => parts m c (ix3 k (row t a) b)))
  beta_reduce
  rw [← in0, ← in0, ← in0, ← in0]
  generalize (iblk m c 0 t : Vec Ideal S4x128x1024 .bf16) = x
  pointwise

theorem ld1 : View.ld (iblk m c 1 t) r0_4 (ix3 0 a b) = weight m c (ix3 0 (row t a) b) := by
  rw [← in1]
  pointwise

theorem ld2 : View.ld (iblk m c 2 t) r0_4 (ix3 0 a b) = mean m c (ix3 0 (row t a) b) := by
  rw [← in2]
  pointwise

theorem ld3 : View.ld (iblk m c 3 t) r0_4 (ix3 0 a b) = var m c (ix3 0 (row t a) b) := by
  rw [← in3]
  pointwise

theorem out4_at : (dats m 0 c).after 4 t (ix3 0 a b : S1x128x1024.Idx) = gradient (parts m c) (ix3 0 (row t a) b) := by
  rw [after0_4]
  unfold out0_4
  rw [View.canon_cons_unit_lit _ _ _ (by decide)]
  refine (pay6_at _ _ _ _ a b).trans ?_
  exact total m c t a b

theorem out5_at : (dats m 0 c).after 5 t (ix3 0 a b : S1x128x1024.Idx)
    = change (weight m c (ix3 0 (row t a) b)) (gradient (parts m c) (ix3 0 (row t a) b)) (mean m c (ix3 0 (row t a) b)) (var m c (ix3 0 (row t a) b)) := by
  rw [after0_5]
  unfold out0_5 k0_pay12 k0_pay11 k0_pay10
  rw [View.canon_cons_unit_lit _ _ _ (by decide)]
  refine (pay2_at _ _ _ _ _ _ _ a b).trans ?_
  exact change_congr (ld1 m c t a b) (total m c t a b) (ld2 m c t a b) (ld3 m c t a b)

theorem out6_at : (dats m 0 c).after 6 t (ix3 0 a b : S1x128x1024.Idx) = first (gradient (parts m c) (ix3 0 (row t a) b)) (mean m c (ix3 0 (row t a) b)) := by
  rw [after0_6]
  unfold out0_6 k0_pay11
  rw [View.canon_cons_unit_lit _ _ _ (by decide)]
  refine (pay3_at _ _ _ _ _ a b).trans ?_
  exact first_congr (total m c t a b) (ld2 m c t a b)

theorem out7_at : (dats m 0 c).after 7 t (ix3 0 a b : S1x128x1024.Idx) = second (gradient (parts m c) (ix3 0 (row t a) b)) (var m c (ix3 0 (row t a) b)) := by
  rw [after0_7]
  unfold out0_7 k0_pay12 k0_pay10
  rw [View.canon_cons_unit_lit _ _ _ (by decide)]
  refine (pay4_at _ a b _).trans ?_
  exact second_congr (total m c t a b) (ld3 m c t a b)

theorem wr4 : ((cfg0.win 4).blk t).view.emb (ix3 0 a b : S1x128x1024.Idx) = (ix3 0 (row t a) b : S1x128x1024.Idx) := by
  show (win0_4.rect t).emb (ix3 0 a b : S1x128x1024.Idx) = _
  funext x
  apply Fin.ext
  rw [Pipeline.Window.rect_emb_val (w := win0_4) (hk := rfl), (idx t).2.2.2.2.1]
  fin_cases x <;> simp [row] <;> omega

theorem wr5 : ((cfg0.win 5).blk t).view.emb (ix3 0 a b : S1x128x1024.Idx) = (ix3 0 (row t a) b : S1x128x1024.Idx) := by
  show (win0_5.rect t).emb (ix3 0 a b : S1x128x1024.Idx) = _
  funext x
  apply Fin.ext
  rw [Pipeline.Window.rect_emb_val (w := win0_5) (hk := rfl), (idx t).2.2.2.2.2.1]
  fin_cases x <;> simp [row] <;> omega

theorem wr6 : ((cfg0.win 6).blk t).view.emb (ix3 0 a b : S1x128x1024.Idx) = (ix3 0 (row t a) b : S1x128x1024.Idx) := by
  show (win0_6.rect t).emb (ix3 0 a b : S1x128x1024.Idx) = _
  funext x
  apply Fin.ext
  rw [Pipeline.Window.rect_emb_val (w := win0_6) (hk := rfl), (idx t).2.2.2.2.2.2.1]
  fin_cases x <;> simp [row] <;> omega

theorem wr7 : ((cfg0.win 7).blk t).view.emb (ix3 0 a b : S1x128x1024.Idx) = (ix3 0 (row t a) b : S1x128x1024.Idx) := by
  show (win0_7.rect t).emb (ix3 0 a b : S1x128x1024.Idx) = _
  funext x
  apply Fin.ext
  rw [Pipeline.Window.rect_emb_val (w := win0_7) (hk := rfl), (idx t).2.2.2.2.2.2.2]
  fin_cases x <;> simp [row] <;> omega

end

/-! ## The arrays after the run -/

theorem final4 : (dats m 0 c).arrAt 4 cfg0.N = gradient (parts m c) := by
  refine (dats m 0 c).arrAt_eq_of_covers 4 _ (by decide +kernel) fun t _ y => ?_
  obtain ⟨a, b, rfl⟩ := cell y
  refine (out4_at m c t a b).trans ?_
  rw [wr4]

theorem final5 : (dats m 0 c).arrAt 5 cfg0.N = changes (weight m c) (gradient (parts m c)) (mean m c) (var m c) := by
  refine (dats m 0 c).arrAt_eq_of_covers 5 _ (by decide +kernel) fun t _ y => ?_
  obtain ⟨a, b, rfl⟩ := cell y
  refine (out5_at m c t a b).trans ?_
  rw [wr5]
  rfl

theorem final6 : (dats m 0 c).arrAt 6 cfg0.N = means (gradient (parts m c)) (mean m c) := by
  refine (dats m 0 c).arrAt_eq_of_covers 6 _ (by decide +kernel) fun t _ y => ?_
  obtain ⟨a, b, rfl⟩ := cell y
  refine (out6_at m c t a b).trans ?_
  rw [wr6]
  rfl

theorem final7 : (dats m 0 c).arrAt 7 cfg0.N = vars (gradient (parts m c)) (var m c) := by
  refine (dats m 0 c).arrAt_eq_of_covers 7 _ (by decide +kernel) fun t _ y => ?_
  obtain ⟨a, b, rfl⟩ := cell y
  refine (out7_at m c t a b).trans ?_
  rw [wr7]
  rfl

end Cert.Kernel9Ideal.Update

end
-- ==== Proof.UpdateOutEqual.lean ====
/-
  The optimiser's step of the output projection's weights: the launch's four results are the plain step's.
-/
module

public import proofs.«01_k».proof.Proof.UpdateOut
public import proofs.«01_k».proof.Proof.Gen.Reference9Ideal.Read
public import proofs.«01_k».proof.Defs

@[expose] public section

set_option maxRecDepth 16384

noncomputable section

open Idealize.ShloMosaic Idealize.ShloMosaic.TcCoe Idealize.SL.Sem

namespace Cert.UpdateOutEqual

open Cert.Update Cert.Kernel9Ideal.Update Cert.Reference9Ideal Cert.Reference9Ideal.Read

/-! ## The plain step, element by element -/

section
variable (x0 : FVec Ideal S4x128x1024 .bf16) (x1 x2 x3 : FVec Ideal S1x128x1024 .f32)

theorem gradient_eq : val_main_v2 (F := Ideal) x0 = gradient x0 := by
  funext i
  obtain ⟨a, b, rfl⟩ := cell i
  show _ = ∑ k, x0 (ix3 k a b)
  unfold val_main_v2 val_main_v1 val_main_v0 val_main_cst
  pointwise

theorem means_eq : val_main_v7 (F := Ideal) x0 x2 = means (gradient x0) x2 := by
  rw [← gradient_eq]
  funext i
  obtain ⟨a, b, rfl⟩ := cell i
  unfold val_main_v7 val_main_v6 val_main_v5 val_main_v4 val_main_v3 val_main_cst_0 val_main_cst_1 means first
  generalize val_main_v2 (F := Ideal) x0 = g
  pointwise

theorem vars_eq : val_main_v13 (F := Ideal) x0 x3 = vars (gradient x0) x3 := by
  rw [← gradient_eq]
  funext i
  obtain ⟨a, b, rfl⟩ := cell i
  unfold val_main_v13 val_main_v12 val_main_v11 val_main_v10 val_main_v9 val_main_v8 val_main_cst_2 val_main_cst_3 vars second
  generalize val_main_v2 (F := Ideal) x0 = g
  pointwise

theorem changes_eq : val_main_v26 (F := Ideal) x0 x1 x2 x3 = changes x1 (gradient x0) x2 x3 := by
  funext i
  obtain ⟨a, b, rfl⟩ := cell i
  show _ = Ideal.ofBits FTy.f32 0xBA83126F#32
    * (Ideal.div (Ideal.div (means (gradient x0) x2 (ix3 0 a b)) (Ideal.ofBits FTy.f32 0x3F26BD02#32))
        (Ideal.sqrt (Ideal.div (vars (gradient x0) x3 (ix3 0 a b)) (Ideal.ofBits FTy.f32 0x3C231ACC#32)) + Ideal.ofBits FTy.f32 0x322BCC77#32)
      + Ideal.ofBits FTy.f32 0x3C23D70A#32 * x1 (ix3 0 a b))
  rw [← means_eq, ← vars_eq]
  unfold val_main_v26 val_main_v25 val_main_v24 val_main_v23 val_main_v22 val_main_v21 val_main_v20 val_main_v19 val_main_v18
    val_main_v17 val_main_v16 val_main_v15 val_main_v14 val_main_cst_4 val_main_cst_5 val_main_cst_6 val_main_cst_7 val_main_cst_8
  generalize val_main_v7 (F := Ideal) x0 x2 = p
  generalize val_main_v13 (F := Ideal) x0 x3 = q
  pointwise

end

/-- The launch and the plain step leave the same four results. -/
theorem algebraic : Cert.algebraic_Kernel9Ideal_Reference9Ideal := by
  intro m g m' g' _ hargs
  refine ⟨fun c => gradient (parts m c), fun c => changes (weight m c) (gradient (parts m c)) (mean m c) (var m c),
    fun c => means (gradient (parts m c)) (mean m c), fun c => vars (gradient (parts m c)) (var m c), ?_, ?_⟩
  · refine (θ_run Cert.Kernel9Ideal.defs _ _).mono (fun r h c => ?_) (Cert.Kernel9Ideal.Value.run_blocks (F := Ideal) m g)
    obtain ⟨h0, h1, h2, h3, hk⟩ := h c
    exact ⟨h0.trans (final4 m c), h1.trans (final5 m c), h2.trans (final6 m c), h3.trans (final7 m c), hk⟩
  · refine (θ_run Cert.Reference9Ideal.defs _ _).mono (fun r h c => ?_) (Cert.Reference9Ideal.Value.run (F := Ideal) m' g')
    obtain ⟨a0, a1, a2, a3⟩ := hargs c
    obtain ⟨h0, h1, h2, h3, hk⟩ := h c
    refine ⟨h0.trans ((val_main_v2_eq _).trans ((gradient_eq _).trans ?_)), h1.trans ((val_main_v26_eq _ _ _ _).trans ((changes_eq _ _ _ _).trans ?_)),
      h2.trans ((val_main_v7_eq _ _).trans ((means_eq _ _).trans ?_)), h3.trans ((val_main_v13_eq _ _).trans ((vars_eq _ _).trans ?_)), hk⟩
    · rw [a0]
    · rw [a0, a1, a2, a3]
    · rw [a0, a2]
    · rw [a0, a3]

end Cert.UpdateOutEqual

end
-- ==== Proof.UpdateRate.lean ====
/-
  The optimiser's step of the in-context rate's second weights: the launch's four results, element by element, from its arguments.
-/
module

public import proofs.«01_k».proof.Proof.Gen.Kernel10Ideal.Value
public import proofs.«01_k».proof.Proof.UpdateMath
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.Kernel10Ideal.Update

open Cert.Kernel10Ideal Cert.Kernel10Ideal.Gen Cert.Update

/-! ## The body's four stores -/

section
variable (p0 p1 p2 p3 : Vec Ideal S1x64x64 .bf16) (w m v : Vec Ideal S1x64x64 .f32) (a : Fin 64) (b : Fin 64)

/-- The four parts' sum. -/
theorem total_at : k0_pay5 p0 p1 p2 p3 (ix2 a b) = p0 (ix3 0 a b) + p1 (ix3 0 a b) + p2 (ix3 0 a b) + p3 (ix3 0 a b) := by
  unfold k0_pay5
  pointwise

theorem pay6_at : k0_pay6 p0 p1 p2 p3 (ix3 0 a b) = k0_pay5 p0 p1 p2 p3 (ix2 a b) := by
  unfold k0_pay6
  generalize k0_pay5 p0 p1 p2 p3 = g
  pointwise

theorem pay3_at : k0_pay3 (k0_pay8 p0 p1 p2 p3 m) (ix3 0 a b) = first (k0_pay5 p0 p1 p2 p3 (ix2 a b)) (m (ix3 0 a b)) := by
  unfold k0_pay3 k0_pay8 first
  generalize k0_pay5 p0 p1 p2 p3 = g
  pointwise

theorem pay4_at (g : FVec Ideal S64x64 .f32) : k0_pay4 g (k0_pay9 v) (ix3 0 a b) = second (g (ix2 a b)) (v (ix3 0 a b)) := by
  unfold k0_pay4 k0_pay1 k0_pay9 second
  pointwise

theorem pay2_at : k0_pay2 (k0_pay5 p0 p1 p2 p3) (k0_pay7 w) (k0_pay8 p0 p1 p2 p3 m) (k0_pay9 v) (ix3 0 a b)
    = change (w (ix3 0 a b)) (k0_pay5 p0 p1 p2 p3 (ix2 a b)) (m (ix3 0 a b)) (v (ix3 0 a b)) := by
  unfold k0_pay2 k0_pay1 k0_pay7 k0_pay8 k0_pay9 change first second
  generalize k0_pay5 p0 p1 p2 p3 = g
  pointwise

end

/-! ## The arrays that the launch is given -/

variable (m : (ℓ : Loc nD τ sig) → Buf (Elt Ideal) ℓ) (c : Dev nD)

/-- The gradient's parts. -/
abbrev parts : FVec Ideal S4x64x64 .bf16 := m (c.tc.loc main_arg0)
/-- The weights. -/
abbrev weight : FVec Ideal S1x64x64 .f32 := m (c.tc.loc main_arg1)
/-- The first moments. -/
abbrev mean : FVec Ideal S1x64x64 .f32 := m (c.tc.loc main_arg2)
/-- The second moments. -/
abbrev var : FVec Ideal S1x64x64 .f32 := m (c.tc.loc main_arg3)

/-! ## The blocks that a grid point reads and writes -/

/-- Row `a` of the only block. -/
def row (t : Fin 1) (a : Fin 64) : Fin 64 := ⟨64 * t.val + a.val, by omega⟩

/-- Which block every window holds at a grid point. -/
theorem idx : ∀ t : Fin cfg0.N,
    win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

theorem in0 (t : Fin cfg0.N) (k : Fin 4) (a : Fin 64) (b : Fin 64) :
    (iblk m c 0 t : Vec Ideal S4x64x64 .bf16) (ix3 k a b) = parts m c (ix3 k (row t a) b) := by
  show V m c main_arg0 ((win0_0.rect t).emb (ix3 k a b : S4x64x64.Idx)) = _
  rw [show (win0_0.rect t).emb (ix3 k a b : S4x64x64.Idx) = (ix3 k (row t a) b : S4x64x64.Idx) from funext fun x => Fin.ext (by
    rw [Pipeline.Window.rect_emb_val (w := win0_0) (hk := rfl), (idx t).1]
    fin_cases x <;> simp [row] <;> omega)]

theorem in1 (t : Fin cfg0.N) (a : Fin 64) (b : Fin 64) :
    (iblk m c 1 t : Vec Ideal S1x64x64 .f32) (ix3 0 a b) = weight m c (ix3 0 (row t a) b) := by
  show V m c main_arg1 ((win0_1.rect t).emb (ix3 0 a b : S1x64x64.Idx)) = _
  rw [show (win0_1.rect t).emb (ix3 0 a b : S1x64x64.Idx) = (ix3 0 (row t a) b : S1x64x64.Idx) from funext fun x => Fin.ext (by
    rw [Pipeline.Window.rect_emb_val (w := win0_1) (hk := rfl), (idx t).2.1]
    fin_cases x <;> simp [row] <;> omega)]

theorem in2 (t : Fin cfg0.N) (a : Fin 64) (b : Fin 64) :
    (iblk m c 2 t : Vec Ideal S1x64x64 .f32) (ix3 0 a b) = mean m c (ix3 0 (row t a) b) := by
  show V m c main_arg2 ((win0_2.rect t).emb (ix3 0 a b : S1x64x64.Idx)) = _
  rw [show (win0_2.rect t).emb (ix3 0 a b : S1x64x64.Idx) = (ix3 0 (row t a) b : S1x64x64.Idx) from funext fun x => Fin.ext (by
    rw [Pipeline.Window.rect_emb_val (w := win0_2) (hk := rfl), (idx t).2.2.1]
    fin_cases x <;> simp [row] <;> omega)]

theorem in3 (t : Fin cfg0.N) (a : Fin 64) (b : Fin 64) :
    (iblk m c 3 t : Vec Ideal S1x64x64 .f32) (ix3 0 a b) = var m c (ix3 0 (row t a) b) := by
  show V m c main_arg3 ((win0_3.rect t).emb (ix3 0 a b : S1x64x64.Idx)) = _
  rw [show (win0_3.rect t).emb (ix3 0 a b : S1x64x64.Idx) = (ix3 0 (row t a) b : S1x64x64.Idx) from funext fun x => Fin.ext (by
    rw [Pipeline.Window.rect_emb_val (w := win0_3) (hk := rfl), (idx t).2.2.2.1]
    fin_cases x <;> simp [row] <;> omega)]

section
variable (t : Fin cfg0.N) (a : Fin 64) (b : Fin 64)

theorem total : k0_pay5 (View.ld (iblk m c 0 t) r0_0) (View.ld (iblk m c 0 t) r0_1) (View.ld (iblk m c 0 t) r0_2)
    (View.ld (iblk m c 0 t) r0_3) (ix2 a b) = gradient (parts m c) (ix3 0 (row t a) b) := by
  refine (total_at _ _ _ _ a b).trans (Eq.trans ?_ (sum_parts fun k => parts m c (ix3 k (row t a) b)))
  beta_reduce
  rw [← in0, ← in0, ← in0, ← in0]
  generalize (iblk m c 0 t : Vec Ideal S4x64x64 .bf16) = x
  pointwise

theorem ld1 : View.ld (iblk m c 1 t) r0_4 (ix3 0 a b) = weight m c (ix3 0 (row t a) b) := by
  rw [← in1]
  pointwise

theorem ld2 : View.ld (iblk m c 2 t) r0_4 (ix3 0 a b) = mean m c (ix3 0 (row t a) b) := by
  rw [← in2]
  pointwise

theorem ld3 : View.ld (iblk m c 3 t) r0_4 (ix3 0 a b) = var m c (ix3 0 (row t a) b) := by
  rw [← in3]
  pointwise

theorem out4_at : (dats m 0 c).after 4 t (ix3 0 a b : S1x64x64.Idx) = gradient (parts m c) (ix3 0 (row t a) b) := by
  rw [after0_4]
  unfold out0_4
  rw [View.canon_cons_unit_lit _ _ _ (by decide)]
  refine (pay6_at _ _ _ _ a b).trans ?_
  exact total m c t a b

theorem out5_at : (dats m 0 c).after 5 t (ix3 0 a b : S1x64x64.Idx)
    = change (weight m c (ix3 0 (row t a) b)) (gradient (parts m c) (ix3 0 (row t a) b)) (mean m c (ix3 0 (row t a) b)) (var m c (ix3 0 (row t a) b)) := by
  rw [after0_5]
  unfold out0_5 k0_pay12 k0_pay11 k0_pay10
  rw [View.canon_cons_unit_lit _ _ _ (by decide)]
  refine (pay2_at _ _ _ _ _ _ _ a b).trans ?_
  exact change_congr (ld1 m c t a b) (total m c t a b) (ld2 m c t a b) (ld3 m c t a b)

theorem out6_at : (dats m 0 c).after 6 t (ix3 0 a b : S1x64x64.Idx) = first (gradient (parts m c) (ix3 0 (row t a) b)) (mean m c (ix3 0 (row t a) b)) := by
  rw [after0_6]
  unfold out0_6 k0_pay11
  rw [View.canon_cons_unit_lit _ _ _ (by decide)]
  refine (pay3_at _ _ _ _ _ a b).trans ?_
  exact first_congr (total m c t a b) (ld2 m c t a b)

theorem out7_at : (dats m 0 c).after 7 t (ix3 0 a b : S1x64x64.Idx) = second (gradient (parts m c) (ix3 0 (row t a) b)) (var m c (ix3 0 (row t a) b)) := by
  rw [after0_7]
  unfold out0_7 k0_pay12 k0_pay10
  rw [View.canon_cons_unit_lit _ _ _ (by decide)]
  refine (pay4_at _ a b _).trans ?_
  exact second_congr (total m c t a b) (ld3 m c t a b)

theorem wr4 : ((cfg0.win 4).blk t).view.emb (ix3 0 a b : S1x64x64.Idx) = (ix3 0 (row t a) b : S1x64x64.Idx) := by
  show (win0_4.rect t).emb (ix3 0 a b : S1x64x64.Idx) = _
  funext x
  apply Fin.ext
  rw [Pipeline.Window.rect_emb_val (w := win0_4) (hk := rfl), (idx t).2.2.2.2.1]
  fin_cases x <;> simp [row] <;> omega

theorem wr5 : ((cfg0.win 5).blk t).view.emb (ix3 0 a b : S1x64x64.Idx) = (ix3 0 (row t a) b : S1x64x64.Idx) := by
  show (win0_5.rect t).emb (ix3 0 a b : S1x64x64.Idx) = _
  funext x
  apply Fin.ext
  rw [Pipeline.Window.rect_emb_val (w := win0_5) (hk := rfl), (idx t).2.2.2.2.2.1]
  fin_cases x <;> simp [row] <;> omega

theorem wr6 : ((cfg0.win 6).blk t).view.emb (ix3 0 a b : S1x64x64.Idx) = (ix3 0 (row t a) b : S1x64x64.Idx) := by
  show (win0_6.rect t).emb (ix3 0 a b : S1x64x64.Idx) = _
  funext x
  apply Fin.ext
  rw [Pipeline.Window.rect_emb_val (w := win0_6) (hk := rfl), (idx t).2.2.2.2.2.2.1]
  fin_cases x <;> simp [row] <;> omega

theorem wr7 : ((cfg0.win 7).blk t).view.emb (ix3 0 a b : S1x64x64.Idx) = (ix3 0 (row t a) b : S1x64x64.Idx) := by
  show (win0_7.rect t).emb (ix3 0 a b : S1x64x64.Idx) = _
  funext x
  apply Fin.ext
  rw [Pipeline.Window.rect_emb_val (w := win0_7) (hk := rfl), (idx t).2.2.2.2.2.2.2]
  fin_cases x <;> simp [row] <;> omega

end

/-! ## The arrays after the run -/

theorem final4 : (dats m 0 c).arrAt 4 cfg0.N = gradient (parts m c) := by
  refine (dats m 0 c).arrAt_eq_of_covers 4 _ (by decide +kernel) fun t _ y => ?_
  obtain ⟨a, b, rfl⟩ := cell y
  refine (out4_at m c t a b).trans ?_
  rw [wr4]

theorem final5 : (dats m 0 c).arrAt 5 cfg0.N = changes (weight m c) (gradient (parts m c)) (mean m c) (var m c) := by
  refine (dats m 0 c).arrAt_eq_of_covers 5 _ (by decide +kernel) fun t _ y => ?_
  obtain ⟨a, b, rfl⟩ := cell y
  refine (out5_at m c t a b).trans ?_
  rw [wr5]
  rfl

theorem final6 : (dats m 0 c).arrAt 6 cfg0.N = means (gradient (parts m c)) (mean m c) := by
  refine (dats m 0 c).arrAt_eq_of_covers 6 _ (by decide +kernel) fun t _ y => ?_
  obtain ⟨a, b, rfl⟩ := cell y
  refine (out6_at m c t a b).trans ?_
  rw [wr6]
  rfl

theorem final7 : (dats m 0 c).arrAt 7 cfg0.N = vars (gradient (parts m c)) (var m c) := by
  refine (dats m 0 c).arrAt_eq_of_covers 7 _ (by decide +kernel) fun t _ y => ?_
  obtain ⟨a, b, rfl⟩ := cell y
  refine (out7_at m c t a b).trans ?_
  rw [wr7]
  rfl

end Cert.Kernel10Ideal.Update

end
-- ==== Proof.UpdateRateEqual.lean ====
/-
  The optimiser's step of the in-context rate's second weights: the launch's four results are the plain step's.
-/
module

public import proofs.«01_k».proof.Proof.UpdateRate
public import proofs.«01_k».proof.Proof.Gen.Reference10Ideal.Read
public import proofs.«01_k».proof.Defs

@[expose] public section

set_option maxRecDepth 16384

noncomputable section

open Idealize.ShloMosaic Idealize.ShloMosaic.TcCoe Idealize.SL.Sem

namespace Cert.UpdateRateEqual

open Cert.Update Cert.Kernel10Ideal.Update Cert.Reference10Ideal Cert.Reference10Ideal.Read

/-! ## The plain step, element by element -/

section
variable (x0 : FVec Ideal S4x64x64 .bf16) (x1 x2 x3 : FVec Ideal S1x64x64 .f32)

theorem gradient_eq : val_main_v2 (F := Ideal) x0 = gradient x0 := by
  funext i
  obtain ⟨a, b, rfl⟩ := cell i
  show _ = ∑ k, x0 (ix3 k a b)
  unfold val_main_v2 val_main_v1 val_main_v0 val_main_cst
  pointwise

theorem means_eq : val_main_v7 (F := Ideal) x0 x2 = means (gradient x0) x2 := by
  rw [← gradient_eq]
  funext i
  obtain ⟨a, b, rfl⟩ := cell i
  unfold val_main_v7 val_main_v6 val_main_v5 val_main_v4 val_main_v3 val_main_cst_0 val_main_cst_1 means first
  generalize val_main_v2 (F := Ideal) x0 = g
  pointwise

theorem vars_eq : val_main_v13 (F := Ideal) x0 x3 = vars (gradient x0) x3 := by
  rw [← gradient_eq]
  funext i
  obtain ⟨a, b, rfl⟩ := cell i
  unfold val_main_v13 val_main_v12 val_main_v11 val_main_v10 val_main_v9 val_main_v8 val_main_cst_2 val_main_cst_3 vars second
  generalize val_main_v2 (F := Ideal) x0 = g
  pointwise

theorem changes_eq : val_main_v26 (F := Ideal) x0 x1 x2 x3 = changes x1 (gradient x0) x2 x3 := by
  funext i
  obtain ⟨a, b, rfl⟩ := cell i
  show _ = Ideal.ofBits FTy.f32 0xBA83126F#32
    * (Ideal.div (Ideal.div (means (gradient x0) x2 (ix3 0 a b)) (Ideal.ofBits FTy.f32 0x3F26BD02#32))
        (Ideal.sqrt (Ideal.div (vars (gradient x0) x3 (ix3 0 a b)) (Ideal.ofBits FTy.f32 0x3C231ACC#32)) + Ideal.ofBits FTy.f32 0x322BCC77#32)
      + Ideal.ofBits FTy.f32 0x3C23D70A#32 * x1 (ix3 0 a b))
  rw [← means_eq, ← vars_eq]
  unfold val_main_v26 val_main_v25 val_main_v24 val_main_v23 val_main_v22 val_main_v21 val_main_v20 val_main_v19 val_main_v18
    val_main_v17 val_main_v16 val_main_v15 val_main_v14 val_main_cst_4 val_main_cst_5 val_main_cst_6 val_main_cst_7 val_main_cst_8
  generalize val_main_v7 (F := Ideal) x0 x2 = p
  generalize val_main_v13 (F := Ideal) x0 x3 = q
  pointwise

end

/-- The launch and the plain step leave the same four results. -/
theorem algebraic : Cert.algebraic_Kernel10Ideal_Reference10Ideal := by
  intro m g m' g' _ hargs
  refine ⟨fun c => gradient (parts m c), fun c => changes (weight m c) (gradient (parts m c)) (mean m c) (var m c),
    fun c => means (gradient (parts m c)) (mean m c), fun c => vars (gradient (parts m c)) (var m c), ?_, ?_⟩
  · refine (θ_run Cert.Kernel10Ideal.defs _ _).mono (fun r h c => ?_) (Cert.Kernel10Ideal.Value.run_blocks (F := Ideal) m g)
    obtain ⟨h0, h1, h2, h3, hk⟩ := h c
    exact ⟨h0.trans (final4 m c), h1.trans (final5 m c), h2.trans (final6 m c), h3.trans (final7 m c), hk⟩
  · refine (θ_run Cert.Reference10Ideal.defs _ _).mono (fun r h c => ?_) (Cert.Reference10Ideal.Value.run (F := Ideal) m' g')
    obtain ⟨a0, a1, a2, a3⟩ := hargs c
    obtain ⟨h0, h1, h2, h3, hk⟩ := h c
    refine ⟨h0.trans ((val_main_v2_eq _).trans ((gradient_eq _).trans ?_)), h1.trans ((val_main_v26_eq _ _ _ _).trans ((changes_eq _ _ _ _).trans ?_)),
      h2.trans ((val_main_v7_eq _ _).trans ((means_eq _ _).trans ?_)), h3.trans ((val_main_v13_eq _ _).trans ((vars_eq _ _).trans ?_)), hk⟩
    · rw [a0]
    · rw [a0, a1, a2, a3]
    · rw [a0, a2]
    · rw [a0, a3]

end Cert.UpdateRateEqual

end
-- ==== Proof.RopeTables.lean ====
/-
  The tables of the rotary embedding: the launch's two arrays, element by element, from the positions.
-/
module

public import proofs.«01_k».proof.Proof.Gen.Kernel11Ideal.Value
public import proofs.«01_k».proof.Proof.Gen.Reference11Ideal.Read
public import proofs.«01_k».proof.Proof.Norm
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.Kernel11Ideal.Tables

open Cert.Kernel11Ideal Cert.Kernel11Ideal.Gen Cert.Norm

variable (m : (ℓ : Loc nD τ sig) → Buf (Elt Ideal) ℓ) (c : Dev nD)

/-- The frequencies. -/
def freq (e : Fin 32) : EReal := Cert.Reference11Ideal.Read.val_main_v11 (F := Ideal) (ix1 e)

/-- The position of row `r`. -/
def place (r : Fin 8192) : EReal := FloatOps.sitofp (F := Ideal) .f32 (m (c.tc.loc main_arg0) (ix2 (seq r) (pos r) : S4x2048.Idx))

/-! ## The arrays that the launch is given -/

theorem v13_at (l : Fin 128) : V m c main_v13 (ix2 l 0 : S128x1.Idx) = freq ⟨l.val % 32, by omega⟩ := by
  unfold V
  simp only [hostOps0, List.flatten_cons, List.flatten_nil, List.cons_append, List.nil_append]
  after_reads_simp
  unfold freq
  pointwise [Cert.Reference11Ideal.Read.val_main_v11, Cert.Reference11Ideal.Read.val_main_v10, Cert.Reference11Ideal.Read.val_main_v9,
    Cert.Reference11Ideal.Read.val_main_v8, Cert.Reference11Ideal.Read.val_main_v7, Cert.Reference11Ideal.Read.val_main_v6,
    Cert.Reference11Ideal.Read.val_main_v5, Cert.Reference11Ideal.Read.val_main_v4, Cert.Reference11Ideal.Read.val_main_v3,
    Cert.Reference11Ideal.Read.val_main_v2, Cert.Reference11Ideal.Read.val_main_cst, Cert.Reference11Ideal.Read.val_main_cst_0,
    Cert.Reference11Ideal.Read.val_main_cst_1, Cert.Reference11Ideal.Read.val_main_cst_2]

theorem v14_at (r : Fin 8192) : FloatOps.sitofp (F := Ideal) .f32 (V m c main_v14 (ix2 0 r : S1x8192.Idx)) = place m c r := by
  unfold V place seq pos
  simp only [hostOps0, List.flatten_cons, List.flatten_nil, List.cons_append, List.nil_append]
  after_reads_simp
  pointwise

/-! ## The body -/

theorem pay1_at (f : FVec Ideal S32x1 .f32) (p : IVec S1x256 32) (e : Fin 32) (R : Fin 256) :
    k0_pay1 f p (ix2 e R) = f (ix2 e 0) * FloatOps.sitofp (F := Ideal) .f32 (p (ix2 0 R)) := by
  unfold k0_pay1
  pointwise

theorem pay2_at (f : FVec Ideal S32x1 .f32) (p : IVec S1x256 32) (R : Fin 256) (j : Fin 128) :
    k0_pay2 (F := Ideal) f p (ix2 R j) = Ideal.cos (k0_pay1 (F := Ideal) f p (ix2 ⟨j.val % 32, by omega⟩ R)) := by
  unfold k0_pay2
  generalize k0_pay1 (F := Ideal) f p = a
  pointwise
  split_ifs <;> exact congrArg (fun e => Ideal.cos (a (ix2 e R))) (Fin.ext (by dsimp only; omega))

theorem pay3_at (f : FVec Ideal S32x1 .f32) (p : IVec S1x256 32) (R : Fin 256) (j : Fin 128) :
    k0_pay3 (F := Ideal) f p (ix2 R j) = Ideal.sin (k0_pay1 (F := Ideal) f p (ix2 ⟨j.val % 32, by omega⟩ R)) := by
  unfold k0_pay3
  generalize k0_pay1 (F := Ideal) f p = a
  pointwise
  split_ifs <;> exact congrArg (fun e => Ideal.sin (a (ix2 e R))) (Fin.ext (by dsimp only; omega))

/-! ## The blocks -/

theorem idx : ∀ t : Fin cfg0.N, win0_0.index t = ![0, t.val] ∧ win0_1.index t = ![0, 0] ∧ win0_2.index t = ![t.val, 0]
    ∧ win0_3.index t = ![t.val, 0] :=
  (by decide +kernel : ∀ t : Fin grid0.N, _)

theorem in0 (t : Fin cfg0.N) (R : Fin 256) :
    (iblk m c 0 t : Vec Ideal S1x256 .i32) (ix2 0 R) = V m c main_v14 (ix2 0 (row t R) : S1x8192.Idx) := by
  show V m c main_v14 ((win0_0.rect t).emb (ix2 0 R : S1x256.Idx)) = _
  congr 1
  funext a
  apply Fin.ext
  rw [Pipeline.Window.rect_emb_val (w := win0_0) (hk := rfl), (idx t).1]
  fin_cases a <;> simp [row] <;> omega

theorem in1 (t : Fin cfg0.N) (l : Fin 128) : (iblk m c 1 t : Vec Ideal S128x1 .f32) (ix2 l 0) = freq ⟨l.val % 32, by omega⟩ := by
  rw [← v13_at m c]
  show V m c main_v13 ((win0_1.rect t).emb (ix2 l 0 : S128x1.Idx)) = _
  congr 1
  funext a
  apply Fin.ext
  rw [Pipeline.Window.rect_emb_val (w := win0_1) (hk := rfl), (idx t).2.1]
  fin_cases a <;> simp

/-- The angle of row `r` and lane `j`. -/
def angle (r : Fin 8192) (j : Fin 128) : EReal := place m c r * freq ⟨j.val % 32, by omega⟩

theorem angle_at (t : Fin cfg0.N) (R : Fin 256) (j : Fin 128) :
    k0_pay1 (View.ld (iblk m c 1 t) r0_0) (View.ld (iblk m c 0 t) r0_1) (ix2 ⟨j.val % 32, by omega⟩ R) = angle m c (row t R) j := by
  have h0 : View.ld (iblk m c 0 t) r0_1 (ix2 0 R) = V m c main_v14 (ix2 0 (row t R) : S1x8192.Idx) := by
    rw [← in0 m c t R]
    pointwise
  have h1 : View.ld (iblk m c 1 t) r0_0 (ix2 ⟨j.val % 32, by omega⟩ 0) = freq ⟨j.val % 32, by omega⟩ := by
    have h := in1 m c t ⟨j.val % 32, by omega⟩
    have e : (⟨j.val % 32 % 32, by omega⟩ : Fin 32) = ⟨j.val % 32, by omega⟩ := Fin.ext (by show j.val % 32 % 32 = j.val % 32; omega)
    refine Eq.trans ?_ (h.trans (congrArg freq e))
    pointwise
  rw [pay1_at, h1, h0]
  exact (congrArg (_ * ·) (v14_at m c (row t R))).trans (mul_comm _ _)

theorem out2_at (t : Fin cfg0.N) (R : Fin 256) (j : Fin 128) : (dats m 0 c).after 2 t (ix2 R j : S256x128.Idx)
    = Ideal.cos (angle m c (row t R) j) := by
  rw [after0_2]
  unfold out0_2
  rw [View.canon_cons_unit_lit _ _ _ (by decide)]
  exact (pay2_at _ _ R j).trans (congrArg Ideal.cos (angle_at m c t R j))

theorem out3_at (t : Fin cfg0.N) (R : Fin 256) (j : Fin 128) : (dats m 0 c).after 3 t (ix2 R j : S256x128.Idx)
    = Ideal.sin (angle m c (row t R) j) := by
  rw [after0_3]
  unfold out0_3
  rw [View.canon_cons_unit_lit _ _ _ (by decide)]
  exact (pay3_at _ _ R j).trans (congrArg Ideal.sin (angle_at m c t R j))

/-! ## The two arrays -/

def R2 : S8192x128.Idx → EReal := fun i => Ideal.cos (angle m c (i 0) (i 1))
def R3 : S8192x128.Idx → EReal := fun i => Ideal.sin (angle m c (i 0) (i 1))

theorem wr2 (t : Fin cfg0.N) (R : Fin 256) (j : Fin 128) :
    ((cfg0.win 2).blk t).view.emb (ix2 R j : S256x128.Idx) = (ix2 (row t R) j : S8192x128.Idx) := by
  show (win0_2.rect t).emb (ix2 R j : S256x128.Idx) = _
  funext a
  apply Fin.ext
  rw [Pipeline.Window.rect_emb_val (w := win0_2) (hk := rfl), (idx t).2.2.1]
  fin_cases a <;> simp [row] <;> omega

theorem wr3 (t : Fin cfg0.N) (R : Fin 256) (j : Fin 128) :
    ((cfg0.win 3).blk t).view.emb (ix2 R j : S256x128.Idx) = (ix2 (row t R) j : S8192x128.Idx) := by
  show (win0_3.rect t).emb (ix2 R j : S256x128.Idx) = _
  funext a
  apply Fin.ext
  rw [Pipeline.Window.rect_emb_val (w := win0_3) (hk := rfl), (idx t).2.2.2]
  fin_cases a <;> simp [row] <;> omega

theorem final2 : (dats m 0 c).arrAt 2 cfg0.N = R2 m c := by
  refine (dats m 0 c).arrAt_eq_of_covers 2 _ (by decide +kernel) fun t _ y => ?_
  obtain ⟨R, j, rfl⟩ : ∃ (R : Fin 256) (j : Fin 128), y = (ix2 R j : S256x128.Idx) := ⟨_, _, eq_ix2 (n0 := 256) (n1 := 128) y⟩
  refine (out2_at m c t R j).trans ?_
  rw [wr2]
  rfl

theorem final3 : (dats m 0 c).arrAt 3 cfg0.N = R3 m c := by
  refine (dats m 0 c).arrAt_eq_of_covers 3 _ (by decide +kernel) fun t _ y => ?_
  obtain ⟨R, j, rfl⟩ : ∃ (R : Fin 256) (j : Fin 128), y = (ix2 R j : S256x128.Idx) := ⟨_, _, eq_ix2 (n0 := 256) (n1 := 128) y⟩
  refine (out3_at m c t R j).trans ?_
  rw [wr3]
  rfl

end Cert.Kernel11Ideal.Tables

end
-- ==== Proof.RopeTablesEqual.lean ====
/-
  The tables of the rotary embedding: the launch's two arrays are the plain cosines and sines.
-/
module

public import proofs.«01_k».proof.Defs
public import proofs.«01_k».proof.Proof.RopeTables
public import proofs.«01_k».proof.Proof.Gen.Reference11Ideal.Run

@[expose] public section

set_option maxRecDepth 16384

noncomputable section

open Idealize.ShloMosaic Idealize.ShloMosaic.TcCoe Idealize.SL.Sem

namespace Cert.RopeTablesEqual

open Cert.Norm Cert.Kernel11Ideal.Tables Cert.Reference11Ideal.Read

variable (x0 : IVec Cert.Reference11Ideal.S4x2048 32)

/-- One angle, of 64. -/
theorem v16_at (b : Fin 4) (R : Fin 2048) (j : Fin 64) : val_main_v16 (F := Ideal) x0 (ix3 b R j)
    = FloatOps.sitofp (F := Ideal) .f32 (x0 (ix2 b R)) * freq ⟨j.val % 32, by omega⟩ := by
  unfold freq val_main_v16 val_main_v15 val_main_v14 val_main_v13 val_main_v12 val_main_v1 val_main_v0
  generalize val_main_v11 (F := Ideal) = f
  pointwise
  split_ifs <;> exact congrArg (fun e => FloatOps.sitofp (F := Ideal) .f32 (x0 (ix2 b R)) * f (ix1 e)) (Fin.ext (by dsimp only; omega))

theorem v19_at (r : Fin 8192) (j : Fin 128) : val_main_v19 (F := Ideal) x0 (ix2 r j)
    = Ideal.cos (val_main_v16 (F := Ideal) x0 (ix3 (seq r) (pos r) ⟨j.val % 64, by omega⟩)) := by
  unfold val_main_v19 val_main_v18 val_main_v17 seq pos
  generalize val_main_v16 (F := Ideal) x0 = a
  pointwise
  split_ifs <;> exact congrArg (fun e => Ideal.cos (a (ix3 _ _ e))) (Fin.ext (by dsimp only; omega))

theorem v22_at (r : Fin 8192) (j : Fin 128) : val_main_v22 (F := Ideal) x0 (ix2 r j)
    = Ideal.sin (val_main_v16 (F := Ideal) x0 (ix3 (seq r) (pos r) ⟨j.val % 64, by omega⟩)) := by
  unfold val_main_v22 val_main_v21 val_main_v20 seq pos
  generalize val_main_v16 (F := Ideal) x0 = a
  pointwise
  split_ifs <;> exact congrArg (fun e => Ideal.sin (a (ix3 _ _ e))) (Fin.ext (by dsimp only; omega))

variable (m : (ℓ : Loc Cert.Kernel11Ideal.nD Cert.Kernel11Ideal.τ Cert.Kernel11Ideal.sig) → Buf (Elt Ideal) ℓ)
  (c : Dev Cert.Kernel11Ideal.nD)

variable {m c x0}

theorem angle_eq (s : x0 = m ((c.tc : Thread Cert.Kernel11Ideal.nD Cert.Kernel11Ideal.τ).loc Cert.Kernel11Ideal.main_arg0)) (r : Fin 8192)
    (j : Fin 128) : val_main_v16 (F := Ideal) x0 (ix3 (seq r) (pos r) ⟨j.val % 64, by omega⟩) = angle m c r j := by
  rw [v16_at, s]
  exact congrArg (_ * freq ·) (Fin.ext (by show j.val % 64 % 32 = j.val % 32; omega))

theorem first (s : x0 = m ((c.tc : Thread Cert.Kernel11Ideal.nD Cert.Kernel11Ideal.τ).loc Cert.Kernel11Ideal.main_arg0)) :
    val_main_v19 (F := Ideal) x0 = R2 m c := by
  funext i
  obtain ⟨r, j, rfl⟩ : ∃ (r : Fin 8192) (j : Fin 128), i = ix2 r j := ⟨_, _, eq_ix2 (n0 := 8192) (n1 := 128) i⟩
  exact (v19_at x0 r j).trans (congrArg Ideal.cos (angle_eq s r j))

theorem second (s : x0 = m ((c.tc : Thread Cert.Kernel11Ideal.nD Cert.Kernel11Ideal.τ).loc Cert.Kernel11Ideal.main_arg0)) :
    val_main_v22 (F := Ideal) x0 = R3 m c := by
  funext i
  obtain ⟨r, j, rfl⟩ : ∃ (r : Fin 8192) (j : Fin 128), i = ix2 r j := ⟨_, _, eq_ix2 (n0 := 8192) (n1 := 128) i⟩
  exact (v22_at x0 r j).trans (congrArg Ideal.sin (angle_eq s r j))

/-- The launch and the plain tables are the same two arrays. -/
theorem algebraic : Cert.algebraic_Kernel11Ideal_Reference11Ideal := by
  intro m g m' g' _ hargs
  refine ⟨fun c => R2 m c, fun c => R3 m c, ?_, ?_⟩
  · refine (θ_run Cert.Kernel11Ideal.defs _ _).mono (fun r h c => ?_) (Cert.Kernel11Ideal.Value.run_blocks (F := Ideal) m g)
    obtain ⟨h0, h1, hk⟩ := h c
    exact ⟨h0.trans (final2 m c), h1.trans (final3 m c), hk⟩
  · refine (θ_run Cert.Reference11Ideal.defs _ _).mono (fun r h c => ?_) (Cert.Reference11Ideal.Value.run (F := Ideal) m' g')
    obtain ⟨h0, h1, hk⟩ := h c
    exact ⟨h0.trans ((val_main_v19_eq _).trans (first (hargs c))), h1.trans ((val_main_v22_eq _).trans (second (hargs c))), hk⟩

end Cert.RopeTablesEqual

end
-- ==== Proof.PrepareFrame.lean ====
/-
  The run of the call before the attention and the recurrence, over any floats: what its 27 windows hold, the body's triple and the
  launch.
-/
module

public import proofs.«01_k».proof.Proof.Gen.Kernel12Ideal.Launch
public import proofs.«01_k».proof.Proof.Gen.Kernel12Ideal.Skeleton
public import proofs.«01_k».proof.Proof.Gen.Kernel12Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- deep enough for the long axes of the arrays
set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1620000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel12Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 9).trans (((dats 0 c).arrAt_in 9 rfl _).trans ((hA c 9).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses -/

abbrev r0_0 : Rect S256x512 := Rect.unit (s := S256x512) ![0, 0] S256x256.size inb_S256x512_S256x256_0_0
abbrev r0_1 : Rect S256x512 := Rect.unit (s := S256x512) ![0, 256] S256x128.size inb_S256x512_S256x128_0_256
abbrev r0_2 : Rect S256x512 := Rect.unit (s := S256x512) ![0, 384] S256x128.size inb_S256x512_S256x128_0_384
abbrev r0_3 : Rect S1x256 := Rect.unit (s := S1x256) ![0, 0] S1x256.size inb_S1x256_S1x256_0_0
abbrev r0_4 : Rect S256x512 := Rect.unit (s := S256x512) ![0, 0] S256x512.size inb_S256x512_S256x512_0_0
abbrev r0_5 : Rect S1x128 := Rect.unit (s := S1x128) ![0, 0] S1x128.size inb_S1x128_S1x128_0_0
abbrev r0_6 : Rect S128x1024 := Rect.unit (s := S128x1024) ![0, 0] S128x1024.size inb_S128x1024_S128x1024_0_0
abbrev r0_7 : Rect S8x1664 := Rect.unit (s := S8x1664) ![7, 0] S1x1664.size inb_S8x1664_S1x1664_7_0
abbrev r0_8 : Rect S256x1664 := Rect.unit (s := S256x1664) ![0, 0] S256x512.size inb_S256x1664_S256x512_0_0
abbrev r0_9 : Rect S256x1664 := Rect.unit (s := S256x1664) ![0, 512] S256x512.size inb_S256x1664_S256x512_0_512
abbrev r0_10 : Rect S256x1664 := Rect.unit (s := S256x1664) ![0, 1024] S256x512.size inb_S256x1664_S256x512_0_1024
abbrev r0_11 : Rect S256x1664 := Rect.unit (s := S256x1664) ![0, 1536] S256x128.size inb_S256x1664_S256x128_0_1536
abbrev r0_12 : Rect S1x1664 := Rect.unit (s := S1x1664) ![0, 0] S1x512.size inb_S1x1664_S1x512_0_0
abbrev r0_13 : Rect S1x1664 := Rect.unit (s := S1x1664) ![0, 512] S1x512.size inb_S1x1664_S1x512_0_512
abbrev r0_14 : Rect S1x1664 := Rect.unit (s := S1x1664) ![0, 1024] S1x512.size inb_S1x1664_S1x512_0_1024
abbrev r0_15 : Rect S1x1664 := Rect.unit (s := S1x1664) ![0, 1536] S1x128.size inb_S1x1664_S1x128_0_1536
abbrev r0_16 : Rect S1x512 := Rect.unit (s := S1x512) ![0, 0] S1x512.size inb_S1x512_S1x512_0_0
abbrev r0_17 : Rect S128x512 := Rect.unit (s := S128x512) ![0, 0] S128x512.size inb_S128x512_S128x512_0_0
abbrev r0_18 : Rect S256x128 := Rect.unit (s := S256x128) ![0, 0] S256x128.size inb_S256x128_S256x128_0_0
abbrev r0_19 : Rect S256x1024 := Rect.unit (s := S256x1024) ![0, 0] S256x1024.size inb_S256x1024_S256x1024_0_0

/-! ## What the body leaves in each output window's buffer -/

/-! ### Values of the body that the stores' payloads, spelt out, would write more than once

    Each is a vector the body binds, stated over the input windows' blocks and numbered on from the payload functions, so that
    `out0_W` and the values after it name it instead of spelling it out; the comment after each is its name in the body. -/

def k0_pay54 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : FVec F S256x256 .f32 :=
  k0_pay4 (View.ld x0 r0_0) -- `v1`
def k0_pay55 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : FVec F S256x128 .f32 :=
  k0_pay6 (View.ld x0 r0_2) -- `v5`
def k0_pay56 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : FVec F S1x256 .f32 :=
  k0_pay7 (View.ld x5 r0_3) -- `v7`
def k0_pay57 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : FVec F S1x1664 .f32 :=
  k0_pay11 i (View.ld x2 r0_7) -- `v30`
def k0_pay58 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : FVec F S256x128 .f32 :=
  k0_pay15 (View.ld x1 r0_11) -- `v38`
def k0_pay59 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : FVec F S256x128 .f32 :=
  k0_pay19 (k0_pay57 i x0 x1 x2 x3 x4 x5 x6 x7 x8 x9 x10 x11 x12 x13 x14 x15 x16) (View.ld x1 r0_11) -- `v70`
def k0_pay60 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : FVec F S1x128 .f32 :=
  k0_pay23 (View.ld x10 r0_15) -- `v78`
def k0_pay61 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : FVec F S1x512 .f32 :=
  k0_pay28 (View.ld x15 r0_16) -- `v88`
def k0_pay62 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : FVec F S256x128 .f32 :=
  k0_pay30 (View.ld x3 r0_18) -- `v92`
def k0_pay63 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : FVec F S256x128 .f32 :=
  k0_pay31 (View.ld x4 r0_18) -- `v94`
def k0_pay64 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : FVec F S256x512 .f32 :=
  k0_pay44 (k0_pay13 (View.ld x1 r0_9)) (k0_pay17 (k0_pay57 i x0 x1 x2 x3 x4 x5 x6 x7 x8 x9 x10 x11 x12 x13 x14 x15 x16) (View.ld x1 r0_9)) (k0_pay21 (View.ld x10 r0_13)) -- `v163`
def k0_pay65 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : FVec F S256x512 .f32 :=
  k0_pay48 (k0_pay58 i x0 x1 x2 x3 x4 x5 x6 x7 x8 x9 x10 x11 x12 x13 x14 x15 x16) (k0_pay59 i x0 x1 x2 x3 x4 x5 x6 x7 x8 x9 x10 x11 x12 x13 x14 x15 x16) (k0_pay60 i x0 x1 x2 x3 x4 x5 x6 x7 x8 x9 x10 x11 x12 x13 x14 x15 x16) (k0_pay26 (View.ld x13 r0_16)) (k0_pay27 (View.ld x14 r0_17)) -- `v203`

/-- Window 17's staging buffer after the body, from the input windows' blocks: its 1 store as pieces, LAST
    FIRST (Lib/Pipeline/FrameBody.lean `View.canon`; the payloads are the skeleton's and the values stated above). -/
def out0_17 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : Vec F S256x512 .bf16 :=
  View.canon [⟨r0_4, k0_pay53 (k0_pay35 (k0_pay33 (k0_pay54 i x0 x1 x2 x3 x4 x5 x6 x7 x8 x9 x10 x11 x12 x13 x14 x15 x16) (k0_pay56 i x0 x1 x2 x3 x4 x5 x6 x7 x8 x9 x10 x11 x12 x13 x14 x15 x16)) (k0_pay34 (k0_pay8 (View.ld x6 r0_4))))⟩]

/-- Its stores tile the buffer (checked by evaluation), so they cover it. -/
theorem cover0_17 (p0 : Vec F S256x512 .bf16) (y : S256x512.Idx) :
    ∃ pc ∈ ([⟨r0_4, p0⟩] : List (View.Piece (Elt F) S256x512 .bf16)), y ∈ pc.1.set :=
  View.cover_of_tiled [⟨r0_4, p0⟩] S256x512.size (by rfl) y

/-- Window 18's staging buffer after the body, from the input windows' blocks: its 1 store as pieces, LAST
    FIRST (Lib/Pipeline/FrameBody.lean `View.canon`; the payloads are the skeleton's and the values stated above). -/
def out0_18 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : Vec F S256x512 .bf16 :=
  View.canon [⟨r0_4, k0_pay1 (k0_pay36 (k0_pay9 (View.ld x7 r0_4)) (k0_pay62 i x0 x1 x2 x3 x4 x5 x6 x7 x8 x9 x10 x11 x12 x13 x14 x15 x16) (k0_pay63 i x0 x1 x2 x3 x4 x5 x6 x7 x8 x9 x10 x11 x12 x13 x14 x15 x16) (k0_pay32 (k0_pay54 i x0 x1 x2 x3 x4 x5 x6 x7 x8 x9 x10 x11 x12 x13 x14 x15 x16) (k0_pay56 i x0 x1 x2 x3 x4 x5 x6 x7 x8 x9 x10 x11 x12 x13 x14 x15 x16)))⟩]

/-- Its stores tile the buffer (checked by evaluation), so they cover it. -/
theorem cover0_18 (p0 : Vec F S256x512 .bf16) (y : S256x512.Idx) :
    ∃ pc ∈ ([⟨r0_4, p0⟩] : List (View.Piece (Elt F) S256x512 .bf16)), y ∈ pc.1.set :=
  View.cover_of_tiled [⟨r0_4, p0⟩] S256x512.size (by rfl) y

/-- Window 19's staging buffer after the body, from the input windows' blocks: its 1 store as pieces, LAST
    FIRST (Lib/Pipeline/FrameBody.lean `View.canon`; the payloads are the skeleton's and the values stated above). -/
def out0_19 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : Vec F S256x1024 .bf16 :=
  View.canon [⟨r0_19, k0_pay2 (k0_pay37 (k0_pay5 (View.ld x0 r0_1)) (k0_pay10 (View.ld x8 r0_5)) (View.ld x9 r0_6))⟩]

/-- Its stores tile the buffer (checked by evaluation), so they cover it. -/
theorem cover0_19 (p0 : Vec F S256x1024 .bf16) (y : S256x1024.Idx) :
    ∃ pc ∈ ([⟨r0_19, p0⟩] : List (View.Piece (Elt F) S256x1024 .bf16)), y ∈ pc.1.set :=
  View.cover_of_tiled [⟨r0_19, p0⟩] S256x1024.size (by rfl) y

/-- Window 20's staging buffer after the body, from the input windows' blocks: its 1 store as pieces, LAST
    FIRST (Lib/Pipeline/FrameBody.lean `View.canon`; the payloads are the skeleton's and the values stated above). -/
def out0_20 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : Vec F S256x128 .bf16 :=
  View.canon [⟨r0_18, k0_pay3 (k0_pay42 (k0_pay63 i x0 x1 x2 x3 x4 x5 x6 x7 x8 x9 x10 x11 x12 x13 x14 x15 x16) (k0_pay38 (k0_pay55 i x0 x1 x2 x3 x4 x5 x6 x7 x8 x9 x10 x11 x12 x13 x14 x15 x16) (k0_pay62 i x0 x1 x2 x3 x4 x5 x6 x7 x8 x9 x10 x11 x12 x13 x14 x15 x16)) k0_pay39 (k0_pay40 (k0_pay55 i x0 x1 x2 x3 x4 x5 x6 x7 x8 x9 x10 x11 x12 x13 x14 x15 x16)) (k0_pay41 (k0_pay55 i x0 x1 x2 x3 x4 x5 x6 x7 x8 x9 x10 x11 x12 x13 x14 x15 x16)))⟩]

/-- Its stores tile the buffer (checked by evaluation), so they cover it. -/
theorem cover0_20 (p0 : Vec F S256x128 .bf16) (y : S256x128.Idx) :
    ∃ pc ∈ ([⟨r0_18, p0⟩] : List (View.Piece (Elt F) S256x128 .bf16)), y ∈ pc.1.set :=
  View.cover_of_tiled [⟨r0_18, p0⟩] S256x128.size (by rfl) y

/-- Window 21's staging buffer after the body, from the input windows' blocks: its 1 store as pieces, LAST
    FIRST (Lib/Pipeline/FrameBody.lean `View.canon`; the payloads are the skeleton's and the values stated above). -/
def out0_21 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : Vec F S256x512 .f32 :=
  View.canon [⟨r0_4, k0_pay43 (k0_pay12 (View.ld x1 r0_8)) (k0_pay16 (k0_pay57 i x0 x1 x2 x3 x4 x5 x6 x7 x8 x9 x10 x11 x12 x13 x14 x15 x16) (View.ld x1 r0_8)) (k0_pay20 (View.ld x10 r0_12))⟩]

/-- Its stores tile the buffer (checked by evaluation), so they cover it. -/
theorem cover0_21 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

/-- Window 22's staging buffer after the body, from the input windows' blocks: its 1 store as pieces, LAST
    FIRST (Lib/Pipeline/FrameBody.lean `View.canon`; the payloads are the skeleton's and the values stated above). -/
def out0_22 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : Vec F S256x512 .f32 :=
  View.canon [⟨r0_4, k0_pay47 (k0_pay58 i x0 x1 x2 x3 x4 x5 x6 x7 x8 x9 x10 x11 x12 x13 x14 x15 x16) (k0_pay59 i x0 x1 x2 x3 x4 x5 x6 x7 x8 x9 x10 x11 x12 x13 x14 x15 x16) (k0_pay60 i x0 x1 x2 x3 x4 x5 x6 x7 x8 x9 x10 x11 x12 x13 x14 x15 x16) (k0_pay24 (View.ld x11 r0_16)) (k0_pay25 (View.ld x12 r0_17))⟩]

/-- Its stores tile the buffer (checked by evaluation), so they cover it. -/
theorem cover0_22 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

/-- Window 23's staging buffer after the body, from the input windows' blocks: its 1 store as pieces, LAST
    FIRST (Lib/Pipeline/FrameBody.lean `View.canon`; the payloads are the skeleton's and the values stated above). -/
def out0_23 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : Vec F S256x512 .f32 :=
  View.canon [⟨r0_4, k0_pay50 (k0_pay29 (View.ld x16 r0_16)) (k0_pay64 i x0 x1 x2 x3 x4 x5 x6 x7 x8 x9 x10 x11 x12 x13 x14 x15 x16) (k0_pay65 i x0 x1 x2 x3 x4 x5 x6 x7 x8 x9 x10 x11 x12 x13 x14 x15 x16)⟩]

/-- Its stores tile the buffer (checked by evaluation), so they cover it. -/
theorem cover0_23 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

/-- Window 24's staging buffer after the body, from the input windows' blocks: its 1 store as pieces, LAST
    FIRST (Lib/Pipeline/FrameBody.lean `View.canon`; the payloads are the skeleton's and the values stated above). -/
def out0_24 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : Vec F S256x512 .f32 :=
  View.canon [⟨r0_4, k0_pay45 (k0_pay14 (View.ld x1 r0_10)) (k0_pay18 (k0_pay57 i x0 x1 x2 x3 x4 x5 x6 x7 x8 x9 x10 x11 x12 x13 x14 x15 x16) (View.ld x1 r0_10)) (k0_pay22 (View.ld x10 r0_14))⟩]

/-- Its stores tile the buffer (checked by evaluation), so they cover it. -/
theorem cover0_24 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

/-- Window 25's staging buffer after the body, from the input windows' blocks: its 1 store as pieces, LAST
    FIRST (Lib/Pipeline/FrameBody.lean `View.canon`; the payloads are the skeleton's and the values stated above). -/
def out0_25 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : Vec F S256x512 .f32 :=
  View.canon [⟨r0_4, k0_pay51 (k0_pay61 i x0 x1 x2 x3 x4 x5 x6 x7 x8 x9 x10 x11 x12 x13 x14 x15 x16) (k0_pay64 i x0 x1 x2 x3 x4 x5 x6 x7 x8 x9 x10 x11 x12 x13 x14 x15 x16)⟩]

/-- Its stores tile the buffer (checked by evaluation), so they cover it. -/
theorem cover0_25 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

/-- Window 26's staging buffer after the body, from the input windows' blocks: its 1 store as pieces, LAST
    FIRST (Lib/Pipeline/FrameBody.lean `View.canon`; the payloads are the skeleton's and the values stated above). -/
def out0_26 (i : grid0.Coords) (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) : Vec F S256x512 .f32 :=
  View.canon [⟨r0_4, k0_pay52 (k0_pay61 i x0 x1 x2 x3 x4 x5 x6 x7 x8 x9 x10 x11 x12 x13 x14 x15 x16) (k0_pay64 i x0 x1 x2 x3 x4 x5 x6 x7 x8 x9 x10 x11 x12 x13 x14 x15 x16) (k0_pay65 i x0 x1 x2 x3 x4 x5 x6 x7 x8 x9 x10 x11 x12 x13 x14 x15 x16)⟩]

/-- Its stores tile the buffer (checked by evaluation), so they cover it. -/
theorem cover0_26 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x512 .f32) (harg1 : arg1.IsWhole) (arg2 : Memref sig .tc .vmem S256x1664 .f32) (harg2 : arg2.IsWhole) (arg3 : Memref sig .tc .vmem S8x1664 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x256 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1x128 .f32) (harg9 : arg9.IsWhole) (arg10 : Memref sig .tc .vmem S128x1024 .f32) (harg10 : arg10.IsWhole) (arg11 : Memref sig .tc .vmem S1x1664 .f32) (harg11 : arg11.IsWhole) (arg12 : Memref sig .tc .vmem S1x512 .f32) (harg12 : arg12.IsWhole) (arg13 : Memref sig .tc .vmem S128x512 .f32) (harg13 : arg13.IsWhole) (arg14 : Memref sig .tc .vmem S1x512 .f32) (harg14 : arg14.IsWhole) (arg15 : Memref sig .tc .vmem S128x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x1024 .bf16) (harg20 : arg20.IsWhole) (arg21 : Memref sig .tc .vmem S256x128 .bf16) (harg21 : arg21.IsWhole) (arg22 : Memref sig .tc .vmem S256x512 .f32) (harg22 : arg22.IsWhole) (arg23 : Memref sig .tc .vmem S256x512 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (x0 : Vec F S256x512 .f32) (x1 : Vec F S256x1664 .f32) (x2 : Vec F S8x1664 .f32) (x3 : Vec F S256x128 .f32) (x4 : Vec F S256x128 .f32) (x5 : Vec F S1x256 .f32) (x6 : Vec F S256x512 .f32) (x7 : Vec F S256x512 .f32) (x8 : Vec F S1x128 .f32) (x9 : Vec F S128x1024 .f32) (x10 : Vec F S1x1664 .f32) (x11 : Vec F S1x512 .f32) (x12 : Vec F S128x512 .f32) (x13 : Vec F S1x512 .f32) (x14 : Vec F S128x512 .f32) (x15 : Vec F S1x512 .f32) (x16 : Vec F S1x512 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 i x0 x1 x2 x3 x4 x5 x6 x7 x8 x9 x10 x11 x12 x13 x14 x15 x16) ∗ owns (c : Thread nD τ) arg19 fullShare (out0_18 i x0 x1 x2 x3 x4 x5 x6 x7 x8 x9 x10 x11 x12 x13 x14 x15 x16) ∗ owns (c : Thread nD τ) arg20 fullShare (out0_19 i x0 x1 x2 x3 x4 x5 x6 x7 x8 x9 x10 x11 x12 x13 x14 x15 x16) ∗ owns (c : Thread nD τ) arg21 fullShare (out0_20 i x0 x1 x2 x3 x4 x5 x6 x7 x8 x9 x10 x11 x12 x13 x14 x15 x16) ∗ owns (c : Thread nD τ) arg22 fullShare (out0_21 i x0 x1 x2 x3 x4 x5 x6 x7 x8 x9 x10 x11 x12 x13 x14 x15 x16) ∗ owns (c : Thread nD τ) arg23 fullShare (out0_22 i x0 x1 x2 x3 x4 x5 x6 x7 x8 x9 x10 x11 x12 x13 x14 x15 x16) ∗ owns (c : Thread nD τ) arg24 fullShare (out0_23 i x0 x1 x2 x3 x4 x5 x6 x7 x8 x9 x10 x11 x12 x13 x14 x15 x16) ∗ owns (c : Thread nD τ) arg25 fullShare (out0_24 i x0 x1 x2 x3 x4 x5 x6 x7 x8 x9 x10 x11 x12 x13 x14 x15 x16) ∗ owns (c : Thread nD τ) arg26 fullShare (out0_25 i x0 x1 x2 x3 x4 x5 x6 x7 x8 x9 x10 x11 x12 x13 x14 x15 x16) ∗ owns (c : Thread nD τ) arg27 fullShare (out0_26 i x0 x1 x2 x3 x4 x5 x6 x7 x8 x9 x10 x11 x12 x13 x14 x15 x16)) -∗ K ⟨⟩))
      ⊢ wp frame (wpE (defs₀ (F := F)) Variants.none c none) E (cc0_fwd_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_fwd_b_eq_skeleton]; unfold cc0_fwd_b_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  iexists _; isplitr
  swap; · iexact H26
  ipureintro
  refine (View.read_writes_eq_canon _ _ _ (cover0_26 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨19, _⟩ => out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨20, _⟩ => out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨22, _⟩ => out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨23, _⟩ => out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨24, _⟩ => out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨25, _⟩ => out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨26, _⟩ => out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 27, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_19 (c : Dev nD) (t : Fin cfg0.N) : (dats m 0 c).after 19 t = out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_20 (c : Dev nD) (t : Fin cfg0.N) : (dats m 0 c).after 20 t = out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_22 (c : Dev nD) (t : Fin cfg0.N) : (dats m 0 c).after 22 t = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_23 (c : Dev nD) (t : Fin cfg0.N) : (dats m 0 c).after 23 t = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_24 (c : Dev nD) (t : Fin cfg0.N) : (dats m 0 c).after 24 t = out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_25 (c : Dev nD) (t : Fin cfg0.N) : (dats m 0 c).after 25 t = out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_26 (c : Dev nD) (t : Fin cfg0.N) : (dats m 0 c).after 26 t = out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- THE FRAME: `Cert.quiescent_Kernel12Ideal`'s statement (Defs.lean) at any `F` — Proof.lean cites it at `Bits`:
    `theorem Cert.Proof.claim : Cert.Claim := ⟨Cert.Kernel12Ideal.Gen.facts, fun m ρ _ => Cert.Kernel12Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel12Ideal.Gen

end
-- ==== Proof.PrepareBits.lean ====
/-
  The call before the attention and the recurrence: the program as printed and the one over the extended reals have the
  same text, so the run of the second, over any floats, is the run of the first.
-/
module

public import proofs.«01_k».proof.Defs
public import proofs.«01_k».proof.Proof.PrepareFrame
public import proofs.«01_k».proof.Proof.Gen.Kernel12

@[expose] public section

set_option maxRecDepth 16384
set_option maxHeartbeats 4000000

noncomputable section

open Idealize.ShloMosaic Idealize.SL.Sem

namespace Cert.PrepareBits

/-- The two bodies are the same. -/
theorem body_eq : Cert.Kernel12.cc0_fwd_b (F := Bits) = Cert.Kernel12Ideal.cc0_fwd_b (F := Bits) := by
  unfold Cert.Kernel12.cc0_fwd_b Cert.Kernel12Ideal.cc0_fwd_b
  congr

/-- The two tables of bodies are the same. -/
theorem defs₀_eq : Cert.Kernel12.defs₀ (F := Bits) = Cert.Kernel12Ideal.defs₀ (F := Bits) := by
  unfold Cert.Kernel12.defs₀ Cert.Kernel12Ideal.defs₀
  refine congrArg (Defs.onTc (τ := Cert.Kernel12.τ)) ?_
  funext l a
  match l, a with
  | ⟨0, _⟩, (t, s) =>
    dsimp only
    rw [body_eq]
    rfl

/-- The program as printed runs, keeps its arguments and leaves every counter at zero. -/
theorem frame : Cert.quiescent_Kernel12 := fun m ρ _ => by
  have e : Cert.Kernel12.defs (F := Bits) = Cert.Kernel12Ideal.defs (F := Bits) :=
    congrArg (Pipeline.defs (Cert.Kernel12.pcfgs (F := Bits))) defs₀_eq
  rw [e]
  exact Cert.Kernel12Ideal.Gen.frame (F := Bits) m ρ

end Cert.PrepareBits

end
-- ==== Proof.PrepareRun.lean ====
/-
  The call before the attention and the recurrence: its run, with every array of results named.
-/
module

public import proofs.«01_k».proof.Proof.PrepareFrame
public import Idealize.ShloMosaic.Lib.Pipeline.Value

@[expose] public section

noncomputable section

namespace Cert.Kernel12Ideal.Value

open Cert.Kernel12Ideal Cert.Kernel12Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v24_0) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v24_1) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v24_2) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v24_3) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v24_4) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v24_5) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v24_6) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v24_7) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v24_8) = (dats m 0 c).arrAt 25 cfg0.N :=
  (h c).1 25

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v24_9) = (dats m 0 c).arrAt 26 cfg0.N :=
  (h c).1 26

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: input window 9 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 9).trans (((dats m 0 c).arrAt_in 9 rfl _).trans ((A_eq m c 9).trans (V_main_arg7 m c)))

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v24_0) = (dats m 0 c).arrAt 17 cfg0.N
      ∧ r.2.mem ((c : Thread nD τ).loc main_v24_1) = (dats m 0 c).arrAt 18 cfg0.N
      ∧ r.2.mem ((c : Thread nD τ).loc main_v24_2) = (dats m 0 c).arrAt 19 cfg0.N
      ∧ r.2.mem ((c : Thread nD τ).loc main_v24_3) = (dats m 0 c).arrAt 20 cfg0.N
      ∧ r.2.mem ((c : Thread nD τ).loc main_v24_4) = (dats m 0 c).arrAt 21 cfg0.N
      ∧ r.2.mem ((c : Thread nD τ).loc main_v24_5) = (dats m 0 c).arrAt 22 cfg0.N
      ∧ r.2.mem ((c : Thread nD τ).loc main_v24_6) = (dats m 0 c).arrAt 23 cfg0.N
      ∧ r.2.mem ((c : Thread nD τ).loc main_v24_7) = (dats m 0 c).arrAt 24 cfg0.N
      ∧ r.2.mem ((c : Thread nD τ).loc main_v24_8) = (dats m 0 c).arrAt 25 cfg0.N
      ∧ r.2.mem ((c : Thread nD τ).loc main_v24_9) = (dats m 0 c).arrAt 26 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨post17 m r h c,
      post18 m r h c,
      post19 m r h c,
      post20 m r h c,
      post21 m r h c,
      post22 m r h c,
      post23 m r h c,
      post24 m r h c,
      post25 m r h c,
      post26 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Cert.Kernel12Ideal.Value

end
-- ==== Proof.PrepareMath.lean ====
/-
  What the attention and the recurrence are given, on numbers: the normalised row, the rotation by position, the mix with
  the row before, the decay, the rate, and the keys scaled to unit size head by head.
-/
module

public import Idealize.ShloMosaic.Lib.Pointwise

@[expose] public section

noncomputable section

open Idealize.ShloMosaic

namespace Cert.Prepare

/-- One row, divided by the root of its mean square and scaled; `c` are the bits of the number of lanes. -/
def unit {n : Nat} (c : BitVec 32) (x g : Fin n → EReal) (k : Fin n) : EReal :=
  x k * Ideal.rsqrt (Ideal.div (∑ k, x k * x k) (Ideal.ofBits FTy.f32 c) + Ideal.ofBits FTy.f32 0x358637BD#32) * g k

/-- The two halves of 64 lanes exchanged, the second with its sign turned. -/
def turn (x : Fin 64 → EReal) (k : Fin 64) : EReal := if h : k.val < 32 then -x ⟨k.val + 32, by omega⟩ else x ⟨k.val - 32, by omega⟩

/-- 64 lanes, rotated by the angles whose cosines and sines are given. -/
def rope (x c s : Fin 64 → EReal) (k : Fin 64) : EReal := x k * c k + turn x k * s k

/-- 64 numbers with 64 zeros after them. -/
def lanes (f : Fin 64 → EReal) (k : Fin 128) : EReal := if h : k.val < 64 then f ⟨k.val, h⟩ else 0

/-- 64 numbers twice. -/
def twice (f : Fin 64 → EReal) (k : Fin 128) : EReal := if h : k.val < 64 then f ⟨k.val, h⟩ else f ⟨k.val - 64, by omega⟩

/-- The exchange of halves on 128 lanes, in each group of 64. -/
def spun (x : Fin 128 → EReal) (k : Fin 128) : EReal :=
  if h : k.val % 64 < 32 then -x ⟨k.val + 32, by omega⟩ else x ⟨k.val - 32, by omega⟩

/-- 64 lanes with zeros after them rotate to 64 rotated lanes with zeros after them. -/
theorem spun_lanes (f : Fin 64 → EReal) (c s : Fin 128 → EReal) (k : Fin 128) : lanes f k * c k + spun (lanes f) k * s k
    = lanes (rope f (fun k => c ⟨k.val, by omega⟩) fun k => s ⟨k.val, by omega⟩) k := by
  unfold spun
  by_cases h : k.val < 64
  · by_cases h' : k.val < 32
    · rw [dif_pos (show k.val % 64 < 32 by omega)]
      unfold lanes rope turn
      rw [dif_pos h, dif_pos h, dif_pos h', dif_pos (show k.val + 32 < 64 by omega)]
    · rw [dif_neg (show ¬k.val % 64 < 32 by omega)]
      unfold lanes rope turn
      rw [dif_pos h, dif_pos h, dif_neg h', dif_pos (show k.val - 32 < 64 by omega)]
  · by_cases h' : k.val < 96
    · rw [dif_pos (show k.val % 64 < 32 by omega)]
      unfold lanes
      rw [dif_neg h, dif_neg h, dif_neg (show ¬k.val + 32 < 64 by omega), neg_zero, zero_mul, zero_mul, add_zero]
    · rw [dif_neg (show ¬k.val % 64 < 32 by omega)]
      unfold lanes
      rw [dif_neg h, dif_neg h, dif_neg (show ¬k.val - 32 < 64 by omega), zero_mul, zero_mul, add_zero]

/-- A number mixed with the one before it. -/
def mix (p q μ : EReal) : EReal := p + (q - p) * μ

/-- The logarithm of one plus the exponential. -/
def softplus (x : EReal) : EReal := max x 0 + Ideal.log (1 + Ideal.exp (-max x (-x)))

/-- The decay. -/
def decay (y : EReal) : EReal := Ideal.exp (-Ideal.exp (-softplus (-y) - Ideal.ofBits FTy.f32 0x3F000000#32))

/-- Number `e` of the head to which number `j` belongs. -/
def mate (j : Fin 512) (e : Fin 64) : Fin 512 := ⟨64 * (j.val / 64) + e.val, by omega⟩

/-- The keys divided by their head's size, which is kept off zero. -/
def direction (k : Fin 512 → EReal) (j : Fin 512) : EReal :=
  Ideal.div (k j) (max (Ideal.sqrt (∑ e, k (mate j e) * k (mate j e))) (Ideal.ofBits FTy.f32 0x2B8CBCCC#32))

/-- The keys, blended by the rate. -/
def blend (k a κ : EReal) : EReal := k * (1 + (a - 1) * κ)

/-- The queries of a row: its first 256 columns, normalised, times the weights. -/
def queries (p : Fin 448 → EReal) (g : Fin 256 → EReal) (u : Fin 256 → Fin 768 → EReal) (j : Fin 768) : EReal :=
  ∑ k, unit 0x43800000#32 (fun k => p ⟨k.val, by omega⟩) g k * u k j

/-- The keys and values of a row: its next 128 columns, normalised, times the weights. -/
def pairs (p : Fin 448 → EReal) (g : Fin 128 → EReal) (u : Fin 128 → Fin 1024 → EReal) (j : Fin 1024) : EReal :=
  ∑ k, unit 0x43000000#32 (fun k => p ⟨256 + k.val, by omega⟩) g k * u k j

/-- The row before, in the same sequence; zero before a sequence's first row. -/
def before (P : Fin 8192 → Fin 1664 → EReal) (r : Fin 8192) (j : Fin 1664) : EReal :=
  if r.val % 2048 = 0 then 0 else P ⟨r.val - 1, by omega⟩ j

/-- The rows, mixed with the rows before. -/
def mixed (P : Fin 8192 → Fin 1664 → EReal) (μ : Fin 1664 → EReal) (r : Fin 8192) (j : Fin 1664) : EReal :=
  mix (P r j) (before P r j) (μ j)

/-- The decays of a row, from 64 of its mixed columns. -/
def decays (y : Fin 1664 → EReal) (w : Fin 512 → EReal) (W : Fin 64 → Fin 512 → EReal) (j : Fin 512) : EReal :=
  decay (w j + ∑ k : Fin 64, Ideal.tanh (y ⟨1536 + k.val, by omega⟩) * W k j)

/-- The rates of a row, from the last 64 of its mixed columns. -/
def rates (y : Fin 1664 → EReal) (a : Fin 512 → EReal) (A : Fin 64 → Fin 512 → EReal) (j : Fin 512) : EReal :=
  Ideal.logistic (a j + ∑ k : Fin 64, y ⟨1600 + k.val, by omega⟩ * A k j)

/-- The directions of a row's keys, which are scaled lane by lane before. -/
def directions (y : Fin 1664 → EReal) (κ : Fin 512 → EReal) (j : Fin 512) : EReal :=
  direction (fun j => y ⟨512 + j.val, by omega⟩ * κ j) j

theorem sum_low (f : Fin 128 → EReal) (w : Fin 64 → EReal) :
    ∑ k, f k * (if h : k.val < 64 then w ⟨k.val, h⟩ else 0) = ∑ k : Fin 64, f ⟨k.val, by omega⟩ * w k := by
  refine (Fin.sum_univ_add (a := 64) (b := 64) fun k => f k * (if h : k.val < 64 then w ⟨k.val, h⟩ else 0)).trans ?_
  rw [Finset.sum_eq_zero (s := (Finset.univ : Finset (Fin 64))) (f := fun k => f (Fin.natAdd 64 k) * _), add_zero]
  · refine Finset.sum_congr rfl fun k _ => ?_
    rw [dif_pos (show (Fin.castAdd 64 k).val < 64 from k.isLt)]
    rfl
  · intro k _
    rw [dif_neg (show ¬(Fin.natAdd 64 k).val < 64 from Nat.not_lt.mpr (Nat.le_add_right _ _)), mul_zero]

theorem sum_high (f : Fin 128 → EReal) (w : Fin 64 → EReal) :
    ∑ k : Fin 128, f k * (if h : k.val < 64 then 0 else w ⟨k.val - 64, by omega⟩) = ∑ k : Fin 64, f ⟨64 + k.val, by omega⟩ * w k := by
  refine (Fin.sum_univ_add (a := 64) (b := 64) fun k : Fin 128 => f k * (if h : k.val < 64 then 0 else w ⟨k.val - 64, by omega⟩)).trans ?_
  rw [Finset.sum_eq_zero (s := (Finset.univ : Finset (Fin 64))) (f := fun k => f (Fin.castAdd 64 k) * _), zero_add]
  · refine Finset.sum_congr rfl fun k _ => ?_
    rw [dif_neg (show ¬(Fin.natAdd 64 k).val < 64 from Nat.not_lt.mpr (Nat.le_add_right _ _))]
    exact congrArg (_ * w ·) (Fin.ext (by show 64 + k.val - 64 = k.val; omega))
  · intro k _
    rw [dif_pos (show (Fin.castAdd 64 k).val < 64 from k.isLt), mul_zero]

theorem twice_low (f : Fin 64 → EReal) : (fun k : Fin 64 => twice f ⟨k.val, by omega⟩) = f := by
  funext k
  unfold twice
  rw [dif_pos k.isLt]

/-! ## The same quantities, from 128 lanes that are given -/

theorem turned {T C S : Fin 128 → EReal} {f c s : Fin 64 → EReal} (hT : T = lanes f) (hC : ∀ k, C k = twice c k) (hS : ∀ k, S k = twice s k)
    (k : Fin 128) : T k * C k + spun T k * S k = lanes (rope f c s) k := by
  subst hT
  rw [hC, hS, spun_lanes, twice_low, twice_low]

theorem decays_of {y : Fin 1664 → EReal} {F D : Fin 128 → EReal} {w : Fin 512 → EReal} {W : Fin 64 → Fin 512 → EReal} {v : EReal} {j : Fin 512}
    (hF : ∀ k, F k = y ⟨1536 + k.val, by omega⟩) (hv : v = w j) (hD : ∀ k, D k = if h : k.val < 64 then W ⟨k.val, h⟩ j else 0) :
    decay (v + ∑ k, Ideal.tanh (F k) * D k) = decays y w W j := by
  unfold decays
  simp only [hF, hv, hD]
  exact congrArg (fun z => decay (_ + z)) (sum_low (fun k => Ideal.tanh (y ⟨1536 + k.val, by omega⟩)) fun k => W k j)

theorem rates_of {y : Fin 1664 → EReal} {F D : Fin 128 → EReal} {a : Fin 512 → EReal} {A : Fin 64 → Fin 512 → EReal} {v : EReal} {j : Fin 512}
    (hF : ∀ k, F k = y ⟨1536 + k.val, by omega⟩) (hv : v = a j)
    (hD : ∀ k : Fin 128, D k = if h : k.val < 64 then 0 else A ⟨k.val - 64, by omega⟩ j) :
    Ideal.logistic (v + ∑ k, F k * D k) = rates y a A j := by
  unfold rates
  simp only [hF, hv, hD]
  refine congrArg (fun z => Ideal.logistic (_ + z)) ((sum_high (fun k => y ⟨1536 + k.val, by omega⟩) fun k => A k j).trans ?_)
  refine Finset.sum_congr rfl fun k _ => congrArg (y · * _) (Fin.ext ?_)
  show 1536 + (64 + k.val) = 1600 + k.val
  omega

theorem blend_of {k k' a a' κ κ' : EReal} (hk : k = k') (ha : a = a') (hκ : κ = κ') : blend k a κ = blend k' a' κ' := by
  rw [hk, ha, hκ]

theorem directions_of {y : Fin 1664 → EReal} {F G : Fin 512 → EReal} {κ : Fin 512 → EReal}
    (hF : ∀ j, F j = y ⟨512 + j.val, by omega⟩) (hG : ∀ j, G j = κ j) (j : Fin 512) :
    direction (fun j => F j * G j) j = directions y κ j := by
  rw [funext hF, funext hG]
  rfl

end Cert.Prepare

end
-- ==== Proof.PreparePays.lean ====
/-
  The call before the attention and the recurrence: what its body computes, element by element, from its blocks.
-/
module

public import proofs.«01_k».proof.Proof.Gen.Kernel12Ideal.Skeleton
public import proofs.«01_k».proof.Proof.PrepareMath
public import Idealize.ShloMosaic.Lib.Pipeline.ValueKit
public import Idealize.ShloMosaic.Lib.Pointwise
public import Idealize.ShloMosaic.Lib.Pointwise.Select
public import Idealize.ShloMosaic.Lib.StableHlo.RunRead

@[expose] public section

set_option maxRecDepth 16384

noncomputable section

open Idealize.ShloMosaic Idealize.ShloMosaic.TcCoe Idealize.SL.Sem

namespace Cert.Kernel12Ideal.Prepare

open Cert.Kernel12Ideal Cert.Kernel12Ideal.Gen Cert.Prepare

/-! ## The rows before -/

/-- Zero at a sequence's first block, one at every other. -/
def keep (i : grid0.Coords) : EReal := if (i 0).val % 8 = 0 then 0 else 1

/-- The body's test for a sequence's first block, on the block's number. -/
theorem first_word : ∀ n : Fin 32,
    Scalar.cmpi CmpIPredicate.eq
      (Scalar.select
        (Scalar.andi
          (Scalar.xori
            (Scalar.cmpi CmpIPredicate.slt
              (Scalar.remsi (BitVec.ofNat 32 n.val) (Scalar.select (Scalar.cmpi CmpIPredicate.eq 8#32 0#32) 1#32 8#32)) 0#32)
            (Scalar.cmpi CmpIPredicate.slt (Scalar.select (Scalar.cmpi CmpIPredicate.eq 8#32 0#32) 1#32 8#32) 0#32))
          (Scalar.cmpi CmpIPredicate.ne
            (Scalar.remsi (BitVec.ofNat 32 n.val) (Scalar.select (Scalar.cmpi CmpIPredicate.eq 8#32 0#32) 1#32 8#32)) 0#32))
        (Scalar.addi
          (Scalar.remsi (BitVec.ofNat 32 n.val) (Scalar.select (Scalar.cmpi CmpIPredicate.eq 8#32 0#32) 1#32 8#32))
          (Scalar.select (Scalar.cmpi CmpIPredicate.eq 8#32 0#32) 1#32 8#32))
        (Scalar.remsi (BitVec.ofNat 32 n.val) (Scalar.select (Scalar.cmpi CmpIPredicate.eq 8#32 0#32) 1#32 8#32)))
      0#32 = if n.val % 8 = 0 then 1#1 else 0#1 := by
  decide +kernel

/-- The body's test for a block's first row. -/
theorem first_row : ∀ R : Fin 256, IntOp.cmpi CmpIPredicate.eq (BitVec.ofNat 32 R.val) 0#32 = if R.val = 0 then 1#1 else 0#1 := by
  decide +kernel

theorem pay11_at (i : grid0.Coords) (C : Vec Ideal S1x1664 .f32) (j : Fin 1664) :
    k0_pay11 i C (ix2 0 j) = C (ix2 0 j) * keep i := by
  unfold k0_pay11
  pointwise
  rw [first_word (i 0)]
  unfold keep
  by_cases h : (i 0).val % 8 = 0
  · rw [if_pos h, if_pos h, ValueIdx.select_one, mul_zero]
  · rw [if_neg h, if_neg h, ValueIdx.select_zero, mul_one]

/-- The block's first row takes its neighbour from the block before; every other row has it above. -/
def above {n : Nat} (C : Fin n → EReal) (A : Fin 256 → Fin n → EReal) (R : Fin 256) (j : Fin n) : EReal :=
  if h : R.val = 0 then C j else A ⟨R.val - 1, by omega⟩ j

theorem pay16_at (C : FVec Ideal S1x1664 .f32) (A : Vec Ideal S256x512 .f32) (R : Fin 256) (j : Fin 512) :
    k0_pay16 C A (ix2 R j) = above (fun j => C (ix2 0 ⟨j.val, by omega⟩)) (fun R j => A (ix2 R j)) R j := by
  unfold k0_pay16 k0_pay12 above
  pointwise
  rw [first_row R]
  by_cases h : R.val = 0
  · rw [if_pos h, dif_pos h, ValueIdx.select_one]
  · rw [if_neg h, dif_neg h, ValueIdx.select_zero]
    exact congrArg (fun z => A (ix2 z j)) (Fin.ext (by show (R.val + 256 - 1) % 256 = R.val - 1; omega))

theorem pay17_at (C : FVec Ideal S1x1664 .f32) (A : Vec Ideal S256x512 .f32) (R : Fin 256) (j : Fin 512) :
    k0_pay17 C A (ix2 R j) = above (fun j => C (ix2 0 ⟨512 + j.val, by omega⟩)) (fun R j => A (ix2 R j)) R j := by
  unfold k0_pay17 k0_pay13 above
  pointwise
  rw [first_row R]
  by_cases h : R.val = 0
  · rw [if_pos h, dif_pos h, ValueIdx.select_one]
  · rw [if_neg h, dif_neg h, ValueIdx.select_zero]
    exact congrArg (fun z => A (ix2 z j)) (Fin.ext (by show (R.val + 256 - 1) % 256 = R.val - 1; omega))

theorem pay18_at (C : FVec Ideal S1x1664 .f32) (A : Vec Ideal S256x512 .f32) (R : Fin 256) (j : Fin 512) :
    k0_pay18 C A (ix2 R j) = above (fun j => C (ix2 0 ⟨1024 + j.val, by omega⟩)) (fun R j => A (ix2 R j)) R j := by
  unfold k0_pay18 k0_pay14 above
  pointwise
  rw [first_row R]
  by_cases h : R.val = 0
  · rw [if_pos h, dif_pos h, ValueIdx.select_one]
  · rw [if_neg h, dif_neg h, ValueIdx.select_zero]
    exact congrArg (fun z => A (ix2 z j)) (Fin.ext (by show (R.val + 256 - 1) % 256 = R.val - 1; omega))

theorem pay19_at (C : FVec Ideal S1x1664 .f32) (A : Vec Ideal S256x128 .f32) (R : Fin 256) (j : Fin 128) :
    k0_pay19 C A (ix2 R j) = above (fun j => C (ix2 0 ⟨1536 + j.val, by omega⟩)) (fun R j => A (ix2 R j)) R j := by
  unfold k0_pay19 k0_pay15 above
  pointwise
  rw [first_row R]
  by_cases h : R.val = 0
  · rw [if_pos h, dif_pos h, ValueIdx.select_one]
  · rw [if_neg h, dif_neg h, ValueIdx.select_zero]
    exact congrArg (fun z => A (ix2 z j)) (Fin.ext (by show (R.val + 256 - 1) % 256 = R.val - 1; omega))

/-! ## The mixes -/

theorem pay43_at (A B : FVec Ideal S256x512 .f32) (M : FVec Ideal S1x512 .f32) (R : Fin 256) (j : Fin 512) :
    k0_pay43 A B M (ix2 R j) = mix (A (ix2 R j)) (B (ix2 R j)) (M (ix2 0 j)) := by
  unfold k0_pay43 mix
  pointwise

theorem pay44_at (A B : FVec Ideal S256x512 .f32) (M : FVec Ideal S1x512 .f32) (R : Fin 256) (j : Fin 512) :
    k0_pay44 A B M (ix2 R j) = mix (A (ix2 R j)) (B (ix2 R j)) (M (ix2 0 j)) := by
  unfold k0_pay44 mix
  pointwise

theorem pay45_at (A B : FVec Ideal S256x512 .f32) (M : FVec Ideal S1x512 .f32) (R : Fin 256) (j : Fin 512) :
    k0_pay45 A B M (ix2 R j) = mix (A (ix2 R j)) (B (ix2 R j)) (M (ix2 0 j)) := by
  unfold k0_pay45 mix
  pointwise

theorem pay46_at (A B : FVec Ideal S256x128 .f32) (M : FVec Ideal S1x128 .f32) (R : Fin 256) (j : Fin 128) :
    k0_pay46 A B M (ix2 R j) = mix (A (ix2 R j)) (B (ix2 R j)) (M (ix2 0 j)) := by
  unfold k0_pay46 mix
  pointwise

/-! ## The decay, the rate and the keys -/

theorem pay47_at (A B : FVec Ideal S256x128 .f32) (M : FVec Ideal S1x128 .f32) (w : FVec Ideal S1x512 .f32) (W : FVec Ideal S128x512 .f32)
    (R : Fin 256) (j : Fin 512) : k0_pay47 A B M w W (ix2 R j)
    = decay (w (ix2 0 j) + ∑ k, Ideal.tanh (k0_pay46 A B M (ix2 R k)) * W (ix2 k j)) := by
  unfold k0_pay47 decay softplus
  generalize k0_pay46 A B M = t
  pointwise
  simp only [zero_sub]
  rfl

theorem pay48_at (A B : FVec Ideal S256x128 .f32) (M : FVec Ideal S1x128 .f32) (w : FVec Ideal S1x512 .f32) (W : FVec Ideal S128x512 .f32)
    (R : Fin 256) (j : Fin 512) : k0_pay48 A B M w W (ix2 R j)
    = Ideal.logistic (w (ix2 0 j) + ∑ k, k0_pay46 A B M (ix2 R k) * W (ix2 k j)) := by
  unfold k0_pay48
  generalize k0_pay46 A B M = t
  pointwise

theorem pay50_at (κ : FVec Ideal S1x512 .f32) (K A : FVec Ideal S256x512 .f32) (R : Fin 256) (j : Fin 512) :
    k0_pay50 κ K A (ix2 R j) = blend (K (ix2 R j)) (A (ix2 R j)) (κ (ix2 0 j)) := by
  unfold k0_pay50 blend
  pointwise

theorem pay51_at (κ : FVec Ideal S1x512 .f32) (K : FVec Ideal S256x512 .f32) (R : Fin 256) (j : Fin 512) :
    k0_pay51 κ K (ix2 R j) = -k0_pay49 κ K (ix2 R j) := by
  unfold k0_pay51
  generalize k0_pay49 κ K = d
  pointwise
  exact zero_sub _

theorem pay52_at (κ : FVec Ideal S1x512 .f32) (K A : FVec Ideal S256x512 .f32) (R : Fin 256) (j : Fin 512) :
    k0_pay52 κ K A (ix2 R j) = k0_pay49 κ K (ix2 R j) * A (ix2 R j) := by
  unfold k0_pay52
  generalize k0_pay49 κ K = d
  pointwise

/-- A lane's head, as the body counts it. -/
theorem head_word : ∀ x : Fin 256, IntOp.shrsi ArithUnit.vector (BitVec.ofNat 32 x.val) 6#32 = BitVec.ofNat 32 (x.val / 64) := by
  decide +kernel

theorem same_word : ∀ a b : Fin 4, IntOp.cmpi CmpIPredicate.eq (BitVec.ofNat 32 a.val) (BitVec.ofNat 32 b.val)
    = if a = b then 1#1 else 0#1 := by
  decide +kernel

/-- The sum over the lanes of one head, among 256. -/
theorem sum_head (g : Fin 256 → EReal) (i : Fin 256) : ∑ x : Fin 256, Scalar.select
      (IntOp.cmpi CmpIPredicate.eq (IntOp.shrsi ArithUnit.vector (BitVec.ofNat 32 x.val) 6#32)
        (IntOp.shrsi ArithUnit.vector (BitVec.ofNat 32 i.val) 6#32)) (g x) 0
    = ∑ e : Fin 64, g ⟨64 * (i.val / 64) + e.val, by omega⟩ := by
  have hs : ∀ x : Fin 256, Scalar.select
      (IntOp.cmpi CmpIPredicate.eq (IntOp.shrsi ArithUnit.vector (BitVec.ofNat 32 x.val) 6#32)
        (IntOp.shrsi ArithUnit.vector (BitVec.ofNat 32 i.val) 6#32)) (g x) 0 = if x.val / 64 = i.val / 64 then g x else 0 := by
    intro x
    rw [head_word x, head_word i, same_word ⟨x.val / 64, by omega⟩ ⟨i.val / 64, by omega⟩]
    by_cases h : x.val / 64 = i.val / 64
    · rw [if_pos (Fin.ext h), if_pos h, ValueIdx.select_one]
    · rw [if_neg (fun e => h (congrArg Fin.val e)), if_neg h, ValueIdx.select_zero]
  rw [Finset.sum_congr rfl fun x _ => hs x, ← Finset.sum_filter]
  symm
  refine Finset.sum_nbij' (fun e : Fin 64 => (⟨64 * (i.val / 64) + e.val, by omega⟩ : Fin 256))
    (fun x : Fin 256 => (⟨x.val % 64, by omega⟩ : Fin 64)) ?_ ?_ ?_ ?_ ?_
  · intro e _
    rw [Finset.mem_filter]
    exact ⟨Finset.mem_univ _, by show (64 * (i.val / 64) + e.val) / 64 = i.val / 64; omega⟩
  · intro x _
    exact Finset.mem_univ _
  · intro e _
    exact Fin.ext (by show (64 * (i.val / 64) + e.val) % 64 = e.val; omega)
  · intro x hx
    have := (Finset.mem_filter.mp hx).2
    exact Fin.ext (by show 64 * (i.val / 64) + x.val % 64 = x.val; omega)
  · intro e _
    rfl

/-- The keys' directions; where no square is infinite, its difference with itself is zero. -/
theorem pay49_at (κ : FVec Ideal S1x512 .f32) (K : FVec Ideal S256x512 .f32) (R : Fin 256) (j : Fin 512)
    (hx : ∀ j, K (ix2 R j) * κ (ix2 0 j) * (K (ix2 R j) * κ (ix2 0 j)) - K (ix2 R j) * κ (ix2 0 j) * (K (ix2 R j) * κ (ix2 0 j)) = 0) :
    k0_pay49 κ K (ix2 R j) = direction (fun j => K (ix2 R j) * κ (ix2 0 j)) j := by
  unfold k0_pay49 direction
  pointwise
  refine congrArg (fun z => Ideal.div _ (max (Ideal.sqrt z) _)) ?_
  by_cases h : j.val < 256
  · rw [dif_pos h]
    refine (congrArg₂ (· + ·) (sum_head (fun x => K (ix2 R ⟨x.val, by omega⟩) * κ (ix2 0 ⟨x.val, by omega⟩)
        * (K (ix2 R ⟨x.val, by omega⟩) * κ (ix2 0 ⟨x.val, by omega⟩))) ⟨j.val, h⟩)
      (Finset.sum_eq_zero fun x _ => ?_)).trans (add_zero _)
    rw [hx ⟨x.val, by omega⟩]
    exact ite_self _
  · rw [dif_neg h]
    refine (congrArg₂ (· + ·) (sum_head (fun x => K (ix2 R ⟨256 + x.val, by omega⟩) * κ (ix2 0 ⟨256 + x.val, by omega⟩)
        * (K (ix2 R ⟨256 + x.val, by omega⟩) * κ (ix2 0 ⟨256 + x.val, by omega⟩))) ⟨j.val - 256, by omega⟩)
      (Finset.sum_eq_zero fun x _ => ?_)).trans ((add_zero _).trans (Finset.sum_congr rfl fun e _ => ?_))
    · rw [hx ⟨256 + x.val, by omega⟩]
      exact ite_self _
    · have he : (⟨256 + (64 * ((j.val - 256) / 64) + e.val), by omega⟩ : Fin 512) = mate j e :=
        Fin.ext (by show 256 + (64 * ((j.val - 256) / 64) + e.val) = 64 * (j.val / 64) + e.val; omega)
      rw [← he]

/-! ## The latent attention's queries, keys and values -/

theorem pay32_at (A : FVec Ideal S256x256 .f32) (G : FVec Ideal S1x256 .f32) (R : Fin 256) (k : Fin 256) :
    k0_pay32 A G (ix2 R k) = unit 0x43800000#32 (fun k => A (ix2 R k)) (fun k => G (ix2 0 k)) k := by
  unfold k0_pay32 unit
  pointwise

theorem pay35_at (A : FVec Ideal S256x256 .f32) (G : FVec Ideal S1x256 .f32) (W : FVec Ideal S256x512 .f32) (R : Fin 256) (j : Fin 512) :
    k0_pay35 (k0_pay33 A G) (k0_pay34 W) (ix2 R j) = ∑ k, unit 0x43800000#32 (fun k => A (ix2 R k)) (fun k => G (ix2 0 k)) k * W (ix2 k j) := by
  simp only [← pay32_at]
  unfold k0_pay35 k0_pay33 k0_pay34
  generalize k0_pay32 A G = u
  pointwise

theorem pay37_at (A : FVec Ideal S256x128 .f32) (G : FVec Ideal S1x128 .f32) (W : Vec Ideal S128x1024 .f32) (R : Fin 256) (j : Fin 1024) :
    k0_pay37 A G W (ix2 R j) = ∑ k, unit 0x43000000#32 (fun k => A (ix2 R k)) (fun k => G (ix2 0 k)) k * W (ix2 k j) := by
  unfold k0_pay37 unit
  pointwise

/-- The body's test for the first half of 64 lanes. -/
theorem half_word : ∀ j : Fin 512, IntOp.cmpi CmpIPredicate.slt (IntOp.andi (BitVec.ofNat 32 j.val) 63#32) 32#32
    = if j.val % 64 < 32 then 1#1 else 0#1 := by
  decide +kernel

/-- 128 lanes four times over. -/
theorem four_times (C : Fin 128 → EReal) (hd : Fin 4) (k : Fin 128) :
    (if h : 128 * hd.val + k.val < 128 then C ⟨128 * hd.val + k.val, h⟩
     else if h' : 128 * hd.val + k.val - 128 < 128 then C ⟨128 * hd.val + k.val - 128, h'⟩
     else if h'' : 128 * hd.val + k.val - 128 - 128 < 128 then C ⟨128 * hd.val + k.val - 128 - 128, h''⟩
     else C ⟨128 * hd.val + k.val - 128 - 128 - 128, by omega⟩) = C k := by
  have := k.isLt
  have := hd.isLt
  split_ifs with h h' h''
  · exact congrArg C (Fin.ext (by show 128 * hd.val + k.val = k.val; omega))
  · exact congrArg C (Fin.ext (by show 128 * hd.val + k.val - 128 = k.val; omega))
  · exact congrArg C (Fin.ext (by show 128 * hd.val + k.val - 128 - 128 = k.val; omega))
  · exact congrArg C (Fin.ext (by show 128 * hd.val + k.val - 128 - 128 - 128 = k.val; omega))

/-- The product with the weights of the lanes that are rotated. -/
def turning (W : FVec Ideal S256x512 .f32) (U : FVec Ideal S256x256 .f32) (R : Fin 256) (hd : Fin 4) (k : Fin 128) : EReal :=
  ∑ x, U (ix2 R x) * W (ix2 x ⟨128 * hd.val + k.val, by omega⟩)

theorem pay36_at (W : FVec Ideal S256x512 .f32) (C S : FVec Ideal S256x128 .f32) (U : FVec Ideal S256x256 .f32) (R : Fin 256)
    (hd : Fin 4) (k : Fin 128) : k0_pay36 W C S U (ix2 R ⟨128 * hd.val + k.val, by omega⟩)
    = turning W U R hd k * C (ix2 R k) + spun (turning W U R hd) k * S (ix2 R k) := by
  unfold k0_pay36 spun turning
  pointwise
  have hk := k.isLt
  have hh := hd.isLt
  rw [half_word ⟨128 * hd.val + k.val, by omega⟩, four_times (fun k => C (ix2 R k)), four_times (fun k => S (ix2 R k))]
  refine congrArg₂ (· + ·) rfl (congrArg₂ (· * ·) ?_ rfl)
  by_cases h : k.val % 64 < 32
  · rw [if_pos (show (128 * hd.val + k.val) % 64 < 32 by omega), dif_pos h, ValueIdx.select_one, zero_sub]
    exact congrArg (fun z : Fin 512 => -∑ x, U (ix2 R x) * W (ix2 x z))
      (Fin.ext (by show (128 * hd.val + k.val + 512 - 480) % 512 = 128 * hd.val + (k.val + 32); omega))
  · rw [if_neg (show ¬(128 * hd.val + k.val) % 64 < 32 by omega), dif_neg h, ValueIdx.select_zero]
    exact congrArg (fun z : Fin 512 => ∑ x, U (ix2 R x) * W (ix2 x z))
      (Fin.ext (by show (128 * hd.val + k.val + 512 - 32) % 512 = 128 * hd.val + (k.val - 32); omega))

theorem pay42_at (A C S : FVec Ideal S256x128 .f32) (R : Fin 256) (k : Fin 128) :
    k0_pay42 S (k0_pay38 A C) k0_pay39 (k0_pay40 A) (k0_pay41 A) (ix2 R k)
    = A (ix2 R k) * C (ix2 R k) + spun (fun k => A (ix2 R k)) k * S (ix2 R k) := by
  unfold k0_pay42 k0_pay38 k0_pay39 k0_pay40 k0_pay41 spun
  pointwise
  have hk := k.isLt
  rw [half_word ⟨k.val, by omega⟩]
  refine congrArg₂ (· + ·) rfl (congrArg₂ (· * ·) ?_ rfl)
  by_cases h : k.val % 64 < 32
  · rw [if_pos h, dif_pos h, ValueIdx.select_one, zero_sub]
    exact congrArg (fun z : Fin 128 => -A (ix2 R z)) (Fin.ext (by show (k.val + 128 - 96) % 128 = k.val + 32; omega))
  · rw [if_neg h, dif_neg h, ValueIdx.select_zero]
    exact congrArg (fun z : Fin 128 => A (ix2 R z)) (Fin.ext (by show (k.val + 128 - 32) % 128 = k.val - 32; omega))

end Cert.Kernel12Ideal.Prepare

end
-- ==== Proof.Prepare.lean ====
/-
  The call before the attention and the recurrence: the arrays that it is given, from its arguments, and the blocks of
  them that a grid point reads.
-/
module

public import proofs.«01_k».proof.Proof.PreparePays
public import proofs.«01_k».proof.Proof.PrepareFrame
public import proofs.«01_k».proof.Proof.Norm
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.Kernel12Ideal.Prepare

open Cert.Kernel12Ideal Cert.Kernel12Ideal.Gen Cert.Prepare Cert.Norm

/-! ## The arguments -/

variable (m : (ℓ : Loc nD τ sig) → Buf (Elt Ideal) ℓ) (c : Dev nD)

/-- Row `r` of the latent attention's columns. -/
def pm (r : Fin 8192) (j : Fin 448) : EReal := m (c.tc.loc main_arg0) (ix3 (seq r) (pos r) j : S4x2048x448.Idx)
/-- Row `r` of the recurrence's columns. -/
def pr (r : Fin 8192) (j : Fin 1664) : EReal := m (c.tc.loc main_arg1) (ix3 (seq r) (pos r) j : S4x2048x1664.Idx)
/-- The cosines of row `r`. -/
def cr (r : Fin 8192) (k : Fin 64) : EReal := m (c.tc.loc main_arg2) (ix3 (seq r) (pos r) k : S4x2048x64.Idx)
/-- The sines of row `r`. -/
def sr (r : Fin 8192) (k : Fin 64) : EReal := m (c.tc.loc main_arg3) (ix3 (seq r) (pos r) k : S4x2048x64.Idx)
/-- The scale of the queries' norm. -/
def gq (k : Fin 256) : EReal := m (c.tc.loc main_arg4) (ix1 k : S256.Idx)
/-- The queries' weights. -/
def uq (k : Fin 256) (j : Fin 768) : EReal := m (c.tc.loc main_arg5) (ix2 k j : S256x768.Idx)
/-- The scale of the keys' and values' norm. -/
def gkv (k : Fin 128) : EReal := m (c.tc.loc main_arg6) (ix1 k : S128.Idx)
/-- The keys' and values' weights. -/
def ukv (k : Fin 128) (j : Fin 1024) : EReal := m (c.tc.loc main_arg7) (ix2 k j : S128x1024.Idx)
/-- The mix of a row with the row before. -/
def mu (j : Fin 1664) : EReal := m (c.tc.loc main_arg8) (ix1 j : S1664.Idx)
/-- The decay's constants. -/
def dw (j : Fin 512) : EReal := m (c.tc.loc main_arg9) (ix1 j : S512.Idx)
/-- The decay's weights. -/
def dW (k : Fin 64) (j : Fin 512) : EReal := m (c.tc.loc main_arg10) (ix2 k j : S64x512.Idx)
/-- The rate's constants. -/
def da (j : Fin 512) : EReal := m (c.tc.loc main_arg11) (ix1 j : S512.Idx)
/-- The rate's weights. -/
def dA (k : Fin 64) (j : Fin 512) : EReal := m (c.tc.loc main_arg12) (ix2 k j : S64x512.Idx)
/-- The keys' scale before their direction is taken. -/
def kk (j : Fin 512) : EReal := m (c.tc.loc main_arg13) (ix1 j : S512.Idx)
/-- The keys' blend with the rate. -/
def ka (j : Fin 512) : EReal := m (c.tc.loc main_arg14) (ix1 j : S512.Idx)

/-! ## The arrays that the launch is given -/

/-- Rows of 448 numbers, padded with zeros to 512. -/
theorem pad_apply (A : FVec Ideal S8192x448 .f32) (r : Fin 8192) (j : Fin 512) :
    pad S8192x512 ![0, 0] ![0, 64] ![0, 0] A (sitofp .f32 (constantI S_ 32 0#32) : FVec Ideal S_ .f32)
        pads_S8192x448_S8192x512_000_0640 h_S_ (ix2 r j) = if h : j.val < 448 then A (ix2 r ⟨j.val, h⟩) else 0 := by
  pointwise
  rw [show (FloatOps.sitofp .f32 0#32 : Ideal .f32) = (0 : EReal) by show (((0#32 : BitVec 32).toInt : ℝ) : EReal) = 0; simp]

theorem v1_at (r : Fin 8192) (j : Fin 512) : V m c main_v1 (ix2 r j : S8192x512.Idx) = if h : j.val < 448 then pm m c r ⟨j.val, h⟩ else 0 := by
  unfold V
  simp only [hostOps0, hostOps0_1, List.flatten_cons, List.flatten_nil, List.cons_append, List.nil_append]
  after_reads_simp
  simp only [StableHlo.TRef.ofBuf_toBuf]
  refine (pad_apply _ r j).trans ?_
  unfold pm seq pos
  by_cases h : j.val < 448
  · rw [dif_pos h, dif_pos h]
    pointwise
    rfl
  · rw [dif_neg h, dif_neg h]

theorem v19_at (r : Fin 8192) (j : Fin 1664) : V m c main_v19 (ix2 r j : S8192x1664.Idx) = pr m c r j := by
  unfold V
  simp only [hostOps0, List.flatten_cons, List.flatten_nil, List.cons_append, List.nil_append]
  after_reads_simp
  unfold pr seq pos
  pointwise

theorem v21_at (r : Fin 8192) (k : Fin 128) : V m c main_v21 (ix2 r k : S8192x128.Idx) = twice (cr m c r) k := by
  unfold V
  simp only [hostOps0, List.flatten_cons, List.flatten_nil, List.cons_append, List.nil_append]
  after_reads_simp
  unfold twice cr seq pos
  pointwise
  by_cases h : k.val < 64
  · simp only [dif_pos h]
    after_reads_simp
    try pointwise
  · simp only [dif_neg h]
    after_reads_simp
    try pointwise

theorem v23_at (r : Fin 8192) (k : Fin 128) : V m c main_v23 (ix2 r k : S8192x128.Idx) = twice (sr m c r) k := by
  unfold V
  simp only [hostOps0, List.flatten_cons, List.flatten_nil, List.cons_append, List.nil_append]
  after_reads_simp
  unfold twice sr seq pos
  pointwise
  by_cases h : k.val < 64
  · simp only [dif_pos h]
    after_reads_simp
    try pointwise
  · simp only [dif_neg h]
    after_reads_simp
    try pointwise

theorem v10_at (k : Fin 256) : V m c main_v10 (ix2 0 k : S1x256.Idx) = gq m c k := by
  unfold V
  simp only [hostOps0, List.flatten_cons, List.flatten_nil, List.cons_append, List.nil_append]
  after_reads_simp
  unfold gq
  pointwise

theorem v4_at (k : Fin 256) (j : Fin 512) : V m c main_v4 (ix2 k j : S256x512.Idx)
    = uq m c k ⟨192 * (j.val / 128) + j.val % 128, by omega⟩ := by
  unfold V
  simp only [hostOps0, List.flatten_cons, List.flatten_nil, List.cons_append, List.nil_append]
  after_reads_simp
  unfold uq
  pointwise
  exact congrArg (fun z => m (c.tc.loc main_arg5) (ix2 k z)) (Fin.ext (by show j.val / 128 * 192 + j.val % 128 = 192 * (j.val / 128) + j.val % 128; omega))

/-- The weights' columns of head `hd` that are rotated. -/
def wheel (k : Fin 256) (hd : Fin 4) (e : Fin 64) : EReal := uq m c k ⟨192 * hd.val + 128 + e.val, by omega⟩

theorem v8_at (k : Fin 256) (hd : Fin 4) (e : Fin 128) : V m c main_v8 (ix2 k ⟨128 * hd.val + e.val, by omega⟩ : S256x512.Idx)
    = lanes (wheel m c k hd) e := by
  unfold V
  simp only [hostOps0, List.flatten_cons, List.flatten_nil, List.cons_append, List.nil_append]
  after_reads_simp
  unfold lanes wheel uq
  pointwise
  have hd' := hd.isLt
  by_cases h : e.val < 64
  · simp only [dif_pos h]
    after_reads_simp
    pointwise
    exact congrArg (fun z => m (c.tc.loc main_arg5) (ix2 k z)) (Fin.ext (by show hd.val * 192 + (128 + e.val) = 192 * hd.val + 128 + e.val; omega))
  · simp only [dif_neg h]
    after_reads_simp
    pointwise

theorem v11_at (k : Fin 128) : V m c main_v11 (ix2 0 k : S1x128.Idx) = gkv m c k := by
  unfold V
  simp only [hostOps0, List.flatten_cons, List.flatten_nil, List.cons_append, List.nil_append]
  after_reads_simp
  unfold gkv
  pointwise

theorem v9_at (k : Fin 128) (j : Fin 1024) : V m c main_arg7 (ix2 k j : S128x1024.Idx) = ukv m c k j := by
  rw [V_main_arg7]
  rfl

theorem v12_at (j : Fin 1664) : V m c main_v12 (ix2 0 j : S1x1664.Idx) = mu m c j := by
  unfold V
  simp only [hostOps0, List.flatten_cons, List.flatten_nil, List.cons_append, List.nil_append]
  after_reads_simp
  unfold mu
  pointwise

theorem v13_at (j : Fin 512) : V m c main_v13 (ix2 0 j : S1x512.Idx) = dw m c j := by
  unfold V
  simp only [hostOps0, List.flatten_cons, List.flatten_nil, List.cons_append, List.nil_append]
  after_reads_simp
  unfold dw
  pointwise

theorem v14_at (k : Fin 128) (j : Fin 512) : V m c main_v14 (ix2 k j : S128x512.Idx)
    = if h : k.val < 64 then dW m c ⟨k.val, h⟩ j else 0 := by
  unfold V
  simp only [hostOps0, List.flatten_cons, List.flatten_nil, List.cons_append, List.nil_append]
  after_reads_simp
  unfold dW
  pointwise

theorem v15_at (j : Fin 512) : V m c main_v15 (ix2 0 j : S1x512.Idx) = da m c j := by
  unfold V
  simp only [hostOps0, List.flatten_cons, List.flatten_nil, List.cons_append, List.nil_append]
  after_reads_simp
  unfold da
  pointwise

theorem v16_at (k : Fin 128) (j : Fin 512) : V m c main_v16 (ix2 k j : S128x512.Idx)
    = if h : k.val < 64 then 0 else dA m c ⟨k.val - 64, by omega⟩ j := by
  unfold V
  simp only [hostOps0, List.flatten_cons, List.flatten_nil, List.cons_append, List.nil_append]
  after_reads_simp
  unfold dA
  pointwise

theorem v17_at (j : Fin 512) : V m c main_v17 (ix2 0 j : S1x512.Idx) = kk m c j := by
  unfold V
  simp only [hostOps0, List.flatten_cons, List.flatten_nil, List.cons_append, List.nil_append]
  after_reads_simp
  unfold kk
  pointwise

theorem v18_at (j : Fin 512) : V m c main_v18 (ix2 0 j : S1x512.Idx) = ka m c j := by
  unfold V
  simp only [hostOps0, List.flatten_cons, List.flatten_nil, List.cons_append, List.nil_append]
  after_reads_simp
  unfold ka
  pointwise

/-! ## The blocks that a grid point reads -/

theorem coords : ∀ t : Fin cfg0.N, ((grid0.coords t) 0).val = t.val := (by decide +kernel : ∀ t : Fin grid0.N, _)

/-- Which block every window that moves holds at a grid point. -/
theorem idx : ∀ t : Fin cfg0.N,
    win0_0.index t = ![t.val, 0] ∧ win0_1.index t = ![t.val, 0] ∧ win0_2.index t = ![32 * t.val - 1, 0]
    ∧ win0_3.index t = ![t.val, 0] ∧ win0_4.index t = ![t.val, 0] :=
  (by decide +kernel : ∀ t : Fin grid0.N, _)

/-- The windows that hold their whole array. -/
theorem still : ∀ t : Fin cfg0.N,
    win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0] :=
  (by decide +kernel : ∀ t : Fin grid0.N, _)

theorem in0 (t : Fin cfg0.N) (R : Fin 256) (j : Fin 512) :
    (iblk m c 0 t : Vec Ideal S256x512 .f32) (ix2 R j) = if h : j.val < 448 then pm m c (row t R) ⟨j.val, h⟩ else 0 := by
  rw [← v1_at]
  show V m c main_v1 ((win0_0.rect t).emb (ix2 R j : S256x512.Idx)) = _
  congr 1
  funext a
  apply Fin.ext
  rw [Pipeline.Window.rect_emb_val (w := win0_0) (hk := rfl), (idx t).1]
  fin_cases a <;> simp [row] <;> omega

theorem in1 (t : Fin cfg0.N) (R : Fin 256) (j : Fin 1664) :
    (iblk m c 1 t : Vec Ideal S256x1664 .f32) (ix2 R j) = pr m c (row t R) j := by
  rw [← v19_at]
  show V m c main_v19 ((win0_1.rect t).emb (ix2 R j : S256x1664.Idx)) = _
  congr 1
  funext a
  apply Fin.ext
  rw [Pipeline.Window.rect_emb_val (w := win0_1) (hk := rfl), (idx t).2.1]
  fin_cases a <;> simp [row] <;> omega

/-- The row before a block's first, where there is one. -/
theorem in2 (t : Fin cfg0.N) (h : t.val ≠ 0) (j : Fin 1664) :
    (iblk m c 2 t : Vec Ideal S8x1664 .f32) (ix2 7 j) = pr m c ⟨256 * t.val - 1, by have : t.val < 32 := t.isLt; omega⟩ j := by
  rw [← v19_at]
  show V m c main_v19 ((win0_2.rect t).emb (ix2 7 j : S8x1664.Idx)) = _
  congr 1
  funext a
  apply Fin.ext
  rw [Pipeline.Window.rect_emb_val (w := win0_2) (hk := rfl), (idx t).2.2.1]
  fin_cases a <;> simp <;> omega

theorem in3 (t : Fin cfg0.N) (R : Fin 256) (k : Fin 128) :
    (iblk m c 3 t : Vec Ideal S256x128 .f32) (ix2 R k) = twice (cr m c (row t R)) k := by
  rw [← v21_at]
  show V m c main_v21 ((win0_3.rect t).emb (ix2 R k : S256x128.Idx)) = _
  congr 1
  funext a
  apply Fin.ext
  rw [Pipeline.Window.rect_emb_val (w := win0_3) (hk := rfl), (idx t).2.2.2.1]
  fin_cases a <;> simp [row] <;> omega

theorem in4 (t : Fin cfg0.N) (R : Fin 256) (k : Fin 128) :
    (iblk m c 4 t : Vec Ideal S256x128 .f32) (ix2 R k) = twice (sr m c (row t R)) k := by
  rw [← v23_at]
  show V m c main_v23 ((win0_4.rect t).emb (ix2 R k : S256x128.Idx)) = _
  congr 1
  funext a
  apply Fin.ext
  rw [Pipeline.Window.rect_emb_val (w := win0_4) (hk := rfl), (idx t).2.2.2.2]
  fin_cases a <;> simp [row] <;> omega

theorem in5 (t : Fin cfg0.N) (k : Fin 256) : (iblk m c 5 t : Vec Ideal S1x256 .f32) (ix2 0 k) = gq m c k := by
  rw [← v10_at]
  show V m c main_v10 ((win0_5.rect t).emb (ix2 0 k : S1x256.Idx)) = _
  congr 1
  funext a
  apply Fin.ext
  rw [Pipeline.Window.rect_emb_val (w := win0_5) (hk := rfl), (still t).1]
  fin_cases a <;> simp

theorem in6 (t : Fin cfg0.N) (k : Fin 256) (j : Fin 512) : (iblk m c 6 t : Vec Ideal S256x512 .f32) (ix2 k j)
    = uq m c k ⟨192 * (j.val / 128) + j.val % 128, by omega⟩ := by
  rw [← v4_at]
  show V m c main_v4 ((win0_6.rect t).emb (ix2 k j : S256x512.Idx)) = _
  congr 1
  funext a
  apply Fin.ext
  rw [Pipeline.Window.rect_emb_val (w := win0_6) (hk := rfl), (still t).2.1]
  fin_cases a <;> simp

theorem in7 (t : Fin cfg0.N) (k : Fin 256) (hd : Fin 4) (e : Fin 128) :
    (iblk m c 7 t : Vec Ideal S256x512 .f32) (ix2 k ⟨128 * hd.val + e.val, by omega⟩) = lanes (wheel m c k hd) e := by
  rw [← v8_at]
  show V m c main_v8 ((win0_7.rect t).emb (ix2 k ⟨128 * hd.val + e.val, by omega⟩ : S256x512.Idx)) = _
  congr 1
  funext a
  apply Fin.ext
  rw [Pipeline.Window.rect_emb_val (w := win0_7) (hk := rfl), (still t).2.2.1]
  fin_cases a <;> simp

theorem in8 (t : Fin cfg0.N) (k : Fin 128) : (iblk m c 8 t : Vec Ideal S1x128 .f32) (ix2 0 k) = gkv m c k := by
  rw [← v11_at]
  show V m c main_v11 ((win0_8.rect t).emb (ix2 0 k : S1x128.Idx)) = _
  congr 1
  funext a
  apply Fin.ext
  rw [Pipeline.Window.rect_emb_val (w := win0_8) (hk := rfl), (still t).2.2.2.1]
  fin_cases a <;> simp

theorem in9 (t : Fin cfg0.N) (k : Fin 128) (j : Fin 1024) : (iblk m c 9 t : Vec Ideal S128x1024 .f32) (ix2 k j) = ukv m c k j := by
  rw [← v9_at]
  show V m c main_arg7 ((win0_9.rect t).emb (ix2 k j : S128x1024.Idx)) = _
  congr 1
  funext a
  apply Fin.ext
  rw [Pipeline.Window.rect_emb_val (w := win0_9) (hk := rfl), (still t).2.2.2.2.1]
  fin_cases a <;> simp

theorem in10 (t : Fin cfg0.N) (j : Fin 1664) : (iblk m c 10 t : Vec Ideal S1x1664 .f32) (ix2 0 j) = mu m c j := by
  rw [← v12_at]
  show V m c main_v12 ((win0_10.rect t).emb (ix2 0 j : S1x1664.Idx)) = _
  congr 1
  funext a
  apply Fin.ext
  rw [Pipeline.Window.rect_emb_val (w := win0_10) (hk := rfl), (still t).2.2.2.2.2.1]
  fin_cases a <;> simp

theorem in11 (t : Fin cfg0.N) (j : Fin 512) : (iblk m c 11 t : Vec Ideal S1x512 .f32) (ix2 0 j) = dw m c j := by
  rw [← v13_at]
  show V m c main_v13 ((win0_11.rect t).emb (ix2 0 j : S1x512.Idx)) = _
  congr 1
  funext a
  apply Fin.ext
  rw [Pipeline.Window.rect_emb_val (w := win0_11) (hk := rfl), (still t).2.2.2.2.2.2.1]
  fin_cases a <;> simp

theorem in12 (t : Fin cfg0.N) (k : Fin 128) (j : Fin 512) : (iblk m c 12 t : Vec Ideal S128x512 .f32) (ix2 k j)
    = if h : k.val < 64 then dW m c ⟨k.val, h⟩ j else 0 := by
  rw [← v14_at]
  show V m c main_v14 ((win0_12.rect t).emb (ix2 k j : S128x512.Idx)) = _
  congr 1
  funext a
  apply Fin.ext
  rw [Pipeline.Window.rect_emb_val (w := win0_12) (hk := rfl), (still t).2.2.2.2.2.2.2.1]
  fin_cases a <;> simp

theorem in13 (t : Fin cfg0.N) (j : Fin 512) : (iblk m c 13 t : Vec Ideal S1x512 .f32) (ix2 0 j) = da m c j := by
  rw [← v15_at]
  show V m c main_v15 ((win0_13.rect t).emb (ix2 0 j : S1x512.Idx)) = _
  congr 1
  funext a
  apply Fin.ext
  rw [Pipeline.Window.rect_emb_val (w := win0_13) (hk := rfl), (still t).2.2.2.2.2.2.2.2.1]
  fin_cases a <;> simp

theorem in14 (t : Fin cfg0.N) (k : Fin 128) (j : Fin 512) : (iblk m c 14 t : Vec Ideal S128x512 .f32) (ix2 k j)
    = if h : k.val < 64 then 0 else dA m c ⟨k.val - 64, by omega⟩ j := by
  rw [← v16_at]
  show V m c main_v16 ((win0_14.rect t).emb (ix2 k j : S128x512.Idx)) = _
  congr 1
  funext a
  apply Fin.ext
  rw [Pipeline.Window.rect_emb_val (w := win0_14) (hk := rfl), (still t).2.2.2.2.2.2.2.2.2.1]
  fin_cases a <;> simp

theorem in15 (t : Fin cfg0.N) (j : Fin 512) : (iblk m c 15 t : Vec Ideal S1x512 .f32) (ix2 0 j) = kk m c j := by
  rw [← v17_at]
  show V m c main_v17 ((win0_15.rect t).emb (ix2 0 j : S1x512.Idx)) = _
  congr 1
  funext a
  apply Fin.ext
  rw [Pipeline.Window.rect_emb_val (w := win0_15) (hk := rfl), (still t).2.2.2.2.2.2.2.2.2.2.1]
  fin_cases a <;> simp

theorem in16 (t : Fin cfg0.N) (j : Fin 512) : (iblk m c 16 t : Vec Ideal S1x512 .f32) (ix2 0 j) = ka m c j := by
  rw [← v18_at]
  show V m c main_v18 ((win0_16.rect t).emb (ix2 0 j : S1x512.Idx)) = _
  congr 1
  funext a
  apply Fin.ext
  rw [Pipeline.Window.rect_emb_val (w := win0_16) (hk := rfl), (still t).2.2.2.2.2.2.2.2.2.2.2]
  fin_cases a <;> simp

end Cert.Kernel12Ideal.Prepare

end
-- ==== Proof.PrepareOut.lean ====
/-
  The call before the attention and the recurrence: its ten arrays of results, element by element, from its arguments.
-/
module

public import proofs.«01_k».proof.Proof.Prepare

@[expose] public section

set_option maxRecDepth 16384

noncomputable section

open Idealize.ShloMosaic Idealize.ShloMosaic.TcCoe Idealize.SL.Sem

namespace Cert.Kernel12Ideal.Prepare

open Cert.Kernel12Ideal Cert.Kernel12Ideal.Gen Cert.Prepare Cert.Norm

variable (m : (ℓ : Loc nD τ sig) → Buf (Elt Ideal) ℓ) (c : Dev nD)

/-! ## The rows before, in a block -/

/-- What stands above a block's first row. -/
theorem corner_at (t : Fin cfg0.N) (j : Fin 1664) : k0_pay11 (grid0.coords t) (View.ld (iblk m c 2 t) r0_7) (ix2 0 j)
    = if t.val % 8 = 0 then 0 else pr m c ⟨256 * t.val - 1, by have : t.val < 32 := t.isLt; omega⟩ j := by
  rw [pay11_at]
  unfold keep
  rw [coords t]
  by_cases h : t.val % 8 = 0
  · rw [if_pos h, if_pos h, mul_zero]
  · rw [if_neg h, if_neg h, mul_one, ← in2 m c t (by omega)]
    pointwise

/-- A block's rows before, in some of the columns, are the array's. -/
theorem above_at {n : Nat} (t : Fin cfg0.N) (e : Fin n → Fin 1664) (C : Fin n → EReal) (A : Fin 256 → Fin n → EReal)
    (hC : ∀ j, C j = if t.val % 8 = 0 then 0 else pr m c ⟨256 * t.val - 1, by have : t.val < 32 := t.isLt; omega⟩ (e j))
    (hA : ∀ R j, A R j = pr m c (row t R) (e j)) (R : Fin 256) (j : Fin n) :
    above C A R j = before (pr m c) (row t R) (e j) := by
  have ht : t.val < 32 := t.isLt
  unfold above before
  by_cases h : R.val = 0
  · rw [dif_pos h, hC]
    by_cases h' : t.val % 8 = 0
    · rw [if_pos h']
      exact (if_pos (show (256 * t.val + R.val) % 2048 = 0 by omega)).symm
    · rw [if_neg h']
      refine Eq.trans ?_ (if_neg (show ¬(256 * t.val + R.val) % 2048 = 0 by omega)).symm
      exact congrArg (fun z => pr m c z (e j)) (Fin.ext (by show 256 * t.val - 1 = 256 * t.val + R.val - 1; omega))
  · rw [dif_neg h, hA]
    refine Eq.trans ?_ (if_neg (show ¬(256 * t.val + R.val) % 2048 = 0 by omega)).symm
    exact congrArg (fun z => pr m c z (e j)) (Fin.ext (by show 256 * t.val + (R.val - 1) = 256 * t.val + R.val - 1; omega))

/-- The rows, mixed with the rows before. -/
def ms (r : Fin 8192) (j : Fin 1664) : EReal := mixed (pr m c) (mu m c) r j

theorem first_at (t : Fin cfg0.N) (R : Fin 256) (j : Fin 512) :
    k0_pay43 (k0_pay12 (View.ld (iblk m c 1 t) r0_8)) (k0_pay16 (k0_pay11 (grid0.coords t) (View.ld (iblk m c 2 t) r0_7)) (View.ld (iblk m c 1 t) r0_8))
      (k0_pay20 (View.ld (iblk m c 10 t) r0_12)) (ix2 R j) = ms m c (row t R) ⟨j.val, by omega⟩ := by
  have hA : ∀ (R : Fin 256) (j : Fin 512), View.ld (iblk m c 1 t) r0_8 (ix2 R j) = pr m c (row t R) ⟨j.val, by omega⟩ := by
    intro R j
    rw [← in1]
    pointwise
  rw [pay43_at, pay16_at, above_at m c t (fun j : Fin 512 => ⟨j.val, by omega⟩) _ _ (fun j => corner_at m c t _) hA]
  unfold ms mixed
  refine congrFun (congrArg₂ mix ?_ rfl) _ |>.trans (congrArg _ ?_)
  · rw [← hA]
    unfold k0_pay12
    pointwise
  · rw [← in10 m c t]
    unfold k0_pay20
    pointwise

theorem second_at (t : Fin cfg0.N) (R : Fin 256) (j : Fin 512) :
    k0_pay44 (k0_pay13 (View.ld (iblk m c 1 t) r0_9)) (k0_pay17 (k0_pay11 (grid0.coords t) (View.ld (iblk m c 2 t) r0_7)) (View.ld (iblk m c 1 t) r0_9))
      (k0_pay21 (View.ld (iblk m c 10 t) r0_13)) (ix2 R j) = ms m c (row t R) ⟨512 + j.val, by omega⟩ := by
  have hA : ∀ (R : Fin 256) (j : Fin 512), View.ld (iblk m c 1 t) r0_9 (ix2 R j) = pr m c (row t R) ⟨512 + j.val, by omega⟩ := by
    intro R j
    rw [← in1]
    pointwise
  rw [pay44_at, pay17_at, above_at m c t (fun j : Fin 512 => ⟨512 + j.val, by omega⟩) _ _ (fun j => corner_at m c t _) hA]
  unfold ms mixed
  refine congrFun (congrArg₂ mix ?_ rfl) _ |>.trans (congrArg _ ?_)
  · rw [← hA]
    unfold k0_pay13
    pointwise
  · rw [← in10 m c t]
    unfold k0_pay21
    pointwise

theorem third_at (t : Fin cfg0.N) (R : Fin 256) (j : Fin 512) :
    k0_pay45 (k0_pay14 (View.ld (iblk m c 1 t) r0_10)) (k0_pay18 (k0_pay11 (grid0.coords t) (View.ld (iblk m c 2 t) r0_7)) (View.ld (iblk m c 1 t) r0_10))
      (k0_pay22 (View.ld (iblk m c 10 t) r0_14)) (ix2 R j) = ms m c (row t R) ⟨1024 + j.val, by omega⟩ := by
  have hA : ∀ (R : Fin 256) (j : Fin 512), View.ld (iblk m c 1 t) r0_10 (ix2 R j) = pr m c (row t R) ⟨1024 + j.val, by omega⟩ := by
    intro R j
    rw [← in1]
    pointwise
  rw [pay45_at, pay18_at, above_at m c t (fun j : Fin 512 => ⟨1024 + j.val, by omega⟩) _ _ (fun j => corner_at m c t _) hA]
  unfold ms mixed
  refine congrFun (congrArg₂ mix ?_ rfl) _ |>.trans (congrArg _ ?_)
  · rw [← hA]
    unfold k0_pay14
    pointwise
  · rw [← in10 m c t]
    unfold k0_pay22
    pointwise

theorem fourth_at (t : Fin cfg0.N) (R : Fin 256) (j : Fin 128) :
    k0_pay46 (k0_pay15 (View.ld (iblk m c 1 t) r0_11)) (k0_pay19 (k0_pay11 (grid0.coords t) (View.ld (iblk m c 2 t) r0_7)) (View.ld (iblk m c 1 t) r0_11))
      (k0_pay23 (View.ld (iblk m c 10 t) r0_15)) (ix2 R j) = ms m c (row t R) ⟨1536 + j.val, by omega⟩ := by
  have hA : ∀ (R : Fin 256) (j : Fin 128), View.ld (iblk m c 1 t) r0_11 (ix2 R j) = pr m c (row t R) ⟨1536 + j.val, by omega⟩ := by
    intro R j
    rw [← in1]
    pointwise
  rw [pay46_at, pay19_at, above_at m c t (fun j : Fin 128 => ⟨1536 + j.val, by omega⟩) _ _ (fun j => corner_at m c t _) hA]
  unfold ms mixed
  refine congrFun (congrArg₂ mix ?_ rfl) _ |>.trans (congrArg _ ?_)
  · rw [← hA]
    unfold k0_pay15
    pointwise
  · rw [← in10 m c t]
    unfold k0_pay23
    pointwise

/-! ## The norms' rows -/

theorem query_row (t : Fin cfg0.N) (R : Fin 256) : (fun k => k0_pay4 (View.ld (iblk m c 0 t) r0_0) (ix2 R k))
    = fun k : Fin 256 => pm m c (row t R) ⟨k.val, by omega⟩ := by
  funext k
  have h := in0 m c t R ⟨k.val, by omega⟩
  rw [dif_pos (show k.val < 448 by omega)] at h
  rw [← h]
  unfold k0_pay4
  pointwise

theorem query_scale (t : Fin cfg0.N) : (fun k => k0_pay7 (View.ld (iblk m c 5 t) r0_3) (ix2 0 k)) = gq m c := by
  funext k
  rw [← in5 m c t]
  unfold k0_pay7
  pointwise

theorem pair_row (t : Fin cfg0.N) (R : Fin 256) : (fun k => k0_pay5 (View.ld (iblk m c 0 t) r0_1) (ix2 R k))
    = fun k : Fin 128 => pm m c (row t R) ⟨256 + k.val, by omega⟩ := by
  funext k
  have h := in0 m c t R ⟨256 + k.val, by omega⟩
  rw [dif_pos (show 256 + k.val < 448 by omega)] at h
  rw [← h]
  unfold k0_pay5
  pointwise

theorem pair_scale (t : Fin cfg0.N) : (fun k => k0_pay10 (View.ld (iblk m c 8 t) r0_5) (ix2 0 k)) = gkv m c := by
  funext k
  rw [← in8 m c t]
  unfold k0_pay10
  pointwise

theorem turn_row (t : Fin cfg0.N) (R : Fin 256) : (fun k => k0_pay6 (View.ld (iblk m c 0 t) r0_2) (ix2 R k))
    = lanes fun k : Fin 64 => pm m c (row t R) ⟨384 + k.val, by omega⟩ := by
  funext k
  have h := in0 m c t R ⟨384 + k.val, by omega⟩
  have e : k0_pay6 (View.ld (iblk m c 0 t) r0_2) (ix2 R k) = (iblk m c 0 t : Vec Ideal S256x512 .f32) (ix2 R ⟨384 + k.val, by omega⟩) := by
    unfold k0_pay6
    pointwise
  rw [e, h]
  unfold lanes
  by_cases h' : k.val < 64
  · rw [dif_pos h', dif_pos (show 384 + k.val < 448 by omega)]
  · rw [dif_neg h', dif_neg (show ¬384 + k.val < 448 by omega)]

theorem cos_row (t : Fin cfg0.N) (R : Fin 256) (k : Fin 128) :
    k0_pay30 (View.ld (iblk m c 3 t) r0_18) (ix2 R k) = twice (cr m c (row t R)) k := by
  rw [← in3]
  unfold k0_pay30
  pointwise

theorem sin_row (t : Fin cfg0.N) (R : Fin 256) (k : Fin 128) :
    k0_pay31 (View.ld (iblk m c 4 t) r0_18) (ix2 R k) = twice (sr m c (row t R)) k := by
  rw [← in4]
  unfold k0_pay31
  pointwise

/-! ## The results, row by row -/

/-- The rotated lanes of a head's query. -/
def qrot (r : Fin 8192) (hd : Fin 4) : Fin 128 → EReal :=
  lanes (rope (fun e => queries (pm m c r) (gq m c) (uq m c) ⟨192 * hd.val + 128 + e.val, by omega⟩) (cr m c r) (sr m c r))

/-- The rotated lanes of the key. -/
def krot (r : Fin 8192) : Fin 128 → EReal := lanes (rope (fun e => pm m c r ⟨384 + e.val, by omega⟩) (cr m c r) (sr m c r))

/-- The rates. -/
def rt (r : Fin 8192) (j : Fin 512) : EReal := rates (ms m c r) (da m c) (dA m c) j

/-- The directions of the keys. -/
def dirs (r : Fin 8192) (j : Fin 512) : EReal := directions (ms m c r) (kk m c) j

theorem out17_at (t : Fin cfg0.N) (R : Fin 256) (j : Fin 512) : (dats m 0 c).after 17 t (ix2 R j : S256x512.Idx)
    = queries (pm m c (row t R)) (gq m c) (uq m c) ⟨192 * (j.val / 128) + j.val % 128, by omega⟩ := by
  rw [after0_17]
  unfold out0_17 k0_pay54 k0_pay56 queries
  rw [View.canon_cons_unit_lit _ _ _ (by decide)]
  have e : ∀ u : FVec Ideal S256x512 .f32, k0_pay53 u (ix2 R j) = u (ix2 R j) := by
    intro u
    unfold k0_pay53
    pointwise
  refine (e _).trans ((pay35_at _ _ _ R j).trans ?_)
  rw [query_row, query_scale]
  refine Finset.sum_congr rfl fun k _ => congrArg _ ?_
  rw [← in6 m c t]
  unfold k0_pay8
  pointwise

theorem out18_at (t : Fin cfg0.N) (R : Fin 256) (hd : Fin 4) (k : Fin 128) :
    (dats m 0 c).after 18 t (ix2 R ⟨128 * hd.val + k.val, by omega⟩ : S256x512.Idx) = qrot m c (row t R) hd k := by
  rw [after0_18]
  unfold out0_18 k0_pay54 k0_pay56 k0_pay62 k0_pay63 qrot
  rw [View.canon_cons_unit_lit _ _ _ (by decide)]
  have e : ∀ u : FVec Ideal S256x512 .f32, k0_pay1 u (ix2 R ⟨128 * hd.val + k.val, by omega⟩) = u (ix2 R ⟨128 * hd.val + k.val, by omega⟩) := by
    intro u
    unfold k0_pay1
    pointwise
  refine (e _).trans ((pay36_at _ _ _ _ R hd k).trans ?_)
  have hq : turning (k0_pay9 (View.ld (iblk m c 7 t) r0_4)) (k0_pay32 (k0_pay4 (View.ld (iblk m c 0 t) r0_0)) (k0_pay7 (View.ld (iblk m c 5 t) r0_3))) R hd
      = lanes fun e => queries (pm m c (row t R)) (gq m c) (uq m c) ⟨192 * hd.val + 128 + e.val, by omega⟩ := by
    funext e
    have hw : ∀ x, k0_pay9 (View.ld (iblk m c 7 t) r0_4) (ix2 x ⟨128 * hd.val + e.val, by omega⟩) = lanes (wheel m c x hd) e := by
      intro x
      rw [← in7 m c t]
      unfold k0_pay9
      pointwise
    unfold turning
    simp only [pay32_at, hw]
    rw [query_row, query_scale]
    unfold lanes
    by_cases h : e.val < 64
    · simp only [dif_pos h]
      rfl
    · simp only [dif_neg h, mul_zero]
      exact Finset.sum_const_zero
  exact turned hq (cos_row m c t R) (sin_row m c t R) k

theorem out19_at (t : Fin cfg0.N) (R : Fin 256) (j : Fin 1024) : (dats m 0 c).after 19 t (ix2 R j : S256x1024.Idx)
    = pairs (pm m c (row t R)) (gkv m c) (ukv m c) j := by
  rw [after0_19]
  unfold out0_19 pairs
  rw [View.canon_cons_unit_lit _ _ _ (by decide)]
  have e : ∀ u : FVec Ideal S256x1024 .f32, k0_pay2 u (ix2 R j) = u (ix2 R j) := by
    intro u
    unfold k0_pay2
    pointwise
  refine (e _).trans ((pay37_at _ _ _ R j).trans ?_)
  rw [pair_row, pair_scale]
  refine Finset.sum_congr rfl fun k _ => congrArg _ ?_
  rw [← in9 m c t]
  pointwise

theorem out20_at (t : Fin cfg0.N) (R : Fin 256) (k : Fin 128) : (dats m 0 c).after 20 t (ix2 R k : S256x128.Idx)
    = krot m c (row t R) k := by
  rw [after0_20]
  unfold out0_20 k0_pay55 k0_pay62 k0_pay63 krot
  rw [View.canon_cons_unit_lit _ _ _ (by decide)]
  have e : ∀ u : FVec Ideal S256x128 .f32, k0_pay3 u (ix2 R k) = u (ix2 R k) := by
    intro u
    unfold k0_pay3
    pointwise
  refine (e _).trans ((pay42_at _ _ _ R k).trans ?_)
  exact turned (turn_row m c t R) (cos_row m c t R) (sin_row m c t R) k

theorem out21_at (t : Fin cfg0.N) (R : Fin 256) (j : Fin 512) : (dats m 0 c).after 21 t (ix2 R j : S256x512.Idx)
    = ms m c (row t R) ⟨j.val, by omega⟩ := by
  rw [after0_21]
  unfold out0_21 k0_pay57
  rw [View.canon_cons_unit_lit _ _ _ (by decide)]
  exact first_at m c t R j

theorem out22_at (t : Fin cfg0.N) (R : Fin 256) (j : Fin 512) : (dats m 0 c).after 22 t (ix2 R j : S256x512.Idx)
    = decays (ms m c (row t R)) (dw m c) (dW m c) j := by
  rw [after0_22]
  unfold out0_22 k0_pay58 k0_pay59 k0_pay60 k0_pay57
  rw [View.canon_cons_unit_lit _ _ _ (by decide)]
  refine (pay47_at _ _ _ _ _ R j).trans ?_
  have hw : k0_pay24 (View.ld (iblk m c 11 t) r0_16) (ix2 0 j) = dw m c j := by
    rw [← in11 m c t]
    unfold k0_pay24
    pointwise
  have hW : ∀ k, k0_pay25 (View.ld (iblk m c 12 t) r0_17) (ix2 k j) = if h : k.val < 64 then dW m c ⟨k.val, h⟩ j else 0 := by
    intro k
    rw [← in12 m c t]
    unfold k0_pay25
    pointwise
  exact decays_of (fourth_at m c t R) hw hW

/-- The block's rates. -/
theorem rate_at (t : Fin cfg0.N) (R : Fin 256) (j : Fin 512) :
    k0_pay48 (k0_pay15 (View.ld (iblk m c 1 t) r0_11))
      (k0_pay19 (k0_pay11 (grid0.coords t) (View.ld (iblk m c 2 t) r0_7)) (View.ld (iblk m c 1 t) r0_11))
      (k0_pay23 (View.ld (iblk m c 10 t) r0_15)) (k0_pay26 (View.ld (iblk m c 13 t) r0_16)) (k0_pay27 (View.ld (iblk m c 14 t) r0_17)) (ix2 R j)
      = rt m c (row t R) j := by
  unfold rt
  refine (pay48_at _ _ _ _ _ R j).trans ?_
  have hw : k0_pay26 (View.ld (iblk m c 13 t) r0_16) (ix2 0 j) = da m c j := by
    rw [← in13 m c t]
    unfold k0_pay26
    pointwise
  have hW : ∀ k, k0_pay27 (View.ld (iblk m c 14 t) r0_17) (ix2 k j) = if h : k.val < 64 then 0 else dA m c ⟨k.val - 64, by omega⟩ j := by
    intro k
    rw [← in14 m c t]
    unfold k0_pay27
    pointwise
  exact rates_of (fourth_at m c t R) hw hW

theorem out23_at (t : Fin cfg0.N) (R : Fin 256) (j : Fin 512) : (dats m 0 c).after 23 t (ix2 R j : S256x512.Idx)
    = blend (ms m c (row t R) ⟨512 + j.val, by omega⟩) (rt m c (row t R) j) (ka m c j) := by
  rw [after0_23]
  unfold out0_23 k0_pay65 k0_pay64 k0_pay58 k0_pay59 k0_pay60 k0_pay57
  rw [View.canon_cons_unit_lit _ _ _ (by decide)]
  refine (pay50_at _ _ _ R j).trans ?_
  have hw : k0_pay29 (View.ld (iblk m c 16 t) r0_16) (ix2 0 j) = ka m c j := by
    rw [← in16 m c t]
    unfold k0_pay29
    pointwise
  exact blend_of (second_at m c t R j) (rate_at m c t R j) hw

theorem out24_at (t : Fin cfg0.N) (R : Fin 256) (j : Fin 512) : (dats m 0 c).after 24 t (ix2 R j : S256x512.Idx)
    = ms m c (row t R) ⟨1024 + j.val, by omega⟩ := by
  rw [after0_24]
  unfold out0_24 k0_pay57
  rw [View.canon_cons_unit_lit _ _ _ (by decide)]
  exact third_at m c t R j

/-! ## The ten results -/

def R17 : S8192x512.Idx → EReal := fun i => queries (pm m c (i 0)) (gq m c) (uq m c)
  ⟨192 * ((i 1).val / 128) + (i 1).val % 128, by have : (i 1).val < 512 := (i 1).isLt; omega⟩
def R18 : S8192x512.Idx → EReal := fun i => qrot m c (i 0) ⟨(i 1).val / 128, by have : (i 1).val < 512 := (i 1).isLt; omega⟩
  ⟨(i 1).val % 128, by omega⟩
def R19 : S8192x1024.Idx → EReal := fun i => pairs (pm m c (i 0)) (gkv m c) (ukv m c) (i 1)
def R20 : S8192x128.Idx → EReal := fun i => krot m c (i 0) (i 1)
def R21 : S8192x512.Idx → EReal := fun i => ms m c (i 0) ⟨(i 1).val, by have : (i 1).val < 512 := (i 1).isLt; omega⟩
def R22 : S8192x512.Idx → EReal := fun i => decays (ms m c (i 0)) (dw m c) (dW m c) (i 1)
def R23 : S8192x512.Idx → EReal := fun i => blend (ms m c (i 0) ⟨512 + (i 1).val, by have : (i 1).val < 512 := (i 1).isLt; omega⟩)
  (rt m c (i 0) (i 1)) (ka m c (i 1))
def R24 : S8192x512.Idx → EReal := fun i => ms m c (i 0) ⟨1024 + (i 1).val, by have : (i 1).val < 512 := (i 1).isLt; omega⟩
def R25 : S8192x512.Idx → EReal := fun i => -dirs m c (i 0) (i 1)
def R26 : S8192x512.Idx → EReal := fun i => dirs m c (i 0) (i 1) * rt m c (i 0) (i 1)

/-- No square of a scaled key is infinite. -/
def Tame : Prop := ∀ (r : Fin 8192) (j : Fin 512), ms m c r ⟨512 + j.val, by omega⟩ * kk m c j * (ms m c r ⟨512 + j.val, by omega⟩ * kk m c j)
  - ms m c r ⟨512 + j.val, by omega⟩ * kk m c j * (ms m c r ⟨512 + j.val, by omega⟩ * kk m c j) = 0

variable {m c}

theorem tame_of {a b x y : EReal} (ha : a = x) (hb : b = y) (h : x * y * (x * y) - x * y * (x * y) = 0) :
    a * b * (a * b) - a * b * (a * b) = 0 := by
  rw [ha, hb, h]

/-- The block's directions. -/
theorem direction_at (hT : Tame m c) (t : Fin cfg0.N) (R : Fin 256) (j : Fin 512) :
    k0_pay49 (k0_pay28 (View.ld (iblk m c 15 t) r0_16)) (k0_pay44 (k0_pay13 (View.ld (iblk m c 1 t) r0_9))
      (k0_pay17 (k0_pay11 (grid0.coords t) (View.ld (iblk m c 2 t) r0_7)) (View.ld (iblk m c 1 t) r0_9))
      (k0_pay21 (View.ld (iblk m c 10 t) r0_13))) (ix2 R j) = dirs m c (row t R) j := by
  have hw : ∀ j, k0_pay28 (View.ld (iblk m c 15 t) r0_16) (ix2 0 j) = kk m c j := by
    intro j
    rw [← in15 m c t]
    unfold k0_pay28
    pointwise
  refine (pay49_at _ _ R j ?_).trans ?_
  · exact fun j => tame_of (second_at m c t R j) (hw j) (hT (row t R) j)
  · exact directions_of (second_at m c t R) hw j

theorem out25_at (hT : Tame m c) (t : Fin cfg0.N) (R : Fin 256) (j : Fin 512) : (dats m 0 c).after 25 t (ix2 R j : S256x512.Idx)
    = -dirs m c (row t R) j := by
  rw [after0_25]
  unfold out0_25 k0_pay61 k0_pay64 k0_pay57
  rw [View.canon_cons_unit_lit _ _ _ (by decide)]
  exact (pay51_at _ _ R j).trans (congrArg Neg.neg (direction_at hT t R j))

theorem out26_at (hT : Tame m c) (t : Fin cfg0.N) (R : Fin 256) (j : Fin 512) : (dats m 0 c).after 26 t (ix2 R j : S256x512.Idx)
    = dirs m c (row t R) j * rt m c (row t R) j := by
  rw [after0_26]
  unfold out0_26 k0_pay61 k0_pay65 k0_pay64 k0_pay58 k0_pay59 k0_pay60 k0_pay57
  rw [View.canon_cons_unit_lit _ _ _ (by decide)]
  exact (pay52_at _ _ _ R j).trans (congrArg₂ (· * ·) (direction_at hT t R j) (rate_at m c t R j))

end Cert.Kernel12Ideal.Prepare

end
-- ==== Proof.PrepareFinal.lean ====
/-
  The call before the attention and the recurrence: its ten arrays of results, put together from the blocks.
-/
module

public import proofs.«01_k».proof.Proof.PrepareOut

@[expose] public section

set_option maxRecDepth 16384

noncomputable section

open Idealize.ShloMosaic Idealize.ShloMosaic.TcCoe Idealize.SL.Sem

namespace Cert.Kernel12Ideal.Prepare

open Cert.Kernel12Ideal Cert.Kernel12Ideal.Gen Cert.Prepare Cert.Norm

/-! ## Where a block of results lies -/

theorem ahead : ∀ t : Fin cfg0.N,
    win0_17.index t = ![t.val, 0] ∧ win0_18.index t = ![t.val, 0] ∧ win0_19.index t = ![t.val, 0] ∧ win0_20.index t = ![t.val, 0]
    ∧ win0_21.index t = ![t.val, 0] ∧ win0_22.index t = ![t.val, 0] ∧ win0_23.index t = ![t.val, 0] ∧ win0_24.index t = ![t.val, 0]
    ∧ win0_25.index t = ![t.val, 0] ∧ win0_26.index t = ![t.val, 0] :=
  (by decide +kernel : ∀ t : Fin grid0.N, _)

theorem wr17 (t : Fin cfg0.N) (R : Fin 256) (j : Fin 512) :
    ((cfg0.win 17).blk t).view.emb (ix2 R j : S256x512.Idx) = (ix2 (row t R) j : S8192x512.Idx) := by
  show (win0_17.rect t).emb (ix2 R j : S256x512.Idx) = _
  funext a
  apply Fin.ext
  rw [Pipeline.Window.rect_emb_val (w := win0_17) (hk := rfl), (ahead t).1]
  fin_cases a <;> simp [row] <;> omega

theorem wr18 (t : Fin cfg0.N) (R : Fin 256) (j : Fin 512) :
    ((cfg0.win 18).blk t).view.emb (ix2 R j : S256x512.Idx) = (ix2 (row t R) j : S8192x512.Idx) := by
  show (win0_18.rect t).emb (ix2 R j : S256x512.Idx) = _
  funext a
  apply Fin.ext
  rw [Pipeline.Window.rect_emb_val (w := win0_18) (hk := rfl), (ahead t).2.1]
  fin_cases a <;> simp [row] <;> omega

theorem wr19 (t : Fin cfg0.N) (R : Fin 256) (j : Fin 1024) :
    ((cfg0.win 19).blk t).view.emb (ix2 R j : S256x1024.Idx) = (ix2 (row t R) j : S8192x1024.Idx) := by
  show (win0_19.rect t).emb (ix2 R j : S256x1024.Idx) = _
  funext a
  apply Fin.ext
  rw [Pipeline.Window.rect_emb_val (w := win0_19) (hk := rfl), (ahead t).2.2.1]
  fin_cases a <;> simp [row] <;> omega

theorem wr20 (t : Fin cfg0.N) (R : Fin 256) (j : Fin 128) :
    ((cfg0.win 20).blk t).view.emb (ix2 R j : S256x128.Idx) = (ix2 (row t R) j : S8192x128.Idx) := by
  show (win0_20.rect t).emb (ix2 R j : S256x128.Idx) = _
  funext a
  apply Fin.ext
  rw [Pipeline.Window.rect_emb_val (w := win0_20) (hk := rfl), (ahead t).2.2.2.1]
  fin_cases a <;> simp [row] <;> omega

theorem wr21 (t : Fin cfg0.N) (R : Fin 256) (j : Fin 512) :
    ((cfg0.win 21).blk t).view.emb (ix2 R j : S256x512.Idx) = (ix2 (row t R) j : S8192x512.Idx) := by
  show (win0_21.rect t).emb (ix2 R j : S256x512.Idx) = _
  funext a
  apply Fin.ext
  rw [Pipeline.Window.rect_emb_val (w := win0_21) (hk := rfl), (ahead t).2.2.2.2.1]
  fin_cases a <;> simp [row] <;> omega

theorem wr22 (t : Fin cfg0.N) (R : Fin 256) (j : Fin 512) :
    ((cfg0.win 22).blk t).view.emb (ix2 R j : S256x512.Idx) = (ix2 (row t R) j : S8192x512.Idx) := by
  show (win0_22.rect t).emb (ix2 R j : S256x512.Idx) = _
  funext a
  apply Fin.ext
  rw [Pipeline.Window.rect_emb_val (w := win0_22) (hk := rfl), (ahead t).2.2.2.2.2.1]
  fin_cases a <;> simp [row] <;> omega

theorem wr23 (t : Fin cfg0.N) (R : Fin 256) (j : Fin 512) :
    ((cfg0.win 23).blk t).view.emb (ix2 R j : S256x512.Idx) = (ix2 (row t R) j : S8192x512.Idx) := by
  show (win0_23.rect t).emb (ix2 R j : S256x512.Idx) = _
  funext a
  apply Fin.ext
  rw [Pipeline.Window.rect_emb_val (w := win0_23) (hk := rfl), (ahead t).2.2.2.2.2.2.1]
  fin_cases a <;> simp [row] <;> omega

theorem wr24 (t : Fin cfg0.N) (R : Fin 256) (j : Fin 512) :
    ((cfg0.win 24).blk t).view.emb (ix2 R j : S256x512.Idx) = (ix2 (row t R) j : S8192x512.Idx) := by
  show (win0_24.rect t).emb (ix2 R j : S256x512.Idx) = _
  funext a
  apply Fin.ext
  rw [Pipeline.Window.rect_emb_val (w := win0_24) (hk := rfl), (ahead t).2.2.2.2.2.2.2.1]
  fin_cases a <;> simp [row] <;> omega

theorem wr25 (t : Fin cfg0.N) (R : Fin 256) (j : Fin 512) :
    ((cfg0.win 25).blk t).view.emb (ix2 R j : S256x512.Idx) = (ix2 (row t R) j : S8192x512.Idx) := by
  show (win0_25.rect t).emb (ix2 R j : S256x512.Idx) = _
  funext a
  apply Fin.ext
  rw [Pipeline.Window.rect_emb_val (w := win0_25) (hk := rfl), (ahead t).2.2.2.2.2.2.2.2.1]
  fin_cases a <;> simp [row] <;> omega

theorem wr26 (t : Fin cfg0.N) (R : Fin 256) (j : Fin 512) :
    ((cfg0.win 26).blk t).view.emb (ix2 R j : S256x512.Idx) = (ix2 (row t R) j : S8192x512.Idx) := by
  show (win0_26.rect t).emb (ix2 R j : S256x512.Idx) = _
  funext a
  apply Fin.ext
  rw [Pipeline.Window.rect_emb_val (w := win0_26) (hk := rfl), (ahead t).2.2.2.2.2.2.2.2.2]
  fin_cases a <;> simp [row] <;> omega

/-! ## The ten arrays -/

variable (m : (ℓ : Loc nD τ sig) → Buf (Elt Ideal) ℓ) (c : Dev nD)

theorem final17 : (dats m 0 c).arrAt 17 cfg0.N = R17 m c := by
  refine (dats m 0 c).arrAt_eq_of_covers 17 _ (by decide +kernel) fun t _ y => ?_
  obtain ⟨R, j, rfl⟩ : ∃ (R : Fin 256) (j : Fin 512), y = (ix2 R j : S256x512.Idx) := ⟨_, _, eq_ix2 (n0 := 256) (n1 := 512) y⟩
  refine (out17_at m c t R j).trans ?_
  rw [wr17]
  rfl

theorem final18 : (dats m 0 c).arrAt 18 cfg0.N = R18 m c := by
  refine (dats m 0 c).arrAt_eq_of_covers 18 _ (by decide +kernel) fun t _ y => ?_
  obtain ⟨R, j, rfl⟩ : ∃ (R : Fin 256) (j : Fin 512), y = (ix2 R j : S256x512.Idx) := ⟨_, _, eq_ix2 (n0 := 256) (n1 := 512) y⟩
  have e : (ix2 R j : S256x512.Idx) = (ix2 R ⟨128 * (⟨j.val / 128, by omega⟩ : Fin 4).val + (⟨j.val % 128, by omega⟩ : Fin 128).val, by
      show 128 * (j.val / 128) + j.val % 128 < 512; omega⟩ : S256x512.Idx) :=
    congrArg (fun z => (ix2 R z : S256x512.Idx)) (Fin.ext (by show j.val = 128 * (j.val / 128) + j.val % 128; omega))
  refine (congrArg ((dats m 0 c).after 18 t) e).trans ((out18_at m c t R ⟨j.val / 128, by omega⟩ ⟨j.val % 128, by omega⟩).trans ?_)
  rw [wr18]
  rfl

theorem final19 : (dats m 0 c).arrAt 19 cfg0.N = R19 m c := by
  refine (dats m 0 c).arrAt_eq_of_covers 19 _ (by decide +kernel) fun t _ y => ?_
  obtain ⟨R, j, rfl⟩ : ∃ (R : Fin 256) (j : Fin 1024), y = (ix2 R j : S256x1024.Idx) := ⟨_, _, eq_ix2 (n0 := 256) (n1 := 1024) y⟩
  refine (out19_at m c t R j).trans ?_
  rw [wr19]
  rfl

theorem final20 : (dats m 0 c).arrAt 20 cfg0.N = R20 m c := by
  refine (dats m 0 c).arrAt_eq_of_covers 20 _ (by decide +kernel) fun t _ y => ?_
  obtain ⟨R, j, rfl⟩ : ∃ (R : Fin 256) (j : Fin 128), y = (ix2 R j : S256x128.Idx) := ⟨_, _, eq_ix2 (n0 := 256) (n1 := 128) y⟩
  refine (out20_at m c t R j).trans ?_
  rw [wr20]
  rfl

theorem final21 : (dats m 0 c).arrAt 21 cfg0.N = R21 m c := by
  refine (dats m 0 c).arrAt_eq_of_covers 21 _ (by decide +kernel) fun t _ y => ?_
  obtain ⟨R, j, rfl⟩ : ∃ (R : Fin 256) (j : Fin 512), y = (ix2 R j : S256x512.Idx) := ⟨_, _, eq_ix2 (n0 := 256) (n1 := 512) y⟩
  refine (out21_at m c t R j).trans ?_
  rw [wr21]
  rfl

theorem final22 : (dats m 0 c).arrAt 22 cfg0.N = R22 m c := by
  refine (dats m 0 c).arrAt_eq_of_covers 22 _ (by decide +kernel) fun t _ y => ?_
  obtain ⟨R, j, rfl⟩ : ∃ (R : Fin 256) (j : Fin 512), y = (ix2 R j : S256x512.Idx) := ⟨_, _, eq_ix2 (n0 := 256) (n1 := 512) y⟩
  refine (out22_at m c t R j).trans ?_
  rw [wr22]
  rfl

theorem final23 : (dats m 0 c).arrAt 23 cfg0.N = R23 m c := by
  refine (dats m 0 c).arrAt_eq_of_covers 23 _ (by decide +kernel) fun t _ y => ?_
  obtain ⟨R, j, rfl⟩ : ∃ (R : Fin 256) (j : Fin 512), y = (ix2 R j : S256x512.Idx) := ⟨_, _, eq_ix2 (n0 := 256) (n1 := 512) y⟩
  refine (out23_at m c t R j).trans ?_
  rw [wr23]
  rfl

theorem final24 : (dats m 0 c).arrAt 24 cfg0.N = R24 m c := by
  refine (dats m 0 c).arrAt_eq_of_covers 24 _ (by decide +kernel) fun t _ y => ?_
  obtain ⟨R, j, rfl⟩ : ∃ (R : Fin 256) (j : Fin 512), y = (ix2 R j : S256x512.Idx) := ⟨_, _, eq_ix2 (n0 := 256) (n1 := 512) y⟩
  refine (out24_at m c t R j).trans ?_
  rw [wr24]
  rfl

variable {m c}

theorem final25 (hT : Tame m c) : (dats m 0 c).arrAt 25 cfg0.N = R25 m c := by
  refine (dats m 0 c).arrAt_eq_of_covers 25 _ (by decide +kernel) fun t _ y => ?_
  obtain ⟨R, j, rfl⟩ : ∃ (R : Fin 256) (j : Fin 512), y = (ix2 R j : S256x512.Idx) := ⟨_, _, eq_ix2 (n0 := 256) (n1 := 512) y⟩
  refine (out25_at hT t R j).trans ?_
  rw [wr25]
  rfl

theorem final26 (hT : Tame m c) : (dats m 0 c).arrAt 26 cfg0.N = R26 m c := by
  refine (dats m 0 c).arrAt_eq_of_covers 26 _ (by decide +kernel) fun t _ y => ?_
  obtain ⟨R, j, rfl⟩ : ∃ (R : Fin 256) (j : Fin 512), y = (ix2 R j : S256x512.Idx) := ⟨_, _, eq_ix2 (n0 := 256) (n1 := 512) y⟩
  refine (out26_at hT t R j).trans ?_
  rw [wr26]
  rfl

end Cert.Kernel12Ideal.Prepare

end
-- ==== Proof.PrepareTarget.lean ====
/-
  What the attention and the recurrence are given, on plain arrays: the results, element by element, from the arguments.
-/
module

public import proofs.«01_k».proof.Proof.Gen.Reference12Ideal.Read
public import proofs.«01_k».proof.Proof.PrepareMath
public import proofs.«01_k».proof.Proof.Norm
public import Idealize.ShloMosaic.Lib.Pointwise
public import Idealize.ShloMosaic.Lib.Pointwise.Select

@[expose] public section

set_option maxRecDepth 16384

noncomputable section

open Idealize.ShloMosaic Idealize.ShloMosaic.TcCoe Idealize.SL.Sem

namespace Cert.Reference12Ideal.Prepare

open Cert.Reference12Ideal Cert.Reference12Ideal.Gen Cert.Reference12Ideal.Read Cert.Prepare Cert.Norm

variable (x0 : FVec Ideal S4x2048x448 .f32) (x1 : FVec Ideal S4x2048x1664 .f32) (x2 x3 : FVec Ideal S4x2048x64 .f32)
  (x4 : FVec Ideal S256 .f32) (x5 : FVec Ideal S256x768 .f32) (x6 : FVec Ideal S128 .f32) (x7 : FVec Ideal S128x1024 .f32)
  (x8 : FVec Ideal S1664 .f32) (x9 : FVec Ideal S512 .f32) (x10 : FVec Ideal S64x512 .f32) (x11 : FVec Ideal S512 .f32)
  (x12 : FVec Ideal S64x512 .f32) (x13 x14 : FVec Ideal S512 .f32)

/-! ## The latent attention -/

theorem v15_at (b : Fin 4) (R : Fin 2048) (k : Fin 256) : val_main_v15 (F := Ideal) x0 x4 (ix3 b R k)
    = unit 0x43800000#32 (fun k : Fin 256 => x0 (ix3 b R ⟨k.val, by omega⟩)) (fun k => x4 (ix1 k)) k := by
  unfold unit
  pointwise [val_main_v15, val_main_v14, val_main_v13, val_main_v12, val_main_v11, val_main_v10, val_main_v9, val_main_v8, val_main_v7,
    val_main_v6, val_main_v5, val_main_v4, val_main_v3, val_main_v0, val_main_cst, val_main_cst_0, val_main_cst_1]

theorem v16_at (b : Fin 4) (R : Fin 2048) (j : Fin 768) : val_main_v16 (F := Ideal) x0 x4 x5 (ix3 b R j)
    = queries (fun j => x0 (ix3 b R j)) (fun k => x4 (ix1 k)) (fun k j => x5 (ix2 k j)) j := by
  unfold queries
  simp only [← v15_at]
  unfold val_main_v16
  generalize val_main_v15 (F := Ideal) x0 x4 = u
  pointwise

theorem v32_at (b : Fin 4) (R : Fin 2048) (k : Fin 128) : val_main_v32 (F := Ideal) x0 x6 (ix3 b R k)
    = unit 0x43000000#32 (fun k : Fin 128 => x0 (ix3 b R ⟨256 + k.val, by omega⟩)) (fun k => x6 (ix1 k)) k := by
  unfold unit
  pointwise [val_main_v32, val_main_v31, val_main_v30, val_main_v29, val_main_v28, val_main_v27, val_main_v26, val_main_v25, val_main_v24,
    val_main_v23, val_main_v22, val_main_v21, val_main_v20, val_main_v1, val_main_cst_2, val_main_cst_3, val_main_cst_4]

theorem v33_at (b : Fin 4) (R : Fin 2048) (j : Fin 1024) : val_main_v33 (F := Ideal) x0 x6 x7 (ix3 b R j)
    = pairs (fun j => x0 (ix3 b R j)) (fun k => x6 (ix1 k)) (fun k j => x7 (ix2 k j)) j := by
  unfold pairs
  simp only [← v32_at]
  unfold val_main_v33
  generalize val_main_v32 (F := Ideal) x0 x6 = u
  pointwise

/-- The queries' first result. -/
theorem v107_at (r : Fin 8192) (j : Fin 512) : val_main_v107 (F := Ideal) x0 x4 x5 (ix2 r j)
    = queries (fun j => x0 (ix3 (seq r) (pos r) j)) (fun k => x4 (ix1 k)) (fun k j => x5 (ix2 k j))
      ⟨192 * (j.val / 128) + j.val % 128, by omega⟩ := by
  rw [← v16_at]
  unfold val_main_v107 val_main_v106 val_main_v18 val_main_v17 seq pos
  generalize val_main_v16 (F := Ideal) x0 x4 x5 = u
  pointwise
  exact congrArg (fun z => u (ix3 _ _ z)) (Fin.ext (by show j.val / 128 * 192 + j.val % 128 = 192 * (j.val / 128) + j.val % 128; omega))

/-- The keys and values. -/
theorem v113_at (r : Fin 8192) (j : Fin 1024) : val_main_v113 (F := Ideal) x0 x6 x7 (ix2 r j)
    = pairs (fun j => x0 (ix3 (seq r) (pos r) j)) (fun k => x6 (ix1 k)) (fun k j => x7 (ix2 k j)) j := by
  rw [← v33_at]
  unfold val_main_v113 val_main_v112 seq pos
  generalize val_main_v33 (F := Ideal) x0 x6 x7 = u
  pointwise

/-- The lanes of a head's query that are rotated. -/
theorem v19_at (b : Fin 4) (R : Fin 2048) (hd : Fin 4) (e : Fin 64) : val_main_v19 (F := Ideal) x0 x4 x5 (ix4 b R hd e)
    = queries (fun j => x0 (ix3 b R j)) (fun k => x4 (ix1 k)) (fun k j => x5 (ix2 k j)) ⟨192 * hd.val + 128 + e.val, by omega⟩ := by
  rw [← v16_at]
  unfold val_main_v19 val_main_v17
  generalize val_main_v16 (F := Ideal) x0 x4 x5 = u
  pointwise
  exact congrArg (fun z => u (ix3 b R z)) (Fin.ext (by show hd.val * 192 + (128 + e.val) = 192 * hd.val + 128 + e.val; omega))

theorem v41_at (b : Fin 4) (R : Fin 2048) (hd : Fin 4) (e : Fin 64) : val_main_v41 (F := Ideal) x0 x4 x5 (ix4 b R hd e)
    = turn (fun e => val_main_v19 (F := Ideal) x0 x4 x5 (ix4 b R hd e)) e := by
  unfold val_main_v41 val_main_v40 val_main_v37 val_main_v36 turn
  generalize val_main_v19 (F := Ideal) x0 x4 x5 = u
  pointwise
  by_cases h : e.val < 32
  · simp only [dif_pos h]
    pointwise
    exact congrArg (fun z => -u (ix4 b R hd z)) (Fin.ext (by show 32 + e.val = e.val + 32; omega))
  · simp only [dif_neg h]

theorem v44_at (b : Fin 4) (R : Fin 2048) (hd : Fin 4) (e : Fin 64) : val_main_v44 (F := Ideal) x0 x2 x3 x4 x5 (ix4 b R hd e)
    = rope (fun e => val_main_v19 (F := Ideal) x0 x4 x5 (ix4 b R hd e)) (fun k => x2 (ix3 b R k)) (fun k => x3 (ix3 b R k)) e := by
  unfold rope
  rw [← v41_at]
  unfold val_main_v44 val_main_v43 val_main_v42 val_main_v39 val_main_v38 val_main_v35 val_main_v34
  generalize val_main_v19 (F := Ideal) x0 x4 x5 = u
  generalize val_main_v41 (F := Ideal) x0 x4 x5 = w
  pointwise

theorem v109_at (b : Fin 4) (R : Fin 2048) (hd : Fin 4) (k : Fin 128) : val_main_v109 (F := Ideal) x0 x2 x3 x4 x5 (ix4 b R hd k)
    = lanes (fun e => val_main_v44 (F := Ideal) x0 x2 x3 x4 x5 (ix4 b R hd e)) k := by
  unfold val_main_v109 val_main_v108 val_main_cst_12 lanes
  generalize val_main_v44 (F := Ideal) x0 x2 x3 x4 x5 = u
  pointwise

/-- The rotated queries. -/
theorem v111_at (r : Fin 8192) (hd : Fin 4) (k : Fin 128) : val_main_v111 (F := Ideal) x0 x2 x3 x4 x5 (ix2 r ⟨128 * hd.val + k.val, by omega⟩)
    = lanes (rope (fun e => queries (fun j => x0 (ix3 (seq r) (pos r) j)) (fun k => x4 (ix1 k)) (fun k j => x5 (ix2 k j))
        ⟨192 * hd.val + 128 + e.val, by omega⟩) (fun k => x2 (ix3 (seq r) (pos r) k)) (fun k => x3 (ix3 (seq r) (pos r) k))) k := by
  have e : val_main_v111 (F := Ideal) x0 x2 x3 x4 x5 (ix2 r ⟨128 * hd.val + k.val, by omega⟩)
      = val_main_v109 (F := Ideal) x0 x2 x3 x4 x5 (ix4 (seq r) (pos r) hd k) := by
    unfold val_main_v111 val_main_v110 seq pos
    generalize val_main_v109 (F := Ideal) x0 x2 x3 x4 x5 = u
    pointwise
  rw [e, v109_at]
  simp only [v44_at, v19_at]

theorem v49_at (b : Fin 4) (R : Fin 2048) (e : Fin 64) : val_main_v49 (F := Ideal) x0 (ix3 b R e)
    = turn (fun e => x0 (ix3 b R ⟨384 + e.val, by omega⟩)) e := by
  unfold val_main_v49 val_main_v48 val_main_v46 val_main_v45 val_main_v2 turn
  pointwise
  by_cases h : e.val < 32
  · simp only [dif_pos h]
    pointwise
    exact congrArg (fun z => -x0 (ix3 b R z)) (Fin.ext (by show 384 + (32 + e.val) = 384 + (e.val + 32); omega))
  · simp only [dif_neg h]

theorem v51_at (b : Fin 4) (R : Fin 2048) (e : Fin 64) : val_main_v51 (F := Ideal) x0 x2 x3 (ix3 b R e)
    = rope (fun e => x0 (ix3 b R ⟨384 + e.val, by omega⟩)) (fun k => x2 (ix3 b R k)) (fun k => x3 (ix3 b R k)) e := by
  unfold rope
  rw [← v49_at]
  unfold val_main_v51 val_main_v50 val_main_v47 val_main_v2
  generalize val_main_v49 (F := Ideal) x0 = w
  pointwise

theorem v115_at (b : Fin 4) (R : Fin 2048) (k : Fin 128) : val_main_v115 (F := Ideal) x0 x2 x3 (ix3 b R k)
    = lanes (fun e => val_main_v51 (F := Ideal) x0 x2 x3 (ix3 b R e)) k := by
  unfold val_main_v115 val_main_v114 val_main_cst_13 lanes
  generalize val_main_v51 (F := Ideal) x0 x2 x3 = u
  pointwise

/-- The rotated key. -/
theorem v117_at (r : Fin 8192) (k : Fin 128) : val_main_v117 (F := Ideal) x0 x2 x3 (ix2 r k)
    = lanes (rope (fun e => x0 (ix3 (seq r) (pos r) ⟨384 + e.val, by omega⟩)) (fun k => x2 (ix3 (seq r) (pos r) k))
        (fun k => x3 (ix3 (seq r) (pos r) k))) k := by
  have e : val_main_v117 (F := Ideal) x0 x2 x3 (ix2 r k) = val_main_v115 (F := Ideal) x0 x2 x3 (ix3 (seq r) (pos r) k) := by
    unfold val_main_v117 val_main_v116 seq pos
    generalize val_main_v115 (F := Ideal) x0 x2 x3 = u
    pointwise
  rw [e, v115_at]
  simp only [v51_at]

/-! ## The recurrence -/

/-- The rows before. -/
theorem v54_at (b : Fin 4) (R : Fin 2048) (j : Fin 1664) : val_main_v54 (F := Ideal) x1 (ix3 b R j)
    = if h : R.val < 1 then 0 else x1 (ix3 b ⟨R.val - 1, by omega⟩ j) := by
  unfold val_main_v54 val_main_v53 val_main_v52 val_main_cst_5
  pointwise

/-- The rows, mixed with the rows before. -/
theorem v59_at (r : Fin 8192) (j : Fin 1664) : val_main_v59 (F := Ideal) x1 x8 (ix3 (seq r) (pos r) j)
    = mixed (fun r j => x1 (ix3 (seq r) (pos r) j)) (fun j => x8 (ix1 j)) r j := by
  have e : val_main_v59 (F := Ideal) x1 x8 (ix3 (seq r) (pos r) j)
      = mix (x1 (ix3 (seq r) (pos r) j)) (val_main_v54 (F := Ideal) x1 (ix3 (seq r) (pos r) j)) (x8 (ix1 j)) := by
    unfold val_main_v59 val_main_v58 val_main_v57 val_main_v56 val_main_v55 mix
    generalize val_main_v54 (F := Ideal) x1 = u
    pointwise
  rw [e]
  unfold mixed
  refine congrArg (fun z => mix _ z _) ?_
  rw [v54_at]
  unfold before
  have hp : (pos r).val = r.val % 2048 := rfl
  by_cases h : r.val % 2048 = 0
  · rw [if_pos h, dif_pos (by omega)]
  · rw [if_neg h, dif_neg (by omega)]
    refine congrArg₂ (fun b R => x1 (ix3 b R j)) (Fin.ext ?_) (Fin.ext ?_)
    · show r.val / 2048 = (r.val - 1) / 2048; omega
    · show r.val % 2048 - 1 = (r.val - 1) % 2048; omega

/-- The mixed columns that the recurrence takes as they are. -/
theorem v118_at (r : Fin 8192) (j : Fin 512) : val_main_v118 (F := Ideal) x1 x8 (ix2 r j)
    = val_main_v59 (F := Ideal) x1 x8 (ix3 (seq r) (pos r) ⟨j.val, by omega⟩) := by
  unfold val_main_v118 val_main_v60 seq pos
  generalize val_main_v59 (F := Ideal) x1 x8 = u
  pointwise

theorem v121_at (r : Fin 8192) (j : Fin 512) : val_main_v121 (F := Ideal) x1 x8 (ix2 r j)
    = val_main_v59 (F := Ideal) x1 x8 (ix3 (seq r) (pos r) ⟨1024 + j.val, by omega⟩) := by
  unfold val_main_v121 val_main_v62 seq pos
  generalize val_main_v59 (F := Ideal) x1 x8 = u
  pointwise

theorem v69_at (b : Fin 4) (R : Fin 2048) (j : Fin 512) : val_main_v69 (F := Ideal) x1 x8 x9 x10 (ix3 b R j)
    = x9 (ix1 j) + ∑ k : Fin 64, Ideal.tanh (val_main_v59 (F := Ideal) x1 x8 (ix3 b R ⟨1536 + k.val, by omega⟩)) * x10 (ix2 k j) := by
  unfold val_main_v69 val_main_v68 val_main_v67 val_main_v66 val_main_v65 val_main_v63
  generalize val_main_v59 (F := Ideal) x1 x8 = u
  pointwise

theorem v77_at (b : Fin 4) (R : Fin 2048) (j : Fin 512) : val_main_v77 (F := Ideal) x1 x8 x9 x10 (ix3 b R j)
    = decay (val_main_v69 (F := Ideal) x1 x8 x9 x10 (ix3 b R j)) := by
  unfold val_main_v77 val_main_v76 val_main_v75 val_main_v74 val_main_v73 val_main_v72 val_main_v71 val_main_call0_v11 val_main_call0_v10
    val_main_call0_v9 val_main_call0_v8 val_main_call0_v7 val_main_call0_v6 val_main_call0_v5 val_main_call0_v4 val_main_call0_v3
    val_main_call0_v2 val_main_call0_v1 val_main_call0_v0 val_main_v70 val_main_call0_cst val_main_cst_6 decay softplus
  generalize val_main_v69 (F := Ideal) x1 x8 x9 x10 = u
  pointwise
  rw [if_neg (fun h => h rfl)]
  rfl

/-- The decays. -/
theorem v119_at (r : Fin 8192) (j : Fin 512) : val_main_v119 (F := Ideal) x1 x8 x9 x10 (ix2 r j)
    = decays (fun j => val_main_v59 (F := Ideal) x1 x8 (ix3 (seq r) (pos r) j)) (fun j => x9 (ix1 j)) (fun k j => x10 (ix2 k j)) j := by
  have e : val_main_v119 (F := Ideal) x1 x8 x9 x10 (ix2 r j) = val_main_v77 (F := Ideal) x1 x8 x9 x10 (ix3 (seq r) (pos r) j) := by
    unfold val_main_v119 seq pos
    generalize val_main_v77 (F := Ideal) x1 x8 x9 x10 = u
    pointwise
  rw [e, v77_at, v69_at]
  rfl

theorem v81_at (b : Fin 4) (R : Fin 2048) (j : Fin 512) : val_main_v81 (F := Ideal) x1 x8 x11 x12 (ix3 b R j)
    = x11 (ix1 j) + ∑ k : Fin 64, val_main_v59 (F := Ideal) x1 x8 (ix3 b R ⟨1600 + k.val, by omega⟩) * x12 (ix2 k j) := by
  unfold val_main_v81 val_main_v80 val_main_v79 val_main_v78 val_main_v64
  generalize val_main_v59 (F := Ideal) x1 x8 = u
  pointwise

/-- The rates. -/
theorem v87_at (b : Fin 4) (R : Fin 2048) (j : Fin 512) : val_main_v87 (F := Ideal) x1 x8 x11 x12 (ix3 b R j)
    = rates (fun j => val_main_v59 (F := Ideal) x1 x8 (ix3 b R j)) (fun j => x11 (ix1 j)) (fun k j => x12 (ix2 k j)) j := by
  unfold rates
  rw [← v81_at]
  unfold val_main_v87 val_main_v86 val_main_v85 val_main_v84 val_main_v83 val_main_v82 val_main_cst_7 val_main_cst_8
  generalize val_main_v81 (F := Ideal) x1 x8 x11 x12 = u
  pointwise
  rfl

/-- The blended keys. -/
theorem v120_at (r : Fin 8192) (j : Fin 512) : val_main_v120 (F := Ideal) x1 x8 x11 x12 x14 (ix2 r j)
    = blend (val_main_v59 (F := Ideal) x1 x8 (ix3 (seq r) (pos r) ⟨512 + j.val, by omega⟩))
        (val_main_v87 (F := Ideal) x1 x8 x11 x12 (ix3 (seq r) (pos r) j)) (x14 (ix1 j)) := by
  unfold val_main_v120 val_main_v105 val_main_v104 val_main_v103 val_main_v102 val_main_v101 val_main_v100 val_main_v99 val_main_v98
    val_main_v61 val_main_cst_10 val_main_cst_11 blend seq pos
  generalize val_main_v59 (F := Ideal) x1 x8 = u
  generalize val_main_v87 (F := Ideal) x1 x8 x11 x12 = w
  pointwise

theorem v90_at (b : Fin 4) (R : Fin 2048) (j : Fin 512) : val_main_v90 (F := Ideal) x1 x8 x13 (ix3 b R j)
    = val_main_v59 (F := Ideal) x1 x8 (ix3 b R ⟨512 + j.val, by omega⟩) * x13 (ix1 j) := by
  unfold val_main_v90 val_main_v89 val_main_v88 val_main_v61
  generalize val_main_v59 (F := Ideal) x1 x8 = u
  pointwise

/-- The directions of the keys. -/
theorem v97_at (b : Fin 4) (R : Fin 2048) (j : Fin 512) : val_main_v97 (F := Ideal) x1 x8 x13 (ix3 b R j)
    = directions (fun j => val_main_v59 (F := Ideal) x1 x8 (ix3 b R j)) (fun j => x13 (ix1 j)) j := by
  have e : (fun j : Fin 512 => val_main_v59 (F := Ideal) x1 x8 (ix3 b R ⟨512 + j.val, by omega⟩) * x13 (ix1 j))
      = fun j => val_main_v90 (F := Ideal) x1 x8 x13 (ix3 b R j) := funext fun j => (v90_at x1 x8 x13 b R j).symm
  unfold directions
  rw [e]
  unfold val_main_v97 val_main_v96 val_main_v95 val_main_v94 val_main_v93 val_main_v92 val_main_call1_v2 val_main_call1_v1 val_main_call1_v0
    val_main_v91 val_main_call1_cst val_main_cst_9 direction mate
  generalize val_main_v90 (F := Ideal) x1 x8 x13 = u
  pointwise
  refine congrArg (fun z => Ideal.div _ (max (Ideal.sqrt z) _)) (Finset.sum_congr rfl fun x _ => ?_)
  exact congrArg (fun z => u (ix3 b R z) * u (ix3 b R z)) (Fin.ext (by show j.val / 64 * 64 + x.val = 64 * (j.val / 64) + x.val; omega))

theorem v123_at (r : Fin 8192) (j : Fin 512) : val_main_v123 (F := Ideal) x1 x8 x13 (ix2 r j)
    = -val_main_v97 (F := Ideal) x1 x8 x13 (ix3 (seq r) (pos r) j) := by
  unfold val_main_v123 val_main_v122 seq pos
  generalize val_main_v97 (F := Ideal) x1 x8 x13 = u
  pointwise

theorem v125_at (r : Fin 8192) (j : Fin 512) : val_main_v125 (F := Ideal) x1 x8 x11 x12 x13 (ix2 r j)
    = val_main_v97 (F := Ideal) x1 x8 x13 (ix3 (seq r) (pos r) j) * val_main_v87 (F := Ideal) x1 x8 x11 x12 (ix3 (seq r) (pos r) j) := by
  unfold val_main_v125 val_main_v124 seq pos
  generalize val_main_v97 (F := Ideal) x1 x8 x13 = u
  generalize val_main_v87 (F := Ideal) x1 x8 x11 x12 = w
  pointwise

end Cert.Reference12Ideal.Prepare

end
-- ==== Proof.PrepareEqual.lean ====
/-
  From finite arguments the call before the attention and the recurrence and the plain arrays are the same ten results.
-/
module

public import proofs.«01_k».proof.Defs
public import proofs.«01_k».proof.Proof.InputEqual
public import proofs.«01_k».proof.Proof.PrepareRun
public import proofs.«01_k».proof.Proof.PrepareFinal
public import proofs.«01_k».proof.Proof.PrepareTarget
public import proofs.«01_k».proof.Proof.Gen.Reference12Ideal.Run

@[expose] public section

set_option maxRecDepth 16384

noncomputable section

open Idealize.ShloMosaic Idealize.ShloMosaic.TcCoe Idealize.SL.Sem

namespace Cert.PrepareEqual

open Cert.Prepare Cert.Norm Cert.InputEqual Cert.Kernel12Ideal.Prepare Cert.Reference12Ideal.Read Cert.Reference12Ideal.Prepare

/-! ## Real numbers -/

theorem real_sub {x y : EReal} (hx : IsReal x) (hy : IsReal y) : IsReal (x - y) := by
  obtain ⟨a, rfl⟩ := hx
  obtain ⟨b, rfl⟩ := hy
  exact ⟨a - b, (EReal.coe_sub a b).symm⟩

theorem sub_self_of_real {x : EReal} (hx : IsReal x) : x - x = 0 := by
  obtain ⟨a, rfl⟩ := hx
  rw [← EReal.coe_sub, sub_self, EReal.coe_zero]

/-- The side conditions of the precondition's text. -/
theorem facts : Cert.Pre_finite12.Facts := ⟨by decide, by decide, by decide⟩

variable (m : (ℓ : Loc Cert.Kernel12Ideal.nD Cert.Kernel12Ideal.τ Cert.Kernel12Ideal.sig) → Buf (Elt Ideal) ℓ)
  (c : Dev Cert.Kernel12Ideal.nD)

/-- From finite columns, mixes and scales the squares of the scaled keys are finite. -/
theorem tame_of_finite [Cert.Pre_finite12.Facts] (hm : Cert.Pre_Kernel12Ideal_finite12 m) : Tame m c := by
  obtain ⟨h1, h8, h13⟩ := hm c
  have hp : ∀ r j, IsReal (pr m c r j) := fun r j => ⟨_, Cert.Equal.real_of_lt _ (congrFun h1 (ix3 (seq r) (pos r) j))⟩
  have hμ : ∀ j, IsReal (mu m c j) := fun j => ⟨_, Cert.Equal.real_of_lt _ (congrFun h8 (ix1 j))⟩
  have hκ : ∀ j, IsReal (kk m c j) := fun j => ⟨_, Cert.Equal.real_of_lt _ (congrFun h13 (ix1 j))⟩
  have hb : ∀ r j, IsReal (before (pr m c) r j) := by
    intro r j
    unfold before
    split
    · exact ⟨0, EReal.coe_zero.symm⟩
    · exact hp _ j
  intro r j
  have hx : IsReal (ms m c r ⟨512 + j.val, by omega⟩ * kk m c j) :=
    IsReal.mul (IsReal.add (hp r _) (IsReal.mul (real_sub (hb r _) (hp r _)) (hμ _))) (hκ j)
  exact sub_self_of_real (IsReal.mul hx hx)

/-! ## The ten results -/

variable (x0 : FVec Ideal Cert.Reference12Ideal.S4x2048x448 .f32) (x1 : FVec Ideal Cert.Reference12Ideal.S4x2048x1664 .f32)
  (x2 x3 : FVec Ideal Cert.Reference12Ideal.S4x2048x64 .f32) (x4 : FVec Ideal Cert.Reference12Ideal.S256 .f32)
  (x5 : FVec Ideal Cert.Reference12Ideal.S256x768 .f32) (x6 : FVec Ideal Cert.Reference12Ideal.S128 .f32)
  (x7 : FVec Ideal Cert.Reference12Ideal.S128x1024 .f32) (x8 : FVec Ideal Cert.Reference12Ideal.S1664 .f32)
  (x9 : FVec Ideal Cert.Reference12Ideal.S512 .f32) (x10 : FVec Ideal Cert.Reference12Ideal.S64x512 .f32)
  (x11 : FVec Ideal Cert.Reference12Ideal.S512 .f32) (x12 : FVec Ideal Cert.Reference12Ideal.S64x512 .f32)
  (x13 x14 : FVec Ideal Cert.Reference12Ideal.S512 .f32)

/-- The launch and the plain arrays are given the same arguments. -/
structure Same : Prop where
  latent : x0 = m ((c.tc : Thread Cert.Kernel12Ideal.nD Cert.Kernel12Ideal.τ).loc Cert.Kernel12Ideal.main_arg0)
  columns : x1 = m ((c.tc : Thread Cert.Kernel12Ideal.nD Cert.Kernel12Ideal.τ).loc Cert.Kernel12Ideal.main_arg1)
  cosines : x2 = m ((c.tc : Thread Cert.Kernel12Ideal.nD Cert.Kernel12Ideal.τ).loc Cert.Kernel12Ideal.main_arg2)
  sines : x3 = m ((c.tc : Thread Cert.Kernel12Ideal.nD Cert.Kernel12Ideal.τ).loc Cert.Kernel12Ideal.main_arg3)
  scale1 : x4 = m ((c.tc : Thread Cert.Kernel12Ideal.nD Cert.Kernel12Ideal.τ).loc Cert.Kernel12Ideal.main_arg4)
  weight1 : x5 = m ((c.tc : Thread Cert.Kernel12Ideal.nD Cert.Kernel12Ideal.τ).loc Cert.Kernel12Ideal.main_arg5)
  scale2 : x6 = m ((c.tc : Thread Cert.Kernel12Ideal.nD Cert.Kernel12Ideal.τ).loc Cert.Kernel12Ideal.main_arg6)
  weight2 : x7 = m ((c.tc : Thread Cert.Kernel12Ideal.nD Cert.Kernel12Ideal.τ).loc Cert.Kernel12Ideal.main_arg7)
  mix : x8 = m ((c.tc : Thread Cert.Kernel12Ideal.nD Cert.Kernel12Ideal.τ).loc Cert.Kernel12Ideal.main_arg8)
  decay1 : x9 = m ((c.tc : Thread Cert.Kernel12Ideal.nD Cert.Kernel12Ideal.τ).loc Cert.Kernel12Ideal.main_arg9)
  decay2 : x10 = m ((c.tc : Thread Cert.Kernel12Ideal.nD Cert.Kernel12Ideal.τ).loc Cert.Kernel12Ideal.main_arg10)
  rate1 : x11 = m ((c.tc : Thread Cert.Kernel12Ideal.nD Cert.Kernel12Ideal.τ).loc Cert.Kernel12Ideal.main_arg11)
  rate2 : x12 = m ((c.tc : Thread Cert.Kernel12Ideal.nD Cert.Kernel12Ideal.τ).loc Cert.Kernel12Ideal.main_arg12)
  keys : x13 = m ((c.tc : Thread Cert.Kernel12Ideal.nD Cert.Kernel12Ideal.τ).loc Cert.Kernel12Ideal.main_arg13)
  blends : x14 = m ((c.tc : Thread Cert.Kernel12Ideal.nD Cert.Kernel12Ideal.τ).loc Cert.Kernel12Ideal.main_arg14)

variable {m c x0 x1 x2 x3 x4 x5 x6 x7 x8 x9 x10 x11 x12 x13 x14}

theorem first (s : Same m c x0 x1 x2 x3 x4 x5 x6 x7 x8 x9 x10 x11 x12 x13 x14) : val_main_v107 (F := Ideal) x0 x4 x5 = R17 m c := by
  funext i
  obtain ⟨r, j, rfl⟩ : ∃ (r : Fin 8192) (j : Fin 512), i = ix2 r j := ⟨_, _, eq_ix2 (n0 := 8192) (n1 := 512) i⟩
  rw [v107_at, s.latent, s.scale1, s.weight1]
  rfl

theorem second (s : Same m c x0 x1 x2 x3 x4 x5 x6 x7 x8 x9 x10 x11 x12 x13 x14) :
    val_main_v111 (F := Ideal) x0 x2 x3 x4 x5 = R18 m c := by
  funext i
  obtain ⟨r, j, rfl⟩ : ∃ (r : Fin 8192) (j : Fin 512), i = ix2 r j := ⟨_, _, eq_ix2 (n0 := 8192) (n1 := 512) i⟩
  have e : (ix2 r j : Cert.Reference12Ideal.S8192x512.Idx)
      = (ix2 r ⟨128 * (⟨j.val / 128, by omega⟩ : Fin 4).val + (⟨j.val % 128, by omega⟩ : Fin 128).val, by
        show 128 * (j.val / 128) + j.val % 128 < 512; omega⟩ : Cert.Reference12Ideal.S8192x512.Idx) :=
    congrArg (fun z => (ix2 r z : Cert.Reference12Ideal.S8192x512.Idx)) (Fin.ext (by show j.val = 128 * (j.val / 128) + j.val % 128; omega))
  refine (congrArg (val_main_v111 (F := Ideal) x0 x2 x3 x4 x5) e).trans
    ((v111_at x0 x2 x3 x4 x5 r ⟨j.val / 128, by omega⟩ ⟨j.val % 128, by omega⟩).trans ?_)
  rw [s.latent, s.cosines, s.sines, s.scale1, s.weight1]
  rfl

theorem third (s : Same m c x0 x1 x2 x3 x4 x5 x6 x7 x8 x9 x10 x11 x12 x13 x14) : val_main_v113 (F := Ideal) x0 x6 x7 = R19 m c := by
  funext i
  obtain ⟨r, j, rfl⟩ : ∃ (r : Fin 8192) (j : Fin 1024), i = ix2 r j := ⟨_, _, eq_ix2 (n0 := 8192) (n1 := 1024) i⟩
  rw [v113_at, s.latent, s.scale2, s.weight2]
  rfl

theorem fourth (s : Same m c x0 x1 x2 x3 x4 x5 x6 x7 x8 x9 x10 x11 x12 x13 x14) : val_main_v117 (F := Ideal) x0 x2 x3 = R20 m c := by
  funext i
  obtain ⟨r, k, rfl⟩ : ∃ (r : Fin 8192) (k : Fin 128), i = ix2 r k := ⟨_, _, eq_ix2 (n0 := 8192) (n1 := 128) i⟩
  rw [v117_at, s.latent, s.cosines, s.sines]
  rfl

/-- The mixed columns. -/
theorem mixed_eq (s : Same m c x0 x1 x2 x3 x4 x5 x6 x7 x8 x9 x10 x11 x12 x13 x14) (r : Fin 8192) (j : Fin 1664) :
    val_main_v59 (F := Ideal) x1 x8 (ix3 (seq r) (pos r) j) = ms m c r j := by
  rw [v59_at, s.columns, s.mix]
  rfl

/-- The rates. -/
theorem rates_eq (s : Same m c x0 x1 x2 x3 x4 x5 x6 x7 x8 x9 x10 x11 x12 x13 x14) (r : Fin 8192) (j : Fin 512) :
    val_main_v87 (F := Ideal) x1 x8 x11 x12 (ix3 (seq r) (pos r) j) = rt m c r j := by
  rw [v87_at, funext (mixed_eq s r), s.rate1, s.rate2]
  rfl

/-- The directions. -/
theorem directions_eq (s : Same m c x0 x1 x2 x3 x4 x5 x6 x7 x8 x9 x10 x11 x12 x13 x14) (r : Fin 8192) (j : Fin 512) :
    val_main_v97 (F := Ideal) x1 x8 x13 (ix3 (seq r) (pos r) j) = dirs m c r j := by
  rw [v97_at, funext (mixed_eq s r), s.keys]
  rfl

theorem fifth (s : Same m c x0 x1 x2 x3 x4 x5 x6 x7 x8 x9 x10 x11 x12 x13 x14) : val_main_v118 (F := Ideal) x1 x8 = R21 m c := by
  funext i
  obtain ⟨r, j, rfl⟩ : ∃ (r : Fin 8192) (j : Fin 512), i = ix2 r j := ⟨_, _, eq_ix2 (n0 := 8192) (n1 := 512) i⟩
  exact (v118_at x1 x8 r j).trans (mixed_eq s r _)

theorem sixth (s : Same m c x0 x1 x2 x3 x4 x5 x6 x7 x8 x9 x10 x11 x12 x13 x14) :
    val_main_v119 (F := Ideal) x1 x8 x9 x10 = R22 m c := by
  funext i
  obtain ⟨r, j, rfl⟩ : ∃ (r : Fin 8192) (j : Fin 512), i = ix2 r j := ⟨_, _, eq_ix2 (n0 := 8192) (n1 := 512) i⟩
  rw [v119_at, funext (mixed_eq s r), s.decay1, s.decay2]
  rfl

theorem seventh (s : Same m c x0 x1 x2 x3 x4 x5 x6 x7 x8 x9 x10 x11 x12 x13 x14) :
    val_main_v120 (F := Ideal) x1 x8 x11 x12 x14 = R23 m c := by
  funext i
  obtain ⟨r, j, rfl⟩ : ∃ (r : Fin 8192) (j : Fin 512), i = ix2 r j := ⟨_, _, eq_ix2 (n0 := 8192) (n1 := 512) i⟩
  rw [v120_at, mixed_eq s, rates_eq s, s.blends]
  rfl

theorem eighth (s : Same m c x0 x1 x2 x3 x4 x5 x6 x7 x8 x9 x10 x11 x12 x13 x14) : val_main_v121 (F := Ideal) x1 x8 = R24 m c := by
  funext i
  obtain ⟨r, j, rfl⟩ : ∃ (r : Fin 8192) (j : Fin 512), i = ix2 r j := ⟨_, _, eq_ix2 (n0 := 8192) (n1 := 512) i⟩
  exact (v121_at x1 x8 r j).trans (mixed_eq s r _)

theorem ninth (s : Same m c x0 x1 x2 x3 x4 x5 x6 x7 x8 x9 x10 x11 x12 x13 x14) : val_main_v123 (F := Ideal) x1 x8 x13 = R25 m c := by
  funext i
  obtain ⟨r, j, rfl⟩ : ∃ (r : Fin 8192) (j : Fin 512), i = ix2 r j := ⟨_, _, eq_ix2 (n0 := 8192) (n1 := 512) i⟩
  rw [v123_at, directions_eq s]
  rfl

theorem tenth (s : Same m c x0 x1 x2 x3 x4 x5 x6 x7 x8 x9 x10 x11 x12 x13 x14) :
    val_main_v125 (F := Ideal) x1 x8 x11 x12 x13 = R26 m c := by
  funext i
  obtain ⟨r, j, rfl⟩ : ∃ (r : Fin 8192) (j : Fin 512), i = ix2 r j := ⟨_, _, eq_ix2 (n0 := 8192) (n1 := 512) i⟩
  rw [v125_at, directions_eq s, rates_eq s]
  rfl

/-- The launch and the plain arrays are the same ten results. -/
theorem algebraic [Cert.Pre_finite12.Facts] : Cert.algebraic_Kernel12Ideal_Reference12Ideal_pre_finite12 := by
  intro m g m' g' hm hargs
  refine ⟨fun c => R17 m c, fun c => R18 m c, fun c => R19 m c, fun c => R20 m c, fun c => R21 m c, fun c => R22 m c, fun c => R23 m c,
    fun c => R24 m c, fun c => R25 m c, fun c => R26 m c, ?_, ?_⟩
  · refine (θ_run Cert.Kernel12Ideal.defs _ _).mono (fun r h c => ?_) (Cert.Kernel12Ideal.Value.run_blocks (F := Ideal) m g)
    have hT := tame_of_finite m c hm
    obtain ⟨h0, h1, h2, h3, h4, h5, h6, h7, h8, h9, hk⟩ := h c
    exact ⟨h0.trans (final17 m c), h1.trans (final18 m c), h2.trans (final19 m c), h3.trans (final20 m c), h4.trans (final21 m c),
      h5.trans (final22 m c), h6.trans (final23 m c), h7.trans (final24 m c), h8.trans (final25 hT), h9.trans (final26 hT), hk⟩
  · refine (θ_run Cert.Reference12Ideal.defs _ _).mono (fun r h c => ?_) (Cert.Reference12Ideal.Value.run (F := Ideal) m' g')
    obtain ⟨a0, a1, a2, a3, a4, a5, a6, a7, a8, a9, a10, a11, a12, a13, a14⟩ := hargs c
    have s := Same.mk (m := m) (c := c) a0 a1 a2 a3 a4 a5 a6 a7 a8 a9 a10 a11 a12 a13 a14
    obtain ⟨h0, h1, h2, h3, h4, h5, h6, h7, h8, h9, hk⟩ := h c
    exact ⟨h0.trans ((val_main_v107_eq _ _ _).trans (first s)), h1.trans ((val_main_v111_eq m' c).trans (second s)),
      h2.trans ((val_main_v113_eq _ _ _).trans (third s)), h3.trans ((val_main_v117_eq _ _ _).trans (fourth s)),
      h4.trans ((val_main_v118_eq _ _).trans (fifth s)), h5.trans ((val_main_v119_eq m' c).trans (sixth s)),
      h6.trans ((val_main_v120_eq _ _ _ _ _).trans (seventh s)), h7.trans ((val_main_v121_eq _ _).trans (eighth s)),
      h8.trans ((val_main_v123_eq _ _ _).trans (ninth s)), h9.trans ((val_main_v125_eq m' c).trans (tenth s)), hk⟩

end Cert.PrepareEqual

end
-- ==== Proof.lean ====
/-
  `Cert.Claim`: each launch runs and keeps its arguments, and its results are the plain mathematics': the attention's
  gradient, the gradient through the norm and the input projection, the projection's weights' gradient, the
  projection itself, the optimiser's step of the six sharded weights, the tables of the rotary embedding, and what is
  computed before the attention and the recurrence.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Equal
public import proofs.«01_k».proof.Proof.InputEqual
public import proofs.«01_k».proof.Proof.WeightEqual
public import proofs.«01_k».proof.Proof.ProjectEqual
public import proofs.«01_k».proof.Proof.UpdateInEqual
public import proofs.«01_k».proof.Proof.UpdateQueryEqual
public import proofs.«01_k».proof.Proof.UpdateKeyValueEqual
public import proofs.«01_k».proof.Proof.UpdateDecayEqual
public import proofs.«01_k».proof.Proof.UpdateOutEqual
public import proofs.«01_k».proof.Proof.UpdateRateEqual
public import proofs.«01_k».proof.Proof.RopeTablesEqual
public import proofs.«01_k».proof.Proof.PrepareFrame
public import proofs.«01_k».proof.Proof.PrepareBits
public import proofs.«01_k».proof.Proof.PrepareRun
public import proofs.«01_k».proof.Proof.PrepareEqual
public import Idealize.ShloMosaic.Adequacy
public import Idealize.ShloMosaic.Init
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Reference12Ideal
public import proofs.«01_k».proof.Proof.Gen.Reference12Ideal.Run
public import proofs.«01_k».proof.Proof.Gen.Reference12Ideal.Read

@[expose] public section

noncomputable section

namespace Cert.Proof

open Idealize.ShloMosaic Idealize.SL.Sem

/-- The kernel runs, keeps its arguments and leaves every counter at zero. -/
theorem frame_kernel : Cert.quiescent_Kernel := fun m ρ _ => Cert.Kernel.Gen.frame m ρ

/-- The same of the kernel over extended reals. -/
theorem frame_ideal : Cert.quiescent_KernelIdeal := fun m ρ _ => Cert.KernelIdeal.Gen.frame m ρ

/-- The reference runs, keeps its arguments and leaves every counter at zero: it declares none. -/
theorem frame_reference : Cert.quiescent_ReferenceIdeal := fun m g _ =>
  (θ_run Cert.ReferenceIdeal.defs _ _).mono
    (fun r h => And.intro (fun c => (h c).2.2.2.2) (sem_eq_zero_of_no_sems (by decide) r.2))
    (Cert.ReferenceIdeal.Value.run (F := Ideal) m g)

/-- From finite arguments the kernel's four results are the gradients of the plain attention. -/
theorem algebraic [Cert.Pre_finite.Facts] : Cert.algebraic_KernelIdeal_ReferenceIdeal_pre_finite := by
  intro m g m' g' hm hargs
  refine ⟨fun c => Cert.KernelIdeal.Blocks.R8 m c, fun c => Cert.KernelIdeal.Blocks.R9 m c,
    fun c => Cert.KernelIdeal.Blocks.R10 m c, fun c => Cert.KernelIdeal.Blocks.R11 m c, ?_, ?_⟩
  · refine (θ_run Cert.KernelIdeal.defs _ _).mono (fun r h c => ?_) (Cert.KernelIdeal.Value.run_blocks (F := Ideal) m g)
    obtain ⟨h0, h1, h2, h3, hk⟩ := h c
    exact ⟨h0.trans (Cert.KernelIdeal.Blocks.final8 m c), h1.trans (Cert.KernelIdeal.Blocks.final9 m c),
      h2.trans (Cert.KernelIdeal.Blocks.final10 m c), h3.trans (Cert.KernelIdeal.Blocks.final11 m c), hk⟩
  · refine (θ_run Cert.ReferenceIdeal.defs _ _).mono (fun r h c => ?_) (Cert.ReferenceIdeal.Value.run (F := Ideal) m' g')
    obtain ⟨A, hA⟩ := Cert.Equal.holds_of_finite m hm c
    obtain ⟨a0, a1, a2, a3, a4, a5⟩ := hargs c
    have hB : A.Holds (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) := by
      rw [a0, a1, a2, a3, a4, a5]; exact hA
    obtain ⟨h0, h1, h2, h3, hk⟩ := h c
    exact ⟨h0.trans ((Cert.ReferenceIdeal.Read.val_main_v72_eq m' c).trans (Cert.Equal.first hA hB).symm),
      h1.trans ((Cert.ReferenceIdeal.Read.val_main_v74_eq m' c).trans (Cert.Equal.second hA hB).symm),
      h2.trans ((Cert.ReferenceIdeal.Read.val_main_v76_eq m' c).trans (Cert.Equal.third hA hB).symm),
      h3.trans ((Cert.ReferenceIdeal.Read.val_main_v78_eq m' c).trans (Cert.Equal.fourth hA hB).symm), hk⟩

/-- The call for the gradient through the norm and the projection runs, keeps its arguments and leaves every counter at
    zero. -/
theorem frame_kernel2 : Cert.quiescent_Kernel2 := fun m ρ _ => Cert.Kernel2.Gen.frame m ρ

/-- The same over extended reals. -/
theorem frame_ideal2 : Cert.quiescent_Kernel2Ideal := fun m ρ _ => Cert.Kernel2Ideal.Gen.frame m ρ

/-- The plain gradient through the norm and the projection runs, keeps its arguments and leaves every counter at zero:
    it declares none. -/
theorem frame_reference2 : Cert.quiescent_Reference2Ideal := fun m g _ =>
  (θ_run Cert.Reference2Ideal.defs _ _).mono
    (fun r h => And.intro (fun c => (h c).2.2.2) (sem_eq_zero_of_no_sems (by decide) r.2))
    (Cert.Reference2Ideal.Value.run (F := Ideal) m g)

/-- The call for the weights' gradient runs, keeps its arguments and leaves every counter at zero. -/
theorem frame_kernel3 : Cert.quiescent_Kernel3 := fun m ρ _ => Cert.Kernel3.Gen.frame m ρ

/-- The same over extended reals. -/
theorem frame_ideal3 : Cert.quiescent_Kernel3Ideal := fun m ρ _ => Cert.Kernel3Ideal.Gen.frame m ρ

/-- The plain gradient of the weights runs, keeps its arguments and leaves every counter at zero: it declares none. -/
theorem frame_reference3 : Cert.quiescent_Reference3Ideal := fun m g _ =>
  (θ_run Cert.Reference3Ideal.defs _ _).mono
    (fun r h => And.intro (fun c => (h c).2) (sem_eq_zero_of_no_sems (by decide) r.2))
    (Cert.Reference3Ideal.Value.run (F := Ideal) m g)

/-- The input projection's call runs, keeps its arguments and leaves every counter at zero. -/
theorem frame_kernel4 : Cert.quiescent_Kernel4 := fun m ρ _ => Cert.Kernel4.Gen.frame m ρ

/-- The same over extended reals. -/
theorem frame_ideal4 : Cert.quiescent_Kernel4Ideal := fun m ρ _ => Cert.Kernel4Ideal.Gen.frame m ρ

/-- The plain input projection runs, keeps its arguments and leaves every counter at zero: it declares none. -/
theorem frame_reference4 : Cert.quiescent_Reference4Ideal := fun m g _ =>
  (θ_run Cert.Reference4Ideal.defs _ _).mono
    (fun r h => And.intro (fun c => (h c).2.2.2.2) (sem_eq_zero_of_no_sems (by decide) r.2))
    (Cert.Reference4Ideal.Value.run (F := Ideal) m g)

/-- The optimiser's step of the input projection's weights runs, keeps its arguments and leaves every counter at zero. -/
theorem frame_kernel5 : Cert.quiescent_Kernel5 := fun m ρ _ => Cert.Kernel5.Gen.frame m ρ

/-- The same over extended reals. -/
theorem frame_ideal5 : Cert.quiescent_Kernel5Ideal := fun m ρ _ => Cert.Kernel5Ideal.Gen.frame m ρ

/-- The plain step runs, keeps its arguments and leaves every counter at zero: it declares none. -/
theorem frame_reference5 : Cert.quiescent_Reference5Ideal := fun m g _ =>
  (θ_run Cert.Reference5Ideal.defs _ _).mono
    (fun r h => And.intro (fun c => (h c).2.2.2.2) (sem_eq_zero_of_no_sems (by decide) r.2))
    (Cert.Reference5Ideal.Value.run (F := Ideal) m g)

/-- The optimiser's step of the weights of the queries' second projection runs, keeps its arguments and leaves every counter at zero. -/
theorem frame_kernel6 : Cert.quiescent_Kernel6 := fun m ρ _ => Cert.Kernel6.Gen.frame m ρ

/-- The same over extended reals. -/
theorem frame_ideal6 : Cert.quiescent_Kernel6Ideal := fun m ρ _ => Cert.Kernel6Ideal.Gen.frame m ρ

/-- The plain step runs, keeps its arguments and leaves every counter at zero: it declares none. -/
theorem frame_reference6 : Cert.quiescent_Reference6Ideal := fun m g _ =>
  (θ_run Cert.Reference6Ideal.defs _ _).mono
    (fun r h => And.intro (fun c => (h c).2.2.2.2) (sem_eq_zero_of_no_sems (by decide) r.2))
    (Cert.Reference6Ideal.Value.run (F := Ideal) m g)

/-- The optimiser's step of the weights of the keys' and values' second projection runs, keeps its arguments and leaves every counter at zero. -/
theorem frame_kernel7 : Cert.quiescent_Kernel7 := fun m ρ _ => Cert.Kernel7.Gen.frame m ρ

/-- The same over extended reals. -/
theorem frame_ideal7 : Cert.quiescent_Kernel7Ideal := fun m ρ _ => Cert.Kernel7Ideal.Gen.frame m ρ

/-- The plain step runs, keeps its arguments and leaves every counter at zero: it declares none. -/
theorem frame_reference7 : Cert.quiescent_Reference7Ideal := fun m g _ =>
  (θ_run Cert.Reference7Ideal.defs _ _).mono
    (fun r h => And.intro (fun c => (h c).2.2.2.2) (sem_eq_zero_of_no_sems (by decide) r.2))
    (Cert.Reference7Ideal.Value.run (F := Ideal) m g)

/-- The optimiser's step of the decay's second weights runs, keeps its arguments and leaves every counter at zero. -/
theorem frame_kernel8 : Cert.quiescent_Kernel8 := fun m ρ _ => Cert.Kernel8.Gen.frame m ρ

/-- The same over extended reals. -/
theorem frame_ideal8 : Cert.quiescent_Kernel8Ideal := fun m ρ _ => Cert.Kernel8Ideal.Gen.frame m ρ

/-- The plain step runs, keeps its arguments and leaves every counter at zero: it declares none. -/
theorem frame_reference8 : Cert.quiescent_Reference8Ideal := fun m g _ =>
  (θ_run Cert.Reference8Ideal.defs _ _).mono
    (fun r h => And.intro (fun c => (h c).2.2.2.2) (sem_eq_zero_of_no_sems (by decide) r.2))
    (Cert.Reference8Ideal.Value.run (F := Ideal) m g)

/-- The optimiser's step of the output projection's weights runs, keeps its arguments and leaves every counter at zero. -/
theorem frame_kernel9 : Cert.quiescent_Kernel9 := fun m ρ _ => Cert.Kernel9.Gen.frame m ρ

/-- The same over extended reals. -/
theorem frame_ideal9 : Cert.quiescent_Kernel9Ideal := fun m ρ _ => Cert.Kernel9Ideal.Gen.frame m ρ

/-- The plain step runs, keeps its arguments and leaves every counter at zero: it declares none. -/
theorem frame_reference9 : Cert.quiescent_Reference9Ideal := fun m g _ =>
  (θ_run Cert.Reference9Ideal.defs _ _).mono
    (fun r h => And.intro (fun c => (h c).2.2.2.2) (sem_eq_zero_of_no_sems (by decide) r.2))
    (Cert.Reference9Ideal.Value.run (F := Ideal) m g)

/-- The optimiser's step of the in-context rate's second weights runs, keeps its arguments and leaves every counter at zero. -/
theorem frame_kernel10 : Cert.quiescent_Kernel10 := fun m ρ _ => Cert.Kernel10.Gen.frame m ρ

/-- The same over extended reals. -/
theorem frame_ideal10 : Cert.quiescent_Kernel10Ideal := fun m ρ _ => Cert.Kernel10Ideal.Gen.frame m ρ

/-- The plain step runs, keeps its arguments and leaves every counter at zero: it declares none. -/
theorem frame_reference10 : Cert.quiescent_Reference10Ideal := fun m g _ =>
  (θ_run Cert.Reference10Ideal.defs _ _).mono
    (fun r h => And.intro (fun c => (h c).2.2.2.2) (sem_eq_zero_of_no_sems (by decide) r.2))
    (Cert.Reference10Ideal.Value.run (F := Ideal) m g)

/-- The call for the tables of the rotary embedding runs, keeps its arguments and leaves every counter at zero. -/
theorem frame_kernel11 : Cert.quiescent_Kernel11 := fun m ρ _ => Cert.Kernel11.Gen.frame m ρ

/-- The same over extended reals. -/
theorem frame_ideal11 : Cert.quiescent_Kernel11Ideal := fun m ρ _ => Cert.Kernel11Ideal.Gen.frame m ρ

/-- The plain tables: the program runs, keeps its arguments and leaves every counter at zero: it declares none. -/
theorem frame_reference11 : Cert.quiescent_Reference11Ideal := fun m g _ =>
  (θ_run Cert.Reference11Ideal.defs _ _).mono
    (fun r h => And.intro (fun c => (h c).2.2) (sem_eq_zero_of_no_sems (by decide) r.2))
    (Cert.Reference11Ideal.Value.run (F := Ideal) m g)

/-- The call before the attention and the recurrence runs, keeps its arguments and leaves every counter at zero. -/
theorem frame_kernel12 : Cert.quiescent_Kernel12 := Cert.PrepareBits.frame

/-- The same over extended reals. -/
theorem frame_ideal12 : Cert.quiescent_Kernel12Ideal := fun m ρ _ => Cert.Kernel12Ideal.Gen.frame m ρ

/-- The plain mathematics before the attention and the recurrence runs, keeps its arguments and leaves every counter at zero: it declares none. -/
theorem frame_reference12 : Cert.quiescent_Reference12Ideal := fun m g _ =>
  (θ_run Cert.Reference12Ideal.defs _ _).mono
    (fun r h => And.intro (fun c => (h c).2.2.2.2.2.2.2.2.2.2) (sem_eq_zero_of_no_sems (by decide) r.2))
    (Cert.Reference12Ideal.Value.run (F := Ideal) m g)

/-- All claims of the statement. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Equal.facts, Cert.InputEqual.facts, Cert.PrepareEqual.facts,
    frame_kernel, frame_ideal, fun m g _ => Cert.KernelIdeal.Gen.frame m g, frame_reference, fun m g _ => frame_reference m g trivial,
    frame_kernel2, frame_ideal2, fun m g _ => Cert.Kernel2Ideal.Gen.frame m g, frame_reference2, fun m g _ => frame_reference2 m g trivial,
    frame_kernel3, frame_ideal3, frame_reference3, frame_kernel4, frame_ideal4, frame_reference4,
    frame_kernel5, frame_ideal5, frame_reference5, frame_kernel6, frame_ideal6, frame_reference6,
    frame_kernel7, frame_ideal7, frame_reference7, frame_kernel8, frame_ideal8, frame_reference8,
    frame_kernel9, frame_ideal9, frame_reference9, frame_kernel10, frame_ideal10, frame_reference10,
    frame_kernel11, frame_ideal11, frame_reference11,
    frame_kernel12, frame_ideal12, fun m g _ => Cert.Kernel12Ideal.Gen.frame m g, frame_reference12, fun m g _ => frame_reference12 m g trivial,
    trivial, (letI := Cert.Equal.facts; algebraic),
    trivial, (letI := Cert.InputEqual.facts; Cert.InputEqual.algebraic),
    trivial, Cert.WeightEqual.algebraic, trivial, Cert.ProjectEqual.algebraic,
    trivial, Cert.UpdateInEqual.algebraic, trivial, Cert.UpdateQueryEqual.algebraic,
    trivial, Cert.UpdateKeyValueEqual.algebraic, trivial, Cert.UpdateDecayEqual.algebraic,
    trivial, Cert.UpdateOutEqual.algebraic, trivial, Cert.UpdateRateEqual.algebraic,
    trivial, Cert.RopeTablesEqual.algebraic,
    trivial, (letI := Cert.PrepareEqual.facts; Cert.PrepareEqual.algebraic)⟩

end Cert.Proof

end
